-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_ok [hPre_gates_ok : Cert.Pre_gates_ok.Facts] (m : (ℓ : Loc Cert.KernelIdeal.nD Cert.KernelIdeal.τ Cert.KernelIdeal.sig) → Buf (Elt Ideal) ℓ) : Prop :=
  ∀ c : Dev Cert.KernelIdeal.nD,
    (Cert.Pre_gates_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_ok [hPre_gates_ok : Cert.Pre_gates_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_prompt_gates_ok [hPre_prompt_gates_ok : Cert.Pre_prompt_gates_ok.Facts] (m : (ℓ : Loc Cert.PromptIdeal.nD Cert.PromptIdeal.τ Cert.PromptIdeal.sig) → Buf (Elt Ideal) ℓ) : Prop :=
  ∀ c : Dev Cert.PromptIdeal.nD,
    (Cert.Pre_prompt_gates_ok.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11))) = (fun _ => 1#1)

def Pre_PromptReferenceIdeal (m : (ℓ : Loc Cert.PromptReferenceIdeal.nD Cert.PromptReferenceIdeal.τ Cert.PromptReferenceIdeal.sig) → Buf (Elt Ideal) ℓ) : Prop :=
  True

def Pre_PromptReferenceIdeal_prompt_gates_ok [hPre_prompt_gates_ok : Cert.Pre_prompt_gates_ok.Facts] (m : (ℓ : Loc Cert.PromptReferenceIdeal.nD Cert.PromptReferenceIdeal.τ Cert.PromptReferenceIdeal.sig) → Buf (Elt Ideal) ℓ) : Prop :=
  ∀ c : Dev Cert.PromptReferenceIdeal.nD,
    (Cert.Pre_prompt_gates_ok.fn (F := Ideal) (m ((c.tc : Thread Cert.PromptReferenceIdeal.nD Cert.PromptReferenceIdeal.τ).loc Cert.PromptReferenceIdeal.main_arg0)) (m ((c.tc : Thread Cert.PromptReferenceIdeal.nD Cert.PromptReferenceIdeal.τ).loc Cert.PromptReferenceIdeal.main_arg1)) (m ((c.tc : Thread Cert.PromptReferenceIdeal.nD Cert.PromptReferenceIdeal.τ).loc Cert.PromptReferenceIdeal.main_arg2)) (m ((c.tc : Thread Cert.PromptReferenceIdeal.nD Cert.PromptReferenceIdeal.τ).loc Cert.PromptReferenceIdeal.main_arg3)) (m ((c.tc : Thread Cert.PromptReferenceIdeal.nD Cert.PromptReferenceIdeal.τ).loc Cert.PromptReferenceIdeal.main_arg4)) (m ((c.tc : Thread Cert.PromptReferenceIdeal.nD Cert.PromptReferenceIdeal.τ).loc Cert.PromptReferenceIdeal.main_arg5)) (m ((c.tc : Thread Cert.PromptReferenceIdeal.nD Cert.PromptReferenceIdeal.τ).loc Cert.PromptReferenceIdeal.main_arg6)) (m ((c.tc : Thread Cert.PromptReferenceIdeal.nD Cert.PromptReferenceIdeal.τ).loc Cert.PromptReferenceIdeal.main_arg7)) (m ((c.tc : Thread Cert.PromptReferenceIdeal.nD Cert.PromptReferenceIdeal.τ).loc Cert.PromptReferenceIdeal.main_arg8)) (m ((c.tc : Thread Cert.PromptReferenceIdeal.nD Cert.PromptReferenceIdeal.τ).loc Cert.PromptReferenceIdeal.main_arg9)) (m ((c.tc : Thread Cert.PromptReferenceIdeal.nD Cert.PromptReferenceIdeal.τ).loc Cert.PromptReferenceIdeal.main_arg10)) (m ((c.tc : Thread Cert.PromptReferenceIdeal.nD Cert.PromptReferenceIdeal.τ).loc Cert.PromptReferenceIdeal.main_arg11))) = (fun _ => 1#1)

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenIdeal_tokens_finite [hPre_tokens_finite : Cert.Pre_tokens_finite.Facts] (m : (ℓ : Loc Cert.EvenIdeal.nD Cert.EvenIdeal.τ Cert.EvenIdeal.sig) → Buf (Elt Ideal) ℓ) : Prop :=
  ∀ c : Dev Cert.EvenIdeal.nD,
    (Cert.Pre_tokens_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6))).1 = (fun _ => 1#1)
    ∧ (Cert.Pre_tokens_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6))).2.1 = (fun _ => 1#1)
    ∧ (Cert.Pre_tokens_finite.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6))).2.2 = (fun _ => 1#1)

def Pre_EvenReferenceIdeal (m : (ℓ : Loc Cert.EvenReferenceIdeal.nD Cert.EvenReferenceIdeal.τ Cert.EvenReferenceIdeal.sig) → Buf (Elt Ideal) ℓ) : Prop :=
  True

def Pre_EvenReferenceIdeal_tokens_finite [hPre_tokens_finite : Cert.Pre_tokens_finite.Facts] (m : (ℓ : Loc Cert.EvenReferenceIdeal.nD Cert.EvenReferenceIdeal.τ Cert.EvenReferenceIdeal.sig) → Buf (Elt Ideal) ℓ) : Prop :=
  ∀ c : Dev Cert.EvenReferenceIdeal.nD,
    (Cert.Pre_tokens_finite.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6))).1 = (fun _ => 1#1)
    ∧ (Cert.Pre_tokens_finite.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6))).2.1 = (fun _ => 1#1)
    ∧ (Cert.Pre_tokens_finite.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6))).2.2 = (fun _ => 1#1)

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_OddSample (m : (ℓ : Loc Cert.OddSample.nD Cert.OddSample.τ Cert.OddSample.sig) → Buf (Elt Bits) ℓ) : Prop :=
  True

def Pre_OddSampleIdeal (m : (ℓ : Loc Cert.OddSampleIdeal.nD Cert.OddSampleIdeal.τ Cert.OddSampleIdeal.sig) → Buf (Elt Ideal) ℓ) : Prop :=
  True

def Pre_OddSampleReferenceIdeal (m : (ℓ : Loc Cert.OddSampleReferenceIdeal.nD Cert.OddSampleReferenceIdeal.τ Cert.OddSampleReferenceIdeal.sig) → Buf (Elt Ideal) ℓ) : Prop :=
  True

def Pre_EvenSample (m : (ℓ : Loc Cert.EvenSample.nD Cert.EvenSample.τ Cert.EvenSample.sig) → Buf (Elt Bits) ℓ) : Prop :=
  True

def Pre_EvenSampleIdeal (m : (ℓ : Loc Cert.EvenSampleIdeal.nD Cert.EvenSampleIdeal.τ Cert.EvenSampleIdeal.sig) → Buf (Elt Ideal) ℓ) : Prop :=
  True

def Pre_EvenSampleIdeal_sample_tokens_finite [hPre_sample_tokens_finite : Cert.Pre_sample_tokens_finite.Facts] (m : (ℓ : Loc Cert.EvenSampleIdeal.nD Cert.EvenSampleIdeal.τ Cert.EvenSampleIdeal.sig) → Buf (Elt Ideal) ℓ) : Prop :=
  ∀ c : Dev Cert.EvenSampleIdeal.nD,
    (Cert.Pre_sample_tokens_finite.fn (F := Ideal) (m ((c.tc : Thread Cert.EvenSampleIdeal.nD Cert.EvenSampleIdeal.τ).loc Cert.EvenSampleIdeal.main_arg0)) (m ((c.tc : Thread Cert.EvenSampleIdeal.nD Cert.EvenSampleIdeal.τ).loc Cert.EvenSampleIdeal.main_arg1)) (m ((c.tc : Thread Cert.EvenSampleIdeal.nD Cert.EvenSampleIdeal.τ).loc Cert.EvenSampleIdeal.main_arg2)) (m ((c.tc : Thread Cert.EvenSampleIdeal.nD Cert.EvenSampleIdeal.τ).loc Cert.EvenSampleIdeal.main_arg3)) (m ((c.tc : Thread Cert.EvenSampleIdeal.nD Cert.EvenSampleIdeal.τ).loc Cert.EvenSampleIdeal.main_arg4)) (m ((c.tc : Thread Cert.EvenSampleIdeal.nD Cert.EvenSampleIdeal.τ).loc Cert.EvenSampleIdeal.main_arg5)) (m ((c.tc : Thread Cert.EvenSampleIdeal.nD Cert.EvenSampleIdeal.τ).loc Cert.EvenSampleIdeal.main_arg6))).1 = (fun _ => 1#1)
    ∧ (Cert.Pre_sample_tokens_finite.fn (F := Ideal) (m ((c.tc : Thread Cert.EvenSampleIdeal.nD Cert.EvenSampleIdeal.τ).loc Cert.EvenSampleIdeal.main_arg0)) (m ((c.tc : Thread Cert.EvenSampleIdeal.nD Cert.EvenSampleIdeal.τ).loc Cert.EvenSampleIdeal.main_arg1)) (m ((c.tc : Thread Cert.EvenSampleIdeal.nD Cert.EvenSampleIdeal.τ).loc Cert.EvenSampleIdeal.main_arg2)) (m ((c.tc : Thread Cert.EvenSampleIdeal.nD Cert.EvenSampleIdeal.τ).loc Cert.EvenSampleIdeal.main_arg3)) (m ((c.tc : Thread Cert.EvenSampleIdeal.nD Cert.EvenSampleIdeal.τ).loc Cert.EvenSampleIdeal.main_arg4)) (m ((c.tc : Thread Cert.EvenSampleIdeal.nD Cert.EvenSampleIdeal.τ).loc Cert.EvenSampleIdeal.main_arg5)) (m ((c.tc : Thread Cert.EvenSampleIdeal.nD Cert.EvenSampleIdeal.τ).loc Cert.EvenSampleIdeal.main_arg6))).2.1 = (fun _ => 1#1)
    ∧ (Cert.Pre_sample_tokens_finite.fn (F := Ideal) (m ((c.tc : Thread Cert.EvenSampleIdeal.nD Cert.EvenSampleIdeal.τ).loc Cert.EvenSampleIdeal.main_arg0)) (m ((c.tc : Thread Cert.EvenSampleIdeal.nD Cert.EvenSampleIdeal.τ).loc Cert.EvenSampleIdeal.main_arg1)) (m ((c.tc : Thread Cert.EvenSampleIdeal.nD Cert.EvenSampleIdeal.τ).loc Cert.EvenSampleIdeal.main_arg2)) (m ((c.tc : Thread Cert.EvenSampleIdeal.nD Cert.EvenSampleIdeal.τ).loc Cert.EvenSampleIdeal.main_arg3)) (m ((c.tc : Thread Cert.EvenSampleIdeal.nD Cert.EvenSampleIdeal.τ).loc Cert.EvenSampleIdeal.main_arg4)) (m ((c.tc : Thread Cert.EvenSampleIdeal.nD Cert.EvenSampleIdeal.τ).loc Cert.EvenSampleIdeal.main_arg5)) (m ((c.tc : Thread Cert.EvenSampleIdeal.nD Cert.EvenSampleIdeal.τ).loc Cert.EvenSampleIdeal.main_arg6))).2.2 = (fun _ => 1#1)

def Pre_EvenSampleReferenceIdeal (m : (ℓ : Loc Cert.EvenSampleReferenceIdeal.nD Cert.EvenSampleReferenceIdeal.τ Cert.EvenSampleReferenceIdeal.sig) → Buf (Elt Ideal) ℓ) : Prop :=
  True

def Pre_EvenSampleReferenceIdeal_sample_tokens_finite [hPre_sample_tokens_finite : Cert.Pre_sample_tokens_finite.Facts] (m : (ℓ : Loc Cert.EvenSampleReferenceIdeal.nD Cert.EvenSampleReferenceIdeal.τ Cert.EvenSampleReferenceIdeal.sig) → Buf (Elt Ideal) ℓ) : Prop :=
  ∀ c : Dev Cert.EvenSampleReferenceIdeal.nD,
    (Cert.Pre_sample_tokens_finite.fn (F := Ideal) (m ((c.tc : Thread Cert.EvenSampleReferenceIdeal.nD Cert.EvenSampleReferenceIdeal.τ).loc Cert.EvenSampleReferenceIdeal.main_arg0)) (m ((c.tc : Thread Cert.EvenSampleReferenceIdeal.nD Cert.EvenSampleReferenceIdeal.τ).loc Cert.EvenSampleReferenceIdeal.main_arg1)) (m ((c.tc : Thread Cert.EvenSampleReferenceIdeal.nD Cert.EvenSampleReferenceIdeal.τ).loc Cert.EvenSampleReferenceIdeal.main_arg2)) (m ((c.tc : Thread Cert.EvenSampleReferenceIdeal.nD Cert.EvenSampleReferenceIdeal.τ).loc Cert.EvenSampleReferenceIdeal.main_arg3)) (m ((c.tc : Thread Cert.EvenSampleReferenceIdeal.nD Cert.EvenSampleReferenceIdeal.τ).loc Cert.EvenSampleReferenceIdeal.main_arg4)) (m ((c.tc : Thread Cert.EvenSampleReferenceIdeal.nD Cert.EvenSampleReferenceIdeal.τ).loc Cert.EvenSampleReferenceIdeal.main_arg5)) (m ((c.tc : Thread Cert.EvenSampleReferenceIdeal.nD Cert.EvenSampleReferenceIdeal.τ).loc Cert.EvenSampleReferenceIdeal.main_arg6))).1 = (fun _ => 1#1)
    ∧ (Cert.Pre_sample_tokens_finite.fn (F := Ideal) (m ((c.tc : Thread Cert.EvenSampleReferenceIdeal.nD Cert.EvenSampleReferenceIdeal.τ).loc Cert.EvenSampleReferenceIdeal.main_arg0)) (m ((c.tc : Thread Cert.EvenSampleReferenceIdeal.nD Cert.EvenSampleReferenceIdeal.τ).loc Cert.EvenSampleReferenceIdeal.main_arg1)) (m ((c.tc : Thread Cert.EvenSampleReferenceIdeal.nD Cert.EvenSampleReferenceIdeal.τ).loc Cert.EvenSampleReferenceIdeal.main_arg2)) (m ((c.tc : Thread Cert.EvenSampleReferenceIdeal.nD Cert.EvenSampleReferenceIdeal.τ).loc Cert.EvenSampleReferenceIdeal.main_arg3)) (m ((c.tc : Thread Cert.EvenSampleReferenceIdeal.nD Cert.EvenSampleReferenceIdeal.τ).loc Cert.EvenSampleReferenceIdeal.main_arg4)) (m ((c.tc : Thread Cert.EvenSampleReferenceIdeal.nD Cert.EvenSampleReferenceIdeal.τ).loc Cert.EvenSampleReferenceIdeal.main_arg5)) (m ((c.tc : Thread Cert.EvenSampleReferenceIdeal.nD Cert.EvenSampleReferenceIdeal.τ).loc Cert.EvenSampleReferenceIdeal.main_arg6))).2.1 = (fun _ => 1#1)
    ∧ (Cert.Pre_sample_tokens_finite.fn (F := Ideal) (m ((c.tc : Thread Cert.EvenSampleReferenceIdeal.nD Cert.EvenSampleReferenceIdeal.τ).loc Cert.EvenSampleReferenceIdeal.main_arg0)) (m ((c.tc : Thread Cert.EvenSampleReferenceIdeal.nD Cert.EvenSampleReferenceIdeal.τ).loc Cert.EvenSampleReferenceIdeal.main_arg1)) (m ((c.tc : Thread Cert.EvenSampleReferenceIdeal.nD Cert.EvenSampleReferenceIdeal.τ).loc Cert.EvenSampleReferenceIdeal.main_arg2)) (m ((c.tc : Thread Cert.EvenSampleReferenceIdeal.nD Cert.EvenSampleReferenceIdeal.τ).loc Cert.EvenSampleReferenceIdeal.main_arg3)) (m ((c.tc : Thread Cert.EvenSampleReferenceIdeal.nD Cert.EvenSampleReferenceIdeal.τ).loc Cert.EvenSampleReferenceIdeal.main_arg4)) (m ((c.tc : Thread Cert.EvenSampleReferenceIdeal.nD Cert.EvenSampleReferenceIdeal.τ).loc Cert.EvenSampleReferenceIdeal.main_arg5)) (m ((c.tc : Thread Cert.EvenSampleReferenceIdeal.nD Cert.EvenSampleReferenceIdeal.τ).loc Cert.EvenSampleReferenceIdeal.main_arg6))).2.2 = (fun _ => 1#1)

def Pre_PostOdd (m : (ℓ : Loc Cert.PostOdd.nD Cert.PostOdd.τ Cert.PostOdd.sig) → Buf (Elt Bits) ℓ) : Prop :=
  True

def Pre_PostOddIdeal (m : (ℓ : Loc Cert.PostOddIdeal.nD Cert.PostOddIdeal.τ Cert.PostOddIdeal.sig) → Buf (Elt Ideal) ℓ) : Prop :=
  True

def Pre_PostOddReferenceIdeal (m : (ℓ : Loc Cert.PostOddReferenceIdeal.nD Cert.PostOddReferenceIdeal.τ Cert.PostOddReferenceIdeal.sig) → Buf (Elt Ideal) ℓ) : Prop :=
  True

def Pre_PostEven (m : (ℓ : Loc Cert.PostEven.nD Cert.PostEven.τ Cert.PostEven.sig) → Buf (Elt Bits) ℓ) : Prop :=
  True

def Pre_PostEvenIdeal (m : (ℓ : Loc Cert.PostEvenIdeal.nD Cert.PostEvenIdeal.τ Cert.PostEvenIdeal.sig) → Buf (Elt Ideal) ℓ) : Prop :=
  True

def Pre_PostEvenReferenceIdeal (m : (ℓ : Loc Cert.PostEvenReferenceIdeal.nD Cert.PostEvenReferenceIdeal.τ Cert.PostEvenReferenceIdeal.sig) → Buf (Elt Ideal) ℓ) : Prop :=
  True

def Pre_Global (m : (ℓ : Loc Cert.Global.nD Cert.Global.τ Cert.Global.sig) → Buf (Elt Bits) ℓ) : Prop :=
  True

def Pre_GlobalIdeal (m : (ℓ : Loc Cert.GlobalIdeal.nD Cert.GlobalIdeal.τ Cert.GlobalIdeal.sig) → Buf (Elt Ideal) ℓ) : Prop :=
  True

def Pre_GlobalIdeal_attention_finite [hPre_attention_finite : Cert.Pre_attention_finite.Facts] (m : (ℓ : Loc Cert.GlobalIdeal.nD Cert.GlobalIdeal.τ Cert.GlobalIdeal.sig) → Buf (Elt Ideal) ℓ) : Prop :=
  ∀ c : Dev Cert.GlobalIdeal.nD,
    (Cert.Pre_attention_finite.fn (F := Ideal) (m ((c.tc : Thread Cert.GlobalIdeal.nD Cert.GlobalIdeal.τ).loc Cert.GlobalIdeal.main_arg0)) (m ((c.tc : Thread Cert.GlobalIdeal.nD Cert.GlobalIdeal.τ).loc Cert.GlobalIdeal.main_arg1)) (m ((c.tc : Thread Cert.GlobalIdeal.nD Cert.GlobalIdeal.τ).loc Cert.GlobalIdeal.main_arg2))).1 = (fun _ => 1#1)
    ∧ (Cert.Pre_attention_finite.fn (F := Ideal) (m ((c.tc : Thread Cert.GlobalIdeal.nD Cert.GlobalIdeal.τ).loc Cert.GlobalIdeal.main_arg0)) (m ((c.tc : Thread Cert.GlobalIdeal.nD Cert.GlobalIdeal.τ).loc Cert.GlobalIdeal.main_arg1)) (m ((c.tc : Thread Cert.GlobalIdeal.nD Cert.GlobalIdeal.τ).loc Cert.GlobalIdeal.main_arg2))).2 = (fun _ => 1#1)

def Pre_GlobalReferenceIdeal (m : (ℓ : Loc Cert.GlobalReferenceIdeal.nD Cert.GlobalReferenceIdeal.τ Cert.GlobalReferenceIdeal.sig) → Buf (Elt Ideal) ℓ) : Prop :=
  True

def Pre_GlobalReferenceIdeal_attention_finite [hPre_attention_finite : Cert.Pre_attention_finite.Facts] (m : (ℓ : Loc Cert.GlobalReferenceIdeal.nD Cert.GlobalReferenceIdeal.τ Cert.GlobalReferenceIdeal.sig) → Buf (Elt Ideal) ℓ) : Prop :=
  ∀ c : Dev Cert.GlobalReferenceIdeal.nD,
    (Cert.Pre_attention_finite.fn (F := Ideal) (m ((c.tc : Thread Cert.GlobalReferenceIdeal.nD Cert.GlobalReferenceIdeal.τ).loc Cert.GlobalReferenceIdeal.main_arg0)) (m ((c.tc : Thread Cert.GlobalReferenceIdeal.nD Cert.GlobalReferenceIdeal.τ).loc Cert.GlobalReferenceIdeal.main_arg1)) (m ((c.tc : Thread Cert.GlobalReferenceIdeal.nD Cert.GlobalReferenceIdeal.τ).loc Cert.GlobalReferenceIdeal.main_arg2))).1 = (fun _ => 1#1)
    ∧ (Cert.Pre_attention_finite.fn (F := Ideal) (m ((c.tc : Thread Cert.GlobalReferenceIdeal.nD Cert.GlobalReferenceIdeal.τ).loc Cert.GlobalReferenceIdeal.main_arg0)) (m ((c.tc : Thread Cert.GlobalReferenceIdeal.nD Cert.GlobalReferenceIdeal.τ).loc Cert.GlobalReferenceIdeal.main_arg1)) (m ((c.tc : Thread Cert.GlobalReferenceIdeal.nD Cert.GlobalReferenceIdeal.τ).loc Cert.GlobalReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_gates_ok [hKernelIdeal : Cert.KernelIdeal.Facts] [hPre_gates_ok : Cert.Pre_gates_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_gates_ok [hReferenceIdeal : Cert.ReferenceIdeal.Facts] [hPre_gates_ok : Cert.Pre_gates_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10)
      ∧ r.2.mem ((c.tc : Thread Cert.Prompt.nD Cert.Prompt.τ).loc Cert.Prompt.main_arg11) = m ((c.tc : Thread Cert.Prompt.nD Cert.Prompt.τ).loc Cert.Prompt.main_arg11))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11))
      ∧ r.2.sem = fun _ => 0)

def quiescent_PromptIdeal_pre_prompt_gates_ok [hPromptIdeal : Cert.PromptIdeal.Facts] [hPre_prompt_gates_ok : Cert.Pre_prompt_gates_ok.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_prompt_gates_ok m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7)
      ∧ r.2.mem ((c.tc : Thread Cert.PromptReferenceIdeal.nD Cert.PromptReferenceIdeal.τ).loc Cert.PromptReferenceIdeal.main_arg8) = m ((c.tc : Thread Cert.PromptReferenceIdeal.nD Cert.PromptReferenceIdeal.τ).loc Cert.PromptReferenceIdeal.main_arg8)
      ∧ r.2.mem ((c.tc : Thread Cert.PromptReferenceIdeal.nD Cert.PromptReferenceIdeal.τ).loc Cert.PromptReferenceIdeal.main_arg9) = m ((c.tc : Thread Cert.PromptReferenceIdeal.nD Cert.PromptReferenceIdeal.τ).loc Cert.PromptReferenceIdeal.main_arg9)
      ∧ r.2.mem ((c.tc : Thread Cert.PromptReferenceIdeal.nD Cert.PromptReferenceIdeal.τ).loc Cert.PromptReferenceIdeal.main_arg10) = m ((c.tc : Thread Cert.PromptReferenceIdeal.nD Cert.PromptReferenceIdeal.τ).loc Cert.PromptReferenceIdeal.main_arg10)
      ∧ r.2.mem ((c.tc : Thread Cert.PromptReferenceIdeal.nD Cert.PromptReferenceIdeal.τ).loc Cert.PromptReferenceIdeal.main_arg11) = m ((c.tc : Thread Cert.PromptReferenceIdeal.nD Cert.PromptReferenceIdeal.τ).loc Cert.PromptReferenceIdeal.main_arg11))
      ∧ r.2.sem = fun _ => 0)

def quiescent_PromptReferenceIdeal_pre_prompt_gates_ok [hPromptReferenceIdeal : Cert.PromptReferenceIdeal.Facts] [hPre_prompt_gates_ok : Cert.Pre_prompt_gates_ok.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal_prompt_gates_ok m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2)
      ∧ r.2.mem ((c.tc : Thread Cert.PromptReferenceIdeal.nD Cert.PromptReferenceIdeal.τ).loc Cert.PromptReferenceIdeal.main_arg3) = m ((c.tc : Thread Cert.PromptReferenceIdeal.nD Cert.PromptReferenceIdeal.τ).loc Cert.PromptReferenceIdeal.main_arg3)
      ∧ r.2.mem ((c.tc : Thread Cert.PromptReferenceIdeal.nD Cert.PromptReferenceIdeal.τ).loc Cert.PromptReferenceIdeal.main_arg4) = m ((c.tc : Thread Cert.PromptReferenceIdeal.nD Cert.PromptReferenceIdeal.τ).loc Cert.PromptReferenceIdeal.main_arg4)
      ∧ r.2.mem ((c.tc : Thread Cert.PromptReferenceIdeal.nD Cert.PromptReferenceIdeal.τ).loc Cert.PromptReferenceIdeal.main_arg5) = m ((c.tc : Thread Cert.PromptReferenceIdeal.nD Cert.PromptReferenceIdeal.τ).loc Cert.PromptReferenceIdeal.main_arg5)
      ∧ r.2.mem ((c.tc : Thread Cert.PromptReferenceIdeal.nD Cert.PromptReferenceIdeal.τ).loc Cert.PromptReferenceIdeal.main_arg6) = m ((c.tc : Thread Cert.PromptReferenceIdeal.nD Cert.PromptReferenceIdeal.τ).loc Cert.PromptReferenceIdeal.main_arg6)
      ∧ r.2.mem ((c.tc : Thread Cert.PromptReferenceIdeal.nD Cert.PromptReferenceIdeal.τ).loc Cert.PromptReferenceIdeal.main_arg7) = m ((c.tc : Thread Cert.PromptReferenceIdeal.nD Cert.PromptReferenceIdeal.τ).loc Cert.PromptReferenceIdeal.main_arg7)
      ∧ r.2.mem ((c.tc : Thread Cert.PromptReferenceIdeal.nD Cert.PromptReferenceIdeal.τ).loc Cert.PromptReferenceIdeal.main_arg8) = m ((c.tc : Thread Cert.PromptReferenceIdeal.nD Cert.PromptReferenceIdeal.τ).loc Cert.PromptReferenceIdeal.main_arg8)
      ∧ r.2.mem ((c.tc : Thread Cert.PromptReferenceIdeal.nD Cert.PromptReferenceIdeal.τ).loc Cert.PromptReferenceIdeal.main_arg9) = m ((c.tc : Thread Cert.PromptReferenceIdeal.nD Cert.PromptReferenceIdeal.τ).loc Cert.PromptReferenceIdeal.main_arg9)
      ∧ r.2.mem ((c.tc : Thread Cert.PromptReferenceIdeal.nD Cert.PromptReferenceIdeal.τ).loc Cert.PromptReferenceIdeal.main_arg10) = m ((c.tc : Thread Cert.PromptReferenceIdeal.nD Cert.PromptReferenceIdeal.τ).loc Cert.PromptReferenceIdeal.main_arg10)
      ∧ r.2.mem ((c.tc : Thread Cert.PromptReferenceIdeal.nD Cert.PromptReferenceIdeal.τ).loc Cert.PromptReferenceIdeal.main_arg11) = m ((c.tc : Thread Cert.PromptReferenceIdeal.nD Cert.PromptReferenceIdeal.τ).loc Cert.PromptReferenceIdeal.main_arg11))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6))
      ∧ r.2.sem = fun _ => 0)

def quiescent_EvenIdeal_pre_tokens_finite [hEvenIdeal : Cert.EvenIdeal.Facts] [hPre_tokens_finite : Cert.Pre_tokens_finite.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal_tokens_finite m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6))
      ∧ r.2.sem = fun _ => 0)

def quiescent_EvenReferenceIdeal_pre_tokens_finite [hEvenReferenceIdeal : Cert.EvenReferenceIdeal.Facts] [hPre_tokens_finite : Cert.Pre_tokens_finite.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal_tokens_finite m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5)
      ∧ r.2.mem ((c.tc : Thread Cert.OddReferenceIdeal.nD Cert.OddReferenceIdeal.τ).loc Cert.OddReferenceIdeal.main_arg6) = m ((c.tc : Thread Cert.OddReferenceIdeal.nD Cert.OddReferenceIdeal.τ).loc Cert.OddReferenceIdeal.main_arg6))
      ∧ r.2.sem = fun _ => 0)

def quiescent_OddSample [hOddSample : Cert.OddSample.Facts] : Prop :=
  ∀ (m : (ℓ : Loc Cert.OddSample.nD Cert.OddSample.τ Cert.OddSample.sig) → Buf (Elt Bits) ℓ) (g : Dev Cert.OddSample.nD → PrngReg), Pre_OddSample m →
    θ_run (Cert.OddSample.defs (F := Bits)) (onTc (τ := Cert.OddSample.τ) (Cert.OddSample.main (F := Bits))) ⟨m, fun _ => 0, g⟩ (fun r => (∀ c : Dev Cert.OddSample.nD,
      r.2.mem ((c.tc : Thread Cert.OddSample.nD Cert.OddSample.τ).loc Cert.OddSample.main_arg0) = m ((c.tc : Thread Cert.OddSample.nD Cert.OddSample.τ).loc Cert.OddSample.main_arg0)
      ∧ r.2.mem ((c.tc : Thread Cert.OddSample.nD Cert.OddSample.τ).loc Cert.OddSample.main_arg1) = m ((c.tc : Thread Cert.OddSample.nD Cert.OddSample.τ).loc Cert.OddSample.main_arg1)
      ∧ r.2.mem ((c.tc : Thread Cert.OddSample.nD Cert.OddSample.τ).loc Cert.OddSample.main_arg2) = m ((c.tc : Thread Cert.OddSample.nD Cert.OddSample.τ).loc Cert.OddSample.main_arg2)
      ∧ r.2.mem ((c.tc : Thread Cert.OddSample.nD Cert.OddSample.τ).loc Cert.OddSample.main_arg3) = m ((c.tc : Thread Cert.OddSample.nD Cert.OddSample.τ).loc Cert.OddSample.main_arg3)
      ∧ r.2.mem ((c.tc : Thread Cert.OddSample.nD Cert.OddSample.τ).loc Cert.OddSample.main_arg4) = m ((c.tc : Thread Cert.OddSample.nD Cert.OddSample.τ).loc Cert.OddSample.main_arg4)
      ∧ r.2.mem ((c.tc : Thread Cert.OddSample.nD Cert.OddSample.τ).loc Cert.OddSample.main_arg5) = m ((c.tc : Thread Cert.OddSample.nD Cert.OddSample.τ).loc Cert.OddSample.main_arg5)
      ∧ r.2.mem ((c.tc : Thread Cert.OddSample.nD Cert.OddSample.τ).loc Cert.OddSample.main_arg6) = m ((c.tc : Thread Cert.OddSample.nD Cert.OddSample.τ).loc Cert.OddSample.main_arg6))
      ∧ r.2.sem = fun _ => 0)

def quiescent_OddSampleIdeal [hOddSampleIdeal : Cert.OddSampleIdeal.Facts] : Prop :=
  ∀ (m : (ℓ : Loc Cert.OddSampleIdeal.nD Cert.OddSampleIdeal.τ Cert.OddSampleIdeal.sig) → Buf (Elt Ideal) ℓ) (g : Dev Cert.OddSampleIdeal.nD → PrngReg), Pre_OddSampleIdeal m →
    θ_run (Cert.OddSampleIdeal.defs (F := Ideal)) (onTc (τ := Cert.OddSampleIdeal.τ) (Cert.OddSampleIdeal.main (F := Ideal))) ⟨m, fun _ => 0, g⟩ (fun r => (∀ c : Dev Cert.OddSampleIdeal.nD,
      r.2.mem ((c.tc : Thread Cert.OddSampleIdeal.nD Cert.OddSampleIdeal.τ).loc Cert.OddSampleIdeal.main_arg0) = m ((c.tc : Thread Cert.OddSampleIdeal.nD Cert.OddSampleIdeal.τ).loc Cert.OddSampleIdeal.main_arg0)
      ∧ r.2.mem ((c.tc : Thread Cert.OddSampleIdeal.nD Cert.OddSampleIdeal.τ).loc Cert.OddSampleIdeal.main_arg1) = m ((c.tc : Thread Cert.OddSampleIdeal.nD Cert.OddSampleIdeal.τ).loc Cert.OddSampleIdeal.main_arg1)
      ∧ r.2.mem ((c.tc : Thread Cert.OddSampleIdeal.nD Cert.OddSampleIdeal.τ).loc Cert.OddSampleIdeal.main_arg2) = m ((c.tc : Thread Cert.OddSampleIdeal.nD Cert.OddSampleIdeal.τ).loc Cert.OddSampleIdeal.main_arg2)
      ∧ r.2.mem ((c.tc : Thread Cert.OddSampleIdeal.nD Cert.OddSampleIdeal.τ).loc Cert.OddSampleIdeal.main_arg3) = m ((c.tc : Thread Cert.OddSampleIdeal.nD Cert.OddSampleIdeal.τ).loc Cert.OddSampleIdeal.main_arg3)
      ∧ r.2.mem ((c.tc : Thread Cert.OddSampleIdeal.nD Cert.OddSampleIdeal.τ).loc Cert.OddSampleIdeal.main_arg4) = m ((c.tc : Thread Cert.OddSampleIdeal.nD Cert.OddSampleIdeal.τ).loc Cert.OddSampleIdeal.main_arg4)
      ∧ r.2.mem ((c.tc : Thread Cert.OddSampleIdeal.nD Cert.OddSampleIdeal.τ).loc Cert.OddSampleIdeal.main_arg5) = m ((c.tc : Thread Cert.OddSampleIdeal.nD Cert.OddSampleIdeal.τ).loc Cert.OddSampleIdeal.main_arg5)
      ∧ r.2.mem ((c.tc : Thread Cert.OddSampleIdeal.nD Cert.OddSampleIdeal.τ).loc Cert.OddSampleIdeal.main_arg6) = m ((c.tc : Thread Cert.OddSampleIdeal.nD Cert.OddSampleIdeal.τ).loc Cert.OddSampleIdeal.main_arg6))
      ∧ r.2.sem = fun _ => 0)

def quiescent_OddSampleReferenceIdeal [hOddSampleReferenceIdeal : Cert.OddSampleReferenceIdeal.Facts] : Prop :=
  ∀ (m : (ℓ : Loc Cert.OddSampleReferenceIdeal.nD Cert.OddSampleReferenceIdeal.τ Cert.OddSampleReferenceIdeal.sig) → Buf (Elt Ideal) ℓ) (g : Dev Cert.OddSampleReferenceIdeal.nD → PrngReg), Pre_OddSampleReferenceIdeal m →
    θ_run (Cert.OddSampleReferenceIdeal.defs (F := Ideal)) (onTc (τ := Cert.OddSampleReferenceIdeal.τ) (Cert.OddSampleReferenceIdeal.main (F := Ideal))) ⟨m, fun _ => 0, g⟩ (fun r => (∀ c : Dev Cert.OddSampleReferenceIdeal.nD,
      r.2.mem ((c.tc : Thread Cert.OddSampleReferenceIdeal.nD Cert.OddSampleReferenceIdeal.τ).loc Cert.OddSampleReferenceIdeal.main_arg0) = m ((c.tc : Thread Cert.OddSampleReferenceIdeal.nD Cert.OddSampleReferenceIdeal.τ).loc Cert.OddSampleReferenceIdeal.main_arg0)
      ∧ r.2.mem ((c.tc : Thread Cert.OddSampleReferenceIdeal.nD Cert.OddSampleReferenceIdeal.τ).loc Cert.OddSampleReferenceIdeal.main_arg1) = m ((c.tc : Thread Cert.OddSampleReferenceIdeal.nD Cert.OddSampleReferenceIdeal.τ).loc Cert.OddSampleReferenceIdeal.main_arg1)
      ∧ r.2.mem ((c.tc : Thread Cert.OddSampleReferenceIdeal.nD Cert.OddSampleReferenceIdeal.τ).loc Cert.OddSampleReferenceIdeal.main_arg2) = m ((c.tc : Thread Cert.OddSampleReferenceIdeal.nD Cert.OddSampleReferenceIdeal.τ).loc Cert.OddSampleReferenceIdeal.main_arg2)
      ∧ r.2.mem ((c.tc : Thread Cert.OddSampleReferenceIdeal.nD Cert.OddSampleReferenceIdeal.τ).loc Cert.OddSampleReferenceIdeal.main_arg3) = m ((c.tc : Thread Cert.OddSampleReferenceIdeal.nD Cert.OddSampleReferenceIdeal.τ).loc Cert.OddSampleReferenceIdeal.main_arg3)
      ∧ r.2.mem ((c.tc : Thread Cert.OddSampleReferenceIdeal.nD Cert.OddSampleReferenceIdeal.τ).loc Cert.OddSampleReferenceIdeal.main_arg4) = m ((c.tc : Thread Cert.OddSampleReferenceIdeal.nD Cert.OddSampleReferenceIdeal.τ).loc Cert.OddSampleReferenceIdeal.main_arg4)
      ∧ r.2.mem ((c.tc : Thread Cert.OddSampleReferenceIdeal.nD Cert.OddSampleReferenceIdeal.τ).loc Cert.OddSampleReferenceIdeal.main_arg5) = m ((c.tc : Thread Cert.OddSampleReferenceIdeal.nD Cert.OddSampleReferenceIdeal.τ).loc Cert.OddSampleReferenceIdeal.main_arg5)
      ∧ r.2.mem ((c.tc : Thread Cert.OddSampleReferenceIdeal.nD Cert.OddSampleReferenceIdeal.τ).loc Cert.OddSampleReferenceIdeal.main_arg6) = m ((c.tc : Thread Cert.OddSampleReferenceIdeal.nD Cert.OddSampleReferenceIdeal.τ).loc Cert.OddSampleReferenceIdeal.main_arg6))
      ∧ r.2.sem = fun _ => 0)

def quiescent_EvenSample [hEvenSample : Cert.EvenSample.Facts] : Prop :=
  ∀ (m : (ℓ : Loc Cert.EvenSample.nD Cert.EvenSample.τ Cert.EvenSample.sig) → Buf (Elt Bits) ℓ) (g : Dev Cert.EvenSample.nD → PrngReg), Pre_EvenSample m →
    θ_run (Cert.EvenSample.defs (F := Bits)) (onTc (τ := Cert.EvenSample.τ) (Cert.EvenSample.main (F := Bits))) ⟨m, fun _ => 0, g⟩ (fun r => (∀ c : Dev Cert.EvenSample.nD,
      r.2.mem ((c.tc : Thread Cert.EvenSample.nD Cert.EvenSample.τ).loc Cert.EvenSample.main_arg0) = m ((c.tc : Thread Cert.EvenSample.nD Cert.EvenSample.τ).loc Cert.EvenSample.main_arg0)
      ∧ r.2.mem ((c.tc : Thread Cert.EvenSample.nD Cert.EvenSample.τ).loc Cert.EvenSample.main_arg1) = m ((c.tc : Thread Cert.EvenSample.nD Cert.EvenSample.τ).loc Cert.EvenSample.main_arg1)
      ∧ r.2.mem ((c.tc : Thread Cert.EvenSample.nD Cert.EvenSample.τ).loc Cert.EvenSample.main_arg2) = m ((c.tc : Thread Cert.EvenSample.nD Cert.EvenSample.τ).loc Cert.EvenSample.main_arg2)
      ∧ r.2.mem ((c.tc : Thread Cert.EvenSample.nD Cert.EvenSample.τ).loc Cert.EvenSample.main_arg3) = m ((c.tc : Thread Cert.EvenSample.nD Cert.EvenSample.τ).loc Cert.EvenSample.main_arg3)
      ∧ r.2.mem ((c.tc : Thread Cert.EvenSample.nD Cert.EvenSample.τ).loc Cert.EvenSample.main_arg4) = m ((c.tc : Thread Cert.EvenSample.nD Cert.EvenSample.τ).loc Cert.EvenSample.main_arg4)
      ∧ r.2.mem ((c.tc : Thread Cert.EvenSample.nD Cert.EvenSample.τ).loc Cert.EvenSample.main_arg5) = m ((c.tc : Thread Cert.EvenSample.nD Cert.EvenSample.τ).loc Cert.EvenSample.main_arg5)
      ∧ r.2.mem ((c.tc : Thread Cert.EvenSample.nD Cert.EvenSample.τ).loc Cert.EvenSample.main_arg6) = m ((c.tc : Thread Cert.EvenSample.nD Cert.EvenSample.τ).loc Cert.EvenSample.main_arg6))
      ∧ r.2.sem = fun _ => 0)

def quiescent_EvenSampleIdeal [hEvenSampleIdeal : Cert.EvenSampleIdeal.Facts] : Prop :=
  ∀ (m : (ℓ : Loc Cert.EvenSampleIdeal.nD Cert.EvenSampleIdeal.τ Cert.EvenSampleIdeal.sig) → Buf (Elt Ideal) ℓ) (g : Dev Cert.EvenSampleIdeal.nD → PrngReg), Pre_EvenSampleIdeal m →
    θ_run (Cert.EvenSampleIdeal.defs (F := Ideal)) (onTc (τ := Cert.EvenSampleIdeal.τ) (Cert.EvenSampleIdeal.main (F := Ideal))) ⟨m, fun _ => 0, g⟩ (fun r => (∀ c : Dev Cert.EvenSampleIdeal.nD,
      r.2.mem ((c.tc : Thread Cert.EvenSampleIdeal.nD Cert.EvenSampleIdeal.τ).loc Cert.EvenSampleIdeal.main_arg0) = m ((c.tc : Thread Cert.EvenSampleIdeal.nD Cert.EvenSampleIdeal.τ).loc Cert.EvenSampleIdeal.main_arg0)
      ∧ r.2.mem ((c.tc : Thread Cert.EvenSampleIdeal.nD Cert.EvenSampleIdeal.τ).loc Cert.EvenSampleIdeal.main_arg1) = m ((c.tc : Thread Cert.EvenSampleIdeal.nD Cert.EvenSampleIdeal.τ).loc Cert.EvenSampleIdeal.main_arg1)
      ∧ r.2.mem ((c.tc : Thread Cert.EvenSampleIdeal.nD Cert.EvenSampleIdeal.τ).loc Cert.EvenSampleIdeal.main_arg2) = m ((c.tc : Thread Cert.EvenSampleIdeal.nD Cert.EvenSampleIdeal.τ).loc Cert.EvenSampleIdeal.main_arg2)
      ∧ r.2.mem ((c.tc : Thread Cert.EvenSampleIdeal.nD Cert.EvenSampleIdeal.τ).loc Cert.EvenSampleIdeal.main_arg3) = m ((c.tc : Thread Cert.EvenSampleIdeal.nD Cert.EvenSampleIdeal.τ).loc Cert.EvenSampleIdeal.main_arg3)
      ∧ r.2.mem ((c.tc : Thread Cert.EvenSampleIdeal.nD Cert.EvenSampleIdeal.τ).loc Cert.EvenSampleIdeal.main_arg4) = m ((c.tc : Thread Cert.EvenSampleIdeal.nD Cert.EvenSampleIdeal.τ).loc Cert.EvenSampleIdeal.main_arg4)
      ∧ r.2.mem ((c.tc : Thread Cert.EvenSampleIdeal.nD Cert.EvenSampleIdeal.τ).loc Cert.EvenSampleIdeal.main_arg5) = m ((c.tc : Thread Cert.EvenSampleIdeal.nD Cert.EvenSampleIdeal.τ).loc Cert.EvenSampleIdeal.main_arg5)
      ∧ r.2.mem ((c.tc : Thread Cert.EvenSampleIdeal.nD Cert.EvenSampleIdeal.τ).loc Cert.EvenSampleIdeal.main_arg6) = m ((c.tc : Thread Cert.EvenSampleIdeal.nD Cert.EvenSampleIdeal.τ).loc Cert.EvenSampleIdeal.main_arg6))
      ∧ r.2.sem = fun _ => 0)

def quiescent_EvenSampleIdeal_pre_sample_tokens_finite [hEvenSampleIdeal : Cert.EvenSampleIdeal.Facts] [hPre_sample_tokens_finite : Cert.Pre_sample_tokens_finite.Facts] : Prop :=
  ∀ (m : (ℓ : Loc Cert.EvenSampleIdeal.nD Cert.EvenSampleIdeal.τ Cert.EvenSampleIdeal.sig) → Buf (Elt Ideal) ℓ) (g : Dev Cert.EvenSampleIdeal.nD → PrngReg), Pre_EvenSampleIdeal_sample_tokens_finite m →
    θ_run (Cert.EvenSampleIdeal.defs (F := Ideal)) (onTc (τ := Cert.EvenSampleIdeal.τ) (Cert.EvenSampleIdeal.main (F := Ideal))) ⟨m, fun _ => 0, g⟩ (fun r => (∀ c : Dev Cert.EvenSampleIdeal.nD,
      r.2.mem ((c.tc : Thread Cert.EvenSampleIdeal.nD Cert.EvenSampleIdeal.τ).loc Cert.EvenSampleIdeal.main_arg0) = m ((c.tc : Thread Cert.EvenSampleIdeal.nD Cert.EvenSampleIdeal.τ).loc Cert.EvenSampleIdeal.main_arg0)
      ∧ r.2.mem ((c.tc : Thread Cert.EvenSampleIdeal.nD Cert.EvenSampleIdeal.τ).loc Cert.EvenSampleIdeal.main_arg1) = m ((c.tc : Thread Cert.EvenSampleIdeal.nD Cert.EvenSampleIdeal.τ).loc Cert.EvenSampleIdeal.main_arg1)
      ∧ r.2.mem ((c.tc : Thread Cert.EvenSampleIdeal.nD Cert.EvenSampleIdeal.τ).loc Cert.EvenSampleIdeal.main_arg2) = m ((c.tc : Thread Cert.EvenSampleIdeal.nD Cert.EvenSampleIdeal.τ).loc Cert.EvenSampleIdeal.main_arg2)
      ∧ r.2.mem ((c.tc : Thread Cert.EvenSampleIdeal.nD Cert.EvenSampleIdeal.τ).loc Cert.EvenSampleIdeal.main_arg3) = m ((c.tc : Thread Cert.EvenSampleIdeal.nD Cert.EvenSampleIdeal.τ).loc Cert.EvenSampleIdeal.main_arg3)
      ∧ r.2.mem ((c.tc : Thread Cert.EvenSampleIdeal.nD Cert.EvenSampleIdeal.τ).loc Cert.EvenSampleIdeal.main_arg4) = m ((c.tc : Thread Cert.EvenSampleIdeal.nD Cert.EvenSampleIdeal.τ).loc Cert.EvenSampleIdeal.main_arg4)
      ∧ r.2.mem ((c.tc : Thread Cert.EvenSampleIdeal.nD Cert.EvenSampleIdeal.τ).loc Cert.EvenSampleIdeal.main_arg5) = m ((c.tc : Thread Cert.EvenSampleIdeal.nD Cert.EvenSampleIdeal.τ).loc Cert.EvenSampleIdeal.main_arg5)
      ∧ r.2.mem ((c.tc : Thread Cert.EvenSampleIdeal.nD Cert.EvenSampleIdeal.τ).loc Cert.EvenSampleIdeal.main_arg6) = m ((c.tc : Thread Cert.EvenSampleIdeal.nD Cert.EvenSampleIdeal.τ).loc Cert.EvenSampleIdeal.main_arg6))
      ∧ r.2.sem = fun _ => 0)

def quiescent_EvenSampleReferenceIdeal [hEvenSampleReferenceIdeal : Cert.EvenSampleReferenceIdeal.Facts] : Prop :=
  ∀ (m : (ℓ : Loc Cert.EvenSampleReferenceIdeal.nD Cert.EvenSampleReferenceIdeal.τ Cert.EvenSampleReferenceIdeal.sig) → Buf (Elt Ideal) ℓ) (g : Dev Cert.EvenSampleReferenceIdeal.nD → PrngReg), Pre_EvenSampleReferenceIdeal m →
    θ_run (Cert.EvenSampleReferenceIdeal.defs (F := Ideal)) (onTc (τ := Cert.EvenSampleReferenceIdeal.τ) (Cert.EvenSampleReferenceIdeal.main (F := Ideal))) ⟨m, fun _ => 0, g⟩ (fun r => (∀ c : Dev Cert.EvenSampleReferenceIdeal.nD,
      r.2.mem ((c.tc : Thread Cert.EvenSampleReferenceIdeal.nD Cert.EvenSampleReferenceIdeal.τ).loc Cert.EvenSampleReferenceIdeal.main_arg0) = m ((c.tc : Thread Cert.EvenSampleReferenceIdeal.nD Cert.EvenSampleReferenceIdeal.τ).loc Cert.EvenSampleReferenceIdeal.main_arg0)
      ∧ r.2.mem ((c.tc : Thread Cert.EvenSampleReferenceIdeal.nD Cert.EvenSampleReferenceIdeal.τ).loc Cert.EvenSampleReferenceIdeal.main_arg1) = m ((c.tc : Thread Cert.EvenSampleReferenceIdeal.nD Cert.EvenSampleReferenceIdeal.τ).loc Cert.EvenSampleReferenceIdeal.main_arg1)
      ∧ r.2.mem ((c.tc : Thread Cert.EvenSampleReferenceIdeal.nD Cert.EvenSampleReferenceIdeal.τ).loc Cert.EvenSampleReferenceIdeal.main_arg2) = m ((c.tc : Thread Cert.EvenSampleReferenceIdeal.nD Cert.EvenSampleReferenceIdeal.τ).loc Cert.EvenSampleReferenceIdeal.main_arg2)
      ∧ r.2.mem ((c.tc : Thread Cert.EvenSampleReferenceIdeal.nD Cert.EvenSampleReferenceIdeal.τ).loc Cert.EvenSampleReferenceIdeal.main_arg3) = m ((c.tc : Thread Cert.EvenSampleReferenceIdeal.nD Cert.EvenSampleReferenceIdeal.τ).loc Cert.EvenSampleReferenceIdeal.main_arg3)
      ∧ r.2.mem ((c.tc : Thread Cert.EvenSampleReferenceIdeal.nD Cert.EvenSampleReferenceIdeal.τ).loc Cert.EvenSampleReferenceIdeal.main_arg4) = m ((c.tc : Thread Cert.EvenSampleReferenceIdeal.nD Cert.EvenSampleReferenceIdeal.τ).loc Cert.EvenSampleReferenceIdeal.main_arg4)
      ∧ r.2.mem ((c.tc : Thread Cert.EvenSampleReferenceIdeal.nD Cert.EvenSampleReferenceIdeal.τ).loc Cert.EvenSampleReferenceIdeal.main_arg5) = m ((c.tc : Thread Cert.EvenSampleReferenceIdeal.nD Cert.EvenSampleReferenceIdeal.τ).loc Cert.EvenSampleReferenceIdeal.main_arg5)
      ∧ r.2.mem ((c.tc : Thread Cert.EvenSampleReferenceIdeal.nD Cert.EvenSampleReferenceIdeal.τ).loc Cert.EvenSampleReferenceIdeal.main_arg6) = m ((c.tc : Thread Cert.EvenSampleReferenceIdeal.nD Cert.EvenSampleReferenceIdeal.τ).loc Cert.EvenSampleReferenceIdeal.main_arg6))
      ∧ r.2.sem = fun _ => 0)

def quiescent_EvenSampleReferenceIdeal_pre_sample_tokens_finite [hEvenSampleReferenceIdeal : Cert.EvenSampleReferenceIdeal.Facts] [hPre_sample_tokens_finite : Cert.Pre_sample_tokens_finite.Facts] : Prop :=
  ∀ (m : (ℓ : Loc Cert.EvenSampleReferenceIdeal.nD Cert.EvenSampleReferenceIdeal.τ Cert.EvenSampleReferenceIdeal.sig) → Buf (Elt Ideal) ℓ) (g : Dev Cert.EvenSampleReferenceIdeal.nD → PrngReg), Pre_EvenSampleReferenceIdeal_sample_tokens_finite m →
    θ_run (Cert.EvenSampleReferenceIdeal.defs (F := Ideal)) (onTc (τ := Cert.EvenSampleReferenceIdeal.τ) (Cert.EvenSampleReferenceIdeal.main (F := Ideal))) ⟨m, fun _ => 0, g⟩ (fun r => (∀ c : Dev Cert.EvenSampleReferenceIdeal.nD,
      r.2.mem ((c.tc : Thread Cert.EvenSampleReferenceIdeal.nD Cert.EvenSampleReferenceIdeal.τ).loc Cert.EvenSampleReferenceIdeal.main_arg0) = m ((c.tc : Thread Cert.EvenSampleReferenceIdeal.nD Cert.EvenSampleReferenceIdeal.τ).loc Cert.EvenSampleReferenceIdeal.main_arg0)
      ∧ r.2.mem ((c.tc : Thread Cert.EvenSampleReferenceIdeal.nD Cert.EvenSampleReferenceIdeal.τ).loc Cert.EvenSampleReferenceIdeal.main_arg1) = m ((c.tc : Thread Cert.EvenSampleReferenceIdeal.nD Cert.EvenSampleReferenceIdeal.τ).loc Cert.EvenSampleReferenceIdeal.main_arg1)
      ∧ r.2.mem ((c.tc : Thread Cert.EvenSampleReferenceIdeal.nD Cert.EvenSampleReferenceIdeal.τ).loc Cert.EvenSampleReferenceIdeal.main_arg2) = m ((c.tc : Thread Cert.EvenSampleReferenceIdeal.nD Cert.EvenSampleReferenceIdeal.τ).loc Cert.EvenSampleReferenceIdeal.main_arg2)
      ∧ r.2.mem ((c.tc : Thread Cert.EvenSampleReferenceIdeal.nD Cert.EvenSampleReferenceIdeal.τ).loc Cert.EvenSampleReferenceIdeal.main_arg3) = m ((c.tc : Thread Cert.EvenSampleReferenceIdeal.nD Cert.EvenSampleReferenceIdeal.τ).loc Cert.EvenSampleReferenceIdeal.main_arg3)
      ∧ r.2.mem ((c.tc : Thread Cert.EvenSampleReferenceIdeal.nD Cert.EvenSampleReferenceIdeal.τ).loc Cert.EvenSampleReferenceIdeal.main_arg4) = m ((c.tc : Thread Cert.EvenSampleReferenceIdeal.nD Cert.EvenSampleReferenceIdeal.τ).loc Cert.EvenSampleReferenceIdeal.main_arg4)
      ∧ r.2.mem ((c.tc : Thread Cert.EvenSampleReferenceIdeal.nD Cert.EvenSampleReferenceIdeal.τ).loc Cert.EvenSampleReferenceIdeal.main_arg5) = m ((c.tc : Thread Cert.EvenSampleReferenceIdeal.nD Cert.EvenSampleReferenceIdeal.τ).loc Cert.EvenSampleReferenceIdeal.main_arg5)
      ∧ r.2.mem ((c.tc : Thread Cert.EvenSampleReferenceIdeal.nD Cert.EvenSampleReferenceIdeal.τ).loc Cert.EvenSampleReferenceIdeal.main_arg6) = m ((c.tc : Thread Cert.EvenSampleReferenceIdeal.nD Cert.EvenSampleReferenceIdeal.τ).loc Cert.EvenSampleReferenceIdeal.main_arg6))
      ∧ r.2.sem = fun _ => 0)

def quiescent_PostOdd [hPostOdd : Cert.PostOdd.Facts] : Prop :=
  ∀ (m : (ℓ : Loc Cert.PostOdd.nD Cert.PostOdd.τ Cert.PostOdd.sig) → Buf (Elt Bits) ℓ) (g : Dev Cert.PostOdd.nD → PrngReg), Pre_PostOdd m →
    θ_run (Cert.PostOdd.defs (F := Bits)) (onTc (τ := Cert.PostOdd.τ) (Cert.PostOdd.main (F := Bits))) ⟨m, fun _ => 0, g⟩ (fun r => (∀ c : Dev Cert.PostOdd.nD,
      r.2.mem ((c.tc : Thread Cert.PostOdd.nD Cert.PostOdd.τ).loc Cert.PostOdd.main_arg0) = m ((c.tc : Thread Cert.PostOdd.nD Cert.PostOdd.τ).loc Cert.PostOdd.main_arg0)
      ∧ r.2.mem ((c.tc : Thread Cert.PostOdd.nD Cert.PostOdd.τ).loc Cert.PostOdd.main_arg1) = m ((c.tc : Thread Cert.PostOdd.nD Cert.PostOdd.τ).loc Cert.PostOdd.main_arg1)
      ∧ r.2.mem ((c.tc : Thread Cert.PostOdd.nD Cert.PostOdd.τ).loc Cert.PostOdd.main_arg2) = m ((c.tc : Thread Cert.PostOdd.nD Cert.PostOdd.τ).loc Cert.PostOdd.main_arg2)
      ∧ r.2.mem ((c.tc : Thread Cert.PostOdd.nD Cert.PostOdd.τ).loc Cert.PostOdd.main_arg3) = m ((c.tc : Thread Cert.PostOdd.nD Cert.PostOdd.τ).loc Cert.PostOdd.main_arg3)
      ∧ r.2.mem ((c.tc : Thread Cert.PostOdd.nD Cert.PostOdd.τ).loc Cert.PostOdd.main_arg4) = m ((c.tc : Thread Cert.PostOdd.nD Cert.PostOdd.τ).loc Cert.PostOdd.main_arg4)
      ∧ r.2.mem ((c.tc : Thread Cert.PostOdd.nD Cert.PostOdd.τ).loc Cert.PostOdd.main_arg5) = m ((c.tc : Thread Cert.PostOdd.nD Cert.PostOdd.τ).loc Cert.PostOdd.main_arg5)
      ∧ r.2.mem ((c.tc : Thread Cert.PostOdd.nD Cert.PostOdd.τ).loc Cert.PostOdd.main_arg6) = m ((c.tc : Thread Cert.PostOdd.nD Cert.PostOdd.τ).loc Cert.PostOdd.main_arg6)
      ∧ r.2.mem ((c.tc : Thread Cert.PostOdd.nD Cert.PostOdd.τ).loc Cert.PostOdd.main_arg7) = m ((c.tc : Thread Cert.PostOdd.nD Cert.PostOdd.τ).loc Cert.PostOdd.main_arg7)
      ∧ r.2.mem ((c.tc : Thread Cert.PostOdd.nD Cert.PostOdd.τ).loc Cert.PostOdd.main_arg8) = m ((c.tc : Thread Cert.PostOdd.nD Cert.PostOdd.τ).loc Cert.PostOdd.main_arg8))
      ∧ r.2.sem = fun _ => 0)

def quiescent_PostOddIdeal [hPostOddIdeal : Cert.PostOddIdeal.Facts] : Prop :=
  ∀ (m : (ℓ : Loc Cert.PostOddIdeal.nD Cert.PostOddIdeal.τ Cert.PostOddIdeal.sig) → Buf (Elt Ideal) ℓ) (g : Dev Cert.PostOddIdeal.nD → PrngReg), Pre_PostOddIdeal m →
    θ_run (Cert.PostOddIdeal.defs (F := Ideal)) (onTc (τ := Cert.PostOddIdeal.τ) (Cert.PostOddIdeal.main (F := Ideal))) ⟨m, fun _ => 0, g⟩ (fun r => (∀ c : Dev Cert.PostOddIdeal.nD,
      r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
      ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
      ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
      ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
      ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
      ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
      ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
      ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
      ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8))
      ∧ r.2.sem = fun _ => 0)

def quiescent_PostOddReferenceIdeal [hPostOddReferenceIdeal : Cert.PostOddReferenceIdeal.Facts] : Prop :=
  ∀ (m : (ℓ : Loc Cert.PostOddReferenceIdeal.nD Cert.PostOddReferenceIdeal.τ Cert.PostOddReferenceIdeal.sig) → Buf (Elt Ideal) ℓ) (g : Dev Cert.PostOddReferenceIdeal.nD → PrngReg), Pre_PostOddReferenceIdeal m →
    θ_run (Cert.PostOddReferenceIdeal.defs (F := Ideal)) (onTc (τ := Cert.PostOddReferenceIdeal.τ) (Cert.PostOddReferenceIdeal.main (F := Ideal))) ⟨m, fun _ => 0, g⟩ (fun r => (∀ c : Dev Cert.PostOddReferenceIdeal.nD,
      r.2.mem ((c.tc : Thread Cert.PostOddReferenceIdeal.nD Cert.PostOddReferenceIdeal.τ).loc Cert.PostOddReferenceIdeal.main_arg0) = m ((c.tc : Thread Cert.PostOddReferenceIdeal.nD Cert.PostOddReferenceIdeal.τ).loc Cert.PostOddReferenceIdeal.main_arg0)
      ∧ r.2.mem ((c.tc : Thread Cert.PostOddReferenceIdeal.nD Cert.PostOddReferenceIdeal.τ).loc Cert.PostOddReferenceIdeal.main_arg1) = m ((c.tc : Thread Cert.PostOddReferenceIdeal.nD Cert.PostOddReferenceIdeal.τ).loc Cert.PostOddReferenceIdeal.main_arg1)
      ∧ r.2.mem ((c.tc : Thread Cert.PostOddReferenceIdeal.nD Cert.PostOddReferenceIdeal.τ).loc Cert.PostOddReferenceIdeal.main_arg2) = m ((c.tc : Thread Cert.PostOddReferenceIdeal.nD Cert.PostOddReferenceIdeal.τ).loc Cert.PostOddReferenceIdeal.main_arg2)
      ∧ r.2.mem ((c.tc : Thread Cert.PostOddReferenceIdeal.nD Cert.PostOddReferenceIdeal.τ).loc Cert.PostOddReferenceIdeal.main_arg3) = m ((c.tc : Thread Cert.PostOddReferenceIdeal.nD Cert.PostOddReferenceIdeal.τ).loc Cert.PostOddReferenceIdeal.main_arg3)
      ∧ r.2.mem ((c.tc : Thread Cert.PostOddReferenceIdeal.nD Cert.PostOddReferenceIdeal.τ).loc Cert.PostOddReferenceIdeal.main_arg4) = m ((c.tc : Thread Cert.PostOddReferenceIdeal.nD Cert.PostOddReferenceIdeal.τ).loc Cert.PostOddReferenceIdeal.main_arg4)
      ∧ r.2.mem ((c.tc : Thread Cert.PostOddReferenceIdeal.nD Cert.PostOddReferenceIdeal.τ).loc Cert.PostOddReferenceIdeal.main_arg5) = m ((c.tc : Thread Cert.PostOddReferenceIdeal.nD Cert.PostOddReferenceIdeal.τ).loc Cert.PostOddReferenceIdeal.main_arg5)
      ∧ r.2.mem ((c.tc : Thread Cert.PostOddReferenceIdeal.nD Cert.PostOddReferenceIdeal.τ).loc Cert.PostOddReferenceIdeal.main_arg6) = m ((c.tc : Thread Cert.PostOddReferenceIdeal.nD Cert.PostOddReferenceIdeal.τ).loc Cert.PostOddReferenceIdeal.main_arg6)
      ∧ r.2.mem ((c.tc : Thread Cert.PostOddReferenceIdeal.nD Cert.PostOddReferenceIdeal.τ).loc Cert.PostOddReferenceIdeal.main_arg7) = m ((c.tc : Thread Cert.PostOddReferenceIdeal.nD Cert.PostOddReferenceIdeal.τ).loc Cert.PostOddReferenceIdeal.main_arg7)
      ∧ r.2.mem ((c.tc : Thread Cert.PostOddReferenceIdeal.nD Cert.PostOddReferenceIdeal.τ).loc Cert.PostOddReferenceIdeal.main_arg8) = m ((c.tc : Thread Cert.PostOddReferenceIdeal.nD Cert.PostOddReferenceIdeal.τ).loc Cert.PostOddReferenceIdeal.main_arg8))
      ∧ r.2.sem = fun _ => 0)

def quiescent_PostEven [hPostEven : Cert.PostEven.Facts] : Prop :=
  ∀ (m : (ℓ : Loc Cert.PostEven.nD Cert.PostEven.τ Cert.PostEven.sig) → Buf (Elt Bits) ℓ) (g : Dev Cert.PostEven.nD → PrngReg), Pre_PostEven m →
    θ_run (Cert.PostEven.defs (F := Bits)) (onTc (τ := Cert.PostEven.τ) (Cert.PostEven.main (F := Bits))) ⟨m, fun _ => 0, g⟩ (fun r => (∀ c : Dev Cert.PostEven.nD,
      r.2.mem ((c.tc : Thread Cert.PostEven.nD Cert.PostEven.τ).loc Cert.PostEven.main_arg0) = m ((c.tc : Thread Cert.PostEven.nD Cert.PostEven.τ).loc Cert.PostEven.main_arg0)
      ∧ r.2.mem ((c.tc : Thread Cert.PostEven.nD Cert.PostEven.τ).loc Cert.PostEven.main_arg1) = m ((c.tc : Thread Cert.PostEven.nD Cert.PostEven.τ).loc Cert.PostEven.main_arg1)
      ∧ r.2.mem ((c.tc : Thread Cert.PostEven.nD Cert.PostEven.τ).loc Cert.PostEven.main_arg2) = m ((c.tc : Thread Cert.PostEven.nD Cert.PostEven.τ).loc Cert.PostEven.main_arg2)
      ∧ r.2.mem ((c.tc : Thread Cert.PostEven.nD Cert.PostEven.τ).loc Cert.PostEven.main_arg3) = m ((c.tc : Thread Cert.PostEven.nD Cert.PostEven.τ).loc Cert.PostEven.main_arg3)
      ∧ r.2.mem ((c.tc : Thread Cert.PostEven.nD Cert.PostEven.τ).loc Cert.PostEven.main_arg4) = m ((c.tc : Thread Cert.PostEven.nD Cert.PostEven.τ).loc Cert.PostEven.main_arg4)
      ∧ r.2.mem ((c.tc : Thread Cert.PostEven.nD Cert.PostEven.τ).loc Cert.PostEven.main_arg5) = m ((c.tc : Thread Cert.PostEven.nD Cert.PostEven.τ).loc Cert.PostEven.main_arg5)
      ∧ r.2.mem ((c.tc : Thread Cert.PostEven.nD Cert.PostEven.τ).loc Cert.PostEven.main_arg6) = m ((c.tc : Thread Cert.PostEven.nD Cert.PostEven.τ).loc Cert.PostEven.main_arg6)
      ∧ r.2.mem ((c.tc : Thread Cert.PostEven.nD Cert.PostEven.τ).loc Cert.PostEven.main_arg7) = m ((c.tc : Thread Cert.PostEven.nD Cert.PostEven.τ).loc Cert.PostEven.main_arg7)
      ∧ r.2.mem ((c.tc : Thread Cert.PostEven.nD Cert.PostEven.τ).loc Cert.PostEven.main_arg8) = m ((c.tc : Thread Cert.PostEven.nD Cert.PostEven.τ).loc Cert.PostEven.main_arg8)
      ∧ r.2.mem ((c.tc : Thread Cert.PostEven.nD Cert.PostEven.τ).loc Cert.PostEven.main_arg9) = m ((c.tc : Thread Cert.PostEven.nD Cert.PostEven.τ).loc Cert.PostEven.main_arg9))
      ∧ r.2.sem = fun _ => 0)

def quiescent_PostEvenIdeal [hPostEvenIdeal : Cert.PostEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg), Pre_PostEvenIdeal m →
    θ_run (Cert.PostEvenIdeal.defs (F := Ideal)) (onTc (τ := Cert.PostEvenIdeal.τ) (Cert.PostEvenIdeal.main (F := Ideal))) ⟨m, fun _ => 0, g⟩ (fun r => (∀ c : Dev Cert.PostEvenIdeal.nD,
      r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
      ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
      ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
      ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
      ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
      ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
      ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
      ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
      ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
      ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9))
      ∧ r.2.sem = fun _ => 0)

def quiescent_PostEvenReferenceIdeal [hPostEvenReferenceIdeal : Cert.PostEvenReferenceIdeal.Facts] : Prop :=
  ∀ (m : (ℓ : Loc Cert.PostEvenReferenceIdeal.nD Cert.PostEvenReferenceIdeal.τ Cert.PostEvenReferenceIdeal.sig) → Buf (Elt Ideal) ℓ) (g : Dev Cert.PostEvenReferenceIdeal.nD → PrngReg), Pre_PostEvenReferenceIdeal m →
    θ_run (Cert.PostEvenReferenceIdeal.defs (F := Ideal)) (onTc (τ := Cert.PostEvenReferenceIdeal.τ) (Cert.PostEvenReferenceIdeal.main (F := Ideal))) ⟨m, fun _ => 0, g⟩ (fun r => (∀ c : Dev Cert.PostEvenReferenceIdeal.nD,
      r.2.mem ((c.tc : Thread Cert.PostEvenReferenceIdeal.nD Cert.PostEvenReferenceIdeal.τ).loc Cert.PostEvenReferenceIdeal.main_arg0) = m ((c.tc : Thread Cert.PostEvenReferenceIdeal.nD Cert.PostEvenReferenceIdeal.τ).loc Cert.PostEvenReferenceIdeal.main_arg0)
      ∧ r.2.mem ((c.tc : Thread Cert.PostEvenReferenceIdeal.nD Cert.PostEvenReferenceIdeal.τ).loc Cert.PostEvenReferenceIdeal.main_arg1) = m ((c.tc : Thread Cert.PostEvenReferenceIdeal.nD Cert.PostEvenReferenceIdeal.τ).loc Cert.PostEvenReferenceIdeal.main_arg1)
      ∧ r.2.mem ((c.tc : Thread Cert.PostEvenReferenceIdeal.nD Cert.PostEvenReferenceIdeal.τ).loc Cert.PostEvenReferenceIdeal.main_arg2) = m ((c.tc : Thread Cert.PostEvenReferenceIdeal.nD Cert.PostEvenReferenceIdeal.τ).loc Cert.PostEvenReferenceIdeal.main_arg2)
      ∧ r.2.mem ((c.tc : Thread Cert.PostEvenReferenceIdeal.nD Cert.PostEvenReferenceIdeal.τ).loc Cert.PostEvenReferenceIdeal.main_arg3) = m ((c.tc : Thread Cert.PostEvenReferenceIdeal.nD Cert.PostEvenReferenceIdeal.τ).loc Cert.PostEvenReferenceIdeal.main_arg3)
      ∧ r.2.mem ((c.tc : Thread Cert.PostEvenReferenceIdeal.nD Cert.PostEvenReferenceIdeal.τ).loc Cert.PostEvenReferenceIdeal.main_arg4) = m ((c.tc : Thread Cert.PostEvenReferenceIdeal.nD Cert.PostEvenReferenceIdeal.τ).loc Cert.PostEvenReferenceIdeal.main_arg4)
      ∧ r.2.mem ((c.tc : Thread Cert.PostEvenReferenceIdeal.nD Cert.PostEvenReferenceIdeal.τ).loc Cert.PostEvenReferenceIdeal.main_arg5) = m ((c.tc : Thread Cert.PostEvenReferenceIdeal.nD Cert.PostEvenReferenceIdeal.τ).loc Cert.PostEvenReferenceIdeal.main_arg5)
      ∧ r.2.mem ((c.tc : Thread Cert.PostEvenReferenceIdeal.nD Cert.PostEvenReferenceIdeal.τ).loc Cert.PostEvenReferenceIdeal.main_arg6) = m ((c.tc : Thread Cert.PostEvenReferenceIdeal.nD Cert.PostEvenReferenceIdeal.τ).loc Cert.PostEvenReferenceIdeal.main_arg6)
      ∧ r.2.mem ((c.tc : Thread Cert.PostEvenReferenceIdeal.nD Cert.PostEvenReferenceIdeal.τ).loc Cert.PostEvenReferenceIdeal.main_arg7) = m ((c.tc : Thread Cert.PostEvenReferenceIdeal.nD Cert.PostEvenReferenceIdeal.τ).loc Cert.PostEvenReferenceIdeal.main_arg7)
      ∧ r.2.mem ((c.tc : Thread Cert.PostEvenReferenceIdeal.nD Cert.PostEvenReferenceIdeal.τ).loc Cert.PostEvenReferenceIdeal.main_arg8) = m ((c.tc : Thread Cert.PostEvenReferenceIdeal.nD Cert.PostEvenReferenceIdeal.τ).loc Cert.PostEvenReferenceIdeal.main_arg8)
      ∧ r.2.mem ((c.tc : Thread Cert.PostEvenReferenceIdeal.nD Cert.PostEvenReferenceIdeal.τ).loc Cert.PostEvenReferenceIdeal.main_arg9) = m ((c.tc : Thread Cert.PostEvenReferenceIdeal.nD Cert.PostEvenReferenceIdeal.τ).loc Cert.PostEvenReferenceIdeal.main_arg9))
      ∧ r.2.sem = fun _ => 0)

def quiescent_Global [hGlobal : Cert.Global.Facts] : Prop :=
  ∀ (m : (ℓ : Loc Cert.Global.nD Cert.Global.τ Cert.Global.sig) → Buf (Elt Bits) ℓ) (g : Dev Cert.Global.nD → PrngReg), Pre_Global m →
    θ_run (Cert.Global.defs (F := Bits)) (onTc (τ := Cert.Global.τ) (Cert.Global.main (F := Bits))) ⟨m, fun _ => 0, g⟩ (fun r => (∀ c : Dev Cert.Global.nD,
      r.2.mem ((c.tc : Thread Cert.Global.nD Cert.Global.τ).loc Cert.Global.main_arg0) = m ((c.tc : Thread Cert.Global.nD Cert.Global.τ).loc Cert.Global.main_arg0)
      ∧ r.2.mem ((c.tc : Thread Cert.Global.nD Cert.Global.τ).loc Cert.Global.main_arg1) = m ((c.tc : Thread Cert.Global.nD Cert.Global.τ).loc Cert.Global.main_arg1)
      ∧ r.2.mem ((c.tc : Thread Cert.Global.nD Cert.Global.τ).loc Cert.Global.main_arg2) = m ((c.tc : Thread Cert.Global.nD Cert.Global.τ).loc Cert.Global.main_arg2))
      ∧ r.2.sem = fun _ => 0)

def quiescent_GlobalIdeal [hGlobalIdeal : Cert.GlobalIdeal.Facts] : Prop :=
  ∀ (m : (ℓ : Loc Cert.GlobalIdeal.nD Cert.GlobalIdeal.τ Cert.GlobalIdeal.sig) → Buf (Elt Ideal) ℓ) (g : Dev Cert.GlobalIdeal.nD → PrngReg), Pre_GlobalIdeal m →
    θ_run (Cert.GlobalIdeal.defs (F := Ideal)) (onTc (τ := Cert.GlobalIdeal.τ) (Cert.GlobalIdeal.main (F := Ideal))) ⟨m, fun _ => 0, g⟩ (fun r => (∀ c : Dev Cert.GlobalIdeal.nD,
      r.2.mem ((c.tc : Thread Cert.GlobalIdeal.nD Cert.GlobalIdeal.τ).loc Cert.GlobalIdeal.main_arg0) = m ((c.tc : Thread Cert.GlobalIdeal.nD Cert.GlobalIdeal.τ).loc Cert.GlobalIdeal.main_arg0)
      ∧ r.2.mem ((c.tc : Thread Cert.GlobalIdeal.nD Cert.GlobalIdeal.τ).loc Cert.GlobalIdeal.main_arg1) = m ((c.tc : Thread Cert.GlobalIdeal.nD Cert.GlobalIdeal.τ).loc Cert.GlobalIdeal.main_arg1)
      ∧ r.2.mem ((c.tc : Thread Cert.GlobalIdeal.nD Cert.GlobalIdeal.τ).loc Cert.GlobalIdeal.main_arg2) = m ((c.tc : Thread Cert.GlobalIdeal.nD Cert.GlobalIdeal.τ).loc Cert.GlobalIdeal.main_arg2))
      ∧ r.2.sem = fun _ => 0)

def quiescent_GlobalIdeal_pre_attention_finite [hGlobalIdeal : Cert.GlobalIdeal.Facts] [hPre_attention_finite : Cert.Pre_attention_finite.Facts] : Prop :=
  ∀ (m : (ℓ : Loc Cert.GlobalIdeal.nD Cert.GlobalIdeal.τ Cert.GlobalIdeal.sig) → Buf (Elt Ideal) ℓ) (g : Dev Cert.GlobalIdeal.nD → PrngReg), Pre_GlobalIdeal_attention_finite m →
    θ_run (Cert.GlobalIdeal.defs (F := Ideal)) (onTc (τ := Cert.GlobalIdeal.τ) (Cert.GlobalIdeal.main (F := Ideal))) ⟨m, fun _ => 0, g⟩ (fun r => (∀ c : Dev Cert.GlobalIdeal.nD,
      r.2.mem ((c.tc : Thread Cert.GlobalIdeal.nD Cert.GlobalIdeal.τ).loc Cert.GlobalIdeal.main_arg0) = m ((c.tc : Thread Cert.GlobalIdeal.nD Cert.GlobalIdeal.τ).loc Cert.GlobalIdeal.main_arg0)
      ∧ r.2.mem ((c.tc : Thread Cert.GlobalIdeal.nD Cert.GlobalIdeal.τ).loc Cert.GlobalIdeal.main_arg1) = m ((c.tc : Thread Cert.GlobalIdeal.nD Cert.GlobalIdeal.τ).loc Cert.GlobalIdeal.main_arg1)
      ∧ r.2.mem ((c.tc : Thread Cert.GlobalIdeal.nD Cert.GlobalIdeal.τ).loc Cert.GlobalIdeal.main_arg2) = m ((c.tc : Thread Cert.GlobalIdeal.nD Cert.GlobalIdeal.τ).loc Cert.GlobalIdeal.main_arg2))
      ∧ r.2.sem = fun _ => 0)

def quiescent_GlobalReferenceIdeal [hGlobalReferenceIdeal : Cert.GlobalReferenceIdeal.Facts] : Prop :=
  ∀ (m : (ℓ : Loc Cert.GlobalReferenceIdeal.nD Cert.GlobalReferenceIdeal.τ Cert.GlobalReferenceIdeal.sig) → Buf (Elt Ideal) ℓ) (g : Dev Cert.GlobalReferenceIdeal.nD → PrngReg), Pre_GlobalReferenceIdeal m →
    θ_run (Cert.GlobalReferenceIdeal.defs (F := Ideal)) (onTc (τ := Cert.GlobalReferenceIdeal.τ) (Cert.GlobalReferenceIdeal.main (F := Ideal))) ⟨m, fun _ => 0, g⟩ (fun r => (∀ c : Dev Cert.GlobalReferenceIdeal.nD,
      r.2.mem ((c.tc : Thread Cert.GlobalReferenceIdeal.nD Cert.GlobalReferenceIdeal.τ).loc Cert.GlobalReferenceIdeal.main_arg0) = m ((c.tc : Thread Cert.GlobalReferenceIdeal.nD Cert.GlobalReferenceIdeal.τ).loc Cert.GlobalReferenceIdeal.main_arg0)
      ∧ r.2.mem ((c.tc : Thread Cert.GlobalReferenceIdeal.nD Cert.GlobalReferenceIdeal.τ).loc Cert.GlobalReferenceIdeal.main_arg1) = m ((c.tc : Thread Cert.GlobalReferenceIdeal.nD Cert.GlobalReferenceIdeal.τ).loc Cert.GlobalReferenceIdeal.main_arg1)
      ∧ r.2.mem ((c.tc : Thread Cert.GlobalReferenceIdeal.nD Cert.GlobalReferenceIdeal.τ).loc Cert.GlobalReferenceIdeal.main_arg2) = m ((c.tc : Thread Cert.GlobalReferenceIdeal.nD Cert.GlobalReferenceIdeal.τ).loc Cert.GlobalReferenceIdeal.main_arg2))
      ∧ r.2.sem = fun _ => 0)

def quiescent_GlobalReferenceIdeal_pre_attention_finite [hGlobalReferenceIdeal : Cert.GlobalReferenceIdeal.Facts] [hPre_attention_finite : Cert.Pre_attention_finite.Facts] : Prop :=
  ∀ (m : (ℓ : Loc Cert.GlobalReferenceIdeal.nD Cert.GlobalReferenceIdeal.τ Cert.GlobalReferenceIdeal.sig) → Buf (Elt Ideal) ℓ) (g : Dev Cert.GlobalReferenceIdeal.nD → PrngReg), Pre_GlobalReferenceIdeal_attention_finite m →
    θ_run (Cert.GlobalReferenceIdeal.defs (F := Ideal)) (onTc (τ := Cert.GlobalReferenceIdeal.τ) (Cert.GlobalReferenceIdeal.main (F := Ideal))) ⟨m, fun _ => 0, g⟩ (fun r => (∀ c : Dev Cert.GlobalReferenceIdeal.nD,
      r.2.mem ((c.tc : Thread Cert.GlobalReferenceIdeal.nD Cert.GlobalReferenceIdeal.τ).loc Cert.GlobalReferenceIdeal.main_arg0) = m ((c.tc : Thread Cert.GlobalReferenceIdeal.nD Cert.GlobalReferenceIdeal.τ).loc Cert.GlobalReferenceIdeal.main_arg0)
      ∧ r.2.mem ((c.tc : Thread Cert.GlobalReferenceIdeal.nD Cert.GlobalReferenceIdeal.τ).loc Cert.GlobalReferenceIdeal.main_arg1) = m ((c.tc : Thread Cert.GlobalReferenceIdeal.nD Cert.GlobalReferenceIdeal.τ).loc Cert.GlobalReferenceIdeal.main_arg1)
      ∧ r.2.mem ((c.tc : Thread Cert.GlobalReferenceIdeal.nD Cert.GlobalReferenceIdeal.τ).loc Cert.GlobalReferenceIdeal.main_arg2) = m ((c.tc : Thread Cert.GlobalReferenceIdeal.nD Cert.GlobalReferenceIdeal.τ).loc Cert.GlobalReferenceIdeal.main_arg2))
      ∧ r.2.sem = fun _ => 0)

def preserves_Kernel_KernelIdeal : Prop :=
  True

def algebraic_KernelIdeal_ReferenceIdeal_pre_gates_ok [hKernelIdeal : Cert.KernelIdeal.Facts] [hReferenceIdeal : Cert.ReferenceIdeal.Facts] [hPre_gates_ok : Cert.Pre_gates_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Prompt_PromptIdeal : Prop :=
  True

def algebraic_PromptIdeal_PromptReferenceIdeal_pre_prompt_gates_ok [hPromptIdeal : Cert.PromptIdeal.Facts] [hPromptReferenceIdeal : Cert.PromptReferenceIdeal.Facts] [hPre_prompt_gates_ok : Cert.Pre_prompt_gates_ok.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal_prompt_gates_ok m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)
      ∧ m' ((c.tc : Thread Cert.PromptReferenceIdeal.nD Cert.PromptReferenceIdeal.τ).loc Cert.PromptReferenceIdeal.main_arg3) = m ((c.tc : Thread Cert.PromptIdeal.nD Cert.PromptIdeal.τ).loc Cert.PromptIdeal.main_arg3)
      ∧ m' ((c.tc : Thread Cert.PromptReferenceIdeal.nD Cert.PromptReferenceIdeal.τ).loc Cert.PromptReferenceIdeal.main_arg4) = m ((c.tc : Thread Cert.PromptIdeal.nD Cert.PromptIdeal.τ).loc Cert.PromptIdeal.main_arg4)
      ∧ m' ((c.tc : Thread Cert.PromptReferenceIdeal.nD Cert.PromptReferenceIdeal.τ).loc Cert.PromptReferenceIdeal.main_arg5) = m ((c.tc : Thread Cert.PromptIdeal.nD Cert.PromptIdeal.τ).loc Cert.PromptIdeal.main_arg5)
      ∧ m' ((c.tc : Thread Cert.PromptReferenceIdeal.nD Cert.PromptReferenceIdeal.τ).loc Cert.PromptReferenceIdeal.main_arg6) = m ((c.tc : Thread Cert.PromptIdeal.nD Cert.PromptIdeal.τ).loc Cert.PromptIdeal.main_arg6)
      ∧ m' ((c.tc : Thread Cert.PromptReferenceIdeal.nD Cert.PromptReferenceIdeal.τ).loc Cert.PromptReferenceIdeal.main_arg7) = m ((c.tc : Thread Cert.PromptIdeal.nD Cert.PromptIdeal.τ).loc Cert.PromptIdeal.main_arg7)
      ∧ m' ((c.tc : Thread Cert.PromptReferenceIdeal.nD Cert.PromptReferenceIdeal.τ).loc Cert.PromptReferenceIdeal.main_arg8) = m ((c.tc : Thread Cert.PromptIdeal.nD Cert.PromptIdeal.τ).loc Cert.PromptIdeal.main_arg8)
      ∧ m' ((c.tc : Thread Cert.PromptReferenceIdeal.nD Cert.PromptReferenceIdeal.τ).loc Cert.PromptReferenceIdeal.main_arg9) = m ((c.tc : Thread Cert.PromptIdeal.nD Cert.PromptIdeal.τ).loc Cert.PromptIdeal.main_arg9)
      ∧ m' ((c.tc : Thread Cert.PromptReferenceIdeal.nD Cert.PromptReferenceIdeal.τ).loc Cert.PromptReferenceIdeal.main_arg10) = m ((c.tc : Thread Cert.PromptIdeal.nD Cert.PromptIdeal.τ).loc Cert.PromptIdeal.main_arg10)
      ∧ m' ((c.tc : Thread Cert.PromptReferenceIdeal.nD Cert.PromptReferenceIdeal.τ).loc Cert.PromptReferenceIdeal.main_arg11) = m ((c.tc : Thread Cert.PromptIdeal.nD Cert.PromptIdeal.τ).loc Cert.PromptIdeal.main_arg11)) →
    ∃ (v0 : (c : Dev Cert.PromptIdeal.nD) → Buf (Elt Ideal) ((c.tc : Thread Cert.PromptIdeal.nD Cert.PromptIdeal.τ).loc Cert.PromptIdeal.main_v0)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v0) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
          ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v51) = v0 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2)
          ∧ r.2.mem ((c.tc : Thread Cert.PromptReferenceIdeal.nD Cert.PromptReferenceIdeal.τ).loc Cert.PromptReferenceIdeal.main_arg3) = m' ((c.tc : Thread Cert.PromptReferenceIdeal.nD Cert.PromptReferenceIdeal.τ).loc Cert.PromptReferenceIdeal.main_arg3)
          ∧ r.2.mem ((c.tc : Thread Cert.PromptReferenceIdeal.nD Cert.PromptReferenceIdeal.τ).loc Cert.PromptReferenceIdeal.main_arg4) = m' ((c.tc : Thread Cert.PromptReferenceIdeal.nD Cert.PromptReferenceIdeal.τ).loc Cert.PromptReferenceIdeal.main_arg4)
          ∧ r.2.mem ((c.tc : Thread Cert.PromptReferenceIdeal.nD Cert.PromptReferenceIdeal.τ).loc Cert.PromptReferenceIdeal.main_arg5) = m' ((c.tc : Thread Cert.PromptReferenceIdeal.nD Cert.PromptReferenceIdeal.τ).loc Cert.PromptReferenceIdeal.main_arg5)
          ∧ r.2.mem ((c.tc : Thread Cert.PromptReferenceIdeal.nD Cert.PromptReferenceIdeal.τ).loc Cert.PromptReferenceIdeal.main_arg6) = m' ((c.tc : Thread Cert.PromptReferenceIdeal.nD Cert.PromptReferenceIdeal.τ).loc Cert.PromptReferenceIdeal.main_arg6)
          ∧ r.2.mem ((c.tc : Thread Cert.PromptReferenceIdeal.nD Cert.PromptReferenceIdeal.τ).loc Cert.PromptReferenceIdeal.main_arg7) = m' ((c.tc : Thread Cert.PromptReferenceIdeal.nD Cert.PromptReferenceIdeal.τ).loc Cert.PromptReferenceIdeal.main_arg7)
          ∧ r.2.mem ((c.tc : Thread Cert.PromptReferenceIdeal.nD Cert.PromptReferenceIdeal.τ).loc Cert.PromptReferenceIdeal.main_arg8) = m' ((c.tc : Thread Cert.PromptReferenceIdeal.nD Cert.PromptReferenceIdeal.τ).loc Cert.PromptReferenceIdeal.main_arg8)
          ∧ r.2.mem ((c.tc : Thread Cert.PromptReferenceIdeal.nD Cert.PromptReferenceIdeal.τ).loc Cert.PromptReferenceIdeal.main_arg9) = m' ((c.tc : Thread Cert.PromptReferenceIdeal.nD Cert.PromptReferenceIdeal.τ).loc Cert.PromptReferenceIdeal.main_arg9)
          ∧ r.2.mem ((c.tc : Thread Cert.PromptReferenceIdeal.nD Cert.PromptReferenceIdeal.τ).loc Cert.PromptReferenceIdeal.main_arg10) = m' ((c.tc : Thread Cert.PromptReferenceIdeal.nD Cert.PromptReferenceIdeal.τ).loc Cert.PromptReferenceIdeal.main_arg10)
          ∧ r.2.mem ((c.tc : Thread Cert.PromptReferenceIdeal.nD Cert.PromptReferenceIdeal.τ).loc Cert.PromptReferenceIdeal.main_arg11) = m' ((c.tc : Thread Cert.PromptReferenceIdeal.nD Cert.PromptReferenceIdeal.τ).loc Cert.PromptReferenceIdeal.main_arg11))

def preserves_Even_EvenIdeal : Prop :=
  True

def algebraic_EvenIdeal_EvenReferenceIdeal_pre_tokens_finite [hEvenIdeal : Cert.EvenIdeal.Facts] [hEvenReferenceIdeal : Cert.EvenReferenceIdeal.Facts] [hPre_tokens_finite : Cert.Pre_tokens_finite.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenIdeal_tokens_finite m →
    (∀ c : Dev Cert.EvenIdeal.nD,
      m' ((c.tc : Thread Cert.EvenReferenceIdeal.nD Cert.EvenReferenceIdeal.τ).loc Cert.EvenReferenceIdeal.main_arg0) = m ((c.tc : Thread Cert.EvenIdeal.nD Cert.EvenIdeal.τ).loc Cert.EvenIdeal.main_arg0)
      ∧ m' ((c.tc : Thread Cert.EvenReferenceIdeal.nD Cert.EvenReferenceIdeal.τ).loc Cert.EvenReferenceIdeal.main_arg1) = m ((c.tc : Thread Cert.EvenIdeal.nD Cert.EvenIdeal.τ).loc Cert.EvenIdeal.main_arg1)
      ∧ m' ((c.tc : Thread Cert.EvenReferenceIdeal.nD Cert.EvenReferenceIdeal.τ).loc Cert.EvenReferenceIdeal.main_arg2) = m ((c.tc : Thread Cert.EvenIdeal.nD Cert.EvenIdeal.τ).loc Cert.EvenIdeal.main_arg2)
      ∧ m' ((c.tc : Thread Cert.EvenReferenceIdeal.nD Cert.EvenReferenceIdeal.τ).loc Cert.EvenReferenceIdeal.main_arg3) = m ((c.tc : Thread Cert.EvenIdeal.nD Cert.EvenIdeal.τ).loc Cert.EvenIdeal.main_arg3)
      ∧ m' ((c.tc : Thread Cert.EvenReferenceIdeal.nD Cert.EvenReferenceIdeal.τ).loc Cert.EvenReferenceIdeal.main_arg4) = m ((c.tc : Thread Cert.EvenIdeal.nD Cert.EvenIdeal.τ).loc Cert.EvenIdeal.main_arg4)
      ∧ m' ((c.tc : Thread Cert.EvenReferenceIdeal.nD Cert.EvenReferenceIdeal.τ).loc Cert.EvenReferenceIdeal.main_arg5) = m ((c.tc : Thread Cert.EvenIdeal.nD Cert.EvenIdeal.τ).loc Cert.EvenIdeal.main_arg5)
      ∧ m' ((c.tc : Thread Cert.EvenReferenceIdeal.nD Cert.EvenReferenceIdeal.τ).loc Cert.EvenReferenceIdeal.main_arg6) = m ((c.tc : Thread Cert.EvenIdeal.nD Cert.EvenIdeal.τ).loc Cert.EvenIdeal.main_arg6)) →
    ∃ (v0 : (c : Dev Cert.EvenIdeal.nD) → Buf (Elt Ideal) ((c.tc : Thread Cert.EvenIdeal.nD Cert.EvenIdeal.τ).loc Cert.EvenIdeal.main_v0_0)) (v1 : (c : Dev Cert.EvenIdeal.nD) → Buf (Elt Ideal) ((c.tc : Thread Cert.EvenIdeal.nD Cert.EvenIdeal.τ).loc Cert.EvenIdeal.main_v0_1)) (v2 : (c : Dev Cert.EvenIdeal.nD) → Buf (Elt Ideal) ((c.tc : Thread Cert.EvenIdeal.nD Cert.EvenIdeal.τ).loc Cert.EvenIdeal.main_v0_2)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v0_0) = v0 c
          ∧ r.2.mem ((c.tc : Thread Cert.EvenIdeal.nD Cert.EvenIdeal.τ).loc Cert.EvenIdeal.main_v0_1) = v1 c
          ∧ r.2.mem ((c.tc : Thread Cert.EvenIdeal.nD Cert.EvenIdeal.τ).loc Cert.EvenIdeal.main_v0_2) = v2 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v53) = v0 c
          ∧ r.2.mem ((c.tc : Thread Cert.EvenReferenceIdeal.nD Cert.EvenReferenceIdeal.τ).loc Cert.EvenReferenceIdeal.main_v55) = v1 c
          ∧ r.2.mem ((c.tc : Thread Cert.EvenReferenceIdeal.nD Cert.EvenReferenceIdeal.τ).loc Cert.EvenReferenceIdeal.main_v14) = v2 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6))

def preserves_Odd_OddIdeal : Prop :=
  True

def algebraic_OddIdeal_OddReferenceIdeal [hOddIdeal : Cert.OddIdeal.Facts] [hOddReferenceIdeal : Cert.OddReferenceIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddIdeal m →
    (∀ c : Dev Cert.OddIdeal.nD,
      m' ((c.tc : Thread Cert.OddReferenceIdeal.nD Cert.OddReferenceIdeal.τ).loc Cert.OddReferenceIdeal.main_arg0) = m ((c.tc : Thread Cert.OddIdeal.nD Cert.OddIdeal.τ).loc Cert.OddIdeal.main_arg0)
      ∧ m' ((c.tc : Thread Cert.OddReferenceIdeal.nD Cert.OddReferenceIdeal.τ).loc Cert.OddReferenceIdeal.main_arg1) = m ((c.tc : Thread Cert.OddIdeal.nD Cert.OddIdeal.τ).loc Cert.OddIdeal.main_arg1)
      ∧ m' ((c.tc : Thread Cert.OddReferenceIdeal.nD Cert.OddReferenceIdeal.τ).loc Cert.OddReferenceIdeal.main_arg2) = m ((c.tc : Thread Cert.OddIdeal.nD Cert.OddIdeal.τ).loc Cert.OddIdeal.main_arg2)
      ∧ m' ((c.tc : Thread Cert.OddReferenceIdeal.nD Cert.OddReferenceIdeal.τ).loc Cert.OddReferenceIdeal.main_arg3) = m ((c.tc : Thread Cert.OddIdeal.nD Cert.OddIdeal.τ).loc Cert.OddIdeal.main_arg3)
      ∧ m' ((c.tc : Thread Cert.OddReferenceIdeal.nD Cert.OddReferenceIdeal.τ).loc Cert.OddReferenceIdeal.main_arg4) = m ((c.tc : Thread Cert.OddIdeal.nD Cert.OddIdeal.τ).loc Cert.OddIdeal.main_arg4)
      ∧ m' ((c.tc : Thread Cert.OddReferenceIdeal.nD Cert.OddReferenceIdeal.τ).loc Cert.OddReferenceIdeal.main_arg5) = m ((c.tc : Thread Cert.OddIdeal.nD Cert.OddIdeal.τ).loc Cert.OddIdeal.main_arg5)
      ∧ m' ((c.tc : Thread Cert.OddReferenceIdeal.nD Cert.OddReferenceIdeal.τ).loc Cert.OddReferenceIdeal.main_arg6) = m ((c.tc : Thread Cert.OddIdeal.nD Cert.OddIdeal.τ).loc Cert.OddIdeal.main_arg6)) →
    ∃ (v0 : (c : Dev Cert.OddIdeal.nD) → Buf (Elt Ideal) ((c.tc : Thread Cert.OddIdeal.nD Cert.OddIdeal.τ).loc Cert.OddIdeal.main_v0_0)) (v1 : (c : Dev Cert.OddIdeal.nD) → Buf (Elt Ideal) ((c.tc : Thread Cert.OddIdeal.nD Cert.OddIdeal.τ).loc Cert.OddIdeal.main_v0_1)) (v2 : (c : Dev Cert.OddIdeal.nD) → Buf (Elt Ideal) ((c.tc : Thread Cert.OddIdeal.nD Cert.OddIdeal.τ).loc Cert.OddIdeal.main_v0_2)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v0_0) = v0 c
          ∧ r.2.mem ((c.tc : Thread Cert.OddIdeal.nD Cert.OddIdeal.τ).loc Cert.OddIdeal.main_v0_1) = v1 c
          ∧ r.2.mem ((c.tc : Thread Cert.OddIdeal.nD Cert.OddIdeal.τ).loc Cert.OddIdeal.main_v0_2) = v2 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v17) = v0 c
          ∧ r.2.mem ((c.tc : Thread Cert.OddReferenceIdeal.nD Cert.OddReferenceIdeal.τ).loc Cert.OddReferenceIdeal.main_v13) = v1 c
          ∧ r.2.mem ((c.tc : Thread Cert.OddReferenceIdeal.nD Cert.OddReferenceIdeal.τ).loc Cert.OddReferenceIdeal.main_v14) = v2 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5)
          ∧ r.2.mem ((c.tc : Thread Cert.OddReferenceIdeal.nD Cert.OddReferenceIdeal.τ).loc Cert.OddReferenceIdeal.main_arg6) = m' ((c.tc : Thread Cert.OddReferenceIdeal.nD Cert.OddReferenceIdeal.τ).loc Cert.OddReferenceIdeal.main_arg6))

def preserves_OddSample_OddSampleIdeal : Prop :=
  True

def algebraic_OddSampleIdeal_OddSampleReferenceIdeal [hOddSampleIdeal : Cert.OddSampleIdeal.Facts] [hOddSampleReferenceIdeal : Cert.OddSampleReferenceIdeal.Facts] : Prop :=
  ∀ (m : (ℓ : Loc Cert.OddSampleIdeal.nD Cert.OddSampleIdeal.τ Cert.OddSampleIdeal.sig) → Buf (Elt Ideal) ℓ) (g : Dev Cert.OddSampleIdeal.nD → PrngReg)
    (m' : (ℓ : Loc Cert.OddSampleReferenceIdeal.nD Cert.OddSampleReferenceIdeal.τ Cert.OddSampleReferenceIdeal.sig) → Buf (Elt Ideal) ℓ) (g' : Dev Cert.OddSampleReferenceIdeal.nD → PrngReg), Pre_OddSampleIdeal m →
    (∀ c : Dev Cert.OddSampleIdeal.nD,
      m' ((c.tc : Thread Cert.OddSampleReferenceIdeal.nD Cert.OddSampleReferenceIdeal.τ).loc Cert.OddSampleReferenceIdeal.main_arg0) = m ((c.tc : Thread Cert.OddSampleIdeal.nD Cert.OddSampleIdeal.τ).loc Cert.OddSampleIdeal.main_arg0)
      ∧ m' ((c.tc : Thread Cert.OddSampleReferenceIdeal.nD Cert.OddSampleReferenceIdeal.τ).loc Cert.OddSampleReferenceIdeal.main_arg1) = m ((c.tc : Thread Cert.OddSampleIdeal.nD Cert.OddSampleIdeal.τ).loc Cert.OddSampleIdeal.main_arg1)
      ∧ m' ((c.tc : Thread Cert.OddSampleReferenceIdeal.nD Cert.OddSampleReferenceIdeal.τ).loc Cert.OddSampleReferenceIdeal.main_arg2) = m ((c.tc : Thread Cert.OddSampleIdeal.nD Cert.OddSampleIdeal.τ).loc Cert.OddSampleIdeal.main_arg2)
      ∧ m' ((c.tc : Thread Cert.OddSampleReferenceIdeal.nD Cert.OddSampleReferenceIdeal.τ).loc Cert.OddSampleReferenceIdeal.main_arg3) = m ((c.tc : Thread Cert.OddSampleIdeal.nD Cert.OddSampleIdeal.τ).loc Cert.OddSampleIdeal.main_arg3)
      ∧ m' ((c.tc : Thread Cert.OddSampleReferenceIdeal.nD Cert.OddSampleReferenceIdeal.τ).loc Cert.OddSampleReferenceIdeal.main_arg4) = m ((c.tc : Thread Cert.OddSampleIdeal.nD Cert.OddSampleIdeal.τ).loc Cert.OddSampleIdeal.main_arg4)
      ∧ m' ((c.tc : Thread Cert.OddSampleReferenceIdeal.nD Cert.OddSampleReferenceIdeal.τ).loc Cert.OddSampleReferenceIdeal.main_arg5) = m ((c.tc : Thread Cert.OddSampleIdeal.nD Cert.OddSampleIdeal.τ).loc Cert.OddSampleIdeal.main_arg5)
      ∧ m' ((c.tc : Thread Cert.OddSampleReferenceIdeal.nD Cert.OddSampleReferenceIdeal.τ).loc Cert.OddSampleReferenceIdeal.main_arg6) = m ((c.tc : Thread Cert.OddSampleIdeal.nD Cert.OddSampleIdeal.τ).loc Cert.OddSampleIdeal.main_arg6)) →
    ∃ (v0 : (c : Dev Cert.OddSampleIdeal.nD) → Buf (Elt Ideal) ((c.tc : Thread Cert.OddSampleIdeal.nD Cert.OddSampleIdeal.τ).loc Cert.OddSampleIdeal.main_v0_0)) (v1 : (c : Dev Cert.OddSampleIdeal.nD) → Buf (Elt Ideal) ((c.tc : Thread Cert.OddSampleIdeal.nD Cert.OddSampleIdeal.τ).loc Cert.OddSampleIdeal.main_v0_1)) (v2 : (c : Dev Cert.OddSampleIdeal.nD) → Buf (Elt Ideal) ((c.tc : Thread Cert.OddSampleIdeal.nD Cert.OddSampleIdeal.τ).loc Cert.OddSampleIdeal.main_v0_2)),
      θ_run (Cert.OddSampleIdeal.defs (F := Ideal)) (onTc (τ := Cert.OddSampleIdeal.τ) (Cert.OddSampleIdeal.main (F := Ideal))) ⟨m, fun _ => 0, g⟩ (fun r => ∀ c : Dev Cert.OddSampleIdeal.nD,
          r.2.mem ((c.tc : Thread Cert.OddSampleIdeal.nD Cert.OddSampleIdeal.τ).loc Cert.OddSampleIdeal.main_v0_0) = v0 c
          ∧ r.2.mem ((c.tc : Thread Cert.OddSampleIdeal.nD Cert.OddSampleIdeal.τ).loc Cert.OddSampleIdeal.main_v0_1) = v1 c
          ∧ r.2.mem ((c.tc : Thread Cert.OddSampleIdeal.nD Cert.OddSampleIdeal.τ).loc Cert.OddSampleIdeal.main_v0_2) = v2 c
          ∧ r.2.mem ((c.tc : Thread Cert.OddSampleIdeal.nD Cert.OddSampleIdeal.τ).loc Cert.OddSampleIdeal.main_arg0) = m ((c.tc : Thread Cert.OddSampleIdeal.nD Cert.OddSampleIdeal.τ).loc Cert.OddSampleIdeal.main_arg0)
          ∧ r.2.mem ((c.tc : Thread Cert.OddSampleIdeal.nD Cert.OddSampleIdeal.τ).loc Cert.OddSampleIdeal.main_arg1) = m ((c.tc : Thread Cert.OddSampleIdeal.nD Cert.OddSampleIdeal.τ).loc Cert.OddSampleIdeal.main_arg1)
          ∧ r.2.mem ((c.tc : Thread Cert.OddSampleIdeal.nD Cert.OddSampleIdeal.τ).loc Cert.OddSampleIdeal.main_arg2) = m ((c.tc : Thread Cert.OddSampleIdeal.nD Cert.OddSampleIdeal.τ).loc Cert.OddSampleIdeal.main_arg2)
          ∧ r.2.mem ((c.tc : Thread Cert.OddSampleIdeal.nD Cert.OddSampleIdeal.τ).loc Cert.OddSampleIdeal.main_arg3) = m ((c.tc : Thread Cert.OddSampleIdeal.nD Cert.OddSampleIdeal.τ).loc Cert.OddSampleIdeal.main_arg3)
          ∧ r.2.mem ((c.tc : Thread Cert.OddSampleIdeal.nD Cert.OddSampleIdeal.τ).loc Cert.OddSampleIdeal.main_arg4) = m ((c.tc : Thread Cert.OddSampleIdeal.nD Cert.OddSampleIdeal.τ).loc Cert.OddSampleIdeal.main_arg4)
          ∧ r.2.mem ((c.tc : Thread Cert.OddSampleIdeal.nD Cert.OddSampleIdeal.τ).loc Cert.OddSampleIdeal.main_arg5) = m ((c.tc : Thread Cert.OddSampleIdeal.nD Cert.OddSampleIdeal.τ).loc Cert.OddSampleIdeal.main_arg5)
          ∧ r.2.mem ((c.tc : Thread Cert.OddSampleIdeal.nD Cert.OddSampleIdeal.τ).loc Cert.OddSampleIdeal.main_arg6) = m ((c.tc : Thread Cert.OddSampleIdeal.nD Cert.OddSampleIdeal.τ).loc Cert.OddSampleIdeal.main_arg6))
      ∧ θ_run (Cert.OddSampleReferenceIdeal.defs (F := Ideal)) (onTc (τ := Cert.OddSampleReferenceIdeal.τ) (Cert.OddSampleReferenceIdeal.main (F := Ideal))) ⟨m', fun _ => 0, g'⟩ (fun r => ∀ c : Dev Cert.OddSampleReferenceIdeal.nD,
          r.2.mem ((c.tc : Thread Cert.OddSampleReferenceIdeal.nD Cert.OddSampleReferenceIdeal.τ).loc Cert.OddSampleReferenceIdeal.main_v19) = v0 c
          ∧ r.2.mem ((c.tc : Thread Cert.OddSampleReferenceIdeal.nD Cert.OddSampleReferenceIdeal.τ).loc Cert.OddSampleReferenceIdeal.main_v20) = v1 c
          ∧ r.2.mem ((c.tc : Thread Cert.OddSampleReferenceIdeal.nD Cert.OddSampleReferenceIdeal.τ).loc Cert.OddSampleReferenceIdeal.main_v21) = v2 c
          ∧ r.2.mem ((c.tc : Thread Cert.OddSampleReferenceIdeal.nD Cert.OddSampleReferenceIdeal.τ).loc Cert.OddSampleReferenceIdeal.main_arg0) = m' ((c.tc : Thread Cert.OddSampleReferenceIdeal.nD Cert.OddSampleReferenceIdeal.τ).loc Cert.OddSampleReferenceIdeal.main_arg0)
          ∧ r.2.mem ((c.tc : Thread Cert.OddSampleReferenceIdeal.nD Cert.OddSampleReferenceIdeal.τ).loc Cert.OddSampleReferenceIdeal.main_arg1) = m' ((c.tc : Thread Cert.OddSampleReferenceIdeal.nD Cert.OddSampleReferenceIdeal.τ).loc Cert.OddSampleReferenceIdeal.main_arg1)
          ∧ r.2.mem ((c.tc : Thread Cert.OddSampleReferenceIdeal.nD Cert.OddSampleReferenceIdeal.τ).loc Cert.OddSampleReferenceIdeal.main_arg2) = m' ((c.tc : Thread Cert.OddSampleReferenceIdeal.nD Cert.OddSampleReferenceIdeal.τ).loc Cert.OddSampleReferenceIdeal.main_arg2)
          ∧ r.2.mem ((c.tc : Thread Cert.OddSampleReferenceIdeal.nD Cert.OddSampleReferenceIdeal.τ).loc Cert.OddSampleReferenceIdeal.main_arg3) = m' ((c.tc : Thread Cert.OddSampleReferenceIdeal.nD Cert.OddSampleReferenceIdeal.τ).loc Cert.OddSampleReferenceIdeal.main_arg3)
          ∧ r.2.mem ((c.tc : Thread Cert.OddSampleReferenceIdeal.nD Cert.OddSampleReferenceIdeal.τ).loc Cert.OddSampleReferenceIdeal.main_arg4) = m' ((c.tc : Thread Cert.OddSampleReferenceIdeal.nD Cert.OddSampleReferenceIdeal.τ).loc Cert.OddSampleReferenceIdeal.main_arg4)
          ∧ r.2.mem ((c.tc : Thread Cert.OddSampleReferenceIdeal.nD Cert.OddSampleReferenceIdeal.τ).loc Cert.OddSampleReferenceIdeal.main_arg5) = m' ((c.tc : Thread Cert.OddSampleReferenceIdeal.nD Cert.OddSampleReferenceIdeal.τ).loc Cert.OddSampleReferenceIdeal.main_arg5)
          ∧ r.2.mem ((c.tc : Thread Cert.OddSampleReferenceIdeal.nD Cert.OddSampleReferenceIdeal.τ).loc Cert.OddSampleReferenceIdeal.main_arg6) = m' ((c.tc : Thread Cert.OddSampleReferenceIdeal.nD Cert.OddSampleReferenceIdeal.τ).loc Cert.OddSampleReferenceIdeal.main_arg6))

def preserves_EvenSample_EvenSampleIdeal : Prop :=
  True

def algebraic_EvenSampleIdeal_EvenSampleReferenceIdeal_pre_sample_tokens_finite [hEvenSampleIdeal : Cert.EvenSampleIdeal.Facts] [hEvenSampleReferenceIdeal : Cert.EvenSampleReferenceIdeal.Facts] [hPre_sample_tokens_finite : Cert.Pre_sample_tokens_finite.Facts] : Prop :=
  ∀ (m : (ℓ : Loc Cert.EvenSampleIdeal.nD Cert.EvenSampleIdeal.τ Cert.EvenSampleIdeal.sig) → Buf (Elt Ideal) ℓ) (g : Dev Cert.EvenSampleIdeal.nD → PrngReg)
    (m' : (ℓ : Loc Cert.EvenSampleReferenceIdeal.nD Cert.EvenSampleReferenceIdeal.τ Cert.EvenSampleReferenceIdeal.sig) → Buf (Elt Ideal) ℓ) (g' : Dev Cert.EvenSampleReferenceIdeal.nD → PrngReg), Pre_EvenSampleIdeal_sample_tokens_finite m →
    (∀ c : Dev Cert.EvenSampleIdeal.nD,
      m' ((c.tc : Thread Cert.EvenSampleReferenceIdeal.nD Cert.EvenSampleReferenceIdeal.τ).loc Cert.EvenSampleReferenceIdeal.main_arg0) = m ((c.tc : Thread Cert.EvenSampleIdeal.nD Cert.EvenSampleIdeal.τ).loc Cert.EvenSampleIdeal.main_arg0)
      ∧ m' ((c.tc : Thread Cert.EvenSampleReferenceIdeal.nD Cert.EvenSampleReferenceIdeal.τ).loc Cert.EvenSampleReferenceIdeal.main_arg1) = m ((c.tc : Thread Cert.EvenSampleIdeal.nD Cert.EvenSampleIdeal.τ).loc Cert.EvenSampleIdeal.main_arg1)
      ∧ m' ((c.tc : Thread Cert.EvenSampleReferenceIdeal.nD Cert.EvenSampleReferenceIdeal.τ).loc Cert.EvenSampleReferenceIdeal.main_arg2) = m ((c.tc : Thread Cert.EvenSampleIdeal.nD Cert.EvenSampleIdeal.τ).loc Cert.EvenSampleIdeal.main_arg2)
      ∧ m' ((c.tc : Thread Cert.EvenSampleReferenceIdeal.nD Cert.EvenSampleReferenceIdeal.τ).loc Cert.EvenSampleReferenceIdeal.main_arg3) = m ((c.tc : Thread Cert.EvenSampleIdeal.nD Cert.EvenSampleIdeal.τ).loc Cert.EvenSampleIdeal.main_arg3)
      ∧ m' ((c.tc : Thread Cert.EvenSampleReferenceIdeal.nD Cert.EvenSampleReferenceIdeal.τ).loc Cert.EvenSampleReferenceIdeal.main_arg4) = m ((c.tc : Thread Cert.EvenSampleIdeal.nD Cert.EvenSampleIdeal.τ).loc Cert.EvenSampleIdeal.main_arg4)
      ∧ m' ((c.tc : Thread Cert.EvenSampleReferenceIdeal.nD Cert.EvenSampleReferenceIdeal.τ).loc Cert.EvenSampleReferenceIdeal.main_arg5) = m ((c.tc : Thread Cert.EvenSampleIdeal.nD Cert.EvenSampleIdeal.τ).loc Cert.EvenSampleIdeal.main_arg5)
      ∧ m' ((c.tc : Thread Cert.EvenSampleReferenceIdeal.nD Cert.EvenSampleReferenceIdeal.τ).loc Cert.EvenSampleReferenceIdeal.main_arg6) = m ((c.tc : Thread Cert.EvenSampleIdeal.nD Cert.EvenSampleIdeal.τ).loc Cert.EvenSampleIdeal.main_arg6)) →
    ∃ (v0 : (c : Dev Cert.EvenSampleIdeal.nD) → Buf (Elt Ideal) ((c.tc : Thread Cert.EvenSampleIdeal.nD Cert.EvenSampleIdeal.τ).loc Cert.EvenSampleIdeal.main_v0_0)) (v1 : (c : Dev Cert.EvenSampleIdeal.nD) → Buf (Elt Ideal) ((c.tc : Thread Cert.EvenSampleIdeal.nD Cert.EvenSampleIdeal.τ).loc Cert.EvenSampleIdeal.main_v0_1)) (v2 : (c : Dev Cert.EvenSampleIdeal.nD) → Buf (Elt Ideal) ((c.tc : Thread Cert.EvenSampleIdeal.nD Cert.EvenSampleIdeal.τ).loc Cert.EvenSampleIdeal.main_v0_2)),
      θ_run (Cert.EvenSampleIdeal.defs (F := Ideal)) (onTc (τ := Cert.EvenSampleIdeal.τ) (Cert.EvenSampleIdeal.main (F := Ideal))) ⟨m, fun _ => 0, g⟩ (fun r => ∀ c : Dev Cert.EvenSampleIdeal.nD,
          r.2.mem ((c.tc : Thread Cert.EvenSampleIdeal.nD Cert.EvenSampleIdeal.τ).loc Cert.EvenSampleIdeal.main_v0_0) = v0 c
          ∧ r.2.mem ((c.tc : Thread Cert.EvenSampleIdeal.nD Cert.EvenSampleIdeal.τ).loc Cert.EvenSampleIdeal.main_v0_1) = v1 c
          ∧ r.2.mem ((c.tc : Thread Cert.EvenSampleIdeal.nD Cert.EvenSampleIdeal.τ).loc Cert.EvenSampleIdeal.main_v0_2) = v2 c
          ∧ r.2.mem ((c.tc : Thread Cert.EvenSampleIdeal.nD Cert.EvenSampleIdeal.τ).loc Cert.EvenSampleIdeal.main_arg0) = m ((c.tc : Thread Cert.EvenSampleIdeal.nD Cert.EvenSampleIdeal.τ).loc Cert.EvenSampleIdeal.main_arg0)
          ∧ r.2.mem ((c.tc : Thread Cert.EvenSampleIdeal.nD Cert.EvenSampleIdeal.τ).loc Cert.EvenSampleIdeal.main_arg1) = m ((c.tc : Thread Cert.EvenSampleIdeal.nD Cert.EvenSampleIdeal.τ).loc Cert.EvenSampleIdeal.main_arg1)
          ∧ r.2.mem ((c.tc : Thread Cert.EvenSampleIdeal.nD Cert.EvenSampleIdeal.τ).loc Cert.EvenSampleIdeal.main_arg2) = m ((c.tc : Thread Cert.EvenSampleIdeal.nD Cert.EvenSampleIdeal.τ).loc Cert.EvenSampleIdeal.main_arg2)
          ∧ r.2.mem ((c.tc : Thread Cert.EvenSampleIdeal.nD Cert.EvenSampleIdeal.τ).loc Cert.EvenSampleIdeal.main_arg3) = m ((c.tc : Thread Cert.EvenSampleIdeal.nD Cert.EvenSampleIdeal.τ).loc Cert.EvenSampleIdeal.main_arg3)
          ∧ r.2.mem ((c.tc : Thread Cert.EvenSampleIdeal.nD Cert.EvenSampleIdeal.τ).loc Cert.EvenSampleIdeal.main_arg4) = m ((c.tc : Thread Cert.EvenSampleIdeal.nD Cert.EvenSampleIdeal.τ).loc Cert.EvenSampleIdeal.main_arg4)
          ∧ r.2.mem ((c.tc : Thread Cert.EvenSampleIdeal.nD Cert.EvenSampleIdeal.τ).loc Cert.EvenSampleIdeal.main_arg5) = m ((c.tc : Thread Cert.EvenSampleIdeal.nD Cert.EvenSampleIdeal.τ).loc Cert.EvenSampleIdeal.main_arg5)
          ∧ r.2.mem ((c.tc : Thread Cert.EvenSampleIdeal.nD Cert.EvenSampleIdeal.τ).loc Cert.EvenSampleIdeal.main_arg6) = m ((c.tc : Thread Cert.EvenSampleIdeal.nD Cert.EvenSampleIdeal.τ).loc Cert.EvenSampleIdeal.main_arg6))
      ∧ θ_run (Cert.EvenSampleReferenceIdeal.defs (F := Ideal)) (onTc (τ := Cert.EvenSampleReferenceIdeal.τ) (Cert.EvenSampleReferenceIdeal.main (F := Ideal))) ⟨m', fun _ => 0, g'⟩ (fun r => ∀ c : Dev Cert.EvenSampleReferenceIdeal.nD,
          r.2.mem ((c.tc : Thread Cert.EvenSampleReferenceIdeal.nD Cert.EvenSampleReferenceIdeal.τ).loc Cert.EvenSampleReferenceIdeal.main_v85) = v0 c
          ∧ r.2.mem ((c.tc : Thread Cert.EvenSampleReferenceIdeal.nD Cert.EvenSampleReferenceIdeal.τ).loc Cert.EvenSampleReferenceIdeal.main_v86) = v1 c
          ∧ r.2.mem ((c.tc : Thread Cert.EvenSampleReferenceIdeal.nD Cert.EvenSampleReferenceIdeal.τ).loc Cert.EvenSampleReferenceIdeal.main_v87) = v2 c
          ∧ r.2.mem ((c.tc : Thread Cert.EvenSampleReferenceIdeal.nD Cert.EvenSampleReferenceIdeal.τ).loc Cert.EvenSampleReferenceIdeal.main_arg0) = m' ((c.tc : Thread Cert.EvenSampleReferenceIdeal.nD Cert.EvenSampleReferenceIdeal.τ).loc Cert.EvenSampleReferenceIdeal.main_arg0)
          ∧ r.2.mem ((c.tc : Thread Cert.EvenSampleReferenceIdeal.nD Cert.EvenSampleReferenceIdeal.τ).loc Cert.EvenSampleReferenceIdeal.main_arg1) = m' ((c.tc : Thread Cert.EvenSampleReferenceIdeal.nD Cert.EvenSampleReferenceIdeal.τ).loc Cert.EvenSampleReferenceIdeal.main_arg1)
          ∧ r.2.mem ((c.tc : Thread Cert.EvenSampleReferenceIdeal.nD Cert.EvenSampleReferenceIdeal.τ).loc Cert.EvenSampleReferenceIdeal.main_arg2) = m' ((c.tc : Thread Cert.EvenSampleReferenceIdeal.nD Cert.EvenSampleReferenceIdeal.τ).loc Cert.EvenSampleReferenceIdeal.main_arg2)
          ∧ r.2.mem ((c.tc : Thread Cert.EvenSampleReferenceIdeal.nD Cert.EvenSampleReferenceIdeal.τ).loc Cert.EvenSampleReferenceIdeal.main_arg3) = m' ((c.tc : Thread Cert.EvenSampleReferenceIdeal.nD Cert.EvenSampleReferenceIdeal.τ).loc Cert.EvenSampleReferenceIdeal.main_arg3)
          ∧ r.2.mem ((c.tc : Thread Cert.EvenSampleReferenceIdeal.nD Cert.EvenSampleReferenceIdeal.τ).loc Cert.EvenSampleReferenceIdeal.main_arg4) = m' ((c.tc : Thread Cert.EvenSampleReferenceIdeal.nD Cert.EvenSampleReferenceIdeal.τ).loc Cert.EvenSampleReferenceIdeal.main_arg4)
          ∧ r.2.mem ((c.tc : Thread Cert.EvenSampleReferenceIdeal.nD Cert.EvenSampleReferenceIdeal.τ).loc Cert.EvenSampleReferenceIdeal.main_arg5) = m' ((c.tc : Thread Cert.EvenSampleReferenceIdeal.nD Cert.EvenSampleReferenceIdeal.τ).loc Cert.EvenSampleReferenceIdeal.main_arg5)
          ∧ r.2.mem ((c.tc : Thread Cert.EvenSampleReferenceIdeal.nD Cert.EvenSampleReferenceIdeal.τ).loc Cert.EvenSampleReferenceIdeal.main_arg6) = m' ((c.tc : Thread Cert.EvenSampleReferenceIdeal.nD Cert.EvenSampleReferenceIdeal.τ).loc Cert.EvenSampleReferenceIdeal.main_arg6))

def preserves_PostOdd_PostOddIdeal : Prop :=
  True

def algebraic_PostOddIdeal_PostOddReferenceIdeal [hPostOddIdeal : Cert.PostOddIdeal.Facts] [hPostOddReferenceIdeal : Cert.PostOddReferenceIdeal.Facts] : Prop :=
  ∀ (m : (ℓ : Loc Cert.PostOddIdeal.nD Cert.PostOddIdeal.τ Cert.PostOddIdeal.sig) → Buf (Elt Ideal) ℓ) (g : Dev Cert.PostOddIdeal.nD → PrngReg)
    (m' : (ℓ : Loc Cert.PostOddReferenceIdeal.nD Cert.PostOddReferenceIdeal.τ Cert.PostOddReferenceIdeal.sig) → Buf (Elt Ideal) ℓ) (g' : Dev Cert.PostOddReferenceIdeal.nD → PrngReg), Pre_PostOddIdeal m →
    (∀ c : Dev Cert.PostOddIdeal.nD,
      m' ((c.tc : Thread Cert.PostOddReferenceIdeal.nD Cert.PostOddReferenceIdeal.τ).loc Cert.PostOddReferenceIdeal.main_arg0) = m ((c.tc : Thread Cert.PostOddIdeal.nD Cert.PostOddIdeal.τ).loc Cert.PostOddIdeal.main_arg0)
      ∧ m' ((c.tc : Thread Cert.PostOddReferenceIdeal.nD Cert.PostOddReferenceIdeal.τ).loc Cert.PostOddReferenceIdeal.main_arg1) = m ((c.tc : Thread Cert.PostOddIdeal.nD Cert.PostOddIdeal.τ).loc Cert.PostOddIdeal.main_arg1)
      ∧ m' ((c.tc : Thread Cert.PostOddReferenceIdeal.nD Cert.PostOddReferenceIdeal.τ).loc Cert.PostOddReferenceIdeal.main_arg2) = m ((c.tc : Thread Cert.PostOddIdeal.nD Cert.PostOddIdeal.τ).loc Cert.PostOddIdeal.main_arg2)
      ∧ m' ((c.tc : Thread Cert.PostOddReferenceIdeal.nD Cert.PostOddReferenceIdeal.τ).loc Cert.PostOddReferenceIdeal.main_arg3) = m ((c.tc : Thread Cert.PostOddIdeal.nD Cert.PostOddIdeal.τ).loc Cert.PostOddIdeal.main_arg3)
      ∧ m' ((c.tc : Thread Cert.PostOddReferenceIdeal.nD Cert.PostOddReferenceIdeal.τ).loc Cert.PostOddReferenceIdeal.main_arg4) = m ((c.tc : Thread Cert.PostOddIdeal.nD Cert.PostOddIdeal.τ).loc Cert.PostOddIdeal.main_arg4)
      ∧ m' ((c.tc : Thread Cert.PostOddReferenceIdeal.nD Cert.PostOddReferenceIdeal.τ).loc Cert.PostOddReferenceIdeal.main_arg5) = m ((c.tc : Thread Cert.PostOddIdeal.nD Cert.PostOddIdeal.τ).loc Cert.PostOddIdeal.main_arg5)
      ∧ m' ((c.tc : Thread Cert.PostOddReferenceIdeal.nD Cert.PostOddReferenceIdeal.τ).loc Cert.PostOddReferenceIdeal.main_arg6) = m ((c.tc : Thread Cert.PostOddIdeal.nD Cert.PostOddIdeal.τ).loc Cert.PostOddIdeal.main_arg6)
      ∧ m' ((c.tc : Thread Cert.PostOddReferenceIdeal.nD Cert.PostOddReferenceIdeal.τ).loc Cert.PostOddReferenceIdeal.main_arg7) = m ((c.tc : Thread Cert.PostOddIdeal.nD Cert.PostOddIdeal.τ).loc Cert.PostOddIdeal.main_arg7)
      ∧ m' ((c.tc : Thread Cert.PostOddReferenceIdeal.nD Cert.PostOddReferenceIdeal.τ).loc Cert.PostOddReferenceIdeal.main_arg8) = m ((c.tc : Thread Cert.PostOddIdeal.nD Cert.PostOddIdeal.τ).loc Cert.PostOddIdeal.main_arg8)) →
    ∃ (v0 : (c : Dev Cert.PostOddIdeal.nD) → Buf (Elt Ideal) ((c.tc : Thread Cert.PostOddIdeal.nD Cert.PostOddIdeal.τ).loc Cert.PostOddIdeal.main_v0_0)) (v1 : (c : Dev Cert.PostOddIdeal.nD) → Buf (Elt Ideal) ((c.tc : Thread Cert.PostOddIdeal.nD Cert.PostOddIdeal.τ).loc Cert.PostOddIdeal.main_v0_1)),
      θ_run (Cert.PostOddIdeal.defs (F := Ideal)) (onTc (τ := Cert.PostOddIdeal.τ) (Cert.PostOddIdeal.main (F := Ideal))) ⟨m, fun _ => 0, g⟩ (fun r => ∀ c : Dev Cert.PostOddIdeal.nD,
          r.2.mem ((c.tc : Thread Cert.PostOddIdeal.nD Cert.PostOddIdeal.τ).loc Cert.PostOddIdeal.main_v0_0) = v0 c
          ∧ r.2.mem ((c.tc : Thread Cert.PostOddIdeal.nD Cert.PostOddIdeal.τ).loc Cert.PostOddIdeal.main_v0_1) = v1 c
          ∧ r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
          ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
          ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
          ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
          ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
          ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
          ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
          ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
          ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8))
      ∧ θ_run (Cert.PostOddReferenceIdeal.defs (F := Ideal)) (onTc (τ := Cert.PostOddReferenceIdeal.τ) (Cert.PostOddReferenceIdeal.main (F := Ideal))) ⟨m', fun _ => 0, g'⟩ (fun r => ∀ c : Dev Cert.PostOddReferenceIdeal.nD,
          r.2.mem ((c.tc : Thread Cert.PostOddReferenceIdeal.nD Cert.PostOddReferenceIdeal.τ).loc Cert.PostOddReferenceIdeal.main_v48) = v0 c
          ∧ r.2.mem ((c.tc : Thread Cert.PostOddReferenceIdeal.nD Cert.PostOddReferenceIdeal.τ).loc Cert.PostOddReferenceIdeal.main_v50) = v1 c
          ∧ r.2.mem ((c.tc : Thread Cert.PostOddReferenceIdeal.nD Cert.PostOddReferenceIdeal.τ).loc Cert.PostOddReferenceIdeal.main_arg0) = m' ((c.tc : Thread Cert.PostOddReferenceIdeal.nD Cert.PostOddReferenceIdeal.τ).loc Cert.PostOddReferenceIdeal.main_arg0)
          ∧ r.2.mem ((c.tc : Thread Cert.PostOddReferenceIdeal.nD Cert.PostOddReferenceIdeal.τ).loc Cert.PostOddReferenceIdeal.main_arg1) = m' ((c.tc : Thread Cert.PostOddReferenceIdeal.nD Cert.PostOddReferenceIdeal.τ).loc Cert.PostOddReferenceIdeal.main_arg1)
          ∧ r.2.mem ((c.tc : Thread Cert.PostOddReferenceIdeal.nD Cert.PostOddReferenceIdeal.τ).loc Cert.PostOddReferenceIdeal.main_arg2) = m' ((c.tc : Thread Cert.PostOddReferenceIdeal.nD Cert.PostOddReferenceIdeal.τ).loc Cert.PostOddReferenceIdeal.main_arg2)
          ∧ r.2.mem ((c.tc : Thread Cert.PostOddReferenceIdeal.nD Cert.PostOddReferenceIdeal.τ).loc Cert.PostOddReferenceIdeal.main_arg3) = m' ((c.tc : Thread Cert.PostOddReferenceIdeal.nD Cert.PostOddReferenceIdeal.τ).loc Cert.PostOddReferenceIdeal.main_arg3)
          ∧ r.2.mem ((c.tc : Thread Cert.PostOddReferenceIdeal.nD Cert.PostOddReferenceIdeal.τ).loc Cert.PostOddReferenceIdeal.main_arg4) = m' ((c.tc : Thread Cert.PostOddReferenceIdeal.nD Cert.PostOddReferenceIdeal.τ).loc Cert.PostOddReferenceIdeal.main_arg4)
          ∧ r.2.mem ((c.tc : Thread Cert.PostOddReferenceIdeal.nD Cert.PostOddReferenceIdeal.τ).loc Cert.PostOddReferenceIdeal.main_arg5) = m' ((c.tc : Thread Cert.PostOddReferenceIdeal.nD Cert.PostOddReferenceIdeal.τ).loc Cert.PostOddReferenceIdeal.main_arg5)
          ∧ r.2.mem ((c.tc : Thread Cert.PostOddReferenceIdeal.nD Cert.PostOddReferenceIdeal.τ).loc Cert.PostOddReferenceIdeal.main_arg6) = m' ((c.tc : Thread Cert.PostOddReferenceIdeal.nD Cert.PostOddReferenceIdeal.τ).loc Cert.PostOddReferenceIdeal.main_arg6)
          ∧ r.2.mem ((c.tc : Thread Cert.PostOddReferenceIdeal.nD Cert.PostOddReferenceIdeal.τ).loc Cert.PostOddReferenceIdeal.main_arg7) = m' ((c.tc : Thread Cert.PostOddReferenceIdeal.nD Cert.PostOddReferenceIdeal.τ).loc Cert.PostOddReferenceIdeal.main_arg7)
          ∧ r.2.mem ((c.tc : Thread Cert.PostOddReferenceIdeal.nD Cert.PostOddReferenceIdeal.τ).loc Cert.PostOddReferenceIdeal.main_arg8) = m' ((c.tc : Thread Cert.PostOddReferenceIdeal.nD Cert.PostOddReferenceIdeal.τ).loc Cert.PostOddReferenceIdeal.main_arg8))

def preserves_PostEven_PostEvenIdeal : Prop :=
  True

def algebraic_PostEvenIdeal_PostEvenReferenceIdeal [hPostEvenIdeal : Cert.PostEvenIdeal.Facts] [hPostEvenReferenceIdeal : Cert.PostEvenReferenceIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg)
    (m' : (ℓ : Loc Cert.PostEvenReferenceIdeal.nD Cert.PostEvenReferenceIdeal.τ Cert.PostEvenReferenceIdeal.sig) → Buf (Elt Ideal) ℓ) (g' : Dev Cert.PostEvenReferenceIdeal.nD → PrngReg), Pre_PostEvenIdeal m →
    (∀ c : Dev Cert.PostEvenIdeal.nD,
      m' ((c.tc : Thread Cert.PostEvenReferenceIdeal.nD Cert.PostEvenReferenceIdeal.τ).loc Cert.PostEvenReferenceIdeal.main_arg0) = m ((c.tc : Thread Cert.PostEvenIdeal.nD Cert.PostEvenIdeal.τ).loc Cert.PostEvenIdeal.main_arg0)
      ∧ m' ((c.tc : Thread Cert.PostEvenReferenceIdeal.nD Cert.PostEvenReferenceIdeal.τ).loc Cert.PostEvenReferenceIdeal.main_arg1) = m ((c.tc : Thread Cert.PostEvenIdeal.nD Cert.PostEvenIdeal.τ).loc Cert.PostEvenIdeal.main_arg1)
      ∧ m' ((c.tc : Thread Cert.PostEvenReferenceIdeal.nD Cert.PostEvenReferenceIdeal.τ).loc Cert.PostEvenReferenceIdeal.main_arg2) = m ((c.tc : Thread Cert.PostEvenIdeal.nD Cert.PostEvenIdeal.τ).loc Cert.PostEvenIdeal.main_arg2)
      ∧ m' ((c.tc : Thread Cert.PostEvenReferenceIdeal.nD Cert.PostEvenReferenceIdeal.τ).loc Cert.PostEvenReferenceIdeal.main_arg3) = m ((c.tc : Thread Cert.PostEvenIdeal.nD Cert.PostEvenIdeal.τ).loc Cert.PostEvenIdeal.main_arg3)
      ∧ m' ((c.tc : Thread Cert.PostEvenReferenceIdeal.nD Cert.PostEvenReferenceIdeal.τ).loc Cert.PostEvenReferenceIdeal.main_arg4) = m ((c.tc : Thread Cert.PostEvenIdeal.nD Cert.PostEvenIdeal.τ).loc Cert.PostEvenIdeal.main_arg4)
      ∧ m' ((c.tc : Thread Cert.PostEvenReferenceIdeal.nD Cert.PostEvenReferenceIdeal.τ).loc Cert.PostEvenReferenceIdeal.main_arg5) = m ((c.tc : Thread Cert.PostEvenIdeal.nD Cert.PostEvenIdeal.τ).loc Cert.PostEvenIdeal.main_arg5)
      ∧ m' ((c.tc : Thread Cert.PostEvenReferenceIdeal.nD Cert.PostEvenReferenceIdeal.τ).loc Cert.PostEvenReferenceIdeal.main_arg6) = m ((c.tc : Thread Cert.PostEvenIdeal.nD Cert.PostEvenIdeal.τ).loc Cert.PostEvenIdeal.main_arg6)
      ∧ m' ((c.tc : Thread Cert.PostEvenReferenceIdeal.nD Cert.PostEvenReferenceIdeal.τ).loc Cert.PostEvenReferenceIdeal.main_arg7) = m ((c.tc : Thread Cert.PostEvenIdeal.nD Cert.PostEvenIdeal.τ).loc Cert.PostEvenIdeal.main_arg7)
      ∧ m' ((c.tc : Thread Cert.PostEvenReferenceIdeal.nD Cert.PostEvenReferenceIdeal.τ).loc Cert.PostEvenReferenceIdeal.main_arg8) = m ((c.tc : Thread Cert.PostEvenIdeal.nD Cert.PostEvenIdeal.τ).loc Cert.PostEvenIdeal.main_arg8)
      ∧ m' ((c.tc : Thread Cert.PostEvenReferenceIdeal.nD Cert.PostEvenReferenceIdeal.τ).loc Cert.PostEvenReferenceIdeal.main_arg9) = m ((c.tc : Thread Cert.PostEvenIdeal.nD Cert.PostEvenIdeal.τ).loc Cert.PostEvenIdeal.main_arg9)) →
    ∃ (v0 : (c : Dev Cert.PostEvenIdeal.nD) → Buf (Elt Ideal) ((c.tc : Thread Cert.PostEvenIdeal.nD Cert.PostEvenIdeal.τ).loc Cert.PostEvenIdeal.main_v0_0)) (v1 : (c : Dev Cert.PostEvenIdeal.nD) → Buf (Elt Ideal) ((c.tc : Thread Cert.PostEvenIdeal.nD Cert.PostEvenIdeal.τ).loc Cert.PostEvenIdeal.main_v0_1)),
      θ_run (Cert.PostEvenIdeal.defs (F := Ideal)) (onTc (τ := Cert.PostEvenIdeal.τ) (Cert.PostEvenIdeal.main (F := Ideal))) ⟨m, fun _ => 0, g⟩ (fun r => ∀ c : Dev Cert.PostEvenIdeal.nD,
          r.2.mem ((c.tc : Thread Cert.PostEvenIdeal.nD Cert.PostEvenIdeal.τ).loc Cert.PostEvenIdeal.main_v0_0) = v0 c
          ∧ r.2.mem ((c.tc : Thread Cert.PostEvenIdeal.nD Cert.PostEvenIdeal.τ).loc Cert.PostEvenIdeal.main_v0_1) = v1 c
          ∧ r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
          ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
          ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
          ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
          ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
          ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
          ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
          ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
          ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
          ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9))
      ∧ θ_run (Cert.PostEvenReferenceIdeal.defs (F := Ideal)) (onTc (τ := Cert.PostEvenReferenceIdeal.τ) (Cert.PostEvenReferenceIdeal.main (F := Ideal))) ⟨m', fun _ => 0, g'⟩ (fun r => ∀ c : Dev Cert.PostEvenReferenceIdeal.nD,
          r.2.mem ((c.tc : Thread Cert.PostEvenReferenceIdeal.nD Cert.PostEvenReferenceIdeal.τ).loc Cert.PostEvenReferenceIdeal.main_v49) = v0 c
          ∧ r.2.mem ((c.tc : Thread Cert.PostEvenReferenceIdeal.nD Cert.PostEvenReferenceIdeal.τ).loc Cert.PostEvenReferenceIdeal.main_v51) = v1 c
          ∧ r.2.mem ((c.tc : Thread Cert.PostEvenReferenceIdeal.nD Cert.PostEvenReferenceIdeal.τ).loc Cert.PostEvenReferenceIdeal.main_arg0) = m' ((c.tc : Thread Cert.PostEvenReferenceIdeal.nD Cert.PostEvenReferenceIdeal.τ).loc Cert.PostEvenReferenceIdeal.main_arg0)
          ∧ r.2.mem ((c.tc : Thread Cert.PostEvenReferenceIdeal.nD Cert.PostEvenReferenceIdeal.τ).loc Cert.PostEvenReferenceIdeal.main_arg1) = m' ((c.tc : Thread Cert.PostEvenReferenceIdeal.nD Cert.PostEvenReferenceIdeal.τ).loc Cert.PostEvenReferenceIdeal.main_arg1)
          ∧ r.2.mem ((c.tc : Thread Cert.PostEvenReferenceIdeal.nD Cert.PostEvenReferenceIdeal.τ).loc Cert.PostEvenReferenceIdeal.main_arg2) = m' ((c.tc : Thread Cert.PostEvenReferenceIdeal.nD Cert.PostEvenReferenceIdeal.τ).loc Cert.PostEvenReferenceIdeal.main_arg2)
          ∧ r.2.mem ((c.tc : Thread Cert.PostEvenReferenceIdeal.nD Cert.PostEvenReferenceIdeal.τ).loc Cert.PostEvenReferenceIdeal.main_arg3) = m' ((c.tc : Thread Cert.PostEvenReferenceIdeal.nD Cert.PostEvenReferenceIdeal.τ).loc Cert.PostEvenReferenceIdeal.main_arg3)
          ∧ r.2.mem ((c.tc : Thread Cert.PostEvenReferenceIdeal.nD Cert.PostEvenReferenceIdeal.τ).loc Cert.PostEvenReferenceIdeal.main_arg4) = m' ((c.tc : Thread Cert.PostEvenReferenceIdeal.nD Cert.PostEvenReferenceIdeal.τ).loc Cert.PostEvenReferenceIdeal.main_arg4)
          ∧ r.2.mem ((c.tc : Thread Cert.PostEvenReferenceIdeal.nD Cert.PostEvenReferenceIdeal.τ).loc Cert.PostEvenReferenceIdeal.main_arg5) = m' ((c.tc : Thread Cert.PostEvenReferenceIdeal.nD Cert.PostEvenReferenceIdeal.τ).loc Cert.PostEvenReferenceIdeal.main_arg5)
          ∧ r.2.mem ((c.tc : Thread Cert.PostEvenReferenceIdeal.nD Cert.PostEvenReferenceIdeal.τ).loc Cert.PostEvenReferenceIdeal.main_arg6) = m' ((c.tc : Thread Cert.PostEvenReferenceIdeal.nD Cert.PostEvenReferenceIdeal.τ).loc Cert.PostEvenReferenceIdeal.main_arg6)
          ∧ r.2.mem ((c.tc : Thread Cert.PostEvenReferenceIdeal.nD Cert.PostEvenReferenceIdeal.τ).loc Cert.PostEvenReferenceIdeal.main_arg7) = m' ((c.tc : Thread Cert.PostEvenReferenceIdeal.nD Cert.PostEvenReferenceIdeal.τ).loc Cert.PostEvenReferenceIdeal.main_arg7)
          ∧ r.2.mem ((c.tc : Thread Cert.PostEvenReferenceIdeal.nD Cert.PostEvenReferenceIdeal.τ).loc Cert.PostEvenReferenceIdeal.main_arg8) = m' ((c.tc : Thread Cert.PostEvenReferenceIdeal.nD Cert.PostEvenReferenceIdeal.τ).loc Cert.PostEvenReferenceIdeal.main_arg8)
          ∧ r.2.mem ((c.tc : Thread Cert.PostEvenReferenceIdeal.nD Cert.PostEvenReferenceIdeal.τ).loc Cert.PostEvenReferenceIdeal.main_arg9) = m' ((c.tc : Thread Cert.PostEvenReferenceIdeal.nD Cert.PostEvenReferenceIdeal.τ).loc Cert.PostEvenReferenceIdeal.main_arg9))

def preserves_Global_GlobalIdeal : Prop :=
  True

def algebraic_GlobalIdeal_GlobalReferenceIdeal_pre_attention_finite [hGlobalIdeal : Cert.GlobalIdeal.Facts] [hGlobalReferenceIdeal : Cert.GlobalReferenceIdeal.Facts] [hPre_attention_finite : Cert.Pre_attention_finite.Facts] : Prop :=
  ∀ (m : (ℓ : Loc Cert.GlobalIdeal.nD Cert.GlobalIdeal.τ Cert.GlobalIdeal.sig) → Buf (Elt Ideal) ℓ) (g : Dev Cert.GlobalIdeal.nD → PrngReg)
    (m' : (ℓ : Loc Cert.GlobalReferenceIdeal.nD Cert.GlobalReferenceIdeal.τ Cert.GlobalReferenceIdeal.sig) → Buf (Elt Ideal) ℓ) (g' : Dev Cert.GlobalReferenceIdeal.nD → PrngReg), Pre_GlobalIdeal_attention_finite m →
    (∀ c : Dev Cert.GlobalIdeal.nD,
      m' ((c.tc : Thread Cert.GlobalReferenceIdeal.nD Cert.GlobalReferenceIdeal.τ).loc Cert.GlobalReferenceIdeal.main_arg0) = m ((c.tc : Thread Cert.GlobalIdeal.nD Cert.GlobalIdeal.τ).loc Cert.GlobalIdeal.main_arg0)
      ∧ m' ((c.tc : Thread Cert.GlobalReferenceIdeal.nD Cert.GlobalReferenceIdeal.τ).loc Cert.GlobalReferenceIdeal.main_arg1) = m ((c.tc : Thread Cert.GlobalIdeal.nD Cert.GlobalIdeal.τ).loc Cert.GlobalIdeal.main_arg1)
      ∧ m' ((c.tc : Thread Cert.GlobalReferenceIdeal.nD Cert.GlobalReferenceIdeal.τ).loc Cert.GlobalReferenceIdeal.main_arg2) = m ((c.tc : Thread Cert.GlobalIdeal.nD Cert.GlobalIdeal.τ).loc Cert.GlobalIdeal.main_arg2)) →
    ∃ (v0 : (c : Dev Cert.GlobalIdeal.nD) → Buf (Elt Ideal) ((c.tc : Thread Cert.GlobalIdeal.nD Cert.GlobalIdeal.τ).loc Cert.GlobalIdeal.main_v0)),
      θ_run (Cert.GlobalIdeal.defs (F := Ideal)) (onTc (τ := Cert.GlobalIdeal.τ) (Cert.GlobalIdeal.main (F := Ideal))) ⟨m, fun _ => 0, g⟩ (fun r => ∀ c : Dev Cert.GlobalIdeal.nD,
          r.2.mem ((c.tc : Thread Cert.GlobalIdeal.nD Cert.GlobalIdeal.τ).loc Cert.GlobalIdeal.main_v0) = v0 c
          ∧ r.2.mem ((c.tc : Thread Cert.GlobalIdeal.nD Cert.GlobalIdeal.τ).loc Cert.GlobalIdeal.main_arg0) = m ((c.tc : Thread Cert.GlobalIdeal.nD Cert.GlobalIdeal.τ).loc Cert.GlobalIdeal.main_arg0)
          ∧ r.2.mem ((c.tc : Thread Cert.GlobalIdeal.nD Cert.GlobalIdeal.τ).loc Cert.GlobalIdeal.main_arg1) = m ((c.tc : Thread Cert.GlobalIdeal.nD Cert.GlobalIdeal.τ).loc Cert.GlobalIdeal.main_arg1)
          ∧ r.2.mem ((c.tc : Thread Cert.GlobalIdeal.nD Cert.GlobalIdeal.τ).loc Cert.GlobalIdeal.main_arg2) = m ((c.tc : Thread Cert.GlobalIdeal.nD Cert.GlobalIdeal.τ).loc Cert.GlobalIdeal.main_arg2))
      ∧ θ_run (Cert.GlobalReferenceIdeal.defs (F := Ideal)) (onTc (τ := Cert.GlobalReferenceIdeal.τ) (Cert.GlobalReferenceIdeal.main (F := Ideal))) ⟨m', fun _ => 0, g'⟩ (fun r => ∀ c : Dev Cert.GlobalReferenceIdeal.nD,
          r.2.mem ((c.tc : Thread Cert.GlobalReferenceIdeal.nD Cert.GlobalReferenceIdeal.τ).loc Cert.GlobalReferenceIdeal.main_v23) = v0 c
          ∧ r.2.mem ((c.tc : Thread Cert.GlobalReferenceIdeal.nD Cert.GlobalReferenceIdeal.τ).loc Cert.GlobalReferenceIdeal.main_arg0) = m' ((c.tc : Thread Cert.GlobalReferenceIdeal.nD Cert.GlobalReferenceIdeal.τ).loc Cert.GlobalReferenceIdeal.main_arg0)
          ∧ r.2.mem ((c.tc : Thread Cert.GlobalReferenceIdeal.nD Cert.GlobalReferenceIdeal.τ).loc Cert.GlobalReferenceIdeal.main_arg1) = m' ((c.tc : Thread Cert.GlobalReferenceIdeal.nD Cert.GlobalReferenceIdeal.τ).loc Cert.GlobalReferenceIdeal.main_arg1)
          ∧ r.2.mem ((c.tc : Thread Cert.GlobalReferenceIdeal.nD Cert.GlobalReferenceIdeal.τ).loc Cert.GlobalReferenceIdeal.main_arg2) = m' ((c.tc : Thread Cert.GlobalReferenceIdeal.nD Cert.GlobalReferenceIdeal.τ).loc Cert.GlobalReferenceIdeal.main_arg2))

def Claim : Prop :=
  ∃ (hKernel : Cert.Kernel.Facts) (hKernelIdeal : Cert.KernelIdeal.Facts) (hReferenceIdeal : Cert.ReferenceIdeal.Facts) (hPrompt : Cert.Prompt.Facts) (hPromptIdeal : Cert.PromptIdeal.Facts) (hPromptReferenceIdeal : Cert.PromptReferenceIdeal.Facts) (hEven : Cert.Even.Facts) (hEvenIdeal : Cert.EvenIdeal.Facts) (hEvenReferenceIdeal : Cert.EvenReferenceIdeal.Facts) (hOdd : Cert.Odd.Facts) (hOddIdeal : Cert.OddIdeal.Facts) (hOddReferenceIdeal : Cert.OddReferenceIdeal.Facts) (hOddSample : Cert.OddSample.Facts) (hOddSampleIdeal : Cert.OddSampleIdeal.Facts) (hOddSampleReferenceIdeal : Cert.OddSampleReferenceIdeal.Facts) (hEvenSample : Cert.EvenSample.Facts) (hEvenSampleIdeal : Cert.EvenSampleIdeal.Facts) (hEvenSampleReferenceIdeal : Cert.EvenSampleReferenceIdeal.Facts) (hPostOdd : Cert.PostOdd.Facts) (hPostOddIdeal : Cert.PostOddIdeal.Facts) (hPostOddReferenceIdeal : Cert.PostOddReferenceIdeal.Facts) (hPostEven : Cert.PostEven.Facts) (hPostEvenIdeal : Cert.PostEvenIdeal.Facts) (hPostEvenReferenceIdeal : Cert.PostEvenReferenceIdeal.Facts) (hGlobal : Cert.Global.Facts) (hGlobalIdeal : Cert.GlobalIdeal.Facts) (hGlobalReferenceIdeal : Cert.GlobalReferenceIdeal.Facts) (hPre_gates_ok : Cert.Pre_gates_ok.Facts) (hPre_prompt_gates_ok : Cert.Pre_prompt_gates_ok.Facts) (hPre_tokens_finite : Cert.Pre_tokens_finite.Facts) (hPre_sample_tokens_finite : Cert.Pre_sample_tokens_finite.Facts) (hPre_attention_finite : Cert.Pre_attention_finite.Facts),
    quiescent_Kernel (hKernel := hKernel)
    ∧ quiescent_KernelIdeal (hKernelIdeal := hKernelIdeal)
    ∧ quiescent_KernelIdeal_pre_gates_ok (hKernelIdeal := hKernelIdeal) (hPre_gates_ok := hPre_gates_ok)
    ∧ quiescent_ReferenceIdeal (hReferenceIdeal := hReferenceIdeal)
    ∧ quiescent_ReferenceIdeal_pre_gates_ok (hReferenceIdeal := hReferenceIdeal) (hPre_gates_ok := hPre_gates_ok)
    ∧ quiescent_Prompt (hPrompt := hPrompt)
    ∧ quiescent_PromptIdeal (hPromptIdeal := hPromptIdeal)
    ∧ quiescent_PromptIdeal_pre_prompt_gates_ok (hPromptIdeal := hPromptIdeal) (hPre_prompt_gates_ok := hPre_prompt_gates_ok)
    ∧ quiescent_PromptReferenceIdeal (hPromptReferenceIdeal := hPromptReferenceIdeal)
    ∧ quiescent_PromptReferenceIdeal_pre_prompt_gates_ok (hPromptReferenceIdeal := hPromptReferenceIdeal) (hPre_prompt_gates_ok := hPre_prompt_gates_ok)
    ∧ quiescent_Even (hEven := hEven)
    ∧ quiescent_EvenIdeal (hEvenIdeal := hEvenIdeal)
    ∧ quiescent_EvenIdeal_pre_tokens_finite (hEvenIdeal := hEvenIdeal) (hPre_tokens_finite := hPre_tokens_finite)
    ∧ quiescent_EvenReferenceIdeal (hEvenReferenceIdeal := hEvenReferenceIdeal)
    ∧ quiescent_EvenReferenceIdeal_pre_tokens_finite (hEvenReferenceIdeal := hEvenReferenceIdeal) (hPre_tokens_finite := hPre_tokens_finite)
    ∧ quiescent_Odd (hOdd := hOdd)
    ∧ quiescent_OddIdeal (hOddIdeal := hOddIdeal)
    ∧ quiescent_OddReferenceIdeal (hOddReferenceIdeal := hOddReferenceIdeal)
    ∧ quiescent_OddSample (hOddSample := hOddSample)
    ∧ quiescent_OddSampleIdeal (hOddSampleIdeal := hOddSampleIdeal)
    ∧ quiescent_OddSampleReferenceIdeal (hOddSampleReferenceIdeal := hOddSampleReferenceIdeal)
    ∧ quiescent_EvenSample (hEvenSample := hEvenSample)
    ∧ quiescent_EvenSampleIdeal (hEvenSampleIdeal := hEvenSampleIdeal)
    ∧ quiescent_EvenSampleIdeal_pre_sample_tokens_finite (hEvenSampleIdeal := hEvenSampleIdeal) (hPre_sample_tokens_finite := hPre_sample_tokens_finite)
    ∧ quiescent_EvenSampleReferenceIdeal (hEvenSampleReferenceIdeal := hEvenSampleReferenceIdeal)
    ∧ quiescent_EvenSampleReferenceIdeal_pre_sample_tokens_finite (hEvenSampleReferenceIdeal := hEvenSampleReferenceIdeal) (hPre_sample_tokens_finite := hPre_sample_tokens_finite)
    ∧ quiescent_PostOdd (hPostOdd := hPostOdd)
    ∧ quiescent_PostOddIdeal (hPostOddIdeal := hPostOddIdeal)
    ∧ quiescent_PostOddReferenceIdeal (hPostOddReferenceIdeal := hPostOddReferenceIdeal)
    ∧ quiescent_PostEven (hPostEven := hPostEven)
    ∧ quiescent_PostEvenIdeal (hPostEvenIdeal := hPostEvenIdeal)
    ∧ quiescent_PostEvenReferenceIdeal (hPostEvenReferenceIdeal := hPostEvenReferenceIdeal)
    ∧ quiescent_Global (hGlobal := hGlobal)
    ∧ quiescent_GlobalIdeal (hGlobalIdeal := hGlobalIdeal)
    ∧ quiescent_GlobalIdeal_pre_attention_finite (hGlobalIdeal := hGlobalIdeal) (hPre_attention_finite := hPre_attention_finite)
    ∧ quiescent_GlobalReferenceIdeal (hGlobalReferenceIdeal := hGlobalReferenceIdeal)
    ∧ quiescent_GlobalReferenceIdeal_pre_attention_finite (hGlobalReferenceIdeal := hGlobalReferenceIdeal) (hPre_attention_finite := hPre_attention_finite)
    ∧ preserves_Kernel_KernelIdeal
    ∧ algebraic_KernelIdeal_ReferenceIdeal_pre_gates_ok (hKernelIdeal := hKernelIdeal) (hReferenceIdeal := hReferenceIdeal) (hPre_gates_ok := hPre_gates_ok)
    ∧ preserves_Prompt_PromptIdeal
    ∧ algebraic_PromptIdeal_PromptReferenceIdeal_pre_prompt_gates_ok (hPromptIdeal := hPromptIdeal) (hPromptReferenceIdeal := hPromptReferenceIdeal) (hPre_prompt_gates_ok := hPre_prompt_gates_ok)
    ∧ preserves_Even_EvenIdeal
    ∧ algebraic_EvenIdeal_EvenReferenceIdeal_pre_tokens_finite (hEvenIdeal := hEvenIdeal) (hEvenReferenceIdeal := hEvenReferenceIdeal) (hPre_tokens_finite := hPre_tokens_finite)
    ∧ preserves_Odd_OddIdeal
    ∧ algebraic_OddIdeal_OddReferenceIdeal (hOddIdeal := hOddIdeal) (hOddReferenceIdeal := hOddReferenceIdeal)
    ∧ preserves_OddSample_OddSampleIdeal
    ∧ algebraic_OddSampleIdeal_OddSampleReferenceIdeal (hOddSampleIdeal := hOddSampleIdeal) (hOddSampleReferenceIdeal := hOddSampleReferenceIdeal)
    ∧ preserves_EvenSample_EvenSampleIdeal
    ∧ algebraic_EvenSampleIdeal_EvenSampleReferenceIdeal_pre_sample_tokens_finite (hEvenSampleIdeal := hEvenSampleIdeal) (hEvenSampleReferenceIdeal := hEvenSampleReferenceIdeal) (hPre_sample_tokens_finite := hPre_sample_tokens_finite)
    ∧ preserves_PostOdd_PostOddIdeal
    ∧ algebraic_PostOddIdeal_PostOddReferenceIdeal (hPostOddIdeal := hPostOddIdeal) (hPostOddReferenceIdeal := hPostOddReferenceIdeal)
    ∧ preserves_PostEven_PostEvenIdeal
    ∧ algebraic_PostEvenIdeal_PostEvenReferenceIdeal (hPostEvenIdeal := hPostEvenIdeal) (hPostEvenReferenceIdeal := hPostEvenReferenceIdeal)
    ∧ preserves_Global_GlobalIdeal
    ∧ algebraic_GlobalIdeal_GlobalReferenceIdeal_pre_attention_finite (hGlobalIdeal := hGlobalIdeal) (hGlobalReferenceIdeal := hGlobalReferenceIdeal) (hPre_attention_finite := hPre_attention_finite)
-- ==== Pre_attention_finite.lean ====
abbrev S8192x1024 : Shape := ⟨2, ![8192, 1024]⟩
abbrev S2x4608x128 : Shape := ⟨3, ![2, 4608, 128]⟩
abbrev S8192x512 : Shape := ⟨2, ![8192, 512]⟩
abbrev S_ : Shape := ⟨0, ![]⟩

class Facts : Prop where
  slices_S8192x1024_S8192x512_0_0 : S8192x1024.Slices ![0, 0] S8192x512
  bitsLt_bf16_f32 : FTy.bits .bf16 < FTy.bits .f32
  bcast_S_S8192x512 : S_.BroadcastsInDim S8192x512 (![] : Fin 0 → Fin S8192x512.rank)
  bcast_S_S2x4608x128 : S_.BroadcastsInDim S2x4608x128 (![] : Fin 0 → Fin S2x4608x128.rank)

variable [Facts]

def fn {F : FTy → Type} [FloatOps F] (main_arg0 : FVec F S8192x1024 .bf16) (main_arg1 : FVec F S2x4608x128 .bf16) (main_arg2 : FVec F S2x4608x128 .bf16) : IVec S8192x512 1 × IVec S2x4608x128 1 :=
  let main_v0 : FVec F S8192x512 .bf16 := (extractStridedSlice S8192x512 ![0, 0] · slices_S8192x1024_S8192x512_0_0) main_arg0
  let main_v1 : FVec F S8192x512 .f32 := (extf .f32 · bitsLt_bf16_f32) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_v5 : FVec F S2x4608x128 .f32 := (extf .f32 · bitsLt_bf16_f32) main_arg1
  let main_v6 : FVec F S2x4608x128 .f32 := Host.absf main_v5
  let main_cst_0 : FVec F S_ .f32 := constant S_ .f32 0x7F800000#32
  let main_v7 : FVec F S2x4608x128 .f32 := broadcastInDim S2x4608x128 ![] bcast_S_S2x4608x128 main_cst_0
  let main_v8 : IVec S2x4608x128 1 := cmpf .olt main_v6 main_v7
  (main_v4, main_v8)
-- ==== Pre_gates_ok.lean ====
abbrev S8192x1024 : Shape := ⟨2, ![8192, 1024]⟩
abbrev S8192x64 : Shape := ⟨2, ![8192, 64]⟩
abbrev S6x8x1x1024 : Shape := ⟨4, ![6, 8, 1, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1x1024 : Shape := ⟨2, ![1, 1024]⟩
abbrev S_ : Shape := ⟨0, ![]⟩

class Facts : Prop where
  bcast_S_S8192x64 : S_.BroadcastsInDim S8192x64 (![] : Fin 0 → Fin S8192x64.rank)

variable [Facts]

def fn {F : FTy → Type} [FloatOps F] (main_arg0 : FVec F S8192x1024 .bf16) (main_arg1 : FVec F S8192x64 .f32) (main_arg2 : FVec F S8192x1024 .f32) (main_arg3 : FVec F S6x8x1x1024 .f32) (main_arg4 : FVec F S64x1024x128 .f32) (main_arg5 : FVec F S64x1024x128 .f32) (main_arg6 : FVec F S64x128x1024 .f32) (main_arg7 : FVec F S1024x128 .f32) (main_arg8 : FVec F S1024x128 .f32) (main_arg9 : FVec F S128x1024 .f32) (main_arg10 : FVec F S1x1024 .f32) (main_arg11 : FVec F S1x1024 .f32) : IVec S8192x64 1 :=
  let main_cst : FVec F S_ .f32 := constant S_ .f32 0x00000000#32
  let main_v0 : FVec F S8192x64 .f32 := broadcastInDim S8192x64 ![] bcast_S_S8192x64 main_cst
  let main_v1 : IVec S8192x64 1 := cmpf .oge main_arg1 main_v0
  let main_cst_0 : FVec F S_ .f32 := constant S_ .f32 0x7F800000#32
  let main_v2 : FVec F S8192x64 .f32 := broadcastInDim S8192x64 ![] bcast_S_S8192x64 main_cst_0
  let main_v3 : IVec S8192x64 1 := cmpf .olt main_arg1 main_v2
  let main_v4 : IVec S8192x64 1 := andi main_v1 main_v3
  main_v4
-- ==== Pre_prompt_gates_ok.lean ====
abbrev S4096x1024 : Shape := ⟨2, ![4096, 1024]⟩
abbrev S4096x64 : Shape := ⟨2, ![4096, 64]⟩
abbrev S6x8x1x1024 : Shape := ⟨4, ![6, 8, 1, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1x1024 : Shape := ⟨2, ![1, 1024]⟩
abbrev S_ : Shape := ⟨0, ![]⟩

class Facts : Prop where
  bcast_S_S4096x64 : S_.BroadcastsInDim S4096x64 (![] : Fin 0 → Fin S4096x64.rank)

variable [Facts]

def fn {F : FTy → Type} [FloatOps F] (main_arg0 : FVec F S4096x1024 .bf16) (main_arg1 : FVec F S4096x64 .f32) (main_arg2 : FVec F S4096x1024 .f32) (main_arg3 : FVec F S6x8x1x1024 .f32) (main_arg4 : FVec F S64x1024x128 .f32) (main_arg5 : FVec F S64x1024x128 .f32) (main_arg6 : FVec F S64x128x1024 .f32) (main_arg7 : FVec F S1024x128 .f32) (main_arg8 : FVec F S1024x128 .f32) (main_arg9 : FVec F S128x1024 .f32) (main_arg10 : FVec F S1x1024 .f32) (main_arg11 : FVec F S1x1024 .f32) : IVec S4096x64 1 :=
  let main_cst : FVec F S_ .f32 := constant S_ .f32 0x00000000#32
  let main_v0 : FVec F S4096x64 .f32 := broadcastInDim S4096x64 ![] bcast_S_S4096x64 main_cst
  let main_v1 : IVec S4096x64 1 := cmpf .oge main_arg1 main_v0
  let main_cst_0 : FVec F S_ .f32 := constant S_ .f32 0x7F800000#32
  let main_v2 : FVec F S4096x64 .f32 := broadcastInDim S4096x64 ![] bcast_S_S4096x64 main_cst_0
  let main_v3 : IVec S4096x64 1 := cmpf .olt main_arg1 main_v2
  let main_v4 : IVec S4096x64 1 := andi main_v1 main_v3
  main_v4
-- ==== Pre_sample_tokens_finite.lean ====
abbrev S8192x1024 : Shape := ⟨2, ![8192, 1024]⟩
abbrev S6x8x1x1024 : Shape := ⟨4, ![6, 8, 1, 1024]⟩
abbrev S1024x1536 : Shape := ⟨2, ![1024, 1536]⟩
abbrev S1x128 : Shape := ⟨2, ![1, 128]⟩
abbrev S4096x128 : Shape := ⟨2, ![4096, 128]⟩
abbrev S_ : Shape := ⟨0, ![]⟩

class Facts : Prop where
  bcast_S_S8192x1024 : S_.BroadcastsInDim S8192x1024 (![] : Fin 0 → Fin S8192x1024.rank)
  bcast_S_S6x8x1x1024 : S_.BroadcastsInDim S6x8x1x1024 (![] : Fin 0 → Fin S6x8x1x1024.rank)
  bitsLt_bf16_f32 : FTy.bits .bf16 < FTy.bits .f32
  bcast_S_S1024x1536 : S_.BroadcastsInDim S1024x1536 (![] : Fin 0 → Fin S1024x1536.rank)

variable [Facts]

def fn {F : FTy → Type} [FloatOps F] (main_arg0 : FVec F S8192x1024 .f32) (main_arg1 : FVec F S6x8x1x1024 .f32) (main_arg2 : FVec F S1024x1536 .bf16) (main_arg3 : FVec F S1x128 .f32) (main_arg4 : FVec F S1x128 .f32) (main_arg5 : FVec F S4096x128 .f32) (main_arg6 : FVec F S4096x128 .f32) : IVec S8192x1024 1 × IVec S6x8x1x1024 1 × IVec S1024x1536 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S6x8x1x1024 .f32 := Host.absf main_arg1
  let main_cst_0 : FVec F S_ .f32 := constant S_ .f32 0x7F800000#32
  let main_v4 : FVec F S6x8x1x1024 .f32 := broadcastInDim S6x8x1x1024 ![] bcast_S_S6x8x1x1024 main_cst_0
  let main_v5 : IVec S6x8x1x1024 1 := cmpf .olt main_v3 main_v4
  let main_v6 : FVec F S1024x1536 .f32 := (extf .f32 · bitsLt_bf16_f32) main_arg2
  let main_v7 : FVec F S1024x1536 .f32 := Host.absf main_v6
  let main_cst_1 : FVec F S_ .f32 := constant S_ .f32 0x7F800000#32
  let main_v8 : FVec F S1024x1536 .f32 := broadcastInDim S1024x1536 ![] bcast_S_S1024x1536 main_cst_1
  let main_v9 : IVec S1024x1536 1 := cmpf .olt main_v7 main_v8
  (main_v2, main_v5, main_v9)
-- ==== Pre_tokens_finite.lean ====
abbrev S4096x1024 : Shape := ⟨2, ![4096, 1024]⟩
abbrev S6x8x1x1024 : Shape := ⟨4, ![6, 8, 1, 1024]⟩
abbrev S1024x1536 : Shape := ⟨2, ![1024, 1536]⟩
abbrev S1x128 : Shape := ⟨2, ![1, 128]⟩
abbrev S4096x128 : Shape := ⟨2, ![4096, 128]⟩
abbrev S_ : Shape := ⟨0, ![]⟩

class Facts : Prop where
  bcast_S_S4096x1024 : S_.BroadcastsInDim S4096x1024 (![] : Fin 0 → Fin S4096x1024.rank)
  bcast_S_S6x8x1x1024 : S_.BroadcastsInDim S6x8x1x1024 (![] : Fin 0 → Fin S6x8x1x1024.rank)
  bitsLt_bf16_f32 : FTy.bits .bf16 < FTy.bits .f32
  bcast_S_S1024x1536 : S_.BroadcastsInDim S1024x1536 (![] : Fin 0 → Fin S1024x1536.rank)

variable [Facts]

def fn {F : FTy → Type} [FloatOps F] (main_arg0 : FVec F S4096x1024 .f32) (main_arg1 : FVec F S6x8x1x1024 .f32) (main_arg2 : FVec F S1024x1536 .bf16) (main_arg3 : FVec F S1x128 .f32) (main_arg4 : FVec F S1x128 .f32) (main_arg5 : FVec F S4096x128 .f32) (main_arg6 : FVec F S4096x128 .f32) : IVec S4096x1024 1 × IVec S6x8x1x1024 1 × IVec S1024x1536 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S6x8x1x1024 .f32 := Host.absf main_arg1
  let main_cst_0 : FVec F S_ .f32 := constant S_ .f32 0x7F800000#32
  let main_v4 : FVec F S6x8x1x1024 .f32 := broadcastInDim S6x8x1x1024 ![] bcast_S_S6x8x1x1024 main_cst_0
  let main_v5 : IVec S6x8x1x1024 1 := cmpf .olt main_v3 main_v4
  let main_v6 : FVec F S1024x1536 .f32 := (extf .f32 · bitsLt_bf16_f32) main_arg2
  let main_v7 : FVec F S1024x1536 .f32 := Host.absf main_v6
  let main_cst_1 : FVec F S_ .f32 := constant S_ .f32 0x7F800000#32
  let main_v8 : FVec F S1024x1536 .f32 := broadcastInDim S1024x1536 ![] bcast_S_S1024x1536 main_cst_1
  let main_v9 : IVec S1024x1536 1 := cmpf .olt main_v7 main_v8
  (main_v2, main_v5, main_v9)
-- ==== Kernel.lean ====
abbrev S8192x1024 : Shape := ⟨2, ![8192, 1024]⟩
abbrev S8192x64 : Shape := ⟨2, ![8192, 64]⟩
abbrev S6x8x1x1024 : Shape := ⟨4, ![6, 8, 1, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1x1024 : Shape := ⟨2, ![1, 1024]⟩
abbrev S1024x1024 : Shape := ⟨2, ![1024, 1024]⟩
abbrev S1024x64 : Shape := ⟨2, ![1024, 64]⟩
abbrev S6x1x1x1024 : Shape := ⟨4, ![6, 1, 1, 1024]⟩
abbrev S4x1024x128 : Shape := ⟨3, ![4, 1024, 128]⟩
abbrev S4x128x1024 : Shape := ⟨3, ![4, 128, 1024]⟩
abbrev S1x1024x128 : Shape := ⟨3, ![1, 1024, 128]⟩
abbrev S1024x256 : Shape := ⟨2, ![1024, 256]⟩
abbrev S1024 : Shape := ⟨1, ![1024]⟩
abbrev S1024x1 : Shape := ⟨2, ![1024, 1]⟩
abbrev S1x128x1024 : Shape := ⟨3, ![1, 128, 1024]⟩
abbrev S256x1024 : Shape := ⟨2, ![256, 1024]⟩
abbrev S1x1x1x1024 : Shape := ⟨4, ![1, 1, 1, 1024]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x64, .f32⟩
  | .hbm, ⟨2, _⟩ => ⟨S8192x1024, .f32⟩
  | .hbm, ⟨3, _⟩ => ⟨S6x8x1x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x128, .f32⟩
  | .hbm, ⟨8, _⟩ => ⟨S1024x128, .f32⟩
  | .hbm, ⟨9, _⟩ => ⟨S128x1024, .f32⟩
  | .hbm, ⟨10, _⟩ => ⟨S1x1024, .f32⟩
  | .hbm, ⟨11, _⟩ => ⟨S1x1024, .f32⟩
  | .hbm, ⟨12, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | .local _ .vmem, ⟨6, _⟩ => ⟨S6x1x1x1024, .f32⟩
  | .local _ .vmem, ⟨7, _⟩ => ⟨S6x1x1x1024, .f32⟩
  | .local _ .vmem, ⟨8, _⟩ => ⟨S4x1024x128, .f32⟩
  | .local _ .vmem, ⟨9, _⟩ => ⟨S4x1024x128, .f32⟩
  | .local _ .vmem, ⟨10, _⟩ => ⟨S4x1024x128, .f32⟩
  | .local _ .vmem, ⟨11, _⟩ => ⟨S4x1024x128, .f32⟩
  | .local _ .vmem, ⟨12, _⟩ => ⟨S4x128x1024, .f32⟩
  | .local _ .vmem, ⟨13, _⟩ => ⟨S4x128x1024, .f32⟩
  | .local _ .vmem, ⟨14, _⟩ => ⟨S1024x128, .f32⟩
  | .local _ .vmem, ⟨15, _⟩ => ⟨S1024x128, .f32⟩
  | .local _ .vmem, ⟨16, _⟩ => ⟨S128x1024, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v146 : BitVec 1 := Scalar.cmpi .eq arg1 c15_i32
  let v147 : BitVec 32 := Scalar.extui v146
  let c0_i32_70 : BitVec 32 := 0#32
  let v148 : BitVec 1 := Scalar.cmpi .ne v147 c0_i32_70
  v148

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S6x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x1024 : Shape := ⟨2, ![8192, 1024]⟩
abbrev S8192x64 : Shape := ⟨2, ![8192, 64]⟩
abbrev S6x8x1x1024 : Shape := ⟨4, ![6, 8, 1, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1x1024 : Shape := ⟨2, ![1, 1024]⟩
abbrev S64x128x8192 : Shape := ⟨3, ![64, 128, 8192]⟩
abbrev S64x8192x128 : Shape := ⟨3, ![64, 8192, 128]⟩
abbrev S_ : Shape := ⟨0, ![]⟩
abbrev S64x8192 : Shape := ⟨2, ![64, 8192]⟩
abbrev S64x8192x1 : Shape := ⟨3, ![64, 8192, 1]⟩
abbrev S64x8192x1024 : Shape := ⟨3, ![64, 8192, 1024]⟩
abbrev S8192x128 : Shape := ⟨2, ![8192, 128]⟩
abbrev S1x2x1x1024 : Shape := ⟨4, ![1, 2, 1, 1024]⟩
abbrev S2x1x1024 : Shape := ⟨3, ![2, 1, 1024]⟩
abbrev S2x4096x1024 : Shape := ⟨3, ![2, 4096, 1024]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x64, .f32⟩
  | .hbm, ⟨2, _⟩ => ⟨S8192x1024, .f32⟩
  | .hbm, ⟨3, _⟩ => ⟨S6x8x1x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x128, .f32⟩
  | .hbm, ⟨8, _⟩ => ⟨S1024x128, .f32⟩
  | .hbm, ⟨9, _⟩ => ⟨S128x1024, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S64x128x8192, .f32⟩
  | .hbm, ⟨14, _⟩ => ⟨S64x8192x128, .f32⟩
  | .hbm, ⟨15, _⟩ => ⟨S64x8192x128, .f32⟩
  | .hbm, ⟨16, _⟩ => ⟨S64x8192x128, .f32⟩
  | .hbm, ⟨17, _⟩ => ⟨S_, .f32⟩
  | .hbm, ⟨18, _⟩ => ⟨S64x8192x128, .f32⟩
  | .hbm, ⟨19, _⟩ => ⟨S64x8192x128, .f32⟩
  | .hbm, ⟨20, _⟩ => ⟨S_, .f32⟩
  | .hbm, ⟨21, _⟩ => ⟨S64x8192x128, .f32⟩
  | .hbm, ⟨22, _⟩ => ⟨S64x8192x128, .f32⟩
  | .hbm, ⟨23, _⟩ => ⟨S64x8192x128, .f32⟩
  | .hbm, ⟨24, _⟩ => ⟨S64x128x8192, .f32⟩
  | .hbm, ⟨25, _⟩ => ⟨S64x8192x128, .f32⟩
  | .hbm, ⟨26, _⟩ => ⟨S64x8192x128, .f32⟩
  | .hbm, ⟨27, _⟩ => ⟨S64x8192, .f32⟩
  | .hbm, ⟨28, _⟩ => ⟨S64x8192x1, .f32⟩
  | .hbm, ⟨29, _⟩ => ⟨S64x8192x1024, .f32⟩
  | .hbm, ⟨30, _⟩ => ⟨S64x8192x1024, .f32⟩
  | .hbm, ⟨31, _⟩ => ⟨S64x8192x1024, .f32⟩
  | .hbm, ⟨32, _⟩ => ⟨S_, .f32⟩
  | .hbm, ⟨33, _⟩ => ⟨S8192x1024, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S_, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x1024, .f32⟩
  | .hbm, ⟨47, _⟩ => ⟨S8192x1024, .f32⟩
  | .hbm, ⟨48, _⟩ => ⟨S1x2x1x1024, .f32⟩
  | .hbm, ⟨49, _⟩ => ⟨S2x1x1024, .f32⟩
  | .hbm, ⟨50, _⟩ => ⟨S2x4096x1024, .f32⟩
  | .hbm, ⟨51, _⟩ => ⟨S_, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S2x4096x1024, .f32⟩
  | .hbm, ⟨56, _⟩ => ⟨S2x4096x1024, .f32⟩
  | .hbm, ⟨57, _⟩ => ⟨S2x4096x1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S2x4096, .f32⟩
  | .hbm, ⟨62, _⟩ => ⟨S2x4096x1, .f32⟩
  | .hbm, ⟨63, _⟩ => ⟨S_, .f32⟩
  | .hbm, ⟨64, _⟩ => ⟨S2x4096x1, .f32⟩
  | .hbm, ⟨65, _⟩ => ⟨S2x4096x1, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S_, .f32⟩
  | .hbm, ⟨70, _⟩ => ⟨S2x4096, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S2x4096x1024, .f32⟩
  | .hbm, ⟨76, _⟩ => ⟨S2x4096x1024, .f32⟩
  | .hbm, ⟨77, _⟩ => ⟨S_, .f32⟩
  | .hbm, ⟨78, _⟩ => ⟨S2x4096x1, .f32⟩
  | .hbm, ⟨79, _⟩ => ⟨S2x4096x1, .f32⟩
  | .hbm, ⟨80, _⟩ => ⟨S2x4096x1, .f32⟩
  | .hbm, ⟨81, _⟩ => ⟨S2x4096x1024, .f32⟩
  | .hbm, ⟨82, _⟩ => ⟨S2x4096x1024, .f32⟩
  | .hbm, ⟨83, _⟩ => ⟨S1x1x1024, .f32⟩
  | .hbm, ⟨84, _⟩ => ⟨S2x4096x1024, .f32⟩
  | .hbm, ⟨85, _⟩ => ⟨S2x4096x1024, .f32⟩
  | .hbm, ⟨86, _⟩ => ⟨S1x1x1024, .f32⟩
  | .hbm, ⟨87, _⟩ => ⟨S2x4096x1024, .f32⟩
  | .hbm, ⟨88, _⟩ => ⟨S2x4096x1024, .f32⟩
  | .hbm, ⟨89, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_1 : Ref sig .tc := ⟨.hbm, 60, rfl⟩
abbrev main_v30 : Ref sig .tc := ⟨.hbm, 61, rfl⟩
abbrev main_v31 : Ref sig .tc := ⟨.hbm, 62, rfl⟩
abbrev main_cst_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_3 : Ref sig .tc := ⟨.hbm, 69, rfl⟩
abbrev main_v37 : Ref sig .tc := ⟨.hbm, 70, rfl⟩
abbrev main_v38 : Ref sig .tc := ⟨.hbm, 71, rfl⟩
abbrev main_cst_4 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩

abbrev nD : Nat := 1
abbrev τ : Topo := Topo.v7x

variable {F : FTy → Type} [FloatOps F]
-- ==== Prompt.lean ====
abbrev S4096x1024 : Shape := ⟨2, ![4096, 1024]⟩
abbrev S4096x64 : Shape := ⟨2, ![4096, 64]⟩
abbrev S6x8x1x1024 : Shape := ⟨4, ![6, 8, 1, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1x1024 : Shape := ⟨2, ![1, 1024]⟩
abbrev S1024x1024 : Shape := ⟨2, ![1024, 1024]⟩
abbrev S1024x64 : Shape := ⟨2, ![1024, 64]⟩
abbrev S6x1x1x1024 : Shape := ⟨4, ![6, 1, 1, 1024]⟩
abbrev S4x1024x128 : Shape := ⟨3, ![4, 1024, 128]⟩
abbrev S4x128x1024 : Shape := ⟨3, ![4, 128, 1024]⟩
abbrev S1x1024x128 : Shape := ⟨3, ![1, 1024, 128]⟩
abbrev S1024x256 : Shape := ⟨2, ![1024, 256]⟩
abbrev S1024 : Shape := ⟨1, ![1024]⟩
abbrev S1024x1 : Shape := ⟨2, ![1024, 1]⟩
abbrev S1x128x1024 : Shape := ⟨3, ![1, 128, 1024]⟩
abbrev S256x1024 : Shape := ⟨2, ![256, 1024]⟩
abbrev S1x1x1x1024 : Shape := ⟨4, ![1, 1, 1, 1024]⟩

abbrev nBuf : Space → Nat
  | .hbm => 13
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x64, .f32⟩
  | .hbm, ⟨2, _⟩ => ⟨S4096x1024, .f32⟩
  | .hbm, ⟨3, _⟩ => ⟨S6x8x1x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x128, .f32⟩
  | .hbm, ⟨8, _⟩ => ⟨S1024x128, .f32⟩
  | .hbm, ⟨9, _⟩ => ⟨S128x1024, .f32⟩
  | .hbm, ⟨10, _⟩ => ⟨S1x1024, .f32⟩
  | .hbm, ⟨11, _⟩ => ⟨S1x1024, .f32⟩
  | .hbm, ⟨12, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | .local _ .vmem, ⟨6, _⟩ => ⟨S6x1x1x1024, .f32⟩
  | .local _ .vmem, ⟨7, _⟩ => ⟨S4x1024x128, .f32⟩
  | .local _ .vmem, ⟨8, _⟩ => ⟨S4x1024x128, .f32⟩
  | .local _ .vmem, ⟨9, _⟩ => ⟨S4x1024x128, .f32⟩
  | .local _ .vmem, ⟨10, _⟩ => ⟨S4x1024x128, .f32⟩
  | .local _ .vmem, ⟨11, _⟩ => ⟨S4x128x1024, .f32⟩
  | .local _ .vmem, ⟨12, _⟩ => ⟨S4x128x1024, .f32⟩
  | .local _ .vmem, ⟨13, _⟩ => ⟨S1024x128, .f32⟩
  | .local _ .vmem, ⟨14, _⟩ => ⟨S1024x128, .f32⟩
  | .local _ .vmem, ⟨15, _⟩ => ⟨S128x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v146 : BitVec 1 := Scalar.cmpi .eq arg1 c15_i32
  let v147 : BitVec 32 := Scalar.extui v146
  let c0_i32_70 : BitVec 32 := 0#32
  let v148 : BitVec 1 := Scalar.cmpi .ne v147 c0_i32_70
  v148

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S6x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== PromptReferenceIdeal.lean ====
abbrev S4096x1024 : Shape := ⟨2, ![4096, 1024]⟩
abbrev S4096x64 : Shape := ⟨2, ![4096, 64]⟩
abbrev S6x8x1x1024 : Shape := ⟨4, ![6, 8, 1, 1024]⟩
abbrev S64x1024x128 : Shape := ⟨3, ![64, 1024, 128]⟩
abbrev S64x128x1024 : Shape := ⟨3, ![64, 128, 1024]⟩
abbrev S1024x128 : Shape := ⟨2, ![1024, 128]⟩
abbrev S128x1024 : Shape := ⟨2, ![128, 1024]⟩
abbrev S1x1024 : Shape := ⟨2, ![1, 1024]⟩
abbrev S64x128x4096 : Shape := ⟨3, ![64, 128, 4096]⟩
abbrev S64x4096x128 : Shape := ⟨3, ![64, 4096, 128]⟩
abbrev S_ : Shape := ⟨0, ![]⟩
abbrev S64x4096 : Shape := ⟨2, ![64, 4096]⟩
abbrev S64x4096x1 : Shape := ⟨3, ![64, 4096, 1]⟩
abbrev S64x4096x1024 : Shape := ⟨3, ![64, 4096, 1024]⟩
abbrev S4096x128 : Shape := ⟨2, ![4096, 128]⟩
abbrev S1x1x1x1024 : Shape := ⟨4, ![1, 1, 1, 1024]⟩
abbrev S1024 : Shape := ⟨1, ![1024]⟩
abbrev S4096 : Shape := ⟨1, ![4096]⟩
abbrev S4096x1 : Shape := ⟨2, ![4096, 1]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x64, .f32⟩
  | .hbm, ⟨2, _⟩ => ⟨S4096x1024, .f32⟩
  | .hbm, ⟨3, _⟩ => ⟨S6x8x1x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x128, .f32⟩
  | .hbm, ⟨8, _⟩ => ⟨S1024x128, .f32⟩
  | .hbm, ⟨9, _⟩ => ⟨S128x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S64x128x4096, .f32⟩
  | .hbm, ⟨14, _⟩ => ⟨S64x4096x128, .f32⟩
  | .hbm, ⟨15, _⟩ => ⟨S64x4096x128, .f32⟩
  | .hbm, ⟨16, _⟩ => ⟨S64x4096x128, .f32⟩
  | .hbm, ⟨17, _⟩ => ⟨S_, .f32⟩
  | .hbm, ⟨18, _⟩ => ⟨S64x4096x128, .f32⟩
  | .hbm, ⟨19, _⟩ => ⟨S64x4096x128, .f32⟩
  | .hbm, ⟨20, _⟩ => ⟨S_, .f32⟩
  | .hbm, ⟨21, _⟩ => ⟨S64x4096x128, .f32⟩
  | .hbm, ⟨22, _⟩ => ⟨S64x4096x128, .f32⟩
  | .hbm, ⟨23, _⟩ => ⟨S64x4096x128, .f32⟩
  | .hbm, ⟨24, _⟩ => ⟨S64x128x4096, .f32⟩
  | .hbm, ⟨25, _⟩ => ⟨S64x4096x128, .f32⟩
  | .hbm, ⟨26, _⟩ => ⟨S64x4096x128, .f32⟩
  | .hbm, ⟨27, _⟩ => ⟨S64x4096, .f32⟩
  | .hbm, ⟨28, _⟩ => ⟨S64x4096x1, .f32⟩
  | .hbm, ⟨29, _⟩ => ⟨S64x4096x1024, .f32⟩
  | .hbm, ⟨30, _⟩ => ⟨S64x4096x1024, .f32⟩
  | .hbm, ⟨31, _⟩ => ⟨S64x4096x1024, .f32⟩
  | .hbm, ⟨32, _⟩ => ⟨S_, .f32⟩
  | .hbm, ⟨33, _⟩ => ⟨S4096x1024, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x128, .f32⟩
  | .hbm, ⟨39, _⟩ => ⟨S4096x128, .f32⟩
  | .hbm, ⟨40, _⟩ => ⟨S_, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S1x1x1x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S1x1024, .f32⟩
  | .hbm, ⟨85, _⟩ => ⟨S4096x1024, .f32⟩
  | .hbm, ⟨86, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_1 : Ref sig .tc := ⟨.hbm, 58, rfl⟩
abbrev main_v28 : Ref sig .tc := ⟨.hbm, 59, rfl⟩
abbrev main_v29 : Ref sig .tc := ⟨.hbm, 60, rfl⟩
abbrev main_cst_2 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩

abbrev nD : Nat := 1
abbrev τ : Topo := Topo.v7x

variable {F : FTy → Type} [FloatOps F]
-- ==== Even.lean ====
abbrev S4096x1024 : Shape := ⟨2, ![4096, 1024]⟩
abbrev S6x8x1x1024 : Shape := ⟨4, ![6, 8, 1, 1024]⟩
abbrev S1024x1536 : Shape := ⟨2, ![1024, 1536]⟩
abbrev S1x128 : Shape := ⟨2, ![1, 128]⟩
abbrev S4096x128 : Shape := ⟨2, ![4096, 128]⟩
abbrev S4096x256 : Shape := ⟨2, ![4096, 256]⟩
abbrev S512x1024 : Shape := ⟨2, ![512, 1024]⟩
abbrev S6x1x1x1024 : Shape := ⟨4, ![6, 1, 1, 1024]⟩
abbrev S512x128 : Shape := ⟨2, ![512, 128]⟩
abbrev S512x256 : Shape := ⟨2, ![512, 256]⟩
abbrev S1x1x1x1024 : Shape := ⟨4, ![1, 1, 1, 1024]⟩
abbrev S1x1024 : Shape := ⟨2, ![1, 1024]⟩
abbrev S512x1536 : Shape := ⟨2, ![512, 1536]⟩
abbrev S128x128 : Shape := ⟨2, ![128, 128]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S6x8x1x1024, .f32⟩
  | .hbm, ⟨2, _⟩ => ⟨S1024x1536, .bf16⟩
  | .hbm, ⟨3, _⟩ => ⟨S1x128, .f32⟩
  | .hbm, ⟨4, _⟩ => ⟨S1x128, .f32⟩
  | .hbm, ⟨5, _⟩ => ⟨S4096x128, .f32⟩
  | .hbm, ⟨6, _⟩ => ⟨S4096x128, .f32⟩
  | .hbm, ⟨7, _⟩ => ⟨S4096x1024, .bf16⟩
  | .hbm, ⟨8, _⟩ => ⟨S4096x256, .f32⟩
  | .hbm, ⟨9, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S6x1x1x1024, .f32⟩
  | .local _ .vmem, ⟨3, _⟩ => ⟨S1024x1536, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== EvenReferenceIdeal.lean ====
abbrev S4096x1024 : Shape := ⟨2, ![4096, 1024]⟩
abbrev S6x8x1x1024 : Shape := ⟨4, ![6, 8, 1, 1024]⟩
abbrev S1024x1536 : Shape := ⟨2, ![1024, 1536]⟩
abbrev S1x128 : Shape := ⟨2, ![1, 128]⟩
abbrev S4096x128 : Shape := ⟨2, ![4096, 128]⟩
abbrev S1x1x1x1024 : Shape := ⟨4, ![1, 1, 1, 1024]⟩
abbrev S1x1024 : Shape := ⟨2, ![1, 1024]⟩
abbrev S_ : Shape := ⟨0, ![]⟩
abbrev S4096x1536 : Shape := ⟨2, ![4096, 1536]⟩
abbrev S4096x256 : Shape := ⟨2, ![4096, 256]⟩
abbrev S4096x512 : Shape := ⟨2, ![4096, 512]⟩
abbrev S4096x4x2x64 : Shape := ⟨4, ![4096, 4, 2, 64]⟩
abbrev S2x64 : Shape := ⟨2, ![2, 64]⟩
abbrev S4096x4x2 : Shape := ⟨3, ![4096, 4, 2]⟩
abbrev S4096x4x2x1 : Shape := ⟨4, ![4096, 4, 2, 1]⟩
abbrev S1x1x2x64 : Shape := ⟨4, ![1, 1, 2, 64]⟩
abbrev S4096x2x64 : Shape := ⟨3, ![4096, 2, 64]⟩
abbrev S4096x2 : Shape := ⟨2, ![4096, 2]⟩
abbrev S4096x2x1 : Shape := ⟨3, ![4096, 2, 1]⟩
abbrev S1x2x64 : Shape := ⟨3, ![1, 2, 64]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x8x1x1024, .f32⟩
  | .hbm, ⟨2, _⟩ => ⟨S1024x1536, .bf16⟩
  | .hbm, ⟨3, _⟩ => ⟨S1x128, .f32⟩
  | .hbm, ⟨4, _⟩ => ⟨S1x128, .f32⟩
  | .hbm, ⟨5, _⟩ => ⟨S4096x128, .f32⟩
  | .hbm, ⟨6, _⟩ => ⟨S4096x128, .f32⟩
  | .hbm, ⟨7, _⟩ => ⟨S1x1x1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S1x1x1x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1024x1536, .f32⟩
  | .hbm, ⟨19, _⟩ => ⟨S4096x1536, .f32⟩
  | .hbm, ⟨20, _⟩ => ⟨S4096x1024, .f32⟩
  | .hbm, ⟨21, _⟩ => ⟨S4096x256, .f32⟩
  | .hbm, ⟨22, _⟩ => ⟨S4096x256, .f32⟩
  | .hbm, ⟨23, _⟩ => ⟨S4096x512, .f32⟩
  | .hbm, ⟨24, _⟩ => ⟨S4096x4x2x64, .f32⟩
  | .hbm, ⟨25, _⟩ => ⟨S2x64, .f32⟩
  | .hbm, ⟨26, _⟩ => ⟨S4096x4x2x64, .f32⟩
  | .hbm, ⟨27, _⟩ => ⟨S_, .f32⟩
  | .hbm, ⟨28, _⟩ => ⟨S4096x4x2, .f32⟩
  | .hbm, ⟨29, _⟩ => ⟨S4096x4x2x1, .f32⟩
  | .hbm, ⟨30, _⟩ => ⟨S_, .f32⟩
  | .hbm, ⟨31, _⟩ => ⟨S4096x4x2x1, .f32⟩
  | .hbm, ⟨32, _⟩ => ⟨S4096x4x2x1, .f32⟩
  | .hbm, ⟨33, _⟩ => ⟨S_, .f32⟩
  | .hbm, ⟨34, _⟩ => ⟨S4096x4x2x1, .f32⟩
  | .hbm, ⟨35, _⟩ => ⟨S4096x4x2x1, .f32⟩
  | .hbm, ⟨36, _⟩ => ⟨S4096x4x2x1, .f32⟩
  | .hbm, ⟨37, _⟩ => ⟨S4096x4x2x64, .f32⟩
  | .hbm, ⟨38, _⟩ => ⟨S4096x4x2x64, .f32⟩
  | .hbm, ⟨39, _⟩ => ⟨S1x1x2x64, .f32⟩
  | .hbm, ⟨40, _⟩ => ⟨S4096x4x2x64, .f32⟩
  | .hbm, ⟨41, _⟩ => ⟨S4096x4x2x64, .f32⟩
  | .hbm, ⟨42, _⟩ => ⟨S4096x512, .f32⟩
  | .hbm, ⟨43, _⟩ => ⟨S4096x128, .f32⟩
  | .hbm, ⟨44, _⟩ => ⟨S4096x2x64, .f32⟩
  | .hbm, ⟨45, _⟩ => ⟨S2x64, .f32⟩
  | .hbm, ⟨46, _⟩ => ⟨S4096x2x64, .f32⟩
  | .hbm, ⟨47, _⟩ => ⟨S_, .f32⟩
  | .hbm, ⟨48, _⟩ => ⟨S4096x2, .f32⟩
  | .hbm, ⟨49, _⟩ => ⟨S4096x2x1, .f32⟩
  | .hbm, ⟨50, _⟩ => ⟨S_, .f32⟩
  | .hbm, ⟨51, _⟩ => ⟨S4096x2x1, .f32⟩
  | .hbm, ⟨52, _⟩ => ⟨S4096x2x1, .f32⟩
  | .hbm, ⟨53, _⟩ => ⟨S_, .f32⟩
  | .hbm, ⟨54, _⟩ => ⟨S4096x2x1, .f32⟩
  | .hbm, ⟨55, _⟩ => ⟨S4096x2x1, .f32⟩
  | .hbm, ⟨56, _⟩ => ⟨S4096x2x1, .f32⟩
  | .hbm, ⟨57, _⟩ => ⟨S4096x2x64, .f32⟩
  | .hbm, ⟨58, _⟩ => ⟨S4096x2x64, .f32⟩
  | .hbm, ⟨59, _⟩ => ⟨S1x2x64, .f32⟩
  | .hbm, ⟨60, _⟩ => ⟨S4096x2x64, .f32⟩
  | .hbm, ⟨61, _⟩ => ⟨S4096x2x64, .f32⟩
  | .hbm, ⟨62, _⟩ => ⟨S4096x128, .f32⟩
  | .hbm, ⟨63, _⟩ => ⟨S4096x512, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .bf16⟩
  | .hbm, ⟨69, _⟩ => ⟨S4096x128, .f32⟩
  | .hbm, ⟨70, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Odd.lean ====
abbrev S4096x1024 : Shape := ⟨2, ![4096, 1024]⟩
abbrev S6x8x1x1024 : Shape := ⟨4, ![6, 8, 1, 1024]⟩
abbrev S1024x3072 : Shape := ⟨2, ![1024, 3072]⟩
abbrev S1x128 : Shape := ⟨2, ![1, 128]⟩
abbrev S4096x128 : Shape := ⟨2, ![4096, 128]⟩
abbrev S512x1024 : Shape := ⟨2, ![512, 1024]⟩
abbrev S6x1x1x1024 : Shape := ⟨4, ![6, 1, 1, 1024]⟩
abbrev S512x128 : Shape := ⟨2, ![512, 128]⟩
abbrev S1x1x1x1024 : Shape := ⟨4, ![1, 1, 1, 1024]⟩
abbrev S1x1024 : Shape := ⟨2, ![1, 1024]⟩
abbrev S512x3072 : Shape := ⟨2, ![512, 3072]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S6x8x1x1024, .f32⟩
  | .hbm, ⟨2, _⟩ => ⟨S1024x3072, .bf16⟩
  | .hbm, ⟨3, _⟩ => ⟨S1x128, .f32⟩
  | .hbm, ⟨4, _⟩ => ⟨S1x128, .f32⟩
  | .hbm, ⟨5, _⟩ => ⟨S4096x128, .f32⟩
  | .hbm, ⟨6, _⟩ => ⟨S4096x128, .f32⟩
  | .hbm, ⟨7, _⟩ => ⟨S4096x1024, .bf16⟩
  | .hbm, ⟨8, _⟩ => ⟨S4096x1024, .f32⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S6x1x1x1024, .f32⟩
  | .local _ .vmem, ⟨3, _⟩ => ⟨S1024x3072, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddReferenceIdeal.lean ====
abbrev S4096x1024 : Shape := ⟨2, ![4096, 1024]⟩
abbrev S6x8x1x1024 : Shape := ⟨4, ![6, 8, 1, 1024]⟩
abbrev S1024x3072 : Shape := ⟨2, ![1024, 3072]⟩
abbrev S1x128 : Shape := ⟨2, ![1, 128]⟩
abbrev S4096x128 : Shape := ⟨2, ![4096, 128]⟩
abbrev S1x1x1x1024 : Shape := ⟨4, ![1, 1, 1, 1024]⟩
abbrev S1x1024 : Shape := ⟨2, ![1, 1024]⟩
abbrev S_ : Shape := ⟨0, ![]⟩
abbrev S4096x3072 : Shape := ⟨2, ![4096, 3072]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x8x1x1024, .f32⟩
  | .hbm, ⟨2, _⟩ => ⟨S1024x3072, .bf16⟩
  | .hbm, ⟨3, _⟩ => ⟨S1x128, .f32⟩
  | .hbm, ⟨4, _⟩ => ⟨S1x128, .f32⟩
  | .hbm, ⟨5, _⟩ => ⟨S4096x128, .f32⟩
  | .hbm, ⟨6, _⟩ => ⟨S4096x128, .f32⟩
  | .hbm, ⟨7, _⟩ => ⟨S1x1x1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S1x1x1x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1024x3072, .f32⟩
  | .hbm, ⟨19, _⟩ => ⟨S4096x3072, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== OddSample.lean ====
abbrev S8192x1024 : Shape := ⟨2, ![8192, 1024]⟩
abbrev S6x8x1x1024 : Shape := ⟨4, ![6, 8, 1, 1024]⟩
abbrev S1024x3072 : Shape := ⟨2, ![1024, 3072]⟩
abbrev S1x128 : Shape := ⟨2, ![1, 128]⟩
abbrev S4096x128 : Shape := ⟨2, ![4096, 128]⟩
abbrev S512x1024 : Shape := ⟨2, ![512, 1024]⟩
abbrev S6x1x1x1024 : Shape := ⟨4, ![6, 1, 1, 1024]⟩
abbrev S512x128 : Shape := ⟨2, ![512, 128]⟩
abbrev S1x1x1x1024 : Shape := ⟨4, ![1, 1, 1, 1024]⟩
abbrev S1x1024 : Shape := ⟨2, ![1, 1024]⟩
abbrev S512x3072 : Shape := ⟨2, ![512, 3072]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S6x8x1x1024, .f32⟩
  | .hbm, ⟨2, _⟩ => ⟨S1024x3072, .bf16⟩
  | .hbm, ⟨3, _⟩ => ⟨S1x128, .f32⟩
  | .hbm, ⟨4, _⟩ => ⟨S1x128, .f32⟩
  | .hbm, ⟨5, _⟩ => ⟨S4096x128, .f32⟩
  | .hbm, ⟨6, _⟩ => ⟨S4096x128, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S6x1x1x1024, .f32⟩
  | .local _ .vmem, ⟨3, _⟩ => ⟨S6x1x1x1024, .f32⟩
  | .local _ .vmem, ⟨4, _⟩ => ⟨S1024x3072, .bf16⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddSampleReferenceIdeal.lean ====
abbrev S8192x1024 : Shape := ⟨2, ![8192, 1024]⟩
abbrev S6x8x1x1024 : Shape := ⟨4, ![6, 8, 1, 1024]⟩
abbrev S1024x3072 : Shape := ⟨2, ![1024, 3072]⟩
abbrev S1x128 : Shape := ⟨2, ![1, 128]⟩
abbrev S4096x128 : Shape := ⟨2, ![4096, 128]⟩
abbrev S2x4096x1024 : Shape := ⟨3, ![2, 4096, 1024]⟩
abbrev S1x2x1x1024 : Shape := ⟨4, ![1, 2, 1, 1024]⟩
abbrev S2x1x1024 : Shape := ⟨3, ![2, 1, 1024]⟩
abbrev S_ : Shape := ⟨0, ![]⟩
abbrev S8192x3072 : Shape := ⟨2, ![8192, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x8x1x1024, .f32⟩
  | .hbm, ⟨2, _⟩ => ⟨S1024x3072, .bf16⟩
  | .hbm, ⟨3, _⟩ => ⟨S1x128, .f32⟩
  | .hbm, ⟨4, _⟩ => ⟨S1x128, .f32⟩
  | .hbm, ⟨5, _⟩ => ⟨S4096x128, .f32⟩
  | .hbm, ⟨6, _⟩ => ⟨S4096x128, .f32⟩
  | .hbm, ⟨7, _⟩ => ⟨S2x4096x1024, .f32⟩
  | .hbm, ⟨8, _⟩ => ⟨S1x2x1x1024, .f32⟩
  | .hbm, ⟨9, _⟩ => ⟨S2x1x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x4096x1024, .f32⟩
  | .hbm, ⟨14, _⟩ => ⟨S2x4096x1024, .f32⟩
  | .hbm, ⟨15, _⟩ => ⟨S1x2x1x1024, .f32⟩
  | .hbm, ⟨16, _⟩ => ⟨S2x1x1024, .f32⟩
  | .hbm, ⟨17, _⟩ => ⟨S2x4096x1024, .f32⟩
  | .hbm, ⟨18, _⟩ => ⟨S2x4096x1024, .f32⟩
  | .hbm, ⟨19, _⟩ => ⟨S8192x1024, .f32⟩
  | .hbm, ⟨20, _⟩ => ⟨S1024x3072, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8192x1024, .bf16⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== EvenSample.lean ====
abbrev S8192x1024 : Shape := ⟨2, ![8192, 1024]⟩
abbrev S6x8x1x1024 : Shape := ⟨4, ![6, 8, 1, 1024]⟩
abbrev S1024x1536 : Shape := ⟨2, ![1024, 1536]⟩
abbrev S1x128 : Shape := ⟨2, ![1, 128]⟩
abbrev S4096x128 : Shape := ⟨2, ![4096, 128]⟩
abbrev S8192x256 : Shape := ⟨2, ![8192, 256]⟩
abbrev S512x1024 : Shape := ⟨2, ![512, 1024]⟩
abbrev S6x1x1x1024 : Shape := ⟨4, ![6, 1, 1, 1024]⟩
abbrev S512x128 : Shape := ⟨2, ![512, 128]⟩
abbrev S512x256 : Shape := ⟨2, ![512, 256]⟩
abbrev S1x1x1x1024 : Shape := ⟨4, ![1, 1, 1, 1024]⟩
abbrev S1x1024 : Shape := ⟨2, ![1, 1024]⟩
abbrev S512x1536 : Shape := ⟨2, ![512, 1536]⟩
abbrev S128x128 : Shape := ⟨2, ![128, 128]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S6x8x1x1024, .f32⟩
  | .hbm, ⟨2, _⟩ => ⟨S1024x1536, .bf16⟩
  | .hbm, ⟨3, _⟩ => ⟨S1x128, .f32⟩
  | .hbm, ⟨4, _⟩ => ⟨S1x128, .f32⟩
  | .hbm, ⟨5, _⟩ => ⟨S4096x128, .f32⟩
  | .hbm, ⟨6, _⟩ => ⟨S4096x128, .f32⟩
  | .hbm, ⟨7, _⟩ => ⟨S8192x1024, .bf16⟩
  | .hbm, ⟨8, _⟩ => ⟨S8192x256, .bf16⟩
  | .hbm, ⟨9, _⟩ => ⟨S8192x256, .bf16⟩
  | .local _ .vmem, ⟨0, _⟩ => ⟨S512x1024, .f32⟩
  | .local _ .vmem, ⟨1, _⟩ => ⟨S512x1024, .f32⟩
  | .local _ .vmem, ⟨2, _⟩ => ⟨S6x1x1x1024, .f32⟩
  | .local _ .vmem, ⟨3, _⟩ => ⟨S6x1x1x1024, .f32⟩
  | .local _ .vmem, ⟨4, _⟩ => ⟨S1024x1536, .bf16⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== EvenSampleReferenceIdeal.lean ====
abbrev S8192x1024 : Shape := ⟨2, ![8192, 1024]⟩
abbrev S6x8x1x1024 : Shape := ⟨4, ![6, 8, 1, 1024]⟩
abbrev S1024x1536 : Shape := ⟨2, ![1024, 1536]⟩
abbrev S1x128 : Shape := ⟨2, ![1, 128]⟩
abbrev S4096x128 : Shape := ⟨2, ![4096, 128]⟩
abbrev S2x4096x1024 : Shape := ⟨3, ![2, 4096, 1024]⟩
abbrev S1x2x1x1024 : Shape := ⟨4, ![1, 2, 1, 1024]⟩
abbrev S2x1x1024 : Shape := ⟨3, ![2, 1, 1024]⟩
abbrev S_ : Shape := ⟨0, ![]⟩
abbrev S8192x1536 : Shape := ⟨2, ![8192, 1536]⟩
abbrev S8192x256 : Shape := ⟨2, ![8192, 256]⟩
abbrev S8192x512 : Shape := ⟨2, ![8192, 512]⟩
abbrev S8192x4x2x64 : Shape := ⟨4, ![8192, 4, 2, 64]⟩
abbrev S2x64 : Shape := ⟨2, ![2, 64]⟩
abbrev S8192x4x2 : Shape := ⟨3, ![8192, 4, 2]⟩
abbrev S8192x4x2x1 : Shape := ⟨4, ![8192, 4, 2, 1]⟩
abbrev S1x1x2x64 : Shape := ⟨4, ![1, 1, 2, 64]⟩
abbrev S8192x128 : Shape := ⟨2, ![8192, 128]⟩
abbrev S8192x2x64 : Shape := ⟨3, ![8192, 2, 64]⟩
abbrev S8192x2 : Shape := ⟨2, ![8192, 2]⟩
abbrev S8192x2x1 : Shape := ⟨3, ![8192, 2, 1]⟩
abbrev S1x2x64 : Shape := ⟨3, ![1, 2, 64]⟩
abbrev S8192x8x2x64 : Shape := ⟨4, ![8192, 8, 2, 64]⟩
abbrev S8192x2x2x64 : Shape := ⟨4, ![8192, 2, 2, 64]⟩
abbrev S2x4096x128 : Shape := ⟨3, ![2, 4096, 128]⟩
abbrev S8192x1x2x64 : Shape := ⟨4, ![8192, 1, 2, 64]⟩
abbrev S8192x8x2x16 : Shape := ⟨4, ![8192, 8, 2, 16]⟩
abbrev S8192x2x2x16 : Shape := ⟨4, ![8192, 2, 2, 16]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x8x1x1024, .f32⟩
  | .hbm, ⟨2, _⟩ => ⟨S1024x1536, .bf16⟩
  | .hbm, ⟨3, _⟩ => ⟨S1x128, .f32⟩
  | .hbm, ⟨4, _⟩ => ⟨S1x128, .f32⟩
  | .hbm, ⟨5, _⟩ => ⟨S4096x128, .f32⟩
  | .hbm, ⟨6, _⟩ => ⟨S4096x128, .f32⟩
  | .hbm, ⟨7, _⟩ => ⟨S2x4096x1024, .f32⟩
  | .hbm, ⟨8, _⟩ => ⟨S1x2x1x1024, .f32⟩
  | .hbm, ⟨9, _⟩ => ⟨S2x1x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x4096x1024, .f32⟩
  | .hbm, ⟨14, _⟩ => ⟨S2x4096x1024, .f32⟩
  | .hbm, ⟨15, _⟩ => ⟨S1x2x1x1024, .f32⟩
  | .hbm, ⟨16, _⟩ => ⟨S2x1x1024, .f32⟩
  | .hbm, ⟨17, _⟩ => ⟨S2x4096x1024, .f32⟩
  | .hbm, ⟨18, _⟩ => ⟨S2x4096x1024, .f32⟩
  | .hbm, ⟨19, _⟩ => ⟨S8192x1024, .f32⟩
  | .hbm, ⟨20, _⟩ => ⟨S1024x1536, .f32⟩
  | .hbm, ⟨21, _⟩ => ⟨S8192x1536, .f32⟩
  | .hbm, ⟨22, _⟩ => ⟨S8192x1024, .f32⟩
  | .hbm, ⟨23, _⟩ => ⟨S8192x256, .f32⟩
  | .hbm, ⟨24, _⟩ => ⟨S8192x256, .f32⟩
  | .hbm, ⟨25, _⟩ => ⟨S8192x512, .f32⟩
  | .hbm, ⟨26, _⟩ => ⟨S8192x4x2x64, .f32⟩
  | .hbm, ⟨27, _⟩ => ⟨S2x64, .f32⟩
  | .hbm, ⟨28, _⟩ => ⟨S8192x4x2x64, .f32⟩
  | .hbm, ⟨29, _⟩ => ⟨S_, .f32⟩
  | .hbm, ⟨30, _⟩ => ⟨S8192x4x2, .f32⟩
  | .hbm, ⟨31, _⟩ => ⟨S8192x4x2x1, .f32⟩
  | .hbm, ⟨32, _⟩ => ⟨S_, .f32⟩
  | .hbm, ⟨33, _⟩ => ⟨S8192x4x2x1, .f32⟩
  | .hbm, ⟨34, _⟩ => ⟨S8192x4x2x1, .f32⟩
  | .hbm, ⟨35, _⟩ => ⟨S_, .f32⟩
  | .hbm, ⟨36, _⟩ => ⟨S8192x4x2x1, .f32⟩
  | .hbm, ⟨37, _⟩ => ⟨S8192x4x2x1, .f32⟩
  | .hbm, ⟨38, _⟩ => ⟨S8192x4x2x1, .f32⟩
  | .hbm, ⟨39, _⟩ => ⟨S8192x4x2x64, .f32⟩
  | .hbm, ⟨40, _⟩ => ⟨S8192x4x2x64, .f32⟩
  | .hbm, ⟨41, _⟩ => ⟨S1x1x2x64, .f32⟩
  | .hbm, ⟨42, _⟩ => ⟨S8192x4x2x64, .f32⟩
  | .hbm, ⟨43, _⟩ => ⟨S8192x4x2x64, .f32⟩
  | .hbm, ⟨44, _⟩ => ⟨S8192x512, .f32⟩
  | .hbm, ⟨45, _⟩ => ⟨S8192x128, .f32⟩
  | .hbm, ⟨46, _⟩ => ⟨S8192x2x64, .f32⟩
  | .hbm, ⟨47, _⟩ => ⟨S2x64, .f32⟩
  | .hbm, ⟨48, _⟩ => ⟨S8192x2x64, .f32⟩
  | .hbm, ⟨49, _⟩ => ⟨S_, .f32⟩
  | .hbm, ⟨50, _⟩ => ⟨S8192x2, .f32⟩
  | .hbm, ⟨51, _⟩ => ⟨S8192x2x1, .f32⟩
  | .hbm, ⟨52, _⟩ => ⟨S_, .f32⟩
  | .hbm, ⟨53, _⟩ => ⟨S8192x2x1, .f32⟩
  | .hbm, ⟨54, _⟩ => ⟨S8192x2x1, .f32⟩
  | .hbm, ⟨55, _⟩ => ⟨S_, .f32⟩
  | .hbm, ⟨56, _⟩ => ⟨S8192x2x1, .f32⟩
  | .hbm, ⟨57, _⟩ => ⟨S8192x2x1, .f32⟩
  | .hbm, ⟨58, _⟩ => ⟨S8192x2x1, .f32⟩
  | .hbm, ⟨59, _⟩ => ⟨S8192x2x64, .f32⟩
  | .hbm, ⟨60, _⟩ => ⟨S8192x2x64, .f32⟩
  | .hbm, ⟨61, _⟩ => ⟨S1x2x64, .f32⟩
  | .hbm, ⟨62, _⟩ => ⟨S8192x2x64, .f32⟩
  | .hbm, ⟨63, _⟩ => ⟨S8192x2x64, .f32⟩
  | .hbm, ⟨64, _⟩ => ⟨S8192x128, .f32⟩
  | .hbm, ⟨65, _⟩ => ⟨S8192x512, .f32⟩
  | .hbm, ⟨66, _⟩ => ⟨S8192x1024, .f32⟩
  | .hbm, ⟨67, _⟩ => ⟨S8192x8x2x64, .f32⟩
  | .hbm, ⟨68, _⟩ => ⟨S8192x128, .f32⟩
  | .hbm, ⟨69, _⟩ => ⟨S8192x256, .f32⟩
  | .hbm, ⟨70, _⟩ => ⟨S8192x2x2x64, .f32⟩
  | .hbm, ⟨71, _⟩ => ⟨S2x4096x128, .f32⟩
  | .hbm, ⟨72, _⟩ => ⟨S8192x1x2x64, .f32⟩
  | .hbm, ⟨73, _⟩ => ⟨S2x4096x128, .f32⟩
  | .hbm, ⟨74, _⟩ => ⟨S8192x1x2x64, .f32⟩
  | .hbm, ⟨75, _⟩ => ⟨S8192x8x2x16, .f32⟩
  | .hbm, ⟨76, _⟩ => ⟨S8192x8x2x16, .f32⟩
  | .hbm, ⟨77, _⟩ => ⟨S8192x8x2x16, .f32⟩
  | .hbm, ⟨78, _⟩ => ⟨S8192x8x2x16, .f32⟩
  | .hbm, ⟨79, _⟩ => ⟨S8192x8x2x64, .f32⟩
  | .hbm, ⟨80, _⟩ => ⟨S8192x8x2x64, .f32⟩
  | .hbm, ⟨81, _⟩ => ⟨S8192x8x2x64, .f32⟩
  | .hbm, ⟨82, _⟩ => ⟨S8192x8x2x64, .f32⟩
  | .hbm, ⟨83, _⟩ => ⟨S8192x8x2x64, .f32⟩
  | .hbm, ⟨84, _⟩ => ⟨S8192x8x2x64, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x2x2x16, .f32⟩
  | .hbm, ⟨90, _⟩ => ⟨S8192x2x2x16, .f32⟩
  | .hbm, ⟨91, _⟩ => ⟨S8192x2x2x16, .f32⟩
  | .hbm, ⟨92, _⟩ => ⟨S8192x2x2x16, .f32⟩
  | .hbm, ⟨93, _⟩ => ⟨S8192x2x2x64, .f32⟩
  | .hbm, ⟨94, _⟩ => ⟨S8192x2x2x64, .f32⟩
  | .hbm, ⟨95, _⟩ => ⟨S8192x2x2x64, .f32⟩
  | .hbm, ⟨96, _⟩ => ⟨S8192x2x2x64, .f32⟩
  | .hbm, ⟨97, _⟩ => ⟨S8192x2x2x64, .f32⟩
  | .hbm, ⟨98, _⟩ => ⟨S8192x2x2x64, .f32⟩
  | .hbm, ⟨99, _⟩ => ⟨S8192x256, .f32⟩
  | .hbm, ⟨100, _⟩ => ⟨S8192x1024, .bf16⟩
  | .hbm, ⟨101, _⟩ => ⟨S8192x256, .bf16⟩
  | .hbm, ⟨102, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_6 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩

abbrev nD : Nat := 1
abbrev τ : Topo := Topo.v7x

variable {F : FTy → Type} [FloatOps F]
-- ==== PostOdd.lean ====
abbrev S8192x1024 : Shape := ⟨2, ![8192, 1024]⟩
abbrev S6x8x1x1024 : Shape := ⟨4, ![6, 8, 1, 1024]⟩
abbrev S1024x1024 : Shape := ⟨2, ![1024, 1024]⟩
abbrev S1x1024 : Shape := ⟨2, ![1, 1024]⟩
abbrev S1024x64 : Shape := ⟨2, ![1024, 64]⟩
abbrev S1x64 : Shape := ⟨2, ![1, 64]⟩
abbrev S8192x64 : Shape := ⟨2, ![8192, 64]⟩
abbrev S512x1024 : Shape := ⟨2, ![512, 1024]⟩
abbrev S6x1x1x1024 : Shape := ⟨4, ![6, 1, 1, 1024]⟩
abbrev S512x64 : Shape := ⟨2, ![512, 64]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S6x8x1x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S1024x64, .bf16⟩
  | .hbm, ⟨7, _⟩ => ⟨S1024x64, .bf16⟩
  | .hbm, ⟨8, _⟩ => ⟨S1x64, .f32⟩
  | .hbm, ⟨9, _⟩ => ⟨S8192x1024, .f32⟩
  | .hbm, ⟨10, _⟩ => ⟨S8192x1024, .bf16⟩
  | .hbm, ⟨11, _⟩ => ⟨S8192x64, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S6x1x1x1024, .f32⟩
  | .local _ .vmem, ⟨5, _⟩ => ⟨S6x1x1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x64, .bf16⟩
  | .local _ .vmem, ⟨10, _⟩ => ⟨S1024x64, .bf16⟩
  | .local _ .vmem, ⟨11, _⟩ => ⟨S1x64, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x64, .f32⟩
  | .local _ .vmem, ⟨17, _⟩ => ⟨S512x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostOddReferenceIdeal.lean ====
abbrev S8192x1024 : Shape := ⟨2, ![8192, 1024]⟩
abbrev S6x8x1x1024 : Shape := ⟨4, ![6, 8, 1, 1024]⟩
abbrev S1024x1024 : Shape := ⟨2, ![1024, 1024]⟩
abbrev S1x1024 : Shape := ⟨2, ![1, 1024]⟩
abbrev S1024x64 : Shape := ⟨2, ![1024, 64]⟩
abbrev S1x64 : Shape := ⟨2, ![1, 64]⟩
abbrev S2x4096x1024 : Shape := ⟨3, ![2, 4096, 1024]⟩
abbrev S_ : Shape := ⟨0, ![]⟩
abbrev S1x2x1x1024 : Shape := ⟨4, ![1, 2, 1, 1024]⟩
abbrev S2x1x1024 : Shape := ⟨3, ![2, 1, 1024]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S6x8x1x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S1024x64, .bf16⟩
  | .hbm, ⟨7, _⟩ => ⟨S1024x64, .bf16⟩
  | .hbm, ⟨8, _⟩ => ⟨S1x64, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S2x4096x1024, .f32⟩
  | .hbm, ⟨13, _⟩ => ⟨S2x4096x1024, .f32⟩
  | .hbm, ⟨14, _⟩ => ⟨S_, .f32⟩
  | .hbm, ⟨15, _⟩ => ⟨S2x4096x1024, .f32⟩
  | .hbm, ⟨16, _⟩ => ⟨S2x4096x1024, .f32⟩
  | .hbm, ⟨17, _⟩ => ⟨S1x2x1x1024, .f32⟩
  | .hbm, ⟨18, _⟩ => ⟨S2x1x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S2x4096, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S2x4096x1, .f32⟩
  | .hbm, ⟨45, _⟩ => ⟨S2x4096x1024, .f32⟩
  | .hbm, ⟨46, _⟩ => ⟨S2x4096x1024, .f32⟩
  | .hbm, ⟨47, _⟩ => ⟨S1x1x1024, .f32⟩
  | .hbm, ⟨48, _⟩ => ⟨S2x4096x1024, .f32⟩
  | .hbm, ⟨49, _⟩ => ⟨S2x4096x1024, .f32⟩
  | .hbm, ⟨50, _⟩ => ⟨S1x1x1024, .f32⟩
  | .hbm, ⟨51, _⟩ => ⟨S2x4096x1024, .f32⟩
  | .hbm, ⟨52, _⟩ => ⟨S2x4096x1024, .f32⟩
  | .hbm, ⟨53, _⟩ => ⟨S1x2x1x1024, .f32⟩
  | .hbm, ⟨54, _⟩ => ⟨S2x1x1024, .f32⟩
  | .hbm, ⟨55, _⟩ => ⟨S_, .f32⟩
  | .hbm, ⟨56, _⟩ => ⟨S2x1x1024, .f32⟩
  | .hbm, ⟨57, _⟩ => ⟨S2x1x1024, .f32⟩
  | .hbm, ⟨58, _⟩ => ⟨S2x4096x1024, .f32⟩
  | .hbm, ⟨59, _⟩ => ⟨S2x4096x1024, .f32⟩
  | .hbm, ⟨60, _⟩ => ⟨S1x2x1x1024, .f32⟩
  | .hbm, ⟨61, _⟩ => ⟨S2x1x1024, .f32⟩
  | .hbm, ⟨62, _⟩ => ⟨S2x4096x1024, .f32⟩
  | .hbm, ⟨63, _⟩ => ⟨S2x4096x1024, .f32⟩
  | .hbm, ⟨64, _⟩ => ⟨S8192x1024, .f32⟩
  | .hbm, ⟨65, _⟩ => ⟨S8192x1024, .f32⟩
  | .hbm, ⟨66, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== PostEven.lean ====
abbrev S8192x512 : Shape := ⟨2, ![8192, 512]⟩
abbrev S8192x1024 : Shape := ⟨2, ![8192, 1024]⟩
abbrev S6x8x1x1024 : Shape := ⟨4, ![6, 8, 1, 1024]⟩
abbrev S1024x1024 : Shape := ⟨2, ![1024, 1024]⟩
abbrev S1x1024 : Shape := ⟨2, ![1, 1024]⟩
abbrev S1024x64 : Shape := ⟨2, ![1024, 64]⟩
abbrev S1x64 : Shape := ⟨2, ![1, 64]⟩
abbrev S8192x64 : Shape := ⟨2, ![8192, 64]⟩
abbrev S512x512 : Shape := ⟨2, ![512, 512]⟩
abbrev S512x1024 : Shape := ⟨2, ![512, 1024]⟩
abbrev S6x1x1x1024 : Shape := ⟨4, ![6, 1, 1, 1024]⟩
abbrev S512x64 : Shape := ⟨2, ![512, 64]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S6x8x1x1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S1024x64, .bf16⟩
  | .hbm, ⟨8, _⟩ => ⟨S1024x64, .bf16⟩
  | .hbm, ⟨9, _⟩ => ⟨S1x64, .f32⟩
  | .hbm, ⟨10, _⟩ => ⟨S8192x1024, .f32⟩
  | .hbm, ⟨11, _⟩ => ⟨S8192x1024, .bf16⟩
  | .hbm, ⟨12, _⟩ => ⟨S8192x64, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S6x1x1x1024, .f32⟩
  | .local _ .vmem, ⟨7, _⟩ => ⟨S6x1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x64, .bf16⟩
  | .local _ .vmem, ⟨12, _⟩ => ⟨S1024x64, .bf16⟩
  | .local _ .vmem, ⟨13, _⟩ => ⟨S1x64, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x64, .f32⟩
  | .local _ .vmem, ⟨19, _⟩ => ⟨S512x64, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostEvenReferenceIdeal.lean ====
abbrev S8192x512 : Shape := ⟨2, ![8192, 512]⟩
abbrev S8192x1024 : Shape := ⟨2, ![8192, 1024]⟩
abbrev S6x8x1x1024 : Shape := ⟨4, ![6, 8, 1, 1024]⟩
abbrev S1024x1024 : Shape := ⟨2, ![1024, 1024]⟩
abbrev S1x1024 : Shape := ⟨2, ![1, 1024]⟩
abbrev S1024x64 : Shape := ⟨2, ![1024, 64]⟩
abbrev S1x64 : Shape := ⟨2, ![1, 64]⟩
abbrev S2x4096x1024 : Shape := ⟨3, ![2, 4096, 1024]⟩
abbrev S_ : Shape := ⟨0, ![]⟩
abbrev S1x2x1x1024 : Shape := ⟨4, ![1, 2, 1, 1024]⟩
abbrev S2x1x1024 : Shape := ⟨3, ![2, 1, 1024]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S6x8x1x1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S1024x64, .bf16⟩
  | .hbm, ⟨8, _⟩ => ⟨S1024x64, .bf16⟩
  | .hbm, ⟨9, _⟩ => ⟨S1x64, .f32⟩
  | .hbm, ⟨10, _⟩ => ⟨S8192x1024, .bf16⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S2x4096x1024, .f32⟩
  | .hbm, ⟨15, _⟩ => ⟨S2x4096x1024, .f32⟩
  | .hbm, ⟨16, _⟩ => ⟨S_, .f32⟩
  | .hbm, ⟨17, _⟩ => ⟨S2x4096x1024, .f32⟩
  | .hbm, ⟨18, _⟩ => ⟨S2x4096x1024, .f32⟩
  | .hbm, ⟨19, _⟩ => ⟨S1x2x1x1024, .f32⟩
  | .hbm, ⟨20, _⟩ => ⟨S2x1x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S_, .f32⟩
  | .hbm, ⟨36, _⟩ => ⟨S2x4096, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S2x4096x1024, .f32⟩
  | .hbm, ⟨42, _⟩ => ⟨S2x4096x1024, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x1024, .f32⟩
  | .hbm, ⟨48, _⟩ => ⟨S2x4096x1024, .f32⟩
  | .hbm, ⟨49, _⟩ => ⟨S1x1x1024, .f32⟩
  | .hbm, ⟨50, _⟩ => ⟨S2x4096x1024, .f32⟩
  | .hbm, ⟨51, _⟩ => ⟨S2x4096x1024, .f32⟩
  | .hbm, ⟨52, _⟩ => ⟨S1x1x1024, .f32⟩
  | .hbm, ⟨53, _⟩ => ⟨S2x4096x1024, .f32⟩
  | .hbm, ⟨54, _⟩ => ⟨S2x4096x1024, .f32⟩
  | .hbm, ⟨55, _⟩ => ⟨S1x2x1x1024, .f32⟩
  | .hbm, ⟨56, _⟩ => ⟨S2x1x1024, .f32⟩
  | .hbm, ⟨57, _⟩ => ⟨S_, .f32⟩
  | .hbm, ⟨58, _⟩ => ⟨S2x1x1024, .f32⟩
  | .hbm, ⟨59, _⟩ => ⟨S2x1x1024, .f32⟩
  | .hbm, ⟨60, _⟩ => ⟨S2x4096x1024, .f32⟩
  | .hbm, ⟨61, _⟩ => ⟨S2x4096x1024, .f32⟩
  | .hbm, ⟨62, _⟩ => ⟨S1x2x1x1024, .f32⟩
  | .hbm, ⟨63, _⟩ => ⟨S2x1x1024, .f32⟩
  | .hbm, ⟨64, _⟩ => ⟨S2x4096x1024, .f32⟩
  | .hbm, ⟨65, _⟩ => ⟨S2x4096x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Global.lean ====
abbrev S8192x1024 : Shape := ⟨2, ![8192, 1024]⟩
abbrev S2x4608x128 : Shape := ⟨3, ![2, 4608, 128]⟩
abbrev S8192x512 : Shape := ⟨2, ![8192, 512]⟩
abbrev S256x512 : Shape := ⟨2, ![256, 512]⟩
abbrev S1x4608x128 : Shape := ⟨3, ![1, 4608, 128]⟩
abbrev S1x128 : Shape := ⟨2, ![1, 128]⟩
abbrev S256x128 : Shape := ⟨2, ![256, 128]⟩
abbrev S256x1 : Shape := ⟨2, ![256, 1]⟩
abbrev S1x512x128 : Shape := ⟨3, ![1, 512, 128]⟩
abbrev S512x128 : Shape := ⟨2, ![512, 128]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2x4608x128, .bf16⟩
  | .hbm, ⟨2, _⟩ => ⟨S2x4608x128, .bf16⟩
  | .hbm, ⟨3, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S1x4608x128, .bf16⟩
  | .local _ .vmem, ⟨3, _⟩ => ⟨S1x4608x128, .bf16⟩
  | .local _ .vmem, ⟨4, _⟩ => ⟨S1x4608x128, .bf16⟩
  | .local _ .vmem, ⟨5, _⟩ => ⟨S1x4608x128, .bf16⟩
  | .local _ .vmem, ⟨6, _⟩ => ⟨S256x512, .bf16⟩
  | .local _ .vmem, ⟨7, _⟩ => ⟨S256x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c9_i32 : BitVec 32 := 9#32
  let v24 : BitVec 32 := Scalar.addi c0_i32 c9_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v84 : BitVec 32 := Scalar.muli arg6 c512_i32
  v84
def k0_off1 (k0_t1 : Fin k0_t1_loop.trips) : Fin 3 → Nat :=
  let c0_42 : Index := 0#32
  let c0_i32 : BitVec 32 := 0#32
  let c1_i32 : BitVec 32 := 1#32
  let arg6 : BitVec 32 := Scf.iv c0_i32 c1_i32 k0_t1
  let c512_i32 : BitVec 32 := 512#32
  let v84 : BitVec 32 := Scalar.muli arg6 c512_i32
  let v85 : BitVec 32 := v84
  let v86 : Index := Scalar.indexCast v85
  let c0_43 : Index := 0#32
  ![0, v86.toNat, 0]
@[reducible] def k0_t2_loop : Scf.Loop 32 :=
  let c0_i32_16 : BitVec 32 := 0#32
  let c9_i32_17 : BitVec 32 := 9#32
  let v41 : BitVec 32 := Scalar.addi c0_i32_16 c9_i32_17
  let c1_i32_18 : BitVec 32 := 1#32
  ⟨c0_i32_16, v41, c1_i32_18⟩
def k0_mult2 (k0_t2 : Fin k0_t2_loop.trips) : BitVec 32 :=
  let c0_i32_16 : BitVec 32 := 0#32
  let c1_i32_18 : BitVec 32 := 1#32
  let arg6 : BitVec 32 := Scf.iv c0_i32_16 c1_i32_18 k0_t2
  let c512_i32 : BitVec 32 := 512#32
  let v84 : BitVec 32 := Scalar.muli arg6 c512_i32
  v84
def k0_off2 (k0_t2 : Fin k0_t2_loop.trips) : Fin 3 → Nat :=
  let c0_42 : Index := 0#32
  let c0_i32_16 : BitVec 32 := 0#32
  let c1_i32_18 : BitVec 32 := 1#32
  let arg6 : BitVec 32 := Scf.iv c0_i32_16 c1_i32_18 k0_t2
  let c512_i32 : BitVec 32 := 512#32
  let v84 : BitVec 32 := Scalar.muli arg6 c512_i32
  let v85 : BitVec 32 := v84
  let v86 : Index := Scalar.indexCast v85
  let c0_43 : Index := 0#32
  ![0, v86.toNat, 0]
@[reducible] def k0_t3_loop : Scf.Loop 32 :=
  let c0_i32_26 : BitVec 32 := 0#32
  let c9_i32_27 : BitVec 32 := 9#32
  let v58 : BitVec 32 := Scalar.addi c0_i32_26 c9_i32_27
  let c1_i32_28 : BitVec 32 := 1#32
  ⟨c0_i32_26, v58, c1_i32_28⟩
def k0_mult3 (k0_t3 : Fin k0_t3_loop.trips) : BitVec 32 :=
  let c0_i32_26 : BitVec 32 := 0#32
  let c1_i32_28 : BitVec 32 := 1#32
  let arg6 : BitVec 32 := Scf.iv c0_i32_26 c1_i32_28 k0_t3
  let c512_i32 : BitVec 32 := 512#32
  let v84 : BitVec 32 := Scalar.muli arg6 c512_i32
  v84
def k0_off3 (k0_t3 : Fin k0_t3_loop.trips) : Fin 3 → Nat :=
  let c0_42 : Index := 0#32
  let c0_i32_26 : BitVec 32 := 0#32
  let c1_i32_28 : BitVec 32 := 1#32
  let arg6 : BitVec 32 := Scf.iv c0_i32_26 c1_i32_28 k0_t3
  let c512_i32 : BitVec 32 := 512#32
  let v84 : BitVec 32 := Scalar.muli arg6 c512_i32
  let v85 : BitVec 32 := v84
  let v86 : Index := Scalar.indexCast v85
  let c0_43 : Index := 0#32
  ![0, v86.toNat, 0]
@[reducible] def k0_t4_loop : Scf.Loop 32 :=
  let c0_i32_36 : BitVec 32 := 0#32
  let c9_i32_37 : BitVec 32 := 9#32
  let v75 : BitVec 32 := Scalar.addi c0_i32_36 c9_i32_37
  let c1_i32_38 : BitVec 32 := 1#32
  ⟨c0_i32_36, v75, c1_i32_38⟩
def k0_mult4 (k0_t4 : Fin k0_t4_loop.trips) : BitVec 32 :=
  let c0_i32_36 : BitVec 32 := 0#32
  let c1_i32_38 : BitVec 32 := 1#32
  let arg6 : BitVec 32 := Scf.iv c0_i32_36 c1_i32_38 k0_t4
  let c512_i32 : BitVec 32 := 512#32
  let v84 : BitVec 32 := Scalar.muli arg6 c512_i32
  v84
def k0_off4 (k0_t4 : Fin k0_t4_loop.trips) : Fin 3 → Nat :=
  let c0_42 : Index := 0#32
  let c0_i32_36 : BitVec 32 := 0#32
  let c1_i32_38 : BitVec 32 := 1#32
  let arg6 : BitVec 32 := Scf.iv c0_i32_36 c1_i32_38 k0_t4
  let c512_i32 : BitVec 32 := 512#32
  let v84 : BitVec 32 := Scalar.muli arg6 c512_i32
  let v85 : BitVec 32 := v84
  let v86 : Index := Scalar.indexCast v85
  let c0_43 : Index := 0#32
  ![0, v86.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GlobalReferenceIdeal.lean ====
abbrev S8192x1024 : Shape := ⟨2, ![8192, 1024]⟩
abbrev S2x4608x128 : Shape := ⟨3, ![2, 4608, 128]⟩
abbrev S8192x512 : Shape := ⟨2, ![8192, 512]⟩
abbrev S2x4096x4x2x64 : Shape := ⟨5, ![2, 4096, 4, 2, 64]⟩
abbrev S2x4608x2x64 : Shape := ⟨4, ![2, 4608, 2, 64]⟩
abbrev S2x2x4608x4096x4 : Shape := ⟨5, ![2, 2, 4608, 4096, 4]⟩
abbrev S2x2x4x4096x4608 : Shape := ⟨5, ![2, 2, 4, 4096, 4608]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x64x4x4096 : Shape := ⟨5, ![2, 2, 64, 4, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4608x128, .bf16⟩
  | .hbm, ⟨2, _⟩ => ⟨S2x4608x128, .bf16⟩
  | .hbm, ⟨3, _⟩ => ⟨S8192x512, .bf16⟩
  | .hbm, ⟨4, _⟩ => ⟨S8192x512, .f32⟩
  | .hbm, ⟨5, _⟩ => ⟨S2x4096x4x2x64, .f32⟩
  | .hbm, ⟨6, _⟩ => ⟨S2x4608x128, .f32⟩
  | .hbm, ⟨7, _⟩ => ⟨S2x4608x2x64, .f32⟩
  | .hbm, ⟨8, _⟩ => ⟨S2x4608x128, .f32⟩
  | .hbm, ⟨9, _⟩ => ⟨S2x4608x2x64, .f32⟩
  | .hbm, ⟨10, _⟩ => ⟨S2x2x4608x4096x4, .f32⟩
  | .hbm, ⟨11, _⟩ => ⟨S2x2x4x4096x4608, .f32⟩
  | .hbm, ⟨12, _⟩ => ⟨S_, .f32⟩
  | .hbm, ⟨13, _⟩ => ⟨S2x2x4x4096, .f32⟩
  | .hbm, ⟨14, _⟩ => ⟨S_, .f32⟩
  | .hbm, ⟨15, _⟩ => ⟨S2x2x4x4096, .f32⟩
  | .hbm, ⟨16, _⟩ => ⟨S2x2x4x4096, .f32⟩
  | .hbm, ⟨17, _⟩ => ⟨S2x2x4x4096x1, .f32⟩
  | .hbm, ⟨18, _⟩ => ⟨S2x2x4x4096x4608, .f32⟩
  | .hbm, ⟨19, _⟩ => ⟨S2x2x4x4096x4608, .f32⟩
  | .hbm, ⟨20, _⟩ => ⟨S2x2x4x4096x4608, .f32⟩
  | .hbm, ⟨21, _⟩ => ⟨S_, .f32⟩
  | .hbm, ⟨22, _⟩ => ⟨S2x2x4x4096, .f32⟩
  | .hbm, ⟨23, _⟩ => ⟨S2x2x4x4096x1, .f32⟩
  | .hbm, ⟨24, _⟩ => ⟨S2x2x4x4096x4608, .f32⟩
  | .hbm, ⟨25, _⟩ => ⟨S2x2x4x4096x4608, .f32⟩
  | .hbm, ⟨26, _⟩ => ⟨S2x2x64x4x4096, .f32⟩
  | .hbm, ⟨27, _⟩ => ⟨S2x4096x4x2x64, .f32⟩
  | .hbm, ⟨28, _⟩ => ⟨S8192x512, .f32⟩
  | .hbm, ⟨29, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.Numbers.lean ====
/- Facts about extended reals the value proofs share. -/
module

public import Idealize.ShloMosaic.PureOps.Ideal
public import Idealize.ShloMosaic.Lib.Pointwise

@[expose] public section

noncomputable section

namespace Cert.Moe

open Idealize.ShloMosaic

/-- The exponential is never negative. -/
theorem exp_nonneg (z : EReal) : 0 ≤ Ideal.exp z := by
  induction z with
  | bot => exact le_refl _
  | top => exact le_top
  | coe r => exact EReal.coe_nonneg.2 (Real.exp_pos r).le

/-- A nonnegative number goes into a finite sum. -/
theorem mul_sum_of_nonneg {ι : Type} {c : EReal} (h0 : 0 ≤ c) (h1 : c ≠ ⊤) (s : Finset ι) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 h1, ih]

/-- The word of the comparison "at least zero, and below infinity" says what it compares. -/
theorem of_cmp_and {x : EReal}
    (h : IntOp.andi (Ideal.cmp .oge x (Ideal.ofBits .f32 0x00000000#32)) (Ideal.cmp .olt x (Ideal.ofBits .f32 0x7F800000#32)) = 1#1) :
    0 ≤ x ∧ x ≠ ⊤ := by
  have e0 : Ideal.ofBits .f32 0x00000000#32 = 0 := by simp [Ideal.ofBits, Ideal.ieee]
  have e1 : Ideal.ofBits .f32 0x7F800000#32 = ⊤ := by simp [Ideal.ofBits, Ideal.ieee]
  rw [e0, e1] at h
  unfold Ideal.cmp at h
  by_cases a : 0 ≤ x <;> by_cases b : x < ⊤
  · exact ⟨a, b.ne⟩
  all_goals simp [a, b, IntOp.andi] at h

end Cert.Moe

end
-- ==== Proof.MoePay.lean ====
/- What one grid step of the mixture-of-experts call computes, read at an index. -/
module

public import proofs.«01_k».proof.Proof.Gen.KernelIdeal.Skeleton
public import Idealize.ShloMosaic.Lib.Pointwise
public import proofs.«01_k».proof.Proof.Numbers
public import Idealize.ShloMosaic.Lib.Pipeline.ValueKit

@[expose] public section

set_option maxRecDepth 16384

noncomputable section

namespace Cert.Moe

open Idealize.ShloMosaic Cert.KernelIdeal Cert.KernelIdeal.Gen Cert.KernelIdeal.Facts

/-- `z` times its logistic, as the kernel divides. -/
def act (z : EReal) : EReal := Ideal.div z (1 + Ideal.exp (0 - z))

/-- One hidden unit of an expert: the activated gate product times the up product. -/
def hid (x wg wu : Fin 1024 → EReal) : EReal := act (∑ d : Fin 1024, x d * wg d) * ∑ d : Fin 1024, x d * wu d

/-- One expert's gated hidden block, for the expert numbered `arg1 * 4 + j`. -/
def actv (arg1 j : BitVec 32) (v0 : FVec Ideal S1024x1024 .bf16) (v4 : FVec Ideal S1024x64 .f32)
    (v6 v9 : FVec Ideal S1x1024x128 .f32) : FVec Ideal S1024x128 .bf16 :=
  have h : FVec Ideal S1024x256 .f32 := matmul dot_S1024x1024_S1024x256_S1024x256_1_0_0_1_n_n none v0
    (concatenate S1024x256 1 [⟨S1024x128, truncf .bf16 (shapeCast S1024x128 v6 shapeCasts_S1x1024x128_S1024x128) bitsLt_bf16_f32⟩,
      ⟨S1024x128, truncf .bf16 (shapeCast S1024x128 v9 shapeCasts_S1x1024x128_S1024x128) bitsLt_bf16_f32⟩]
      concatenates_S1024x128_S1024x128_S1024x256_d1) (constant S1024x256 .f32 0x00000000#32)
  have g : FVec Ideal S1024 .f32 := multiReduction .add [1] S1024
    (select (cmpi .eq (iota .tc S1024x64 32 [1] iota_S1024x64_d1_w32) (broadcast S1024x64 (Scalar.addi (Scalar.muli arg1 4#32) j))) v4
      (broadcast S1024x64 (Scalar.ofBits .f32 0x00000000#32) : FVec Ideal S1024x64 .f32)) 0x00000000#32 reduces_S1024x64_S1024 (.inl rfl) rfl
  have a : FVec Ideal S1024x128 .f32 := extractStridedSlice S1024x128 ![0, 0] h slices_S1024x256_o0_0_S1024x128
  have b : FVec Ideal S1024x128 .f32 := extractStridedSlice S1024x128 ![0, 128] h slices_S1024x256_o0_128_S1024x128
  truncf .bf16 (mulf (mulf (divf a (addf (broadcast S1024x128 (Scalar.ofBits .f32 0x3F800000#32))
    (exp (subf (broadcast S1024x128 (Scalar.ofBits .f32 0x00000000#32)) a)))) b)
    (broadcastTo S1024x128 (shapeCast S1024x1 g shapeCasts_S1024_S1024x1) broadcasts_S1024x1_S1024x128)) bitsLt_bf16_f32

/-- The accumulator after a pair of experts: two hidden blocks side by side times the two down matrices stacked. -/
def pairv (p q : FVec Ideal S1024x128 .bf16) (w0 w1 : FVec Ideal S1x128x1024 .f32) (acc : FVec Ideal S1024x1024 .f32) :
    FVec Ideal S1024x1024 .f32 :=
  addf acc (matmul dot_S1024x256_S256x1024_S1024x1024_1_0_0_1_n_n none
    (concatenate S1024x256 1 [⟨S1024x128, p⟩, ⟨S1024x128, q⟩] concatenates_S1024x128_S1024x128_S1024x256_d1 : FVec Ideal S1024x256 .bf16)
    (concatenate S256x1024 0 [⟨S128x1024, truncf .bf16 (shapeCast S128x1024 w0 shapeCasts_S1x128x1024_S128x1024) bitsLt_bf16_f32⟩,
      ⟨S128x1024, truncf .bf16 (shapeCast S128x1024 w1 shapeCasts_S1x128x1024_S128x1024) bitsLt_bf16_f32⟩]
      concatenates_S128x1024_S128x1024_S256x1024_d0) (constant S1024x1024 .f32 0x00000000#32))

theorem pay2_eq (i : grid0.Coords) (v0 : FVec Ideal S1024x1024 .bf16) (v4 : FVec Ideal S1024x64 .f32)
    (v6 v9 : FVec Ideal S1x1024x128 .f32) :
    k0_pay2 i v0 v4 v6 v9 = actv (BitVec.ofNat 32 (i 1).val) 0#32 v0 v4 v6 v9 := rfl

theorem pay3_eq (a : BitVec 32) (v0 : FVec Ideal S1024x1024 .bf16) (v4 : FVec Ideal S1024x64 .f32) (v33 : FVec Ideal S1024x128 .bf16)
    (v34 v37 : FVec Ideal S1x1024x128 .f32) (v62 v65 : FVec Ideal S1x128x1024 .f32) (v69 : FVec Ideal S1024x1024 .f32) :
    k0_pay3 a v0 v4 (iota .tc S1024x64 32 [1] iota_S1024x64_d1_w32) v33 v34 v37 v62 v65 v69
      = pairv v33 (actv a 1#32 v0 v4 v34 v37) v62 v65 v69 := rfl

theorem pay5_eq (a : BitVec 32) (v0 : FVec Ideal S1024x1024 .bf16) (v4 : FVec Ideal S1024x64 .f32)
    (v6 v9 : FVec Ideal S1x1024x128 .f32) :
    k0_pay5 a v0 v4 (iota .tc S1024x64 32 [1] iota_S1024x64_d1_w32) v6 v9 = actv a 2#32 v0 v4 v6 v9 := rfl

theorem pay7_eq (a : BitVec 32) (v0 : FVec Ideal S1024x1024 .bf16) (v4 : FVec Ideal S1024x64 .f32) (v33 : FVec Ideal S1024x128 .bf16)
    (v34 v37 : FVec Ideal S1x1024x128 .f32) (v62 v65 : FVec Ideal S1x128x1024 .f32) (v69 : FVec Ideal S1024x1024 .f32) :
    k0_pay7 a v4 (iota .tc S1024x64 32 [1] iota_S1024x64_d1_w32) v33 (k0_pay6 v0 v34 v37) 4#32 v62 v65 v69
      = shapeCast S1024x1024 (pairv v33 (actv a 3#32 v0 v4 v34 v37) v62 v65 v69) shapeCasts_S1024x1024_S1024x1024 := rfl

/-- The shared expert at an index. -/
theorem pay1_apply (v0 : FVec Ideal S1024x1024 .bf16) (sg su : FVec Ideal S1024x128 .f32) (sd : FVec Ideal S128x1024 .f32)
    (r c : Fin 1024) :
    k0_pay1 (F := Ideal) v0 sg su sd (ix2 r c) = ∑ f : Fin 128, hid (fun d => v0 (ix2 r d)) (fun d => sg (ix2 d f)) (fun d => su (ix2 d f)) * sd (ix2 f c) := by
  unfold hid act
  pointwise [k0_pay1]

/-- The words of the gate's position agree exactly where the numbers do. -/
theorem lane_eq (k : ℕ) (hk : k < 16) (j : ℕ) (hj : j < 4) (l : Fin 64) :
    (BitVec.ofNat 32 l.val = BitVec.ofNat 32 k * 4#32 + BitVec.ofNat 32 j) ↔ l = ⟨4 * k + j, by omega⟩ := by
  have hl := l.isLt
  constructor
  · intro h
    apply Fin.ext
    have := congrArg BitVec.toNat h
    simp at this
    simp only
    omega
  · intro h
    subst h
    apply BitVec.eq_of_toNat_eq
    simp
    omega

/-- One expert's gated hidden block at an index. -/
theorem actv_apply (k : ℕ) (hk : k < 16) (j : ℕ) (hj : j < 4) (v0 : FVec Ideal S1024x1024 .bf16) (v4 : FVec Ideal S1024x64 .f32)
    (v6 v9 : FVec Ideal S1x1024x128 .f32) (r : Fin 1024) (f : Fin 128) :
    actv (BitVec.ofNat 32 k) (BitVec.ofNat 32 j) v0 v4 v6 v9 (ix2 r f)
      = hid (fun d => v0 (ix2 r d)) (fun d => v6 (ix3 0 d f)) (fun d => v9 (ix3 0 d f)) * v4 (ix2 r ⟨4 * k + j, by omega⟩) := by
  unfold hid act
  pointwise [actv]
  refine Ideal.mul_congr rfl ?_
  rw [Finset.sum_eq_single (⟨4 * k + j, by omega⟩ : Fin 64)]
  · have e : BitVec.ofNat 32 (4 * k + j) = Scalar.addi (Scalar.muli (BitVec.ofNat 32 k) 4#32) (BitVec.ofNat 32 j) :=
      (lane_eq k hk j hj ⟨4 * k + j, by omega⟩).2 rfl
    simp only [e, IntOp.cmpi, Scalar.select]
    simp
  · intro l _ hl
    have e : ¬ BitVec.ofNat 32 l.val = Scalar.addi (Scalar.muli (BitVec.ofNat 32 k) 4#32) (BitVec.ofNat 32 j) :=
      fun h => hl ((lane_eq k hk j hj l).1 h)
    simp only [IntOp.cmpi, Scalar.select, beq_eq_false_iff_ne.2 e]
    rfl
  · simp

/-- The accumulator after a pair of experts at an index. -/
theorem pairv_apply (p q : FVec Ideal S1024x128 .bf16) (w0 w1 : FVec Ideal S1x128x1024 .f32) (acc : FVec Ideal S1024x1024 .f32)
    (r c : Fin 1024) :
    pairv p q w0 w1 acc (ix2 r c)
      = acc (ix2 r c) + ((∑ f : Fin 128, p (ix2 r f) * w0 (ix3 0 f c)) + ∑ f : Fin 128, q (ix2 r f) * w1 (ix3 0 f c)) := by
  pointwise [pairv]

/-- One expert's gate or up matrix out of a block of four, and one expert's down matrix. -/
def gsl (x : FVec Ideal S4x1024x128 .f32) (off : Fin 3 → ℕ) (h : ∀ a, off a + S1x1024x128.size a ≤ S4x1024x128.size a) :
    FVec Ideal S1x1024x128 .f32 := View.ld (Val := Elt Ideal) (S := S4x1024x128) (e' := .f32) x (Rect.unit (s := S4x1024x128) off ![1, 1024, 128] h)
def dsl (x : FVec Ideal S4x128x1024 .f32) (off : Fin 3 → ℕ) (h : ∀ a, off a + S1x128x1024.size a ≤ S4x128x1024.size a) :
    FVec Ideal S1x128x1024 .f32 := View.ld (Val := Elt Ideal) (S := S4x128x1024) (e' := .f32) x (Rect.unit (s := S4x128x1024) off ![1, 128, 1024] h)

theorem gsl_apply (x : FVec Ideal S4x1024x128 .f32) (j : ℕ) (hj : j < 4) (h) (d : Fin 1024) (f : Fin 128) :
    gsl x ![j, 0, 0] h (ix3 0 d f) = x (ix3 ⟨j, hj⟩ d f) := by
  refine congrArg x ?_
  funext a
  fin_cases a <;> apply Fin.ext <;> simp [Rect.idx_unit_val] <;> rfl

theorem dsl_apply (x : FVec Ideal S4x128x1024 .f32) (j : ℕ) (hj : j < 4) (h) (f : Fin 128) (c : Fin 1024) :
    dsl x ![j, 0, 0] h (ix3 0 f c) = x (ix3 ⟨j, hj⟩ f c) := by
  refine congrArg x ?_
  funext a
  fin_cases a <;> apply Fin.ext <;> simp [Rect.idx_unit_val] <;> rfl

/-- The accumulator after one grid step: four experts, two pairs. -/
def stepv (a : BitVec 32) (x0 : FVec Ideal S1024x1024 .bf16) (x1 : FVec Ideal S1024x64 .f32) (x4 x5 : FVec Ideal S4x1024x128 .f32)
    (x6 : FVec Ideal S4x128x1024 .f32) (acc : FVec Ideal S1024x1024 .f32) : FVec Ideal S1024x1024 .f32 :=
  k0_pay7 (F := Ideal) a x1 (iota .tc S1024x64 32 [1] iota_S1024x64_d1_w32)
    (k0_pay5 (F := Ideal) a x0 x1 (iota .tc S1024x64 32 [1] iota_S1024x64_d1_w32)
      (gsl x4 ![2, 0, 0] inb_S4x1024x128_S1x1024x128_2_0_0)
      (gsl x5 ![2, 0, 0] inb_S4x1024x128_S1x1024x128_2_0_0))
    (k0_pay6 (F := Ideal) x0 (gsl x4 ![3, 0, 0] inb_S4x1024x128_S1x1024x128_3_0_0)
      (gsl x5 ![3, 0, 0] inb_S4x1024x128_S1x1024x128_3_0_0))
    4#32 (dsl x6 ![2, 0, 0] inb_S4x128x1024_S1x128x1024_2_0_0)
    (dsl x6 ![3, 0, 0] inb_S4x128x1024_S1x128x1024_3_0_0)
    (k0_pay4 (k0_pay3 (F := Ideal) a x0 x1 (iota .tc S1024x64 32 [1] iota_S1024x64_d1_w32)
      (actv a 0#32 x0 x1 (gsl x4 ![0, 0, 0] inb_S4x1024x128_S1x1024x128_0_0_0)
        (gsl x5 ![0, 0, 0] inb_S4x1024x128_S1x1024x128_0_0_0))
      (gsl x4 ![1, 0, 0] inb_S4x1024x128_S1x1024x128_1_0_0)
      (gsl x5 ![1, 0, 0] inb_S4x1024x128_S1x1024x128_1_0_0)
      (dsl x6 ![0, 0, 0] inb_S4x128x1024_S1x128x1024_0_0_0)
      (dsl x6 ![1, 0, 0] inb_S4x128x1024_S1x128x1024_1_0_0) acc))

/-- The shared expert's part of a token, from the token's row. -/
def shT (x : Fin 1024 → EReal) (sg su : FVec Ideal S1024x128 .f32) (sd : FVec Ideal S128x1024 .f32) (c : Fin 1024) : EReal :=
  ∑ f : Fin 128, hid x (fun d => sg (ix2 d f)) (fun d => su (ix2 d f)) * sd (ix2 f c)

/-- Expert `e`'s gated part of a token, the gate inside the sum; zero past the last expert. -/
def exT (x : Fin 1024 → EReal) (g : Fin 64 → EReal) (wg wu : FVec Ideal S64x1024x128 .f32) (wd : FVec Ideal S64x128x1024 .f32)
    (e : ℕ) (c : Fin 1024) : EReal :=
  if h : e < 64 then
    ∑ f : Fin 128, hid x (fun d => wg (ix3 ⟨e, h⟩ d f)) (fun d => wu (ix3 ⟨e, h⟩ d f)) * g ⟨e, h⟩ * wd (ix3 ⟨e, h⟩ f c)
  else 0

/-- One grid step at an index: the accumulator and the four experts `4 * k + j`. -/
theorem stepv_apply (k : ℕ) (hk : k < 16) (x0 : FVec Ideal S1024x1024 .bf16) (x1 : FVec Ideal S1024x64 .f32)
    (x4 x5 : FVec Ideal S4x1024x128 .f32) (x6 : FVec Ideal S4x128x1024 .f32) (acc : FVec Ideal S1024x1024 .f32)
    (wg wu : FVec Ideal S64x1024x128 .f32) (wd : FVec Ideal S64x128x1024 .f32)
    (hg : ∀ (j : Fin 4) (d : Fin 1024) (f : Fin 128), x4 (ix3 j d f) = wg (ix3 ⟨4 * k + j.val, by omega⟩ d f))
    (hu : ∀ (j : Fin 4) (d : Fin 1024) (f : Fin 128), x5 (ix3 j d f) = wu (ix3 ⟨4 * k + j.val, by omega⟩ d f))
    (hd : ∀ (j : Fin 4) (f : Fin 128) (c : Fin 1024), x6 (ix3 j f c) = wd (ix3 ⟨4 * k + j.val, by omega⟩ f c))
    (r c : Fin 1024) :
    stepv (BitVec.ofNat 32 k) x0 x1 x4 x5 x6 acc (ix2 r c)
      = acc (ix2 r c) + ∑ e ∈ Finset.range 4, exT (fun d => x0 (ix2 r d)) (fun l => x1 (ix2 r l)) wg wu wd (4 * k + e) c := by
  unfold stepv
  rw [pay7_eq, pay3_eq, pay5_eq]
  unfold k0_pay4
  simp only [shapeCast_self]
  rw [pairv_apply, pairv_apply]
  simp only [actv_apply k hk 0 (by decide), actv_apply k hk 1 (by decide), actv_apply k hk 2 (by decide), actv_apply k hk 3 (by decide)]
  have e0 : 4 * k + 0 < 64 := by omega
  have e1 : 4 * k + 1 < 64 := by omega
  have e2 : 4 * k + 2 < 64 := by omega
  have e3 : 4 * k + 3 < 64 := by omega
  simp only [Finset.sum_range_succ, Finset.sum_range_zero, exT, dif_pos e0, dif_pos e1, dif_pos e2, dif_pos e3]
  simp only [gsl_apply _ 0 (by decide), gsl_apply _ 1 (by decide), gsl_apply _ 2 (by decide), gsl_apply _ 3 (by decide),
    dsl_apply _ 0 (by decide), dsl_apply _ 1 (by decide), dsl_apply _ 2 (by decide), dsl_apply _ 3 (by decide), hg, hu, hd,
    zero_add, add_assoc]

/-- The two ways of writing the activation agree. -/
theorem act_eq (z : EReal) : z * Ideal.div 1 (1 + Ideal.exp (-z)) = act z := by
  unfold act
  rw [zero_sub]
  have h : (1 : EReal) + Ideal.exp (-z) ≠ 0 := (add_pos_of_pos_of_nonneg one_pos (exp_nonneg _)).ne'
  unfold Ideal.div
  rw [if_neg h, if_neg h, one_mul]

/-- The layer norm of a row, as the kernel computes it. -/
def lnorm (z g b : Fin 1024 → EReal) (c : Fin 1024) : EReal :=
  have mu : EReal := Ideal.div (∑ k : Fin 1024, z k) (Ideal.ofBits .f32 0x44800000#32)
  (z c - mu) * Ideal.rsqrt (Ideal.div (∑ k : Fin 1024, (z k - mu) * (z k - mu)) (Ideal.ofBits .f32 0x44800000#32)
    + Ideal.ofBits .f32 0x358637BD#32) * g c + b c

theorem pay8_apply (y : FVec Ideal S1024x1024 .f32) (md : FVec Ideal S1x1x1x1024 .f32) (acc : FVec Ideal S1024x1024 .f32)
    (g b : FVec Ideal S1x1024 .f32) (r c : Fin 1024) :
    k0_pay8 (F := Ideal) y md acc g b (ix2 r c)
      = lnorm (fun k => Ideal.ofBits .f32 0x3FB504F3#32 * y (ix2 r k) + md (ix4 0 0 0 k) * acc (ix2 r k))
          (fun k => g (ix2 0 k)) (fun k => b (ix2 0 k)) c := by
  unfold lnorm
  pointwise [k0_pay8]

end Cert.Moe

end
-- ==== Proof.MoeRun.lean ====
/- The accumulator of a mixture-of-experts call along its grid, whatever the number of tokens. -/
module

public import proofs.«01_k».proof.Proof.MoePay

@[expose] public section

set_option maxRecDepth 16384

noncomputable section

namespace Cert.Moe

open Idealize.ShloMosaic Cert.KernelIdeal Cert.KernelIdeal.Gen

/-- A token's first `n` experts on top of its shared expert. -/
def partT (x : Fin 1024 → EReal) (g : Fin 64 → EReal) (sg su : FVec Ideal S1024x128 .f32) (sd : FVec Ideal S128x1024 .f32)
    (wg wu : FVec Ideal S64x1024x128 .f32) (wd : FVec Ideal S64x128x1024 .f32) (n : ℕ) (C : Fin 1024) : EReal :=
  shT x sg su sd C + ∑ e ∈ Finset.range n, exT x g wg wu wd e C

/-- The residual stream of a token at a place, before the layer norm. -/
def zT (y md f : Fin 1024 → EReal) (K : Fin 1024) : EReal := Ideal.ofBits .f32 0x3FB504F3#32 * y K + md K * f K

/-- The blocks a call reads at its `N` grid points, sixteen to a run, and the arrays they are cut from: run `q` has the
tokens' rows `rx q` and the gates' rows `rg q`, and step `k` of a run has the experts `4 k` to `4 k + 3`. -/
structure Feed (N : ℕ) where
  x0 : Fin N → FVec Ideal S1024x1024 .bf16
  x1 : Fin N → FVec Ideal S1024x64 .f32
  x4 : Fin N → FVec Ideal S4x1024x128 .f32
  x5 : Fin N → FVec Ideal S4x1024x128 .f32
  x6 : Fin N → FVec Ideal S4x128x1024 .f32
  first : Fin N → FVec Ideal S1024x1024 .f32
  rx : ℕ → Fin 1024 → Fin 1024 → EReal
  rg : ℕ → Fin 1024 → Fin 64 → EReal
  sg : FVec Ideal S1024x128 .f32
  su : FVec Ideal S1024x128 .f32
  sd : FVec Ideal S128x1024 .f32
  wg : FVec Ideal S64x1024x128 .f32
  wu : FVec Ideal S64x1024x128 .f32
  wd : FVec Ideal S64x128x1024 .f32
  hx : ∀ t r d, x0 t (ix2 r d) = rx (t.val / 16) r d
  hg : ∀ t r l, x1 t (ix2 r l) = rg (t.val / 16) r l
  h4 : ∀ t (j : Fin 4) d f, x4 t (ix3 j d f) = wg (ix3 ⟨4 * (t.val % 16) + j.val, by omega⟩ d f)
  h5 : ∀ t (j : Fin 4) d f, x5 t (ix3 j d f) = wu (ix3 ⟨4 * (t.val % 16) + j.val, by omega⟩ d f)
  h6 : ∀ t (j : Fin 4) f d, x6 t (ix3 j f d) = wd (ix3 ⟨4 * (t.val % 16) + j.val, by omega⟩ f d)
  hf : ∀ t r C, first t (ix2 r C) = shT (rx (t.val / 16) r) sg su sd C

variable {N : ℕ} (S : Feed N)

/-- The first `n` experts of row `r` of run `q`. -/
def Feed.part (q : ℕ) (r : Fin 1024) (n : ℕ) (C : Fin 1024) : EReal := partT (S.rx q r) (S.rg q r) S.sg S.su S.sd S.wg S.wu S.wd n C

/-- The accumulator after the step of point `t`. -/
def Feed.step (t : Fin N) (acc : FVec Ideal S1024x1024 .f32) : FVec Ideal S1024x1024 .f32 :=
  stepv (BitVec.ofNat 32 (t.val % 16)) (S.x0 t) (S.x1 t) (S.x4 t) (S.x5 t) (S.x6 t) acc

/-- One grid step adds its four experts to the accumulator. -/
theorem Feed.step_at (t : Fin N) (acc : FVec Ideal S1024x1024 .f32) (r C : Fin 1024)
    (hacc : acc (ix2 r C) = S.part (t.val / 16) r (4 * (t.val % 16)) C) :
    S.step t acc (ix2 r C) = S.part (t.val / 16) r (4 * (t.val % 16) + 4) C := by
  unfold Feed.step
  rw [stepv_apply (t.val % 16) (by omega) _ _ _ _ _ _ S.wg S.wu S.wd (fun j d f => S.h4 t j d f) (fun j d f => S.h5 t j d f)
    (fun j f d => S.h6 t j f d)]
  simp only [S.hx, S.hg]
  rw [hacc]
  unfold Feed.part partT
  rw [Finset.sum_range_add, add_assoc]

/-- The accumulator after a point that is not the last of its run holds the experts so far. -/
theorem Feed.run_at (A : (n : ℕ) → n < N → FVec Ideal S1024x1024 .f32)
    (h0 : ∀ t : Fin N, t.val % 16 = 0 → A t.val t.isLt = S.step t (S.first t))
    (h1 : ∀ (n : ℕ) (h : n + 1 < N), ¬(n + 1) % 16 = 0 → ¬(n + 1) % 16 = 15 → A (n + 1) h = S.step ⟨n + 1, h⟩ (A n (by omega)))
    (r C : Fin 1024) : ∀ (n : ℕ) (h : n < N), ¬n % 16 = 15 → A n h (ix2 r C) = S.part (n / 16) r (4 * (n % 16) + 4) C := by
  have start : ∀ t : Fin N, t.val % 16 = 0 → A t.val t.isLt (ix2 r C) = S.part (t.val / 16) r (4 * (t.val % 16) + 4) C := by
    intro t ht
    rw [h0 t ht]
    apply S.step_at
    rw [S.hf, ht]
    unfold Feed.part partT
    rw [Nat.mul_zero, Finset.sum_range_zero, add_zero]
  intro n
  induction n with
  | zero => exact fun h _ => start ⟨0, h⟩ rfl
  | succ n ih =>
    intro h hl
    by_cases hz : (n + 1) % 16 = 0
    · exact start ⟨n + 1, h⟩ hz
    · rw [h1 n h hz hl]
      apply S.step_at
      rw [ih (by omega) (by omega)]
      have e : (n + 1) / 16 = n / 16 ∧ (n + 1) % 16 = n % 16 + 1 := by omega
      show S.part (n / 16) r (4 * (n % 16) + 4) C = S.part ((n + 1) / 16) r (4 * ((n + 1) % 16)) C
      rw [e.1, e.2, Nat.mul_add]

/-- The step of a run's last point completes the sum over the sixty-four experts. -/
theorem Feed.last_at (A : (n : ℕ) → n < N → FVec Ideal S1024x1024 .f32)
    (h0 : ∀ t : Fin N, t.val % 16 = 0 → A t.val t.isLt = S.step t (S.first t))
    (h1 : ∀ (n : ℕ) (h : n + 1 < N), ¬(n + 1) % 16 = 0 → ¬(n + 1) % 16 = 15 → A (n + 1) h = S.step ⟨n + 1, h⟩ (A n (by omega)))
    (r C : Fin 1024) (q : ℕ) (h : 16 * q + 15 < N) :
    S.step ⟨16 * q + 15, h⟩ (A (16 * q + 14) (by omega)) (ix2 r C) = S.part q r 64 C := by
  have e : (16 * q + 15) / 16 = q ∧ (16 * q + 15) % 16 = 15 ∧ (16 * q + 14) / 16 = q ∧ (16 * q + 14) % 16 = 14 := by omega
  rw [S.step_at]
  · show S.part ((16 * q + 15) / 16) r (4 * ((16 * q + 15) % 16) + 4) C = _
    rw [e.1, e.2.1]
  · rw [S.run_at A h0 h1 r C _ _ (by omega)]
    show S.part ((16 * q + 14) / 16) r (4 * ((16 * q + 14) % 16) + 4) C = S.part ((16 * q + 15) / 16) r (4 * ((16 * q + 15) % 16)) C
    rw [e.1, e.2.1, e.2.2.1, e.2.2.2]

end Cert.Moe

end
-- ==== Proof.MoeStep.lean ====
/- The accumulator of the mixture-of-experts call after each grid point. -/
module

public import proofs.«01_k».proof.Proof.Gen.KernelIdeal.Value
public import proofs.«01_k».proof.Proof.MoeRun
public import Idealize.ShloMosaic.Lib.Pipeline.ValueKit
public import Idealize.ShloMosaic.Lib.Pipeline.ReadBack

@[expose] public section

set_option maxRecDepth 16384

noncomputable section

namespace Cert.Moe.Large

open Idealize.ShloMosaic Idealize.ShloMosaic.TcCoe Idealize.SL.Sem
open Idealize.ShloMosaic.Pipeline (Dat)
open Cert.KernelIdeal Cert.KernelIdeal.Gen Cert.KernelIdeal.Value Cert.Moe

variable (m : (ℓ : Loc nD τ sig) → Buf (Elt Ideal) ℓ)

/-- The inner grid coordinate of a point, and the window of every block at a point. -/
theorem coord1 : ∀ t : Fin cfg0.N, (grid0.coords t 1).val = t.val % 16 := by decide +kernel

/-- The accumulator after one grid step that is neither first nor last of its run. -/
theorem st_B (c : Dev nD) (t : Fin cfg0.N) (acc : FVec Ideal S1024x1024 .f32 × FVec Ideal S1024x1024 .f32)
    (h0 : ¬t.val % 16 = 0) (h1 : ¬t.val % 16 = 15) :
    (stAt0 m c t.val t.isLt acc).2
      = stepv (BitVec.ofNat 32 (t.val % 16)) (iblk m c 0 t) (iblk m c 1 t) (iblk m c 4 t) (iblk m c 5 t) (iblk m c 6 t) acc.2 := by
  rw [← coord1 t]
  funext y
  rw [stAt0_B m c t acc h0 h1]
  frame_out
  simp only [read_unread_whole]
  rfl

theorem st_A (c : Dev nD) (t : Fin cfg0.N) (acc : FVec Ideal S1024x1024 .f32 × FVec Ideal S1024x1024 .f32)
    (h0 : t.val % 16 = 0) (h1 : ¬t.val % 16 = 15) :
    (stAt0 m c t.val t.isLt acc).2
      = stepv (BitVec.ofNat 32 (t.val % 16)) (iblk m c 0 t) (iblk m c 1 t) (iblk m c 4 t) (iblk m c 5 t) (iblk m c 6 t)
          (k0_pay1 (F := Ideal) (iblk m c 0 t) (iblk m c 7 t) (iblk m c 8 t) (iblk m c 9 t)) := by
  rw [← coord1 t]
  funext y
  rw [stAt0_A m c t acc h0 h1]
  frame_out
  rfl

theorem st_C (c : Dev nD) (t : Fin cfg0.N) (acc : FVec Ideal S1024x1024 .f32 × FVec Ideal S1024x1024 .f32)
    (h0 : ¬t.val % 16 = 0) (h1 : t.val % 16 = 15) (y) :
    (stAt0 m c t.val t.isLt acc).1 y
      = k0_pay8 (F := Ideal) (iblk m c 2 t) (View.ld (iblk m c 3 t) (Rect.unit ![5, 0, 0, 0] ![1, 1, 1, 1024] inb_S6x1x1x1024_S1x1x1x1024_5_0_0_0))
          (stepv (BitVec.ofNat 32 (t.val % 16)) (iblk m c 0 t) (iblk m c 1 t) (iblk m c 4 t) (iblk m c 5 t) (iblk m c 6 t) acc.2)
          (iblk m c 10 t) (iblk m c 11 t) y := by
  rw [← coord1 t]
  rw [stAt0_C m c t acc h0 h1]
  frame_out
  simp only [read_unread_whole]
  rfl

/-! ## The blocks, as the argument arrays -/

theorem idx0 : ∀ t : Fin grid0.N, win0_0.index t = ![t.val / 16, 0] := by decide +kernel
theorem idx1 : ∀ t : Fin grid0.N, win0_1.index t = ![t.val / 16, 0] := by decide +kernel
theorem idx2 : ∀ t : Fin grid0.N, win0_2.index t = ![t.val / 16, 0] := by decide +kernel
theorem idx3 : ∀ t : Fin grid0.N, win0_3.index t = ![0, 1 + t.val / 64, 0, 0] := by decide +kernel
theorem idx4 : ∀ t : Fin grid0.N, win0_4.index t = ![t.val % 16, 0, 0] := by decide +kernel
theorem idx5 : ∀ t : Fin grid0.N, win0_5.index t = ![t.val % 16, 0, 0] := by decide +kernel
theorem idx6 : ∀ t : Fin grid0.N, win0_6.index t = ![t.val % 16, 0, 0] := by decide +kernel

theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel

theorem pt_lt (t : Fin cfg0.N) : t.val < 128 := t.isLt

/-- The arguments of the call, as arrays. -/
abbrev a0 (c : Dev nD) : FVec Ideal S8192x1024 .bf16 := m ((c : Thread nD τ).loc main_arg0)
abbrev a1 (c : Dev nD) : FVec Ideal S8192x64 .f32 := m ((c : Thread nD τ).loc main_arg1)
abbrev a2 (c : Dev nD) : FVec Ideal S8192x1024 .f32 := m ((c : Thread nD τ).loc main_arg2)
abbrev a3 (c : Dev nD) : FVec Ideal S6x8x1x1024 .f32 := m ((c : Thread nD τ).loc main_arg3)
abbrev a4 (c : Dev nD) : FVec Ideal S64x1024x128 .f32 := m ((c : Thread nD τ).loc main_arg4)
abbrev a5 (c : Dev nD) : FVec Ideal S64x1024x128 .f32 := m ((c : Thread nD τ).loc main_arg5)
abbrev a6 (c : Dev nD) : FVec Ideal S64x128x1024 .f32 := m ((c : Thread nD τ).loc main_arg6)
abbrev a7 (c : Dev nD) : FVec Ideal S1024x128 .f32 := m ((c : Thread nD τ).loc main_arg7)
abbrev a8 (c : Dev nD) : FVec Ideal S1024x128 .f32 := m ((c : Thread nD τ).loc main_arg8)
abbrev a9 (c : Dev nD) : FVec Ideal S128x1024 .f32 := m ((c : Thread nD τ).loc main_arg9)
abbrev a10 (c : Dev nD) : FVec Ideal S1x1024 .f32 := m ((c : Thread nD τ).loc main_arg10)
abbrev a11 (c : Dev nD) : FVec Ideal S1x1024 .f32 := m ((c : Thread nD τ).loc main_arg11)

/-- The token a row of a point's block is. -/
def tok (t : Fin cfg0.N) (r : Fin 1024) : Fin 8192 := ⟨1024 * (t.val / 16) + r.val, by have := pt_lt t; omega⟩

/-- The run of a point. -/
theorem run_lt (t : Fin cfg0.N) : t.val / 16 < 8 := by have := pt_lt t; omega

theorem blk0 (c : Dev nD) (t : Fin cfg0.N) (r d : Fin 1024) : iblk m c 0 t (ix2 r d) = a0 m c (ix2 (tok t r) d) := by
  unfold tok
  blk_ext [iblk, V, idx0 t]
theorem blk1 (c : Dev nD) (t : Fin cfg0.N) (r : Fin 1024) (l : Fin 64) : iblk m c 1 t (ix2 r l) = a1 m c (ix2 (tok t r) l) := by
  unfold tok
  blk_ext [iblk, V, idx1 t]
theorem blk2 (c : Dev nD) (t : Fin cfg0.N) (r d : Fin 1024) : iblk m c 2 t (ix2 r d) = a2 m c (ix2 (tok t r) d) := by
  unfold tok
  blk_ext [iblk, V, idx2 t]
theorem blk3 (c : Dev nD) (t : Fin cfg0.N) (d : Fin 1024) :
    iblk m c 3 t (ix4 5 0 0 d) = a3 m c (ix4 5 ⟨1 + t.val / 64, by have := pt_lt t; omega⟩ 0 d) := by
  blk_ext [iblk, V, idx3 t]
theorem blk3_5 (c : Dev nD) (t : Fin cfg0.N) (d : Fin 1024) :
    (View.ld (Val := Elt Ideal) (S := S6x1x1x1024) (e' := .f32) (iblk m c 3 t)
        (Rect.unit ![5, 0, 0, 0] ![1, 1, 1, 1024] inb_S6x1x1x1024_S1x1x1x1024_5_0_0_0) : FVec Ideal S1x1x1x1024 .f32) (ix4 0 0 0 d)
      = a3 m c (ix4 5 ⟨1 + t.val / 64, by have := pt_lt t; omega⟩ 0 d) :=
  (View.ld_unit_apply_of (iblk m c 3 t) ![5, 0, 0, 0] ![1, 1, 1, 1024] inb_S6x1x1x1024_S1x1x1x1024_5_0_0_0 (ix4 0 0 0 d) (ix4 5 0 0 d)
    (by intro a; fin_cases a <;> simp <;> rfl)).trans (blk3 m c t d)
theorem blk4 (c : Dev nD) (t : Fin cfg0.N) (j : Fin 4) (d : Fin 1024) (f : Fin 128) :
    iblk m c 4 t (ix3 j d f) = a4 m c (ix3 ⟨4 * (t.val % 16) + j.val, by omega⟩ d f) := by
  blk_ext [iblk, V, idx4 t]
theorem blk5 (c : Dev nD) (t : Fin cfg0.N) (j : Fin 4) (d : Fin 1024) (f : Fin 128) :
    iblk m c 5 t (ix3 j d f) = a5 m c (ix3 ⟨4 * (t.val % 16) + j.val, by omega⟩ d f) := by
  blk_ext [iblk, V, idx5 t]
theorem blk6 (c : Dev nD) (t : Fin cfg0.N) (j : Fin 4) (f : Fin 128) (d : Fin 1024) :
    iblk m c 6 t (ix3 j f d) = a6 m c (ix3 ⟨4 * (t.val % 16) + j.val, by omega⟩ f d) := by
  blk_ext [iblk, V, idx6 t]
theorem blk7 (c : Dev nD) (t : Fin cfg0.N) (d : Fin 1024) (f : Fin 128) : iblk m c 7 t (ix2 d f) = a7 m c (ix2 d f) := by
  blk_ext [iblk, V, idx7 t]
theorem blk8 (c : Dev nD) (t : Fin cfg0.N) (d : Fin 1024) (f : Fin 128) : iblk m c 8 t (ix2 d f) = a8 m c (ix2 d f) := by
  blk_ext [iblk, V, idx8 t]
theorem blk9 (c : Dev nD) (t : Fin cfg0.N) (f : Fin 128) (d : Fin 1024) : iblk m c 9 t (ix2 f d) = a9 m c (ix2 f d) := by
  blk_ext [iblk, V, idx9 t]
theorem blk10 (c : Dev nD) (t : Fin cfg0.N) (d : Fin 1024) : iblk m c 10 t (ix2 0 d) = a10 m c (ix2 0 d) := by
  blk_ext [iblk, V, idx10 t]
theorem blk11 (c : Dev nD) (t : Fin cfg0.N) (d : Fin 1024) : iblk m c 11 t (ix2 0 d) = a11 m c (ix2 0 d) := by
  blk_ext [iblk, V, idx11 t]

/-! ## The accumulator along a run -/

/-- The call's blocks and the arrays they are cut from. -/
def feed (c : Dev nD) : Feed cfg0.N where
  x0 t := iblk m c 0 t
  x1 t := iblk m c 1 t
  x4 t := iblk m c 4 t
  x5 t := iblk m c 5 t
  x6 t := iblk m c 6 t
  first t := k0_pay1 (F := Ideal) (iblk m c 0 t) (iblk m c 7 t) (iblk m c 8 t) (iblk m c 9 t)
  rx q r d := if h : q < 8 then a0 m c (ix2 ⟨1024 * q + r.val, by omega⟩ d) else 0
  rg q r l := if h : q < 8 then a1 m c (ix2 ⟨1024 * q + r.val, by omega⟩ l) else 0
  sg := a7 m c
  su := a8 m c
  sd := a9 m c
  wg := a4 m c
  wu := a5 m c
  wd := a6 m c
  hx t r d := by rw [dif_pos (run_lt t)]; exact blk0 m c t r d
  hg t r l := by rw [dif_pos (run_lt t)]; exact blk1 m c t r l
  h4 t j d f := blk4 m c t j d f
  h5 t j d f := blk5 m c t j d f
  h6 t j f d := blk6 m c t j f d
  hf t r C := by
    rw [pay1_apply]
    simp only [dif_pos (run_lt t), blk0, blk7, blk8, blk9]
    rfl

/-- Every grid point leaves its step's result over something. -/
theorem outs_step (c : Dev nD) (n : ℕ) (h : n < cfg0.N) : ∃ acc, outsAt0 m c n h = stAt0 m c n h acc := by
  cases n with
  | zero => exact ⟨_, outsAt0_zero m c h⟩
  | succ n => exact ⟨_, rfl⟩

theorem outs_first (c : Dev nD) (t : Fin cfg0.N) (h : t.val % 16 = 0) :
    (outsAt0 m c t.val t.isLt).2 = (feed m c).step t ((feed m c).first t) := by
  obtain ⟨acc, ha⟩ := outs_step m c t.val t.isLt
  rw [ha]
  exact st_A m c t acc h (by omega)

theorem outs_next (c : Dev nD) (n : ℕ) (h : n + 1 < cfg0.N) (h0 : ¬(n + 1) % 16 = 0) (h1 : ¬(n + 1) % 16 = 15) :
    (outsAt0 m c (n + 1) h).2 = (feed m c).step ⟨n + 1, h⟩ (outsAt0 m c n (by omega)).2 :=
  st_B m c ⟨n + 1, h⟩ (outsAt0 m c n (by omega)) h0 h1

/-- All experts of a token, as the mixture computes them. -/
def mix (c : Dev nD) (R : Fin 8192) (K : Fin 1024) : EReal :=
  partT (fun d => a0 m c (ix2 R d)) (fun l => a1 m c (ix2 R l)) (a7 m c) (a8 m c) (a9 m c) (a4 m c) (a5 m c) (a6 m c) 64 K

/-- The residual stream of a token, before the layer norm. -/
def zrow (c : Dev nD) (R : Fin 8192) (b : Fin 8) : Fin 1024 → EReal :=
  zT (fun K => a2 m c (ix2 R K)) (fun K => a3 m c (ix4 5 b 0 K)) (mix m c R)

/-- What the last step of run `q` leaves for the output. -/
theorem last_at (c : Dev nD) (q : ℕ) (hq : q < 8) (r C : Fin 1024) (h : 16 * q + 15 < cfg0.N) :
    (outsAt0 m c (16 * q + 15) h).1 (ix2 r C)
      = lnorm (zrow m c ⟨1024 * q + r.val, by omega⟩ ⟨1 + q / 4, by omega⟩) (fun k => a10 m c (ix2 0 k)) (fun k => a11 m c (ix2 0 k)) C := by
  have hN : (16 * q + 15) / 16 = q ∧ (16 * q + 15) % 16 = 15 ∧ (16 * q + 15) / 64 = q / 4 := by omega
  have ht : tok ⟨16 * q + 15, h⟩ r = ⟨1024 * q + r.val, by omega⟩ := by
    apply Fin.ext; show 1024 * ((16 * q + 15) / 16) + r.val = _; rw [hN.1]
  have hb : (⟨1 + (16 * q + 15) / 64, by omega⟩ : Fin 8) = ⟨1 + q / 4, by omega⟩ := by
    apply Fin.ext; show 1 + (16 * q + 15) / 64 = _; rw [hN.2.2]
  have hs : ∀ K, (feed m c).step ⟨16 * q + 15, h⟩ (outsAt0 m c (16 * q + 14) (by omega)).2 (ix2 r K)
      = mix m c ⟨1024 * q + r.val, by omega⟩ K := by
    intro K
    refine ((feed m c).last_at (fun n hn => (outsAt0 m c n hn).2) (outs_first m c) (outs_next m c) r K q h).trans ?_
    unfold Feed.part mix feed
    simp only [dif_pos hq]
  refine (st_C m c ⟨16 * q + 15, h⟩ (outsAt0 m c (16 * q + 14) (by omega)) (by show ¬(16 * q + 15) % 16 = 0; omega) hN.2.1 (ix2 r C)).trans ?_
  rw [pay8_apply]
  have hs' := hs
  unfold Feed.step feed at hs'
  simp only [blk2, blk3_5, blk10, blk11, ht]
  simp only [hs', hb]
  rfl

/-- The result of the call at an index: the layer norm of the residual stream and the gated mixture. -/
theorem G12_apply (c : Dev nD) (R : Fin 8192) (C : Fin 1024) :
    G12 m c (ix2 R C)
      = lnorm (zrow m c R ⟨1 + R.val / 4096, by omega⟩) (fun k => a10 m c (ix2 0 k)) (fun k => a11 m c (ix2 0 k)) C := by
  have hp : pt12Of (ix2 R C) = 16 * (R.val / 1024) + 15 := by
    show 16 * (1 * (R.val / 1024 - 0) + 1 * (C.val / 1024 - 0)) + 15 = _
    omega
  have hq : R.val / 1024 < 8 := by omega
  have hlt : pt12Of (ix2 R C) < cfg0.N := by rw [hp, show cfg0.N = 128 from N_0]; omega
  have key : ∀ (n : ℕ) (hn : n < cfg0.N) (r : Fin 1024), n = 16 * (R.val / 1024) + 15 → r.val = R.val % 1024 →
      (outsAt0 m c n hn).1 (ix2 r C)
        = lnorm (zrow m c R ⟨1 + R.val / 4096, by omega⟩) (fun k => a10 m c (ix2 0 k)) (fun k => a11 m c (ix2 0 k)) C := by
    intro n hn r en er
    subst en
    rw [last_at m c (R.val / 1024) hq r C hn]
    have e1 : (⟨1024 * (R.val / 1024) + r.val, by omega⟩ : Fin 8192) = R := Fin.ext (by show 1024 * (R.val / 1024) + r.val = R.val; omega)
    have e2 : (⟨1 + R.val / 1024 / 4, by omega⟩ : Fin 8) = ⟨1 + R.val / 4096, by omega⟩ := Fin.ext (by show 1 + R.val / 1024 / 4 = 1 + R.val / 4096; omega)
    rw [e1, e2]
  have hloc : loc12Of (ix2 R C) = ix2 (⟨R.val % 1024, by omega⟩ : Fin 1024) C := by
    funext a
    fin_cases a
    · exact Fin.ext rfl
    · exact Fin.ext (Nat.mod_eq_of_lt C.isLt)
  unfold G12
  rw [dif_pos hlt, ← outsAt0_sweep m c _ hlt, hloc]
  exact key _ hlt _ hp rfl

end Cert.Moe.Large

end
-- ==== Proof.MoeRef.lean ====
/- The mixture-of-experts reference read at an index. -/
module

public import proofs.«01_k».proof.Proof.Gen.ReferenceIdeal.Read
public import proofs.«01_k».proof.Proof.MoePay
public import proofs.«01_k».proof.Proof.Numbers
public import proofs.«01_k».proof.Pre_gates_ok

@[expose] public section

set_option maxRecDepth 16384

noncomputable section

namespace Cert.Moe.Large

open Idealize.ShloMosaic Idealize.ShloMosaic.TcCoe Idealize.SL.Sem
open Cert.ReferenceIdeal Cert.ReferenceIdeal.Read Cert.Moe

variable (x0 : FVec Ideal S8192x1024 .bf16) (x1 : FVec Ideal S8192x64 .f32) (x2 : FVec Ideal S8192x1024 .f32)
  (x3 : FVec Ideal S6x8x1x1024 .f32) (x4 x5 : FVec Ideal S64x1024x128 .f32) (x6 : FVec Ideal S64x128x1024 .f32)
  (x7 x8 : FVec Ideal S1024x128 .f32) (x9 : FVec Ideal S128x1024 .f32) (x10 x11 : FVec Ideal S1x1024 .f32)

/-- One hidden unit of one expert in the reference. -/
theorem ref_v6 (e : Fin 64) (t : Fin 8192) (f : Fin 128) :
    val_main_v6 (F := Ideal) x0 x4 x5 (ix3 e t f)
      = hid (fun d => x0 (ix2 t d)) (fun d => x4 (ix3 e d f)) (fun d => x5 (ix3 e d f)) := by
  unfold hid
  rw [← act_eq]
  simp only [mul_comm (x0 _)]
  pointwise [val_main_v6, val_main_v3, val_main_call0_v5, val_main_call0_v4, val_main_call0_v3, val_main_call0_v2, val_main_call0_v1, val_main_call0_v0,
    val_main_v2, val_main_v5, val_main_v1, val_main_v4, val_main_v0, val_main_call0_cst, val_main_call0_cst_0]

theorem ref_v12 (t : Fin 8192) (C : Fin 1024) :
    val_main_v12 (F := Ideal) x0 x1 x4 x5 x6 (ix2 t C)
      = ∑ e : Fin 64, x1 (ix2 t e) * ∑ f : Fin 128, val_main_v6 (F := Ideal) x0 x4 x5 (ix3 e t f) * x6 (ix3 e f C) := by
  pointwise [val_main_v12, val_main_v11, val_main_v10, val_main_v9, val_main_v8, val_main_v7, val_main_cst]

theorem ref_v17 (t : Fin 8192) (C : Fin 1024) :
    val_main_v17 (F := Ideal) x0 x7 x8 x9 (ix2 t C) = shT (fun d => x0 (ix2 t d)) x7 x8 x9 C := by
  unfold shT hid
  simp only [← act_eq]
  pointwise [val_main_v17, val_main_v16, val_main_v15, val_main_v14, val_main_call1_v5, val_main_call1_v4, val_main_call1_v3, val_main_call1_v2,
    val_main_call1_v1, val_main_call1_v0, val_main_v13, val_main_v0, val_main_call1_cst, val_main_call1_cst_0]

theorem ref_v27 (b : Fin 2) (s : Fin 4096) (K : Fin 1024) :
    val_main_v27 (F := Ideal) x0 x1 x2 x3 x4 x5 x6 x7 x8 x9 (ix3 b s K)
      = Ideal.ofBits .f32 0x3FB504F3#32 * x2 (ix2 ⟨b.val * 4096 + s.val, by omega⟩ K)
        + x3 (ix4 5 ⟨1 + b.val, by omega⟩ 0 K)
          * (val_main_v12 (F := Ideal) x0 x1 x4 x5 x6 (ix2 ⟨b.val * 4096 + s.val, by omega⟩ K)
            + val_main_v17 (F := Ideal) x0 x7 x8 x9 (ix2 ⟨b.val * 4096 + s.val, by omega⟩ K)) := by
  pointwise [val_main_v27, val_main_v26, val_main_v25, val_main_v24, val_main_v23, val_main_v22, val_main_v21, val_main_v20, val_main_v19,
    val_main_v18, val_main_cst_0]

theorem ref_out (R : Fin 8192) (C : Fin 1024) :
    val_main_v54 (F := Ideal) x0 x1 x2 x3 x4 x5 x6 x7 x8 x9 x10 x11 (ix2 R C)
      = lnorm (fun K => val_main_v27 (F := Ideal) x0 x1 x2 x3 x4 x5 x6 x7 x8 x9 (ix3 ⟨R.val / 4096, by omega⟩ ⟨R.val % 4096, by omega⟩ K))
          (fun k => x10 (ix2 0 k)) (fun k => x11 (ix2 0 k)) C := by
  unfold lnorm
  pointwise [val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_cst_1, val_main_cst_2,
    val_main_cst_3, val_main_cst_4, val_main_cst_5]

/-- The reference's sum over the experts is the kernel's, where the gates are nonnegative numbers. -/
theorem ref_sum (hx : ∀ t e, 0 ≤ x1 (ix2 t e) ∧ x1 (ix2 t e) ≠ ⊤) (t : Fin 8192) (C : Fin 1024) :
    val_main_v12 (F := Ideal) x0 x1 x4 x5 x6 (ix2 t C)
      = ∑ e ∈ Finset.range 64, exT (fun d => x0 (ix2 t d)) (fun l => x1 (ix2 t l)) x4 x5 x6 e C := by
  rw [ref_v12, Finset.sum_range]
  refine Finset.sum_congr rfl fun e _ => ?_
  rw [exT, dif_pos e.isLt, mul_sum_of_nonneg (hx t e).1 (hx t e).2]
  refine Finset.sum_congr rfl fun f _ => ?_
  rw [ref_v6, ← mul_assoc, mul_comm (x1 _)]

/-- The gates of the precondition are nonnegative numbers. -/
theorem gates_of_pre [Cert.Pre_gates_ok.Facts] (h : Cert.Pre_gates_ok.fn (F := Ideal) x0 x1 x2 x3 x4 x5 x6 x7 x8 x9 x10 x11 = fun _ => 1#1)
    (t : Fin 8192) (e : Fin 64) : 0 ≤ x1 (ix2 t e) ∧ x1 (ix2 t e) ≠ ⊤ := by
  have h' := congrFun h (ix2 t e)
  unfold Cert.Pre_gates_ok.fn at h'
  exact of_cmp_and h'

end Cert.Moe.Large

end
-- ==== Proof.MoeTie.lean ====
/- The mixture-of-experts kernel and its reference have one value. -/
module

public import proofs.«01_k».proof.Proof.MoeStep
public import proofs.«01_k».proof.Proof.MoeRef

@[expose] public section

noncomputable section

namespace Cert.Moe.Large

open Idealize.ShloMosaic Idealize.ShloMosaic.TcCoe Idealize.SL.Sem
open Cert.KernelIdeal Cert.KernelIdeal.Value Cert.ReferenceIdeal.Read Cert.Moe

variable (m : (ℓ : Loc nD τ sig) → Buf (Elt Ideal) ℓ)

/-- On gates that are nonnegative numbers the kernel's result is the reference's, on the same arguments. -/
theorem value_eq [Cert.Pre_gates_ok.Facts] (c : Dev nD)
    (h : Cert.Pre_gates_ok.fn (F := Ideal) (a0 m c) (a1 m c) (a2 m c) (a3 m c) (a4 m c) (a5 m c) (a6 m c) (a7 m c) (a8 m c) (a9 m c)
      (a10 m c) (a11 m c) = fun _ => 1#1) :
    val_main_v54 (F := Ideal) (a0 m c) (a1 m c) (a2 m c) (a3 m c) (a4 m c) (a5 m c) (a6 m c) (a7 m c) (a8 m c) (a9 m c)
      (a10 m c) (a11 m c) = G12 m c := by
  have hx := gates_of_pre _ _ _ _ _ _ _ _ _ _ _ _ h
  funext i
  obtain ⟨R, C, rfl⟩ : ∃ (R : Fin 8192) (C : Fin 1024), i = ix2 R C := ⟨i 0, i 1, by funext a; fin_cases a <;> rfl⟩
  rw [ref_out]
  refine Eq.trans ?_ (G12_apply m c R C).symm
  have hz : (fun K => val_main_v27 (F := Ideal) (a0 m c) (a1 m c) (a2 m c) (a3 m c) (a4 m c) (a5 m c) (a6 m c) (a7 m c) (a8 m c) (a9 m c)
      (ix3 (⟨R.val / 4096, by omega⟩ : Fin 2) (⟨R.val % 4096, by omega⟩ : Fin 4096) K)) = zrow m c R ⟨1 + R.val / 4096, by omega⟩ := by
    funext K
    have hR : (⟨R.val / 4096 * 4096 + R.val % 4096, by omega⟩ : Fin 8192) = R := Fin.ext (by show R.val / 4096 * 4096 + R.val % 4096 = R.val; omega)
    rw [ref_v27, ref_v17, ref_sum _ _ _ _ _ hx, hR]
    unfold zrow zT mix partT
    rw [add_comm (Finset.sum _ _)]
  rw [hz]

end Cert.Moe.Large

end
-- ==== Proof.PromptStep.lean ====
/- The mixture-of-experts call for the prompt's tokens, along its grid. -/
module

public import proofs.«01_k».proof.Proof.Gen.PromptIdeal.Value
public import proofs.«01_k».proof.Proof.MoeRun
public import Idealize.ShloMosaic.Lib.Pipeline.ValueKit
public import Idealize.ShloMosaic.Lib.Pipeline.ReadBack

@[expose] public section

set_option maxRecDepth 16384

noncomputable section

namespace Cert.Moe.Prompt

open Idealize.ShloMosaic Idealize.ShloMosaic.TcCoe Idealize.SL.Sem
open Idealize.ShloMosaic.Pipeline (Dat)
open Cert.PromptIdeal Cert.PromptIdeal.Gen Cert.PromptIdeal.Value Cert.Moe

variable (m : (ℓ : Loc nD τ sig) → Buf (Elt Ideal) ℓ)

/-- The inner grid coordinate of a point, and the window of every block at a point. -/
theorem coord1 : ∀ t : Fin cfg0.N, (grid0.coords t 1).val = t.val % 16 := by decide +kernel

/-! The two calls' steps are one text, so their payloads are the same functions. -/

theorem pay1_same : @k0_pay1 Ideal _ = @Cert.KernelIdeal.Gen.k0_pay1 Ideal _ := rfl
theorem pay2_same (i : grid0.Coords) (v0 : FVec Ideal S1024x1024 .bf16) (v4 : FVec Ideal S1024x64 .f32) (v6 v9 : FVec Ideal S1x1024x128 .f32) :
    k0_pay2 (F := Ideal) i v0 v4 v6 v9 = actv (BitVec.ofNat 32 (i 1).val) 0#32 v0 v4 v6 v9 := rfl
theorem pay3_same : @k0_pay3 Ideal _ = @Cert.KernelIdeal.Gen.k0_pay3 Ideal _ := rfl
theorem pay4_same : @k0_pay4 Ideal = @Cert.KernelIdeal.Gen.k0_pay4 Ideal := rfl
theorem pay5_same : @k0_pay5 Ideal _ = @Cert.KernelIdeal.Gen.k0_pay5 Ideal _ := rfl
theorem pay6_same : @k0_pay6 Ideal _ = @Cert.KernelIdeal.Gen.k0_pay6 Ideal _ := rfl
theorem pay7_same : @k0_pay7 Ideal _ = @Cert.KernelIdeal.Gen.k0_pay7 Ideal _ := rfl
theorem pay8_same : @k0_pay8 Ideal _ = @Cert.KernelIdeal.Gen.k0_pay8 Ideal _ := rfl

/-- The accumulator after one grid step that is neither first nor last of its run. -/
theorem st_B (c : Dev nD) (t : Fin cfg0.N) (acc : FVec Ideal S1024x1024 .f32 × FVec Ideal S1024x1024 .f32)
    (h0 : ¬t.val % 16 = 0) (h1 : ¬t.val % 16 = 15) :
    (stAt0 m c t.val t.isLt acc).2
      = stepv (BitVec.ofNat 32 (t.val % 16)) (iblk m c 0 t) (iblk m c 1 t) (iblk m c 4 t) (iblk m c 5 t) (iblk m c 6 t) acc.2 := by
  rw [← coord1 t]
  funext y
  rw [stAt0_B m c t acc h0 h1]
  frame_out
  simp only [read_unread_whole, pay1_same, pay2_same, pay3_same, pay4_same, pay5_same, pay6_same, pay7_same, pay8_same]
  rfl

theorem st_A (c : Dev nD) (t : Fin cfg0.N) (acc : FVec Ideal S1024x1024 .f32 × FVec Ideal S1024x1024 .f32)
    (h0 : t.val % 16 = 0) (h1 : ¬t.val % 16 = 15) :
    (stAt0 m c t.val t.isLt acc).2
      = stepv (BitVec.ofNat 32 (t.val % 16)) (iblk m c 0 t) (iblk m c 1 t) (iblk m c 4 t) (iblk m c 5 t) (iblk m c 6 t)
          (Cert.KernelIdeal.Gen.k0_pay1 (F := Ideal) (iblk m c 0 t) (iblk m c 7 t) (iblk m c 8 t) (iblk m c 9 t)) := by
  rw [← coord1 t]
  funext y
  rw [stAt0_A m c t acc h0 h1]
  frame_out
  simp only [pay1_same, pay2_same, pay3_same, pay4_same, pay5_same, pay6_same, pay7_same, pay8_same]
  rfl

theorem st_C (c : Dev nD) (t : Fin cfg0.N) (acc : FVec Ideal S1024x1024 .f32 × FVec Ideal S1024x1024 .f32)
    (h0 : ¬t.val % 16 = 0) (h1 : t.val % 16 = 15) (y) :
    (stAt0 m c t.val t.isLt acc).1 y
      = Cert.KernelIdeal.Gen.k0_pay8 (F := Ideal) (iblk m c 2 t) (View.ld (iblk m c 3 t) (Rect.unit ![5, 0, 0, 0] ![1, 1, 1, 1024] inb_S6x1x1x1024_S1x1x1x1024_5_0_0_0))
          (stepv (BitVec.ofNat 32 (t.val % 16)) (iblk m c 0 t) (iblk m c 1 t) (iblk m c 4 t) (iblk m c 5 t) (iblk m c 6 t) acc.2)
          (iblk m c 10 t) (iblk m c 11 t) y := by
  rw [← coord1 t]
  rw [stAt0_C m c t acc h0 h1]
  frame_out
  simp only [read_unread_whole, pay1_same, pay2_same, pay3_same, pay4_same, pay5_same, pay6_same, pay7_same, pay8_same]
  rfl

/-! ## The blocks, as the argument arrays -/

theorem idx0 : ∀ t : Fin grid0.N, win0_0.index t = ![t.val / 16, 0] := by decide +kernel
theorem idx1 : ∀ t : Fin grid0.N, win0_1.index t = ![t.val / 16, 0] := by decide +kernel
theorem idx2 : ∀ t : Fin grid0.N, win0_2.index t = ![t.val / 16, 0] := by decide +kernel
theorem idx3 : ∀ t : Fin grid0.N, win0_3.index t = ![0, 0, 0, 0] := by decide +kernel
theorem idx4 : ∀ t : Fin grid0.N, win0_4.index t = ![t.val % 16, 0, 0] := by decide +kernel
theorem idx5 : ∀ t : Fin grid0.N, win0_5.index t = ![t.val % 16, 0, 0] := by decide +kernel
theorem idx6 : ∀ t : Fin grid0.N, win0_6.index t = ![t.val % 16, 0, 0] := by decide +kernel

theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel

theorem pt_lt (t : Fin cfg0.N) : t.val < 64 := t.isLt

/-- The arguments of the call, as arrays. -/
abbrev a0 (c : Dev nD) : FVec Ideal S4096x1024 .bf16 := m ((c : Thread nD τ).loc main_arg0)
abbrev a1 (c : Dev nD) : FVec Ideal S4096x64 .f32 := m ((c : Thread nD τ).loc main_arg1)
abbrev a2 (c : Dev nD) : FVec Ideal S4096x1024 .f32 := m ((c : Thread nD τ).loc main_arg2)
abbrev a3 (c : Dev nD) : FVec Ideal S6x8x1x1024 .f32 := m ((c : Thread nD τ).loc main_arg3)
abbrev a4 (c : Dev nD) : FVec Ideal S64x1024x128 .f32 := m ((c : Thread nD τ).loc main_arg4)
abbrev a5 (c : Dev nD) : FVec Ideal S64x1024x128 .f32 := m ((c : Thread nD τ).loc main_arg5)
abbrev a6 (c : Dev nD) : FVec Ideal S64x128x1024 .f32 := m ((c : Thread nD τ).loc main_arg6)
abbrev a7 (c : Dev nD) : FVec Ideal S1024x128 .f32 := m ((c : Thread nD τ).loc main_arg7)
abbrev a8 (c : Dev nD) : FVec Ideal S1024x128 .f32 := m ((c : Thread nD τ).loc main_arg8)
abbrev a9 (c : Dev nD) : FVec Ideal S128x1024 .f32 := m ((c : Thread nD τ).loc main_arg9)
abbrev a10 (c : Dev nD) : FVec Ideal S1x1024 .f32 := m ((c : Thread nD τ).loc main_arg10)
abbrev a11 (c : Dev nD) : FVec Ideal S1x1024 .f32 := m ((c : Thread nD τ).loc main_arg11)

/-- The token a row of a point's block is. -/
def tok (t : Fin cfg0.N) (r : Fin 1024) : Fin 4096 := ⟨1024 * (t.val / 16) + r.val, by have := pt_lt t; omega⟩

/-- The run of a point. -/
theorem run_lt (t : Fin cfg0.N) : t.val / 16 < 4 := by have := pt_lt t; omega

theorem blk0 (c : Dev nD) (t : Fin cfg0.N) (r d : Fin 1024) : iblk m c 0 t (ix2 r d) = a0 m c (ix2 (tok t r) d) := by
  unfold tok
  blk_ext [iblk, V, idx0 t]
theorem blk1 (c : Dev nD) (t : Fin cfg0.N) (r : Fin 1024) (l : Fin 64) : iblk m c 1 t (ix2 r l) = a1 m c (ix2 (tok t r) l) := by
  unfold tok
  blk_ext [iblk, V, idx1 t]
theorem blk2 (c : Dev nD) (t : Fin cfg0.N) (r d : Fin 1024) : iblk m c 2 t (ix2 r d) = a2 m c (ix2 (tok t r) d) := by
  unfold tok
  blk_ext [iblk, V, idx2 t]
theorem blk3 (c : Dev nD) (t : Fin cfg0.N) (d : Fin 1024) :
    iblk m c 3 t (ix4 5 0 0 d) = a3 m c (ix4 5 0 0 d) := by
  blk_ext [iblk, V, idx3 t]
theorem blk3_5 (c : Dev nD) (t : Fin cfg0.N) (d : Fin 1024) :
    (View.ld (Val := Elt Ideal) (S := S6x1x1x1024) (e' := .f32) (iblk m c 3 t)
        (Rect.unit ![5, 0, 0, 0] ![1, 1, 1, 1024] inb_S6x1x1x1024_S1x1x1x1024_5_0_0_0) : FVec Ideal S1x1x1x1024 .f32) (ix4 0 0 0 d)
      = a3 m c (ix4 5 0 0 d) :=
  (View.ld_unit_apply_of (iblk m c 3 t) ![5, 0, 0, 0] ![1, 1, 1, 1024] inb_S6x1x1x1024_S1x1x1x1024_5_0_0_0 (ix4 0 0 0 d) (ix4 5 0 0 d)
    (by intro a; fin_cases a <;> simp <;> rfl)).trans (blk3 m c t d)
theorem blk4 (c : Dev nD) (t : Fin cfg0.N) (j : Fin 4) (d : Fin 1024) (f : Fin 128) :
    iblk m c 4 t (ix3 j d f) = a4 m c (ix3 ⟨4 * (t.val % 16) + j.val, by omega⟩ d f) := by
  blk_ext [iblk, V, idx4 t]
theorem blk5 (c : Dev nD) (t : Fin cfg0.N) (j : Fin 4) (d : Fin 1024) (f : Fin 128) :
    iblk m c 5 t (ix3 j d f) = a5 m c (ix3 ⟨4 * (t.val % 16) + j.val, by omega⟩ d f) := by
  blk_ext [iblk, V, idx5 t]
theorem blk6 (c : Dev nD) (t : Fin cfg0.N) (j : Fin 4) (f : Fin 128) (d : Fin 1024) :
    iblk m c 6 t (ix3 j f d) = a6 m c (ix3 ⟨4 * (t.val % 16) + j.val, by omega⟩ f d) := by
  blk_ext [iblk, V, idx6 t]
theorem blk7 (c : Dev nD) (t : Fin cfg0.N) (d : Fin 1024) (f : Fin 128) : iblk m c 7 t (ix2 d f) = a7 m c (ix2 d f) := by
  blk_ext [iblk, V, idx7 t]
theorem blk8 (c : Dev nD) (t : Fin cfg0.N) (d : Fin 1024) (f : Fin 128) : iblk m c 8 t (ix2 d f) = a8 m c (ix2 d f) := by
  blk_ext [iblk, V, idx8 t]
theorem blk9 (c : Dev nD) (t : Fin cfg0.N) (f : Fin 128) (d : Fin 1024) : iblk m c 9 t (ix2 f d) = a9 m c (ix2 f d) := by
  blk_ext [iblk, V, idx9 t]
theorem blk10 (c : Dev nD) (t : Fin cfg0.N) (d : Fin 1024) : iblk m c 10 t (ix2 0 d) = a10 m c (ix2 0 d) := by
  blk_ext [iblk, V, idx10 t]
theorem blk11 (c : Dev nD) (t : Fin cfg0.N) (d : Fin 1024) : iblk m c 11 t (ix2 0 d) = a11 m c (ix2 0 d) := by
  blk_ext [iblk, V, idx11 t]

/-! ## The accumulator along a run -/

/-- The call's blocks and the arrays they are cut from. -/
def feed (c : Dev nD) : Feed cfg0.N where
  x0 t := iblk m c 0 t
  x1 t := iblk m c 1 t
  x4 t := iblk m c 4 t
  x5 t := iblk m c 5 t
  x6 t := iblk m c 6 t
  first t := Cert.KernelIdeal.Gen.k0_pay1 (F := Ideal) (iblk m c 0 t) (iblk m c 7 t) (iblk m c 8 t) (iblk m c 9 t)
  rx q r d := if h : q < 4 then a0 m c (ix2 ⟨1024 * q + r.val, by omega⟩ d) else 0
  rg q r l := if h : q < 4 then a1 m c (ix2 ⟨1024 * q + r.val, by omega⟩ l) else 0
  sg := a7 m c
  su := a8 m c
  sd := a9 m c
  wg := a4 m c
  wu := a5 m c
  wd := a6 m c
  hx t r d := by rw [dif_pos (run_lt t)]; exact blk0 m c t r d
  hg t r l := by rw [dif_pos (run_lt t)]; exact blk1 m c t r l
  h4 t j d f := blk4 m c t j d f
  h5 t j d f := blk5 m c t j d f
  h6 t j f d := blk6 m c t j f d
  hf t r C := by
    rw [pay1_apply]
    simp only [dif_pos (run_lt t), blk0, blk7, blk8, blk9]
    rfl

/-- Every grid point leaves its step's result over something. -/
theorem outs_step (c : Dev nD) (n : ℕ) (h : n < cfg0.N) : ∃ acc, outsAt0 m c n h = stAt0 m c n h acc := by
  cases n with
  | zero => exact ⟨_, outsAt0_zero m c h⟩
  | succ n => exact ⟨_, rfl⟩

theorem outs_first (c : Dev nD) (t : Fin cfg0.N) (h : t.val % 16 = 0) :
    (outsAt0 m c t.val t.isLt).2 = (feed m c).step t ((feed m c).first t) := by
  obtain ⟨acc, ha⟩ := outs_step m c t.val t.isLt
  rw [ha]
  exact st_A m c t acc h (by omega)

theorem outs_next (c : Dev nD) (n : ℕ) (h : n + 1 < cfg0.N) (h0 : ¬(n + 1) % 16 = 0) (h1 : ¬(n + 1) % 16 = 15) :
    (outsAt0 m c (n + 1) h).2 = (feed m c).step ⟨n + 1, h⟩ (outsAt0 m c n (by omega)).2 :=
  st_B m c ⟨n + 1, h⟩ (outsAt0 m c n (by omega)) h0 h1

/-- All experts of a token, as the mixture computes them. -/
def mix (c : Dev nD) (R : Fin 4096) (K : Fin 1024) : EReal :=
  partT (fun d => a0 m c (ix2 R d)) (fun l => a1 m c (ix2 R l)) (a7 m c) (a8 m c) (a9 m c) (a4 m c) (a5 m c) (a6 m c) 64 K

/-- The residual stream of a token, before the layer norm. -/
def zrow (c : Dev nD) (R : Fin 4096) (b : Fin 8) : Fin 1024 → EReal :=
  zT (fun K => a2 m c (ix2 R K)) (fun K => a3 m c (ix4 5 b 0 K)) (mix m c R)

/-- What the last step of run `q` leaves for the output. -/
theorem last_at (c : Dev nD) (q : ℕ) (hq : q < 4) (r C : Fin 1024) (h : 16 * q + 15 < cfg0.N) :
    (outsAt0 m c (16 * q + 15) h).1 (ix2 r C)
      = lnorm (zrow m c ⟨1024 * q + r.val, by omega⟩ 0) (fun k => a10 m c (ix2 0 k)) (fun k => a11 m c (ix2 0 k)) C := by
  have hN : (16 * q + 15) / 16 = q ∧ (16 * q + 15) % 16 = 15 := by omega
  have ht : tok ⟨16 * q + 15, h⟩ r = ⟨1024 * q + r.val, by omega⟩ := by
    apply Fin.ext; show 1024 * ((16 * q + 15) / 16) + r.val = _; rw [hN.1]
  have hs : ∀ K, (feed m c).step ⟨16 * q + 15, h⟩ (outsAt0 m c (16 * q + 14) (by omega)).2 (ix2 r K)
      = mix m c ⟨1024 * q + r.val, by omega⟩ K := by
    intro K
    refine ((feed m c).last_at (fun n hn => (outsAt0 m c n hn).2) (outs_first m c) (outs_next m c) r K q h).trans ?_
    unfold Feed.part mix feed
    simp only [dif_pos hq]
  refine (st_C m c ⟨16 * q + 15, h⟩ (outsAt0 m c (16 * q + 14) (by omega)) (by show ¬(16 * q + 15) % 16 = 0; omega) hN.2 (ix2 r C)).trans ?_
  rw [pay8_apply]
  have hs' := hs
  unfold Feed.step feed at hs'
  simp only [blk2, blk3_5, blk10, blk11, ht]
  simp only [hs']
  rfl

/-- The result of the call at an index: the layer norm of the residual stream and the gated mixture. -/
theorem G12_apply (c : Dev nD) (R : Fin 4096) (C : Fin 1024) :
    G12 m c (ix2 R C)
      = lnorm (zrow m c R 0) (fun k => a10 m c (ix2 0 k)) (fun k => a11 m c (ix2 0 k)) C := by
  have hp : pt12Of (ix2 R C) = 16 * (R.val / 1024) + 15 := by
    show 16 * (1 * (R.val / 1024 - 0) + 1 * (C.val / 1024 - 0)) + 15 = _
    omega
  have hq : R.val / 1024 < 4 := by omega
  have hlt : pt12Of (ix2 R C) < cfg0.N := by rw [hp, show cfg0.N = 64 from N_0]; omega
  have key : ∀ (n : ℕ) (hn : n < cfg0.N) (r : Fin 1024), n = 16 * (R.val / 1024) + 15 → r.val = R.val % 1024 →
      (outsAt0 m c n hn).1 (ix2 r C)
        = lnorm (zrow m c R 0) (fun k => a10 m c (ix2 0 k)) (fun k => a11 m c (ix2 0 k)) C := by
    intro n hn r en er
    subst en
    rw [last_at m c (R.val / 1024) hq r C hn]
    have e1 : (⟨1024 * (R.val / 1024) + r.val, by omega⟩ : Fin 4096) = R := Fin.ext (by show 1024 * (R.val / 1024) + r.val = R.val; omega)
    rw [e1]
  have hloc : loc12Of (ix2 R C) = ix2 (⟨R.val % 1024, by omega⟩ : Fin 1024) C := by
    funext a
    fin_cases a
    · exact Fin.ext rfl
    · exact Fin.ext (Nat.mod_eq_of_lt C.isLt)
  unfold G12
  rw [dif_pos hlt, ← outsAt0_sweep m c _ hlt, hloc]
  exact key _ hlt _ hp rfl

end Cert.Moe.Prompt

end
-- ==== Proof.PromptRef.lean ====
/- The mixture-of-experts reference of the prompt tokens read at an index. -/
module

public import proofs.«01_k».proof.Proof.Gen.PromptReferenceIdeal.Read
public import proofs.«01_k».proof.Proof.MoePay
public import proofs.«01_k».proof.Proof.Numbers
public import proofs.«01_k».proof.Pre_prompt_gates_ok

@[expose] public section

set_option maxRecDepth 16384

noncomputable section

namespace Cert.Moe.Prompt

open Idealize.ShloMosaic Idealize.ShloMosaic.TcCoe Idealize.SL.Sem
open Cert.PromptReferenceIdeal Cert.PromptReferenceIdeal.Read Cert.Moe

variable (x0 : FVec Ideal S4096x1024 .bf16) (x1 : FVec Ideal S4096x64 .f32) (x2 : FVec Ideal S4096x1024 .f32)
  (x3 : FVec Ideal S6x8x1x1024 .f32) (x4 x5 : FVec Ideal S64x1024x128 .f32) (x6 : FVec Ideal S64x128x1024 .f32)
  (x7 x8 : FVec Ideal S1024x128 .f32) (x9 : FVec Ideal S128x1024 .f32) (x10 x11 : FVec Ideal S1x1024 .f32)

/-- One hidden unit of one expert in the reference. -/
theorem ref_v6 (e : Fin 64) (t : Fin 4096) (f : Fin 128) :
    val_main_v6 (F := Ideal) x0 x4 x5 (ix3 e t f)
      = hid (fun d => x0 (ix2 t d)) (fun d => x4 (ix3 e d f)) (fun d => x5 (ix3 e d f)) := by
  unfold hid
  rw [← act_eq]
  simp only [mul_comm (x0 _)]
  pointwise [val_main_v6, val_main_v3, val_main_call0_v5, val_main_call0_v4, val_main_call0_v3, val_main_call0_v2, val_main_call0_v1, val_main_call0_v0,
    val_main_v2, val_main_v5, val_main_v1, val_main_v4, val_main_v0, val_main_call0_cst, val_main_call0_cst_0]

theorem ref_v12 (t : Fin 4096) (C : Fin 1024) :
    val_main_v12 (F := Ideal) x0 x1 x4 x5 x6 (ix2 t C)
      = ∑ e : Fin 64, x1 (ix2 t e) * ∑ f : Fin 128, val_main_v6 (F := Ideal) x0 x4 x5 (ix3 e t f) * x6 (ix3 e f C) := by
  pointwise [val_main_v12, val_main_v11, val_main_v10, val_main_v9, val_main_v8, val_main_v7, val_main_cst]

theorem ref_v17 (t : Fin 4096) (C : Fin 1024) :
    val_main_v17 (F := Ideal) x0 x7 x8 x9 (ix2 t C) = shT (fun d => x0 (ix2 t d)) x7 x8 x9 C := by
  unfold shT hid
  simp only [← act_eq]
  pointwise [val_main_v17, val_main_v16, val_main_v15, val_main_v14, val_main_call1_v5, val_main_call1_v4, val_main_call1_v3, val_main_call1_v2,
    val_main_call1_v1, val_main_call1_v0, val_main_v13, val_main_v0, val_main_call1_cst, val_main_call1_cst_0]

theorem ref_v25 (t : Fin 4096) (K : Fin 1024) :
    val_main_v25 (F := Ideal) x0 x1 x2 x3 x4 x5 x6 x7 x8 x9 (ix2 t K)
      = Ideal.ofBits .f32 0x3FB504F3#32 * x2 (ix2 t K)
        + x3 (ix4 5 0 0 K) * (val_main_v12 (F := Ideal) x0 x1 x4 x5 x6 (ix2 t K) + val_main_v17 (F := Ideal) x0 x7 x8 x9 (ix2 t K)) := by
  pointwise [val_main_v25, val_main_v24, val_main_v23, val_main_v22, val_main_v21, val_main_v20, val_main_v19,
    val_main_v18, val_main_cst_0]

theorem ref_out (R : Fin 4096) (C : Fin 1024) :
    val_main_v51 (F := Ideal) x0 x1 x2 x3 x4 x5 x6 x7 x8 x9 x10 x11 (ix2 R C)
      = lnorm (fun K => val_main_v25 (F := Ideal) x0 x1 x2 x3 x4 x5 x6 x7 x8 x9 (ix2 R K))
          (fun k => x10 (ix2 0 k)) (fun k => x11 (ix2 0 k)) C := by
  unfold lnorm
  pointwise [val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v27, val_main_v26, val_main_cst_1, val_main_cst_2, val_main_cst_3, val_main_cst_4, val_main_cst_5]

/-- The reference's sum over the experts is the kernel's, where the gates are nonnegative numbers. -/
theorem ref_sum (hx : ∀ t e, 0 ≤ x1 (ix2 t e) ∧ x1 (ix2 t e) ≠ ⊤) (t : Fin 4096) (C : Fin 1024) :
    val_main_v12 (F := Ideal) x0 x1 x4 x5 x6 (ix2 t C)
      = ∑ e ∈ Finset.range 64, exT (fun d => x0 (ix2 t d)) (fun l => x1 (ix2 t l)) x4 x5 x6 e C := by
  rw [ref_v12, Finset.sum_range]
  refine Finset.sum_congr rfl fun e _ => ?_
  rw [exT, dif_pos e.isLt, mul_sum_of_nonneg (hx t e).1 (hx t e).2]
  refine Finset.sum_congr rfl fun f _ => ?_
  rw [ref_v6, ← mul_assoc, mul_comm (x1 _)]

/-- The gates of the precondition are nonnegative numbers. -/
theorem gates_of_pre [Cert.Pre_prompt_gates_ok.Facts] (h : Cert.Pre_prompt_gates_ok.fn (F := Ideal) x0 x1 x2 x3 x4 x5 x6 x7 x8 x9 x10 x11 = fun _ => 1#1)
    (t : Fin 4096) (e : Fin 64) : 0 ≤ x1 (ix2 t e) ∧ x1 (ix2 t e) ≠ ⊤ := by
  have h' := congrFun h (ix2 t e)
  unfold Cert.Pre_prompt_gates_ok.fn at h'
  exact of_cmp_and h'

end Cert.Moe.Prompt

end
-- ==== Proof.PromptTie.lean ====
/- The mixture-of-experts kernel of the prompt tokens and its reference have one value. -/
module

public import proofs.«01_k».proof.Proof.PromptStep
public import proofs.«01_k».proof.Proof.PromptRef

@[expose] public section

noncomputable section

namespace Cert.Moe.Prompt

open Idealize.ShloMosaic Idealize.ShloMosaic.TcCoe Idealize.SL.Sem
open Cert.PromptIdeal Cert.PromptIdeal.Value Cert.PromptReferenceIdeal.Read Cert.Moe

variable (m : (ℓ : Loc nD τ sig) → Buf (Elt Ideal) ℓ)

/-- On gates that are nonnegative numbers the kernel's result for the prompt is the reference's, on the same arguments. -/
theorem value_eq [Cert.Pre_prompt_gates_ok.Facts] (c : Dev nD)
    (h : Cert.Pre_prompt_gates_ok.fn (F := Ideal) (a0 m c) (a1 m c) (a2 m c) (a3 m c) (a4 m c) (a5 m c) (a6 m c) (a7 m c) (a8 m c) (a9 m c)
      (a10 m c) (a11 m c) = fun _ => 1#1) :
    val_main_v51 (F := Ideal) (a0 m c) (a1 m c) (a2 m c) (a3 m c) (a4 m c) (a5 m c) (a6 m c) (a7 m c) (a8 m c) (a9 m c)
      (a10 m c) (a11 m c) = G12 m c := by
  have hx := gates_of_pre _ _ _ _ _ _ _ _ _ _ _ _ h
  funext i
  obtain ⟨R, C, rfl⟩ : ∃ (R : Fin 4096) (C : Fin 1024), i = ix2 R C := ⟨i 0, i 1, by funext a; fin_cases a <;> rfl⟩
  rw [ref_out]
  refine Eq.trans ?_ (G12_apply m c R C).symm
  have hz : (fun K => val_main_v25 (F := Ideal) (a0 m c) (a1 m c) (a2 m c) (a3 m c) (a4 m c) (a5 m c) (a6 m c) (a7 m c) (a8 m c) (a9 m c)
      (ix2 R K)) = zrow m c R 0 := by
    funext K
    rw [ref_v25, ref_v17, ref_sum _ _ _ _ _ hx]
    unfold zrow zT mix partT
    rw [add_comm (Finset.sum _ _)]
  rw [hz]

end Cert.Moe.Prompt

end
-- ==== Proof.Proj.lean ====
/- What the input projections compute, on rows of extended reals. -/
module

public import Idealize.ShloMosaic.PureOps.Ideal
public import Idealize.ShloMosaic.Lib.Pointwise

@[expose] public section

noncomputable section

namespace Cert.Proj

open Idealize.ShloMosaic

/-- One entry of the projection: the scaled and shifted token against a column of the weights. -/
def proj (x s h : Fin 1024 → EReal) (w : Fin 1024 → EReal) : EReal :=
  ∑ d : Fin 1024, (x d * (Ideal.ofBits .f32 0x3F800000#32 + s d) + h d) * w d

/-- Two heads of 64 side by side, each divided by its root mean square, times a gain. -/
def rms2 (t g : Fin 128 → EReal) (l : Fin 128) : EReal :=
  t l * Ideal.rsqrt ((∑ k : Fin 64, t ⟨64 * (l.val / 64) + k.val, by omega⟩ * t ⟨64 * (l.val / 64) + k.val, by omega⟩)
    * Ideal.ofBits .f32 0x3C800000#32 + Ideal.ofBits .f32 0x358637BD#32) * g l

/-- An extended real that is a number. -/
def IsNum (x : EReal) : Prop := ∃ r : ℝ, x = r

theorem IsNum.add {x y : EReal} (hx : IsNum x) (hy : IsNum y) : IsNum (x + y) := by
  obtain ⟨a, rfl⟩ := hx
  obtain ⟨b, rfl⟩ := hy
  exact ⟨a + b, (EReal.coe_add a b).symm⟩

theorem IsNum.mul {x y : EReal} (hx : IsNum x) (hy : IsNum y) : IsNum (x * y) := by
  obtain ⟨a, rfl⟩ := hx
  obtain ⟨b, rfl⟩ := hy
  exact ⟨a * b, (EReal.coe_mul a b).symm⟩

theorem IsNum.sum {ι : Type} (s : Finset ι) (f : ι → EReal) (h : ∀ i, IsNum (f i)) : IsNum (∑ i ∈ s, f i) := by
  classical
  induction s using Finset.induction_on with
  | empty => exact ⟨0, by simp⟩
  | insert a s ha ih => rw [Finset.sum_insert ha]; exact (h a).add ih

/-- A number less itself is nothing. -/
theorem IsNum.sub_self {x : EReal} (hx : IsNum x) : x - x = 0 := by
  obtain ⟨a, rfl⟩ := hx
  rw [← EReal.coe_sub, _root_.sub_self, EReal.coe_zero]

theorem one_bits : Ideal.ofBits .f32 0x3F800000#32 = 1 := by
  simp [Ideal.ofBits, Ideal.ieee]
  rw [← EReal.coe_mul, ← EReal.coe_one]
  norm_num

theorem one_num : IsNum (Ideal.ofBits .f32 0x3F800000#32) := ⟨1, by rw [one_bits]; rfl⟩

theorem zero_bits : Ideal.ofBits .f32 0x00000000#32 = 0 := by
  simp [Ideal.ofBits, Ideal.ieee]

/-- A projection of numbers is a number. -/
theorem proj_num {x s h w : Fin 1024 → EReal} (hx : ∀ d, IsNum (x d)) (hs : ∀ d, IsNum (s d)) (hh : ∀ d, IsNum (h d)) (hw : ∀ d, IsNum (w d)) :
    IsNum (proj x s h w) :=
  IsNum.sum _ _ fun d => (((hx d).mul (one_num.add (hs d))).add (hh d)).mul (hw d)

/-- The word of the comparison "its magnitude is below infinity" says its argument is a number. -/
theorem num_of_cmp {x : EReal} (h : Ideal.cmp .olt (max x (-x)) (Ideal.ofBits .f32 0x7F800000#32) = 1#1) : IsNum x := by
  have e1 : Ideal.ofBits .f32 0x7F800000#32 = ⊤ := by simp [Ideal.ofBits, Ideal.ieee]
  rw [e1] at h
  unfold Ideal.cmp at h
  by_cases b : max x (-x) < ⊤
  · induction x with
    | bot => simp at b
    | top => simp at b
    | coe r => exact ⟨r, rfl⟩
  · simp [b] at h

/-- Summing with the weights "same head of 64" is summing over the head. -/
theorem sum_head (f : Fin 128 → EReal) (l : Fin 128) :
    (∑ j : Fin 128, f j * (if j.val / 64 = l.val / 64 then 1 else 0)) = ∑ k : Fin 64, f ⟨64 * (l.val / 64) + k.val, by omega⟩ := by
  rw [← (finProdFinEquiv (m := 2) (n := 64)).sum_comp, Fintype.sum_prod_type]
  rw [Finset.sum_eq_single (⟨l.val / 64, by omega⟩ : Fin 2)]
  · refine Finset.sum_congr rfl fun k _ => ?_
    have e : finProdFinEquiv ((⟨l.val / 64, by omega⟩ : Fin 2), k) = (⟨64 * (l.val / 64) + k.val, by omega⟩ : Fin 128) :=
      Fin.ext (Nat.add_comm k.val (64 * (l.val / 64)))
    rw [e, if_pos (by show (64 * (l.val / 64) + k.val) / 64 = _; omega), mul_one]
  · intro b _ hb
    refine Finset.sum_eq_zero fun k _ => ?_
    rw [if_neg, mul_zero]
    intro h
    apply hb
    apply Fin.ext
    have : (k.val + 64 * b.val) / 64 = l.val / 64 := h
    show b.val = l.val / 64
    omega
  · intro h
    exact absurd (Finset.mem_univ _) h

/-- Dividing by 64 is multiplying by its reciprocal. -/
theorem div_64 (x : EReal) : Ideal.div x (Ideal.ofBits .f32 0x42800000#32) = x * Ideal.ofBits .f32 0x3C800000#32 := by
  have e1 : Ideal.ofBits .f32 0x42800000#32 = ((64 : ℝ) : EReal) := by simp [Ideal.ofBits, Ideal.ieee]; rw [← EReal.coe_mul]; norm_num
  have e2 : Ideal.ofBits .f32 0x3C800000#32 = ((1 / 64 : ℝ) : EReal) := by simp [Ideal.ofBits, Ideal.ieee]; rw [← EReal.coe_mul]; norm_num
  rw [e1, e2, Ideal.div_coe (by norm_num)]

end Cert.Proj

end
-- ==== Proof.EvenPay.lean ====
/- The even layer's input projection on one block of tokens: its entries in closed form. -/
module

public import proofs.«01_k».proof.Proof.Gen.EvenIdeal.Value
public import proofs.«01_k».proof.Proof.Proj
public import Idealize.ShloMosaic.Lib.Pipeline.ValueKit
public import Idealize.ShloMosaic.Lib.Pipeline.ReadBack

@[expose] public section

set_option maxRecDepth 16384

noncomputable section

namespace Cert.Proj.Even

open Idealize.ShloMosaic Idealize.ShloMosaic.TcCoe Idealize.SL.Sem
open Cert.Proj Cert.EvenIdeal Cert.EvenIdeal.Gen Cert.EvenIdeal.Value

theorem pay1_apply (P0 : FVec Ideal S512x1024 .f32) (P1 P2 : FVec Ideal S1x1x1x1024 .f32) (P3 : FVec Ideal S1024x1536 .bf16) (r : Fin 512) (C : Fin 1536) :
    k0_pay1 (F := Ideal) P0 P1 P2 P3 (ix2 r C)
      = proj (fun d => P0 (ix2 r d)) (fun d => P1 (ix4 0 0 0 d)) (fun d => P2 (ix4 0 0 0 d)) (fun d => P3 (ix2 d C)) := by
  unfold proj
  pointwise [k0_pay1]

/-- The matrix that is one where row and column lie in the same head of 64. -/
def heads : FVec Ideal S128x128 .bf16 := k0_pay5 (F := Ideal) k0_pay2 k0_pay3 k0_pay4

/-- The word the kernel computes for the head of a column: the quotient by 64, with its correction towards minus infinity. -/
def headWord (i : Fin 128) : BitVec 32 :=
  Scalar.select
    (IntOp.andi
      (IntOp.cmpi .ne (IntOp.subi (BitVec.setWidth 32 (IntOp.cmpi .sgt (BitVec.ofNat 32 i.val) 0#32))
          (BitVec.setWidth 32 (IntOp.cmpi .slt (BitVec.ofNat 32 i.val) 0#32)))
        (Scalar.subi (Scalar.extui (Scalar.cmpi .sgt 64#32 0#32)) (Scalar.extui (Scalar.cmpi .slt 64#32 0#32))))
      (IntOp.cmpi .ne (IntOp.remsi .vector (BitVec.ofNat 32 i.val) 64#32) 0#32))
    (IntOp.subi (IntOp.divsi .vector (BitVec.ofNat 32 i.val) 64#32) 1#32)
    (IntOp.divsi .vector (BitVec.ofNat 32 i.val) 64#32)

theorem headWord_eq : ∀ i : Fin 128, headWord i = BitVec.ofNat 32 (i.val / 64) := by decide +kernel

theorem same_head : ∀ a b : Fin 2, IntOp.cmpi .eq (BitVec.ofNat 32 a.val) (BitVec.ofNat 32 b.val) = if a = b then 1#1 else 0#1 := by decide +kernel

/-- The matrix of heads at an index. -/
theorem heads_apply (i j : Fin 128) : heads (ix2 i j) = if i.val / 64 = j.val / 64 then 1 else 0 := by
  have e : heads (ix2 i j) = Scalar.select (IntOp.cmpi .eq (headWord i) (headWord j)) (1 : EReal) 0 := by
    unfold headWord
    pointwise [heads, k0_pay5, k0_pay4, k0_pay3, k0_pay2]
  rw [e, headWord_eq, headWord_eq, same_head ⟨i.val / 64, by omega⟩ ⟨j.val / 64, by omega⟩]
  by_cases b : i.val / 64 = j.val / 64
  · rw [if_pos (Fin.ext b), if_pos b]; rfl
  · rw [if_neg (fun h => b (Fin.mk.inj h)), if_neg b]; rfl

/-- One slab of 128 columns, each head divided by its root mean square, times the gain. -/
def rmsv (T : FVec Ideal S512x128 .f32) (G : FVec Ideal S128x128 .bf16) (g : FVec Ideal S1x128 .f32) : FVec Ideal S512x128 .f32 :=
  mulf (mulf T (rsqrt (addf (mulf (addf
    (matmul dot_S512x128_S128x128_S512x128_1_0_0_1_n_n none (truncf .bf16 (mulf T T) bitsLt_bf16_f32) G (constant S512x128 .f32 0x00000000#32))
    (matmul dot_S512x128_S128x128_S512x128_1_0_0_1_n_n none
      (truncf .bf16 (subf (mulf T T) (extf .f32 (truncf .bf16 (mulf T T) bitsLt_bf16_f32) bitsLt_bf16_f32)) bitsLt_bf16_f32) G (constant S512x128 .f32 0x00000000#32)))
    (broadcast S512x128 (Scalar.ofBits .f32 0x3C800000#32))) (broadcast S512x128 (Scalar.ofBits .f32 0x358637BD#32)))))
    (broadcastTo S512x128 g broadcasts_S1x128_S512x128)

/-- The slab at an index, where the entries it is made from are numbers. -/
theorem rmsv_apply (T : FVec Ideal S512x128 .f32) (g : FVec Ideal S1x128 .f32) (r : Fin 512) (l : Fin 128) (h : ∀ j : Fin 128, IsNum (T (ix2 r j))) :
    rmsv T heads g (ix2 r l) = rms2 (fun j => T (ix2 r j)) (fun j => g (ix2 0 j)) l := by
  have e : ∀ j : Fin 128, T (ix2 r j) * T (ix2 r j) - T (ix2 r j) * T (ix2 r j) = 0 := fun j => ((h j).mul (h j)).sub_self
  unfold rms2
  rw [← sum_head (fun j => T (ix2 r j) * T (ix2 r j)) l]
  pointwise [rmsv]
  simp only [e, zero_mul, Finset.sum_const_zero, add_zero, heads_apply]

theorem q0_eq (Y : FVec Ideal S512x1536 .f32) (g : FVec Ideal S1x128 .f32) :
    k0_pay8 (F := Ideal) (k0_pay6 Y) g (k0_pay7 Y k0_pay2 k0_pay3 k0_pay4)
      = truncf .bf16 (mulf (rmsv (extractStridedSlice S512x128 ![0, 0] Y slices_S512x1536_o0_0_S512x128) heads g)
          (broadcast S512x128 (Scalar.ofBits .f32 0x3E000000#32))) bitsLt_bf16_f32 := rfl
theorem q1_eq (Y : FVec Ideal S512x1536 .f32) (g : FVec Ideal S1x128 .f32) :
    k0_pay9 (F := Ideal) Y heads g
      = truncf .bf16 (mulf (rmsv (extractStridedSlice S512x128 ![0, 128] Y slices_S512x1536_o0_128_S512x128) heads g)
          (broadcast S512x128 (Scalar.ofBits .f32 0x3E000000#32))) bitsLt_bf16_f32 := rfl
theorem q2_eq (Y : FVec Ideal S512x1536 .f32) (g : FVec Ideal S1x128 .f32) :
    k0_pay13 (F := Ideal) (k0_pay10 Y) g (k0_pay11 Y heads) k0_pay12
      = truncf .bf16 (mulf (rmsv (extractStridedSlice S512x128 ![0, 256] Y slices_S512x1536_o0_256_S512x128) heads g)
          (broadcast S512x128 (Scalar.ofBits .f32 0x3E000000#32))) bitsLt_bf16_f32 := rfl
theorem q3_eq (Y : FVec Ideal S512x1536 .f32) (g : FVec Ideal S1x128 .f32) :
    k0_pay14 (F := Ideal) Y heads g
      = truncf .bf16 (mulf (rmsv (extractStridedSlice S512x128 ![0, 384] Y slices_S512x1536_o0_384_S512x128) heads g)
          (broadcast S512x128 (Scalar.ofBits .f32 0x3E000000#32))) bitsLt_bf16_f32 := rfl
theorem k0_eq (Y : FVec Ideal S512x1536 .f32) (g : FVec Ideal S1x128 .f32) :
    k0_pay21 (F := Ideal) Y heads g
      = rmsv (extractStridedSlice S512x128 ![0, 1024] Y slices_S512x1536_o0_1024_S512x128) heads g := rfl

/-- The scaled queries of a row of the projection: the first four slabs with their heads normalized. -/
def qrow (y : Fin 1536 → EReal) (g : Fin 128 → EReal) (C : Fin 1024) : EReal :=
  (if C.val < 512 then rms2 (fun j => y ⟨128 * (C.val / 128) + j.val, by omega⟩) g ⟨C.val % 128, by omega⟩
    else y ⟨C.val, by omega⟩) * Ideal.ofBits .f32 0x3E000000#32

/-- The keys of a row of the projection: the first slab of them with its heads normalized. -/
def krow (y : Fin 1536 → EReal) (g : Fin 128 → EReal) (C : Fin 256) : EReal :=
  if C.val < 128 then rms2 (fun j => y ⟨1024 + j.val, by omega⟩) g ⟨C.val % 128, by omega⟩ else y ⟨1024 + C.val, by omega⟩

variable (Y : FVec Ideal S512x1536 .f32) (g : FVec Ideal S1x128 .f32) (hY : ∀ r C, IsNum (Y (ix2 r C)))
include hY

/-- A normalized slab of the queries, whichever of the four. -/
theorem q_slab (o : ℕ) (b : S512x1536.Slices ![0, o] S512x128) (a : ℕ) (ha : a < 4) (ho : o = 128 * a) (r : Fin 512) (l : Fin 128) :
    truncf .bf16 (mulf (rmsv (extractStridedSlice S512x128 ![0, o] Y b) heads g)
        (broadcast S512x128 (Scalar.ofBits .f32 0x3E000000#32))) bitsLt_bf16_f32 (ix2 r l)
      = qrow (fun C => Y (ix2 r C)) (fun j => g (ix2 0 j)) ⟨128 * a + l.val, by omega⟩ := by
  subst ho
  have e : ∀ j : Fin 128, extractStridedSlice S512x128 ![0, 128 * a] Y b (ix2 r j) = Y (ix2 r ⟨128 * a + j.val, by omega⟩) := fun j =>
    extractStridedSlice_apply _ _ _ _ _ (by intro a; fin_cases a <;> simp)
  have e2 := rmsv_apply (extractStridedSlice S512x128 ![0, 128 * a] Y b) g r l (fun j => by rw [e]; exact hY _ _)
  simp only [e] at e2
  unfold qrow
  rw [if_pos (by show 128 * a + l.val < 512; omega)]
  refine congrArg (· * _) (e2.trans ?_)
  have e3 : (128 * a + l.val) / 128 = a := by omega
  have e4 : (128 * a + l.val) % 128 = l.val := by omega
  simp only [e3, e4]

omit hY in
/-- A plain slab of the queries. -/
theorem q_plain (o : ℕ) (b : S512x1536.Slices ![0, o] S512x128) (ho : 512 ≤ o) (ho' : o + 128 ≤ 1024) (r : Fin 512) (l : Fin 128) :
    truncf .bf16 (mulf (extractStridedSlice S512x128 ![0, o] Y b) (broadcast S512x128 (Scalar.ofBits (F := Ideal) .f32 0x3E000000#32))) bitsLt_bf16_f32 (ix2 r l)
      = qrow (fun C => Y (ix2 r C)) (fun j => g (ix2 0 j)) ⟨o + l.val, by omega⟩ := by
  unfold qrow
  rw [if_neg (by show ¬ o + l.val < 512; omega)]
  have e : extractStridedSlice S512x128 ![0, o] Y b (ix2 r l) = Y (ix2 r ⟨o + l.val, by omega⟩) :=
    extractStridedSlice_apply _ _ _ _ _ (by intro a; fin_cases a <;> simp)
  exact congrArg (fun z : EReal => z * Ideal.ofBits .f32 0x3E000000#32) e

/-- The normalized slab of the keys. -/
theorem k_slab (b : S512x1536.Slices ![0, 1024] S512x128) (r : Fin 512) (l : Fin 128) :
    rmsv (extractStridedSlice S512x128 ![0, 1024] Y b) heads g (ix2 r l)
      = krow (fun C => Y (ix2 r C)) (fun j => g (ix2 0 j)) ⟨l.val, by omega⟩ := by
  have e : ∀ j : Fin 128, extractStridedSlice S512x128 ![0, 1024] Y b (ix2 r j) = Y (ix2 r ⟨1024 + j.val, by omega⟩) := fun j =>
    extractStridedSlice_apply _ _ _ _ _ (by intro a; fin_cases a <;> simp)
  have e2 := rmsv_apply (extractStridedSlice S512x128 ![0, 1024] Y b) g r l (fun j => by rw [e]; exact hY _ _)
  simp only [e] at e2
  unfold krow
  rw [if_pos (show l.val < 128 from l.isLt)]
  refine e2.trans ?_
  have e4 : l.val % 128 = l.val := by omega
  simp only [e4]

omit hY in
/-- The plain slab of the keys. -/
theorem k_plain (b : S512x1536.Slices ![0, 1152] S512x128) (r : Fin 512) (l : Fin 128) :
    extractStridedSlice S512x128 ![0, 1152] Y b (ix2 r l)
      = krow (fun C => Y (ix2 r C)) (fun j => g (ix2 0 j)) ⟨128 + l.val, by omega⟩ := by
  unfold krow
  rw [if_neg (by show ¬ 128 + l.val < 128; omega)]
  exact extractStridedSlice_apply _ _ _ _ _ (by intro a; fin_cases a <;> simp <;> omega)

end Cert.Proj.Even

end
-- ==== Proof.EvenRef.lean ====
/- The reference's input projection of an even layer: its entries in closed form. -/
module

public import proofs.«01_k».proof.Proof.Gen.EvenReferenceIdeal.Read
public import proofs.«01_k».proof.Proof.EvenPay

@[expose] public section

set_option maxRecDepth 16384

noncomputable section

namespace Cert.Proj.Even

open Idealize.ShloMosaic Idealize.ShloMosaic.TcCoe Idealize.SL.Sem
open Cert.Proj Cert.EvenReferenceIdeal Cert.EvenReferenceIdeal.Read

variable (x0 : FVec Ideal S4096x1024 .f32) (x1 : FVec Ideal S6x8x1x1024 .f32) (x2 : FVec Ideal S1024x1536 .bf16)
  (x3 x4 : FVec Ideal S1x128 .f32)

/-- The reference's projection at an index. -/
theorem ref_v11 (R : Fin 4096) (C : Fin 1536) :
    val_main_v11 (F := Ideal) x0 x1 x2 (ix2 R C)
      = proj (fun d => x0 (ix2 R d)) (fun d => x1 (ix4 1 0 0 d)) (fun d => x1 (ix4 0 0 0 d)) (fun d => x2 (ix2 d C)) := by
  unfold proj
  pointwise [val_main_v11, val_main_v10, val_main_v9, val_main_v8, val_main_v7, val_main_v6, val_main_v5, val_main_v4, val_main_v3,
    val_main_v2, val_main_v1, val_main_v0, val_main_cst]

theorem ref_v31 (R : Fin 4096) (C : Fin 512) :
    val_main_v31 (F := Ideal) x0 x1 x2 x3 (ix2 R C)
      = rms2 (fun j => val_main_v11 (F := Ideal) x0 x1 x2 (ix2 R ⟨128 * (C.val / 128) + j.val, by omega⟩)) (fun j => x3 (ix2 0 j)) ⟨C.val % 128, by omega⟩ := by
  unfold rms2
  rw [← div_64]
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v12,
    val_main_cst_0, val_main_cst_1, val_main_cst_2]
  have h1 : ∀ x : ℕ, C.val / 128 * 128 + C.val / 64 % 2 * 64 + x = 128 * (C.val / 128) + (64 * (C.val % 128 / 64) + x) := by omega
  have h2 : 128 * (C.val / 128) + C.val % 128 = C.val := by omega
  have h3 : C.val / 64 % 2 * 64 + C.val % 64 = C.val % 128 := by omega
  simp only [h1, h2, h3]

theorem ref_v48 (R : Fin 4096) (C : Fin 128) :
    val_main_v48 (F := Ideal) x0 x1 x2 x4 (ix2 R C)
      = rms2 (fun j => val_main_v11 (F := Ideal) x0 x1 x2 (ix2 R ⟨1024 + j.val, by omega⟩)) (fun j => x4 (ix2 0 j)) ⟨C.val % 128, by omega⟩ := by
  unfold rms2
  rw [← div_64]
  pointwise [val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v13,
    val_main_cst_3, val_main_cst_4, val_main_cst_5]
  have h1 : ∀ x : ℕ, C.val / 64 * 64 + x = 64 * (C.val % 128 / 64) + x := by omega
  have h2 : C.val % 128 = C.val := by omega
  simp only [h1, h2]

/-- The reference's queries at an index. -/
theorem ref_q (R : Fin 4096) (C : Fin 1024) :
    val_main_v53 (F := Ideal) x0 x1 x2 x3 (ix2 R C)
      = qrow (fun C => val_main_v11 (F := Ideal) x0 x1 x2 (ix2 R C)) (fun j => x3 (ix2 0 j)) C := by
  have e : val_main_v53 (F := Ideal) x0 x1 x2 x3 (ix2 R C) = val_main_v50 (F := Ideal) x0 x1 x2 x3 (ix2 R C) * Ideal.ofBits .f32 0x3E000000#32 := by
    pointwise [val_main_v53, val_main_v52, val_main_v51, val_main_cst_6]
  rw [e]
  unfold qrow
  refine congrArg (· * _) ?_
  by_cases b : C.val < 512
  · rw [if_pos b]
    refine Eq.trans ?_ (ref_v31 x0 x1 x2 x3 R ⟨C.val, b⟩)
    unfold val_main_v50
    exact concatenate_pair_apply_left (s₁ := S4096x512) (s₂ := S4096x512) 1 _ _ _ (ix2 R C) rfl (ix2 R ⟨C.val, b⟩) (by intro a; fin_cases a <;> rfl)
  · rw [if_neg b]
    have e2 : val_main_v49 (F := Ideal) x0 x1 x2 (ix2 R ⟨C.val - 512, by omega⟩) = val_main_v11 (F := Ideal) x0 x1 x2 (ix2 R ⟨C.val, by omega⟩) := by
      pointwise [val_main_v49, val_main_v12]
      have h : 512 + (C.val - 512) = C.val := by omega
      simp only [h]
    refine Eq.trans ?_ e2
    unfold val_main_v50
    exact concatenate_pair_apply_right (s₁ := S4096x512) (s₂ := S4096x512) 1 _ _ _ (ix2 R C) rfl rfl (ix2 R ⟨C.val - 512, by omega⟩)
      (by intro a; fin_cases a <;> first | (intro _; rfl) | (intro h; exact absurd rfl h)) (by show C.val - 512 + 512 = C.val; omega)

/-- The reference's keys at an index. -/
theorem ref_k (R : Fin 4096) (C : Fin 256) :
    val_main_v55 (F := Ideal) x0 x1 x2 x4 (ix2 R C)
      = krow (fun C => val_main_v11 (F := Ideal) x0 x1 x2 (ix2 R C)) (fun j => x4 (ix2 0 j)) C := by
  unfold krow
  by_cases b : C.val < 128
  · rw [if_pos b]
    refine Eq.trans ?_ (ref_v48 x0 x1 x2 x4 R ⟨C.val, b⟩)
    unfold val_main_v55
    exact concatenate_pair_apply_left (s₁ := S4096x128) (s₂ := S4096x128) 1 _ _ _ (ix2 R C) rfl (ix2 R ⟨C.val, b⟩) (by intro a; fin_cases a <;> rfl)
  · rw [if_neg b]
    have e2 : val_main_v54 (F := Ideal) x0 x1 x2 (ix2 R ⟨C.val - 128, by omega⟩) = val_main_v11 (F := Ideal) x0 x1 x2 (ix2 R ⟨1024 + C.val, by omega⟩) := by
      pointwise [val_main_v54, val_main_v13]
      have h : 1024 + (128 + (C.val - 128)) = 1024 + C.val := by omega
      simp only [h]
    refine Eq.trans ?_ e2
    unfold val_main_v55
    exact concatenate_pair_apply_right (s₁ := S4096x128) (s₂ := S4096x128) 1 _ _ _ (ix2 R C) rfl rfl (ix2 R ⟨C.val - 128, by omega⟩)
      (by intro a; fin_cases a <;> first | (intro _; rfl) | (intro h; exact absurd rfl h)) (by show C.val - 128 + 128 = C.val; omega)

/-- The reference's values at an index. -/
theorem ref_v (R : Fin 4096) (C : Fin 256) :
    val_main_v14 (F := Ideal) x0 x1 x2 (ix2 R C) = val_main_v11 (F := Ideal) x0 x1 x2 (ix2 R ⟨1280 + C.val, by omega⟩) := by
  pointwise [val_main_v14]

end Cert.Proj.Even

end
-- ==== Proof.EvenTie.lean ====
/- The input projection of an even layer on the prompt tokens and its reference have one value. -/
module

public import proofs.«01_k».proof.Proof.EvenRef
public import proofs.«01_k».proof.Pre_tokens_finite

@[expose] public section

set_option maxRecDepth 16384

noncomputable section

namespace Cert.Proj.Even

open Idealize.ShloMosaic Idealize.ShloMosaic.TcCoe Idealize.SL.Sem
open Cert.Proj Cert.EvenIdeal Cert.EvenIdeal.Gen Cert.EvenIdeal.Value Cert.EvenReferenceIdeal.Read

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0, 0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel

theorem pt_lt (t : Fin cfg0.N) : t.val < 8 := t.isLt

/-- The arguments the call reads, as arrays. -/
abbrev a0 (c : Dev nD) : FVec Ideal S4096x1024 .f32 := m ((c : Thread nD τ).loc main_arg0)
abbrev a1 (c : Dev nD) : FVec Ideal S6x8x1x1024 .f32 := m ((c : Thread nD τ).loc main_arg1)
abbrev a2 (c : Dev nD) : FVec Ideal S1024x1536 .bf16 := m ((c : Thread nD τ).loc main_arg2)
abbrev a3 (c : Dev nD) : FVec Ideal S1x128 .f32 := m ((c : Thread nD τ).loc main_arg3)
abbrev a4 (c : Dev nD) : FVec Ideal S1x128 .f32 := m ((c : Thread nD τ).loc main_arg4)
abbrev a5 (c : Dev nD) : FVec Ideal S4096x128 .f32 := m ((c : Thread nD τ).loc main_arg5)
abbrev a6 (c : Dev nD) : FVec Ideal S4096x128 .f32 := m ((c : Thread nD τ).loc main_arg6)

/-- The token a row of a point's block is. -/
def tok (t : Fin cfg0.N) (r : Fin 512) : Fin 4096 := ⟨512 * t.val + r.val, by have := pt_lt t; omega⟩

/-- One entry of the projection of a token of the prompt. -/
def row (c : Dev nD) (R : Fin 4096) (C : Fin 1536) : EReal :=
  proj (fun d => a0 m c (ix2 R d)) (fun d => a1 m c (ix4 1 0 0 d)) (fun d => a1 m c (ix4 0 0 0 d)) (fun d => a2 m c (ix2 d C))

theorem ld0 (c : Dev nD) (t : Fin cfg0.N) (r : Fin 512) (d : Fin 1024) :
    (View.ld (Val := Elt Ideal) (S := S512x1024) (e' := .f32) (iblk m c 0 t) r0_0 : FVec Ideal S512x1024 .f32) (ix2 r d) = a0 m c (ix2 (tok t r) d) :=
  (View.ld_unit_apply_of (iblk m c 0 t) ![0, 0] S512x1024.size inb_S512x1024_S512x1024_0_0 (ix2 r d) (ix2 r d)
    (by intro a; fin_cases a <;> simp)).trans (by unfold tok; blk_ext [iblk, V, idx0 t])
theorem ld1 (c : Dev nD) (t : Fin cfg0.N) (d : Fin 1024) :
    (View.ld (Val := Elt Ideal) (S := S6x1x1x1024) (e' := .f32) (iblk m c 1 t) r0_1 : FVec Ideal S1x1x1x1024 .f32) (ix4 0 0 0 d) = a1 m c (ix4 1 0 0 d) :=
  (View.ld_unit_apply_of (iblk m c 1 t) ![1, 0, 0, 0] S1x1x1x1024.size inb_S6x1x1x1024_S1x1x1x1024_1_0_0_0 (ix4 0 0 0 d) (ix4 1 0 0 d)
    (by intro a; fin_cases a <;> simp <;> rfl)).trans (by blk_ext [iblk, V, idx1 t])
theorem ld2 (c : Dev nD) (t : Fin cfg0.N) (d : Fin 1024) :
    (View.ld (Val := Elt Ideal) (S := S6x1x1x1024) (e' := .f32) (iblk m c 1 t) r0_2 : FVec Ideal S1x1x1x1024 .f32) (ix4 0 0 0 d) = a1 m c (ix4 0 0 0 d) :=
  (View.ld_unit_apply_of (iblk m c 1 t) ![0, 0, 0, 0] S1x1x1x1024.size inb_S6x1x1x1024_S1x1x1x1024_0_0_0_0 (ix4 0 0 0 d) (ix4 0 0 0 d)
    (by intro a; fin_cases a <;> simp <;> rfl)).trans (by blk_ext [iblk, V, idx1 t])
theorem ld3 (c : Dev nD) (t : Fin cfg0.N) (d : Fin 1024) (C : Fin 1536) :
    (View.ld (Val := Elt Ideal) (S := S1024x1536) (e' := .bf16) (iblk m c 2 t) r0_3 : FVec Ideal S1024x1536 .bf16) (ix2 d C) = a2 m c (ix2 d C) :=
  (View.ld_unit_apply_of (iblk m c 2 t) ![0, 0] S1024x1536.size inb_S1024x1536_S1024x1536_0_0 (ix2 d C) (ix2 d C)
    (by intro a; fin_cases a <;> simp)).trans (by blk_ext [iblk, V, idx2 t])
theorem ldq (c : Dev nD) (t : Fin cfg0.N) (j : Fin 128) :
    (View.ld (Val := Elt Ideal) (S := S1x128) (e' := .f32) (iblk m c 3 t) r0_4 : FVec Ideal S1x128 .f32) (ix2 0 j) = a3 m c (ix2 0 j) :=
  (View.ld_unit_apply_of (iblk m c 3 t) ![0, 0] S1x128.size inb_S1x128_S1x128_0_0 (ix2 0 j) (ix2 0 j)
    (by intro a; fin_cases a <;> simp)).trans (by blk_ext [iblk, V, idx3 t])
theorem ldk (c : Dev nD) (t : Fin cfg0.N) (j : Fin 128) :
    (View.ld (Val := Elt Ideal) (S := S1x128) (e' := .f32) (iblk m c 4 t) r0_4 : FVec Ideal S1x128 .f32) (ix2 0 j) = a4 m c (ix2 0 j) :=
  (View.ld_unit_apply_of (iblk m c 4 t) ![0, 0] S1x128.size inb_S1x128_S1x128_0_0 (ix2 0 j) (ix2 0 j)
    (by intro a; fin_cases a <;> simp)).trans (by blk_ext [iblk, V, idx4 t])

/-- The block of the projection a point computes. -/
def blk (c : Dev nD) (t : Fin cfg0.N) : FVec Ideal S512x1536 .f32 :=
  k0_pay1 (F := Ideal) (View.ld (iblk m c 0 t) r0_0) (View.ld (iblk m c 1 t) r0_1) (View.ld (iblk m c 1 t) r0_2) (View.ld (iblk m c 2 t) r0_3)

theorem point (c : Dev nD) (t : Fin cfg0.N) (r : Fin 512) (C : Fin 1536) : blk m c t (ix2 r C) = row m c (tok t r) C := by
  unfold blk
  rw [pay1_apply]
  unfold row
  simp only [ld0, ld1, ld2, ld3]

/-- The gains as a point reads them. -/
abbrev gq (c : Dev nD) (t : Fin cfg0.N) : FVec Ideal S1x128 .f32 := View.ld (Val := Elt Ideal) (S := S1x128) (e' := .f32) (iblk m c 3 t) r0_4
abbrev gk (c : Dev nD) (t : Fin cfg0.N) : FVec Ideal S1x128 .f32 := View.ld (Val := Elt Ideal) (S := S1x128) (e' := .f32) (iblk m c 4 t) r0_4

/-- What a point's block of queries holds, and its block of keys. -/
def Gq (c : Dev nD) (t : Fin cfg0.N) : FVec Ideal S512x1024 .bf16 := fun y => qrow (row m c (tok t (y 0))) (fun j => a3 m c (ix2 0 j)) (y 1)
def Gk (c : Dev nD) (t : Fin cfg0.N) : FVec Ideal S512x256 .f32 := fun y => krow (row m c (tok t (y 0))) (fun j => a4 m c (ix2 0 j)) (y 1)

theorem Gq_of (c : Dev nD) (t : Fin cfg0.N) (r : Fin 512) (C : Fin 1024) (z : S512x1024.Idx) (h0 : (z 0).val = r.val) (h1 : (z 1).val = C.val) :
    qrow (fun C => blk m c t (ix2 r C)) (fun j => gq m c t (ix2 0 j)) C = Gq m c t z := by
  have e0 : (z 0 : Fin 512) = r := Fin.ext h0
  have e1 : (z 1 : Fin 1024) = C := Fin.ext h1
  unfold Gq
  simp only [point, ldq]
  rw [← e0, ← e1]
theorem Gk_of (c : Dev nD) (t : Fin cfg0.N) (r : Fin 512) (C : Fin 256) (z : S512x256.Idx) (h0 : (z 0).val = r.val) (h1 : (z 1).val = C.val) :
    krow (fun C => blk m c t (ix2 r C)) (fun j => gk m c t (ix2 0 j)) C = Gk m c t z := by
  have e0 : (z 0 : Fin 512) = r := Fin.ext h0
  have e1 : (z 1 : Fin 256) = C := Fin.ext h1
  unfold Gk
  simp only [point, ldk]
  rw [← e0, ← e1]

theorem idx_pair (x : S512x128.Idx) : ∃ (r : Fin 512) (l : Fin 128), x = ix2 r l := ⟨x 0, x 1, by funext a; fin_cases a <;> rfl⟩

/-- A point's block of queries. -/
theorem out_q (c : Dev nD) (hY : ∀ R C, IsNum (row m c R C)) (t : Fin cfg0.N) (y : S512x1024.Idx) :
    out0_7 (F := Ideal) (iblk m c 0 t) (iblk m c 1 t) (iblk m c 2 t) (iblk m c 3 t) (iblk m c 4 t) (iblk m c 5 t) (iblk m c 6 t) y = Gq m c t y := by
  have hB : ∀ r C, IsNum (blk m c t (ix2 r C)) := fun r C => by rw [point]; exact hY _ _
  unfold out0_7
  refine View.canon_apply_of_pieces (Val := Elt Ideal) (Gq m c t) _ ?_ y (cover0_7 _ _ _ _ _ _ _ _ y)
  intro pc hpc
  rcases List.mem_cons.mp hpc with rfl | hpc
  · intro x
    obtain ⟨r, l, rfl⟩ := idx_pair x
    exact (q_plain (blk m c t) (gq m c t) 896 slices_S512x1536_o0_896_S512x128 (by omega) (by omega) r l).trans
      (Gq_of m c t r _ _ (by show 0 + 1 * r.val = _; omega) (by show 896 + 1 * l.val = 896 + l.val; omega))
  rcases List.mem_cons.mp hpc with rfl | hpc
  · intro x
    obtain ⟨r, l, rfl⟩ := idx_pair x
    exact (q_plain (blk m c t) (gq m c t) 768 slices_S512x1536_o0_768_S512x128 (by omega) (by omega) r l).trans
      (Gq_of m c t r _ _ (by show 0 + 1 * r.val = _; omega) (by show 768 + 1 * l.val = 768 + l.val; omega))
  rcases List.mem_cons.mp hpc with rfl | hpc
  · intro x
    obtain ⟨r, l, rfl⟩ := idx_pair x
    exact (q_plain (blk m c t) (gq m c t) 640 slices_S512x1536_o0_640_S512x128 (by omega) (by omega) r l).trans
      (Gq_of m c t r _ _ (by show 0 + 1 * r.val = _; omega) (by show 640 + 1 * l.val = 640 + l.val; omega))
  rcases List.mem_cons.mp hpc with rfl | hpc
  · intro x
    obtain ⟨r, l, rfl⟩ := idx_pair x
    exact (q_plain (blk m c t) (gq m c t) 512 slices_S512x1536_o0_512_S512x128 (by omega) (by omega) r l).trans
      (Gq_of m c t r _ _ (by show 0 + 1 * r.val = _; omega) (by show 512 + 1 * l.val = 512 + l.val; omega))
  rcases List.mem_cons.mp hpc with rfl | hpc
  · intro x
    obtain ⟨r, l, rfl⟩ := idx_pair x
    exact (congrFun (q3_eq (blk m c t) (gq m c t)) _).trans ((q_slab (blk m c t) (gq m c t) hB 384 slices_S512x1536_o0_384_S512x128 3 (by omega) rfl r l).trans
      (Gq_of m c t r _ _ (by show 0 + 1 * r.val = _; omega) (by show 384 + 1 * l.val = 128 * 3 + l.val; omega)))
  rcases List.mem_cons.mp hpc with rfl | hpc
  · intro x
    obtain ⟨r, l, rfl⟩ := idx_pair x
    exact (congrFun (q2_eq (blk m c t) (gq m c t)) _).trans ((q_slab (blk m c t) (gq m c t) hB 256 slices_S512x1536_o0_256_S512x128 2 (by omega) rfl r l).trans
      (Gq_of m c t r _ _ (by show 0 + 1 * r.val = _; omega) (by show 256 + 1 * l.val = 128 * 2 + l.val; omega)))
  rcases List.mem_cons.mp hpc with rfl | hpc
  · intro x
    obtain ⟨r, l, rfl⟩ := idx_pair x
    exact (congrFun (q1_eq (blk m c t) (gq m c t)) _).trans ((q_slab (blk m c t) (gq m c t) hB 128 slices_S512x1536_o0_128_S512x128 1 (by omega) rfl r l).trans
      (Gq_of m c t r _ _ (by show 0 + 1 * r.val = _; omega) (by show 128 + 1 * l.val = 128 * 1 + l.val; omega)))
  rcases List.mem_cons.mp hpc with rfl | hpc
  · intro x
    obtain ⟨r, l, rfl⟩ := idx_pair x
    exact (congrFun (q0_eq (blk m c t) (gq m c t)) _).trans ((q_slab (blk m c t) (gq m c t) hB 0 slices_S512x1536_o0_0_S512x128 0 (by omega) rfl r l).trans
      (Gq_of m c t r _ _ (by show 0 + 1 * r.val = _; omega) (by show 0 + 1 * l.val = 128 * 0 + l.val; omega)))
  nomatch hpc

/-- A point's block of keys. -/
theorem out_k (c : Dev nD) (hY : ∀ R C, IsNum (row m c R C)) (t : Fin cfg0.N) (y : S512x256.Idx) :
    out0_8 (F := Ideal) (iblk m c 0 t) (iblk m c 1 t) (iblk m c 2 t) (iblk m c 3 t) (iblk m c 4 t) (iblk m c 5 t) (iblk m c 6 t) y = Gk m c t y := by
  have hB : ∀ r C, IsNum (blk m c t (ix2 r C)) := fun r C => by rw [point]; exact hY _ _
  unfold out0_8
  refine View.canon_apply_of_pieces (Val := Elt Ideal) (Gk m c t) _ ?_ y (cover0_8 _ _ y)
  intro pc hpc
  rcases List.mem_cons.mp hpc with rfl | hpc
  · intro x
    obtain ⟨r, l, rfl⟩ := idx_pair x
    exact (k_plain (blk m c t) (gk m c t) slices_S512x1536_o0_1152_S512x128 r l).trans
      (Gk_of m c t r _ _ (by show 0 + 1 * r.val = _; omega) (by show 128 + 1 * l.val = 128 + l.val; omega))
  rcases List.mem_cons.mp hpc with rfl | hpc
  · intro x
    obtain ⟨r, l, rfl⟩ := idx_pair x
    exact (congrFun (k0_eq (blk m c t) (gk m c t)) _).trans ((k_slab (blk m c t) (gk m c t) hB slices_S512x1536_o0_1024_S512x128 r l).trans
      (Gk_of m c t r _ _ (by show 0 + 1 * r.val = _; omega) (by show 0 + 1 * l.val = l.val; omega)))
  nomatch hpc

/-- A point's block of values. -/
theorem out_v (c : Dev nD) (t : Fin cfg0.N) (r : Fin 512) (C : Fin 256) :
    out0_9 (F := Ideal) (iblk m c 0 t) (iblk m c 1 t) (iblk m c 2 t) (iblk m c 3 t) (iblk m c 4 t) (iblk m c 5 t) (iblk m c 6 t) (ix2 r C)
      = row m c (tok t r) ⟨1280 + C.val, by omega⟩ := by
  rw [← point]
  unfold_out out0_9
  rw [canon9_eq]
  have e : ix9_0 (ix2 r C) = ix2 r (⟨1280 + C.val, by omega⟩ : Fin 1536) := by
    funext a; fin_cases a <;> first | rfl | exact Fin.ext (Nat.add_comm _ _)
  unfold E9
  rw [e]
  rfl

theorem cov7 : (cfg0.win 7).Covers := by decide +kernel
theorem emb7 (t : Fin cfg0.N) (r : Fin 512) (C : Fin 1024) : ((cfg0.win 7).blk t).view.emb (ix2 r C) = ix2 (tok t r) C := by
  unfold tok; blk_ext [idx7 t]
theorem cov8 : (cfg0.win 8).Covers := by decide +kernel
theorem emb8 (t : Fin cfg0.N) (r : Fin 512) (C : Fin 256) : ((cfg0.win 8).blk t).view.emb (ix2 r C) = ix2 (tok t r) C := by
  unfold tok; blk_ext [idx8 t]
theorem cov9 : (cfg0.win 9).Covers := by decide +kernel
theorem emb9 (t : Fin cfg0.N) (r : Fin 512) (C : Fin 256) : ((cfg0.win 9).blk t).view.emb (ix2 r C) = ix2 (tok t r) C := by
  unfold tok; blk_ext [idx9 t]

/-- What the call leaves for the queries. -/
theorem q_eq (c : Dev nD) (hY : ∀ R C, IsNum (row m c R C)) :
    (dats m 0 c).arrAt 7 cfg0.N = val_main_v53 (F := Ideal) (a0 m c) (a1 m c) (a2 m c) (a3 m c) := by
  refine (dats m 0 c).arrAt_eq_of_covers 7 _ cov7 fun t hf y => ?_
  obtain ⟨r, C, rfl⟩ : ∃ (r : Fin 512) (C : Fin 1024), y = ix2 r C := ⟨y 0, y 1, by funext a; fin_cases a <;> rfl⟩
  rw [emb7, ref_q]
  simp only [ref_v11]
  rw [after0_7]
  refine Eq.trans (cast_eq _ _) ?_
  refine Eq.trans ?_ (out_q m c hY t (ix2 r C))
  exact congrArg _ (by funext a; fin_cases a <;> rfl)

/-- What the call leaves for the keys. -/
theorem k_eq (c : Dev nD) (hY : ∀ R C, IsNum (row m c R C)) :
    (dats m 0 c).arrAt 8 cfg0.N = val_main_v55 (F := Ideal) (a0 m c) (a1 m c) (a2 m c) (a4 m c) := by
  refine (dats m 0 c).arrAt_eq_of_covers 8 _ cov8 fun t hf y => ?_
  obtain ⟨r, C, rfl⟩ : ∃ (r : Fin 512) (C : Fin 256), y = ix2 r C := ⟨y 0, y 1, by funext a; fin_cases a <;> rfl⟩
  rw [emb8, ref_k]
  simp only [ref_v11]
  rw [after0_8]
  refine Eq.trans (cast_eq _ _) ?_
  refine Eq.trans ?_ (out_k m c hY t (ix2 r C))
  exact congrArg _ (by funext a; fin_cases a <;> rfl)

/-- What the call leaves for the values. -/
theorem v_eq (c : Dev nD) : (dats m 0 c).arrAt 9 cfg0.N = val_main_v14 (F := Ideal) (a0 m c) (a1 m c) (a2 m c) := by
  refine (dats m 0 c).arrAt_eq_of_covers 9 _ cov9 fun t hf y => ?_
  obtain ⟨r, C, rfl⟩ : ∃ (r : Fin 512) (C : Fin 256), y = ix2 r C := ⟨y 0, y 1, by funext a; fin_cases a <;> rfl⟩
  rw [emb9, ref_v, ref_v11, after0_9]
  refine Eq.trans (cast_eq _ _) ?_
  refine Eq.trans ?_ (out_v m c t r C)
  exact congrArg _ (by funext a; fin_cases a <;> rfl)

/-- On finite tokens, modulation and weights every entry of the projection is a number. -/
theorem row_num [Cert.Pre_tokens_finite.Facts] (c : Dev nD)
    (h : (Cert.Pre_tokens_finite.fn (F := Ideal) (a0 m c) (a1 m c) (a2 m c) (a3 m c) (a4 m c) (a5 m c) (a6 m c)).1 = (fun _ => 1#1)
      ∧ (Cert.Pre_tokens_finite.fn (F := Ideal) (a0 m c) (a1 m c) (a2 m c) (a3 m c) (a4 m c) (a5 m c) (a6 m c)).2.1 = (fun _ => 1#1)
      ∧ (Cert.Pre_tokens_finite.fn (F := Ideal) (a0 m c) (a1 m c) (a2 m c) (a3 m c) (a4 m c) (a5 m c) (a6 m c)).2.2 = (fun _ => 1#1))
    (R : Fin 4096) (C : Fin 1536) : IsNum (row m c R C) := by
  refine proj_num (fun d => num_of_cmp ?_) (fun d => num_of_cmp ?_) (fun d => num_of_cmp ?_) (fun d => num_of_cmp ?_)
  · exact congrFun h.1 (ix2 R d)
  · exact congrFun h.2.1 (ix4 1 0 0 d)
  · exact congrFun h.2.1 (ix4 0 0 0 d)
  · exact congrFun h.2.2 (ix2 d C)

end Cert.Proj.Even

end
-- ==== Proof.OddTie.lean ====
/- The input projection of an odd layer on the prompt tokens and its reference have one value. -/
module

public import proofs.«01_k».proof.Proof.Gen.OddIdeal.Value
public import proofs.«01_k».proof.Proof.Gen.OddReferenceIdeal.Read
public import proofs.«01_k».proof.Proof.Proj
public import Idealize.ShloMosaic.Lib.Pipeline.ValueKit
public import Idealize.ShloMosaic.Lib.Pipeline.ReadBack

@[expose] public section

set_option maxRecDepth 16384

noncomputable section

namespace Cert.Proj.Odd

open Idealize.ShloMosaic Idealize.ShloMosaic.TcCoe Idealize.SL.Sem
open Cert.Proj Cert.OddIdeal Cert.OddIdeal.Gen Cert.OddIdeal.Value Cert.OddReferenceIdeal.Read

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0, 0, 0] := by decide +kernel
theorem idx2 : ∀ t : Fin grid0.N, win0_2.index t = ![0, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel

theorem pt_lt (t : Fin cfg0.N) : t.val < 8 := t.isLt

/-- The arguments the call reads, as arrays. -/
abbrev a0 (c : Dev nD) : FVec Ideal S4096x1024 .f32 := m ((c : Thread nD τ).loc main_arg0)
abbrev a1 (c : Dev nD) : FVec Ideal S6x8x1x1024 .f32 := m ((c : Thread nD τ).loc main_arg1)
abbrev a2 (c : Dev nD) : FVec Ideal S1024x3072 .bf16 := m ((c : Thread nD τ).loc main_arg2)

/-- The token a row of a point's block is. -/
def tok (t : Fin cfg0.N) (r : Fin 512) : Fin 4096 := ⟨512 * t.val + r.val, by have := pt_lt t; omega⟩

theorem pay6_apply (P0 : FVec Ideal S512x1024 .f32) (P1 P2 : FVec Ideal S1x1x1x1024 .f32) (P3 : FVec Ideal S1024x3072 .bf16) (r : Fin 512) (C : Fin 3072) :
    k0_pay6 (F := Ideal) P0 P1 P2 P3 (ix2 r C)
      = proj (fun d => P0 (ix2 r d)) (fun d => P1 (ix4 0 0 0 d)) (fun d => P2 (ix4 0 0 0 d)) (fun d => P3 (ix2 d C)) := by
  unfold proj
  pointwise [k0_pay6]

/-- One entry of the projection of a token of the prompt. -/
def row (c : Dev nD) (R : Fin 4096) (C : Fin 3072) : EReal :=
  proj (fun d => a0 m c (ix2 R d)) (fun d => a1 m c (ix4 1 0 0 d)) (fun d => a1 m c (ix4 0 0 0 d)) (fun d => a2 m c (ix2 d C))

theorem ld0 (c : Dev nD) (t : Fin cfg0.N) (r : Fin 512) (d : Fin 1024) :
    (View.ld (Val := Elt Ideal) (S := S512x1024) (e' := .f32) (iblk m c 0 t) r0_0 : FVec Ideal S512x1024 .f32) (ix2 r d) = a0 m c (ix2 (tok t r) d) :=
  (View.ld_unit_apply_of (iblk m c 0 t) ![0, 0] S512x1024.size inb_S512x1024_S512x1024_0_0 (ix2 r d) (ix2 r d)
    (by intro a; fin_cases a <;> simp)).trans (by unfold tok; blk_ext [iblk, V, idx0 t])
theorem ld1 (c : Dev nD) (t : Fin cfg0.N) (d : Fin 1024) :
    (View.ld (Val := Elt Ideal) (S := S6x1x1x1024) (e' := .f32) (iblk m c 1 t) r0_1 : FVec Ideal S1x1x1x1024 .f32) (ix4 0 0 0 d) = a1 m c (ix4 1 0 0 d) :=
  (View.ld_unit_apply_of (iblk m c 1 t) ![1, 0, 0, 0] S1x1x1x1024.size inb_S6x1x1x1024_S1x1x1x1024_1_0_0_0 (ix4 0 0 0 d) (ix4 1 0 0 d)
    (by intro a; fin_cases a <;> simp <;> rfl)).trans (by blk_ext [iblk, V, idx1 t])
theorem ld2 (c : Dev nD) (t : Fin cfg0.N) (d : Fin 1024) :
    (View.ld (Val := Elt Ideal) (S := S6x1x1x1024) (e' := .f32) (iblk m c 1 t) r0_2 : FVec Ideal S1x1x1x1024 .f32) (ix4 0 0 0 d) = a1 m c (ix4 0 0 0 d) :=
  (View.ld_unit_apply_of (iblk m c 1 t) ![0, 0, 0, 0] S1x1x1x1024.size inb_S6x1x1x1024_S1x1x1x1024_0_0_0_0 (ix4 0 0 0 d) (ix4 0 0 0 d)
    (by intro a; fin_cases a <;> simp <;> rfl)).trans (by blk_ext [iblk, V, idx1 t])
theorem ld3 (c : Dev nD) (t : Fin cfg0.N) (d : Fin 1024) (C : Fin 3072) :
    (View.ld (Val := Elt Ideal) (S := S1024x3072) (e' := .bf16) (iblk m c 2 t) r0_3 : FVec Ideal S1024x3072 .bf16) (ix2 d C) = a2 m c (ix2 d C) :=
  (View.ld_unit_apply_of (iblk m c 2 t) ![0, 0] S1024x3072.size inb_S1024x3072_S1024x3072_0_0 (ix2 d C) (ix2 d C)
    (by intro a; fin_cases a <;> simp)).trans (by blk_ext [iblk, V, idx2 t])

/-- The block of the projection a point computes. -/
theorem point (c : Dev nD) (t : Fin cfg0.N) (r : Fin 512) (C : Fin 3072) :
    k0_pay6 (F := Ideal) (View.ld (iblk m c 0 t) r0_0) (View.ld (iblk m c 1 t) r0_1) (View.ld (iblk m c 1 t) r0_2) (View.ld (iblk m c 2 t) r0_3) (ix2 r C)
      = row m c (tok t r) C := by
  rw [pay6_apply]
  unfold row
  simp only [ld0, ld1, ld2, ld3]

variable (x0 : FVec Ideal S4096x1024 .f32) (x1 : FVec Ideal S6x8x1x1024 .f32) (x2 : FVec Ideal S1024x3072 .bf16)

/-- The reference's projection at an index. -/
theorem ref_v11 (R : Fin 4096) (C : Fin 3072) :
    val_main_v11 (F := Ideal) x0 x1 x2 (ix2 R C)
      = proj (fun d => x0 (ix2 R d)) (fun d => x1 (ix4 1 0 0 d)) (fun d => x1 (ix4 0 0 0 d)) (fun d => x2 (ix2 d C)) := by
  unfold proj
  pointwise [val_main_v11, val_main_v10, val_main_v9, val_main_v8, val_main_v7, val_main_v6, val_main_v5, val_main_v4, val_main_v3,
    val_main_v2, val_main_v1, val_main_v0, val_main_cst]

theorem ref_q (R : Fin 4096) (C : Fin 1024) :
    val_main_v17 (F := Ideal) x0 x1 x2 (ix2 R C)
      = val_main_v11 (F := Ideal) x0 x1 x2 (ix2 R ⟨C.val, by omega⟩) * Ideal.ofBits .f32 0x3E000000#32 := by
  pointwise [val_main_v17, val_main_v16, val_main_v15, val_main_v12, val_main_cst_0]
theorem ref_k (R : Fin 4096) (C : Fin 1024) :
    val_main_v13 (F := Ideal) x0 x1 x2 (ix2 R C) = val_main_v11 (F := Ideal) x0 x1 x2 (ix2 R ⟨1024 + C.val, by omega⟩) := by
  pointwise [val_main_v13]
theorem ref_v (R : Fin 4096) (C : Fin 1024) :
    val_main_v14 (F := Ideal) x0 x1 x2 (ix2 R C) = val_main_v11 (F := Ideal) x0 x1 x2 (ix2 R ⟨2048 + C.val, by omega⟩) := by
  pointwise [val_main_v14]

/-- A point's block of queries. -/
theorem out_q (c : Dev nD) (t : Fin cfg0.N) (r : Fin 512) (C : Fin 1024) :
    out0_7 (F := Ideal) (iblk m c 0 t) (iblk m c 1 t) (iblk m c 2 t) (iblk m c 3 t) (iblk m c 4 t) (iblk m c 5 t) (iblk m c 6 t) (ix2 r C)
      = row m c (tok t r) ⟨C.val, by omega⟩ * Ideal.ofBits .f32 0x3E000000#32 := by
  rw [← point]
  unfold_out out0_7
  rw [canon7_eq]
  have e : ix7_0 (ix2 r C) = ix2 r (⟨C.val, by omega⟩ : Fin 3072) := by funext a; fin_cases a <;> rfl
  unfold E7
  rw [e]
  rfl

/-- A point's block of keys. -/
theorem out_k (c : Dev nD) (t : Fin cfg0.N) (r : Fin 512) (C : Fin 1024) :
    out0_8 (F := Ideal) (iblk m c 0 t) (iblk m c 1 t) (iblk m c 2 t) (iblk m c 3 t) (iblk m c 4 t) (iblk m c 5 t) (iblk m c 6 t) (ix2 r C)
      = row m c (tok t r) ⟨1024 + C.val, by omega⟩ := by
  rw [← point]
  unfold_out out0_8
  rw [canon8_eq]
  have e : ix8_0 (ix2 r C) = ix2 r (⟨1024 + C.val, by omega⟩ : Fin 3072) := by
    funext a; fin_cases a <;> first | rfl | exact Fin.ext (Nat.add_comm _ _)
  unfold E8
  rw [e]
  rfl

/-- A point's block of values. -/
theorem out_v (c : Dev nD) (t : Fin cfg0.N) (r : Fin 512) (C : Fin 1024) :
    out0_9 (F := Ideal) (iblk m c 0 t) (iblk m c 1 t) (iblk m c 2 t) (iblk m c 3 t) (iblk m c 4 t) (iblk m c 5 t) (iblk m c 6 t) (ix2 r C)
      = row m c (tok t r) ⟨2048 + C.val, by omega⟩ := by
  rw [← point]
  unfold_out out0_9
  rw [canon9_eq]
  have e : ix9_0 (ix2 r C) = ix2 r (⟨2048 + C.val, by omega⟩ : Fin 3072) := by
    funext a; fin_cases a <;> first | rfl | exact Fin.ext (Nat.add_comm _ _)
  unfold E9
  rw [e]
  rfl

theorem cov7 : (cfg0.win 7).Covers := by decide +kernel
theorem emb7 (t : Fin cfg0.N) (r : Fin 512) (C : Fin 1024) : ((cfg0.win 7).blk t).view.emb (ix2 r C) = ix2 (tok t r) C := by
  unfold tok; blk_ext [idx7 t]
theorem cov8 : (cfg0.win 8).Covers := by decide +kernel
theorem emb8 (t : Fin cfg0.N) (r : Fin 512) (C : Fin 1024) : ((cfg0.win 8).blk t).view.emb (ix2 r C) = ix2 (tok t r) C := by
  unfold tok; blk_ext [idx8 t]
theorem cov9 : (cfg0.win 9).Covers := by decide +kernel
theorem emb9 (t : Fin cfg0.N) (r : Fin 512) (C : Fin 1024) : ((cfg0.win 9).blk t).view.emb (ix2 r C) = ix2 (tok t r) C := by
  unfold tok; blk_ext [idx9 t]

/-- What the call leaves for the queries. -/
theorem q_eq (c : Dev nD) : (dats m 0 c).arrAt 7 cfg0.N = val_main_v17 (F := Ideal) (a0 m c) (a1 m c) (a2 m c) := by
  refine (dats m 0 c).arrAt_eq_of_covers 7 _ cov7 fun t hf y => ?_
  obtain ⟨r, C, rfl⟩ : ∃ (r : Fin 512) (C : Fin 1024), y = ix2 r C := ⟨y 0, y 1, by funext a; fin_cases a <;> rfl⟩
  rw [emb7, ref_q, ref_v11, after0_7]
  refine Eq.trans (cast_eq _ _) ?_
  refine Eq.trans ?_ (out_q m c t r C)
  exact congrArg _ (by funext a; fin_cases a <;> rfl)

/-- What the call leaves for the keys. -/
theorem k_eq (c : Dev nD) : (dats m 0 c).arrAt 8 cfg0.N = val_main_v13 (F := Ideal) (a0 m c) (a1 m c) (a2 m c) := by
  refine (dats m 0 c).arrAt_eq_of_covers 8 _ cov8 fun t hf y => ?_
  obtain ⟨r, C, rfl⟩ : ∃ (r : Fin 512) (C : Fin 1024), y = ix2 r C := ⟨y 0, y 1, by funext a; fin_cases a <;> rfl⟩
  rw [emb8, ref_k, ref_v11, after0_8]
  refine Eq.trans (cast_eq _ _) ?_
  refine Eq.trans ?_ (out_k m c t r C)
  exact congrArg _ (by funext a; fin_cases a <;> rfl)

/-- What the call leaves for the values. -/
theorem v_eq (c : Dev nD) : (dats m 0 c).arrAt 9 cfg0.N = val_main_v14 (F := Ideal) (a0 m c) (a1 m c) (a2 m c) := by
  refine (dats m 0 c).arrAt_eq_of_covers 9 _ cov9 fun t hf y => ?_
  obtain ⟨r, C, rfl⟩ : ∃ (r : Fin 512) (C : Fin 1024), y = ix2 r C := ⟨y 0, y 1, by funext a; fin_cases a <;> rfl⟩
  rw [emb9, ref_v, ref_v11, after0_9]
  refine Eq.trans (cast_eq _ _) ?_
  refine Eq.trans ?_ (out_v m c t r C)
  exact congrArg _ (by funext a; fin_cases a <;> rfl)

end Cert.Proj.Odd

end
-- ==== Proof.OddSampleTie.lean ====
/- The input projection of an odd layer on the sample tokens and its reference have one value. -/
module

public import proofs.«01_k».proof.Proof.Gen.OddSampleIdeal.Value
public import proofs.«01_k».proof.Proof.Gen.OddSampleReferenceIdeal.Read
public import proofs.«01_k».proof.Proof.Proj
public import Idealize.ShloMosaic.Lib.Pipeline.ValueKit
public import Idealize.ShloMosaic.Lib.Pipeline.ReadBack

@[expose] public section

set_option maxRecDepth 16384

noncomputable section

namespace Cert.Proj.OddSample

open Idealize.ShloMosaic Idealize.ShloMosaic.TcCoe Idealize.SL.Sem
open Cert.Proj Cert.OddSampleIdeal Cert.OddSampleIdeal.Gen Cert.OddSampleIdeal.Value Cert.OddSampleReferenceIdeal.Read

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 1 + t.val / 8, 0, 0] := by decide +kernel
theorem idx2 : ∀ t : Fin grid0.N, win0_2.index t = ![0, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel

theorem pt_lt (t : Fin cfg0.N) : t.val < 16 := t.isLt

/-- The arguments the call reads, as arrays. -/
abbrev a0 (c : Dev nD) : FVec Ideal S8192x1024 .f32 := m ((c : Thread nD τ).loc main_arg0)
abbrev a1 (c : Dev nD) : FVec Ideal S6x8x1x1024 .f32 := m ((c : Thread nD τ).loc main_arg1)
abbrev a2 (c : Dev nD) : FVec Ideal S1024x3072 .bf16 := m ((c : Thread nD τ).loc main_arg2)

/-- The token a row of a point's block is. -/
def tok (t : Fin cfg0.N) (r : Fin 512) : Fin 8192 := ⟨512 * t.val + r.val, by have := pt_lt t; omega⟩

theorem pay7_apply (P0 : FVec Ideal S512x1024 .f32) (P1 P2 : FVec Ideal S1x1x1x1024 .f32) (P3 : FVec Ideal S1024x3072 .bf16) (r : Fin 512) (C : Fin 3072) :
    k0_pay7 (F := Ideal) P0 P1 P2 P3 (ix2 r C)
      = proj (fun d => P0 (ix2 r d)) (fun d => P1 (ix4 0 0 0 d)) (fun d => P2 (ix4 0 0 0 d)) (fun d => P3 (ix2 d C)) := by
  unfold proj
  pointwise [k0_pay7]

/-- The sample a token belongs to, as a row of the modulation: row 0 is the prompt's. -/
def sam (R : Fin 8192) : Fin 8 := ⟨1 + R.val / 4096, by omega⟩

theorem sam_tok (t : Fin cfg0.N) (r : Fin 512) : sam (tok t r) = ⟨1 + t.val / 8, by have := pt_lt t; omega⟩ := by
  have := pt_lt t
  exact Fin.ext (by show 1 + (512 * t.val + r.val) / 4096 = 1 + t.val / 8; omega)

/-- One entry of the projection of a token of the samples. -/
def row (c : Dev nD) (R : Fin 8192) (C : Fin 3072) : EReal :=
  proj (fun d => a0 m c (ix2 R d)) (fun d => a1 m c (ix4 1 (sam R) 0 d)) (fun d => a1 m c (ix4 0 (sam R) 0 d)) (fun d => a2 m c (ix2 d C))

theorem ld0 (c : Dev nD) (t : Fin cfg0.N) (r : Fin 512) (d : Fin 1024) :
    (View.ld (Val := Elt Ideal) (S := S512x1024) (e' := .f32) (iblk m c 0 t) r0_0 : FVec Ideal S512x1024 .f32) (ix2 r d) = a0 m c (ix2 (tok t r) d) :=
  (View.ld_unit_apply_of (iblk m c 0 t) ![0, 0] S512x1024.size inb_S512x1024_S512x1024_0_0 (ix2 r d) (ix2 r d)
    (by intro a; fin_cases a <;> simp)).trans (by unfold tok; blk_ext [iblk, V, idx0 t])
theorem ld1 (c : Dev nD) (t : Fin cfg0.N) (d : Fin 1024) :
    (View.ld (Val := Elt Ideal) (S := S6x1x1x1024) (e' := .f32) (iblk m c 1 t) r0_1 : FVec Ideal S1x1x1x1024 .f32) (ix4 0 0 0 d)
      = a1 m c (ix4 1 ⟨1 + t.val / 8, by have := pt_lt t; omega⟩ 0 d) :=
  (View.ld_unit_apply_of (iblk m c 1 t) ![1, 0, 0, 0] S1x1x1x1024.size inb_S6x1x1x1024_S1x1x1x1024_1_0_0_0 (ix4 0 0 0 d) (ix4 1 0 0 d)
    (by intro a; fin_cases a <;> simp <;> rfl)).trans (by blk_ext [iblk, V, idx1 t])
theorem ld2 (c : Dev nD) (t : Fin cfg0.N) (d : Fin 1024) :
    (View.ld (Val := Elt Ideal) (S := S6x1x1x1024) (e' := .f32) (iblk m c 1 t) r0_2 : FVec Ideal S1x1x1x1024 .f32) (ix4 0 0 0 d)
      = a1 m c (ix4 0 ⟨1 + t.val / 8, by have := pt_lt t; omega⟩ 0 d) :=
  (View.ld_unit_apply_of (iblk m c 1 t) ![0, 0, 0, 0] S1x1x1x1024.size inb_S6x1x1x1024_S1x1x1x1024_0_0_0_0 (ix4 0 0 0 d) (ix4 0 0 0 d)
    (by intro a; fin_cases a <;> simp <;> rfl)).trans (by blk_ext [iblk, V, idx1 t])
theorem ld3 (c : Dev nD) (t : Fin cfg0.N) (d : Fin 1024) (C : Fin 3072) :
    (View.ld (Val := Elt Ideal) (S := S1024x3072) (e' := .bf16) (iblk m c 2 t) r0_3 : FVec Ideal S1024x3072 .bf16) (ix2 d C) = a2 m c (ix2 d C) :=
  (View.ld_unit_apply_of (iblk m c 2 t) ![0, 0] S1024x3072.size inb_S1024x3072_S1024x3072_0_0 (ix2 d C) (ix2 d C)
    (by intro a; fin_cases a <;> simp)).trans (by blk_ext [iblk, V, idx2 t])

/-- The block of the projection a point computes. -/
theorem point (c : Dev nD) (t : Fin cfg0.N) (r : Fin 512) (C : Fin 3072) :
    k0_pay7 (F := Ideal) (View.ld (iblk m c 0 t) r0_0) (View.ld (iblk m c 1 t) r0_1) (View.ld (iblk m c 1 t) r0_2) (View.ld (iblk m c 2 t) r0_3) (ix2 r C)
      = row m c (tok t r) C := by
  rw [pay7_apply]
  unfold row
  simp only [ld0, ld1, ld2, ld3, sam_tok]

variable (x0 : FVec Ideal S8192x1024 .f32) (x1 : FVec Ideal S6x8x1x1024 .f32) (x2 : FVec Ideal S1024x3072 .bf16)

/-- The reference's projection at an index. -/
theorem ref_v13 (R : Fin 8192) (C : Fin 3072) :
    val_main_v13 (F := Ideal) x0 x1 x2 (ix2 R C)
      = proj (fun d => x0 (ix2 R d)) (fun d => x1 (ix4 1 (sam R) 0 d)) (fun d => x1 (ix4 0 (sam R) 0 d)) (fun d => x2 (ix2 d C)) := by
  unfold proj sam
  pointwise [val_main_v13, val_main_v12, val_main_v11, val_main_v10, val_main_v9, val_main_v8, val_main_v7, val_main_v6, val_main_v5,
    val_main_v4, val_main_v3, val_main_v2, val_main_v1, val_main_v0, val_main_cst]

theorem ref_q (R : Fin 8192) (C : Fin 1024) :
    val_main_v19 (F := Ideal) x0 x1 x2 (ix2 R C)
      = val_main_v13 (F := Ideal) x0 x1 x2 (ix2 R ⟨C.val, by omega⟩) * Ideal.ofBits .f32 0x3E000000#32 := by
  pointwise [val_main_v19, val_main_v18, val_main_v17, val_main_v14, val_main_cst_0]
theorem ref_k (R : Fin 8192) (C : Fin 1024) :
    val_main_v20 (F := Ideal) x0 x1 x2 (ix2 R C) = val_main_v13 (F := Ideal) x0 x1 x2 (ix2 R ⟨1024 + C.val, by omega⟩) := by
  pointwise [val_main_v20, val_main_v15]
theorem ref_v (R : Fin 8192) (C : Fin 1024) :
    val_main_v21 (F := Ideal) x0 x1 x2 (ix2 R C) = val_main_v13 (F := Ideal) x0 x1 x2 (ix2 R ⟨2048 + C.val, by omega⟩) := by
  pointwise [val_main_v21, val_main_v16]

/-- A point's block of queries. -/
theorem out_q (c : Dev nD) (t : Fin cfg0.N) (r : Fin 512) (C : Fin 1024) :
    out0_7 (F := Ideal) (iblk m c 0 t) (iblk m c 1 t) (iblk m c 2 t) (iblk m c 3 t) (iblk m c 4 t) (iblk m c 5 t) (iblk m c 6 t) (ix2 r C)
      = row m c (tok t r) ⟨C.val, by omega⟩ * Ideal.ofBits .f32 0x3E000000#32 := by
  rw [← point]
  unfold_out out0_7
  rw [canon7_eq]
  have e : ix7_0 (ix2 r C) = ix2 r (⟨C.val, by omega⟩ : Fin 3072) := by funext a; fin_cases a <;> rfl
  unfold E7
  rw [e]
  rfl

/-- A point's block of keys. -/
theorem out_k (c : Dev nD) (t : Fin cfg0.N) (r : Fin 512) (C : Fin 1024) :
    out0_8 (F := Ideal) (iblk m c 0 t) (iblk m c 1 t) (iblk m c 2 t) (iblk m c 3 t) (iblk m c 4 t) (iblk m c 5 t) (iblk m c 6 t) (ix2 r C)
      = row m c (tok t r) ⟨1024 + C.val, by omega⟩ := by
  rw [← point]
  unfold_out out0_8
  rw [canon8_eq]
  have e : ix8_0 (ix2 r C) = ix2 r (⟨1024 + C.val, by omega⟩ : Fin 3072) := by
    funext a; fin_cases a <;> first | rfl | exact Fin.ext (Nat.add_comm _ _)
  unfold E8
  rw [e]
  rfl

/-- A point's block of values. -/
theorem out_v (c : Dev nD) (t : Fin cfg0.N) (r : Fin 512) (C : Fin 1024) :
    out0_9 (F := Ideal) (iblk m c 0 t) (iblk m c 1 t) (iblk m c 2 t) (iblk m c 3 t) (iblk m c 4 t) (iblk m c 5 t) (iblk m c 6 t) (ix2 r C)
      = row m c (tok t r) ⟨2048 + C.val, by omega⟩ := by
  rw [← point]
  unfold_out out0_9
  rw [canon9_eq]
  have e : ix9_0 (ix2 r C) = ix2 r (⟨2048 + C.val, by omega⟩ : Fin 3072) := by
    funext a; fin_cases a <;> first | rfl | exact Fin.ext (Nat.add_comm _ _)
  unfold E9
  rw [e]
  rfl

theorem cov7 : (cfg0.win 7).Covers := by decide +kernel
theorem emb7 (t : Fin cfg0.N) (r : Fin 512) (C : Fin 1024) : ((cfg0.win 7).blk t).view.emb (ix2 r C) = ix2 (tok t r) C := by
  unfold tok; blk_ext [idx7 t]
theorem cov8 : (cfg0.win 8).Covers := by decide +kernel
theorem emb8 (t : Fin cfg0.N) (r : Fin 512) (C : Fin 1024) : ((cfg0.win 8).blk t).view.emb (ix2 r C) = ix2 (tok t r) C := by
  unfold tok; blk_ext [idx8 t]
theorem cov9 : (cfg0.win 9).Covers := by decide +kernel
theorem emb9 (t : Fin cfg0.N) (r : Fin 512) (C : Fin 1024) : ((cfg0.win 9).blk t).view.emb (ix2 r C) = ix2 (tok t r) C := by
  unfold tok; blk_ext [idx9 t]

/-- What the call leaves for the queries. -/
theorem q_eq (c : Dev nD) : (dats m 0 c).arrAt 7 cfg0.N = val_main_v19 (F := Ideal) (a0 m c) (a1 m c) (a2 m c) := by
  refine (dats m 0 c).arrAt_eq_of_covers 7 _ cov7 fun t hf y => ?_
  obtain ⟨r, C, rfl⟩ : ∃ (r : Fin 512) (C : Fin 1024), y = ix2 r C := ⟨y 0, y 1, by funext a; fin_cases a <;> rfl⟩
  rw [emb7, ref_q, ref_v13, after0_7]
  refine Eq.trans (cast_eq _ _) ?_
  refine Eq.trans ?_ (out_q m c t r C)
  exact congrArg _ (by funext a; fin_cases a <;> rfl)

/-- What the call leaves for the keys. -/
theorem k_eq (c : Dev nD) : (dats m 0 c).arrAt 8 cfg0.N = val_main_v20 (F := Ideal) (a0 m c) (a1 m c) (a2 m c) := by
  refine (dats m 0 c).arrAt_eq_of_covers 8 _ cov8 fun t hf y => ?_
  obtain ⟨r, C, rfl⟩ : ∃ (r : Fin 512) (C : Fin 1024), y = ix2 r C := ⟨y 0, y 1, by funext a; fin_cases a <;> rfl⟩
  rw [emb8, ref_k, ref_v13, after0_8]
  refine Eq.trans (cast_eq _ _) ?_
  refine Eq.trans ?_ (out_k m c t r C)
  exact congrArg _ (by funext a; fin_cases a <;> rfl)

/-- What the call leaves for the values. -/
theorem v_eq (c : Dev nD) : (dats m 0 c).arrAt 9 cfg0.N = val_main_v21 (F := Ideal) (a0 m c) (a1 m c) (a2 m c) := by
  refine (dats m 0 c).arrAt_eq_of_covers 9 _ cov9 fun t hf y => ?_
  obtain ⟨r, C, rfl⟩ : ∃ (r : Fin 512) (C : Fin 1024), y = ix2 r C := ⟨y 0, y 1, by funext a; fin_cases a <;> rfl⟩
  rw [emb9, ref_v, ref_v13, after0_9]
  refine Eq.trans (cast_eq _ _) ?_
  refine Eq.trans ?_ (out_v m c t r C)
  exact congrArg _ (by funext a; fin_cases a <;> rfl)

end Cert.Proj.OddSample

end
-- ==== Proof.EvenSamplePay.lean ====
/- The even layer's input projection on one block of sample tokens, whose queries and keys are turned by their position: its entries in closed form. -/
module

public import proofs.«01_k».proof.Proof.Gen.EvenSampleIdeal.Value
public import proofs.«01_k».proof.Proof.EvenPay
public import Idealize.ShloMosaic.Lib.KernelVsHost

@[expose] public section

set_option maxRecDepth 16384

noncomputable section

namespace Cert.Proj.EvenSample

open Idealize.ShloMosaic Idealize.ShloMosaic.TcCoe Idealize.SL.Sem
open Cert.Proj Cert.EvenSampleIdeal Cert.EvenSampleIdeal.Gen Cert.EvenSampleIdeal.Value
open Cert.Proj.Even (rmsv heads rmsv_apply krow k_slab k_plain)

theorem pay1_apply (P0 : FVec Ideal S512x1024 .f32) (P1 P2 : FVec Ideal S1x1x1x1024 .f32) (P3 : FVec Ideal S1024x1536 .bf16) (r : Fin 512) (C : Fin 1536) :
    k0_pay1 (F := Ideal) P0 P1 P2 P3 (ix2 r C)
      = proj (fun d => P0 (ix2 r d)) (fun d => P1 (ix4 0 0 0 d)) (fun d => P2 (ix4 0 0 0 d)) (fun d => P3 (ix2 d C)) := by
  unfold proj
  pointwise [k0_pay1]

/-- The matrix of heads is the one of the prompt's call. -/
theorem heads_same : k0_pay5 (F := Ideal) k0_pay2 k0_pay3 k0_pay4 = heads := rfl

/-- The lanes in the first half of their quarter pair. -/
def mask : IVec S512x128 1 := k0_pay9 (Scalar.select (Scalar.cmpi .eq 32#32 0#32) 1#32 32#32) k0_pay6 k0_pay7 k0_pay8

/-- The bit the kernel computes for a lane: the remainder by 32, with its correction towards minus infinity, below 16. -/
def maskBit (l : Fin 128) : BitVec 1 :=
  IntOp.cmpi .slt
    (Scalar.select
      (IntOp.andi (IntOp.xori (IntOp.cmpi .slt (IntOp.remsi .vector (BitVec.ofNat 32 l.val) (Scalar.select (Scalar.cmpi .eq 32#32 0#32) 1#32 32#32)) 0#32)
          (Scalar.cmpi .slt (Scalar.select (Scalar.cmpi .eq 32#32 0#32) 1#32 32#32) 0#32))
        (IntOp.cmpi .ne (IntOp.remsi .vector (BitVec.ofNat 32 l.val) (Scalar.select (Scalar.cmpi .eq 32#32 0#32) 1#32 32#32)) 0#32))
      (IntOp.addi (IntOp.remsi .vector (BitVec.ofNat 32 l.val) (Scalar.select (Scalar.cmpi .eq 32#32 0#32) 1#32 32#32))
        (Scalar.select (Scalar.cmpi .eq 32#32 0#32) 1#32 32#32))
      (IntOp.remsi .vector (BitVec.ofNat 32 l.val) (Scalar.select (Scalar.cmpi .eq 32#32 0#32) 1#32 32#32)))
    16#32

theorem maskBit_eq : ∀ l : Fin 128, maskBit l = if l.val % 32 < 16 then 1#1 else 0#1 := by decide +kernel

theorem mask_apply (r : Fin 512) (l : Fin 128) : mask (ix2 r l) = if l.val % 32 < 16 then 1#1 else 0#1 := by
  rw [← maskBit_eq]
  unfold maskBit
  pointwise [mask, k0_pay9, k0_pay8, k0_pay7, k0_pay6]

/-- The column a column's partner is in: quarters of 16 swapped in pairs. -/
def swap (C : ℕ) : ℕ := if C % 32 < 16 then C + 16 else C - 16

theorem swap_lt {n C : ℕ} (hn : n % 128 = 0) (h : C < n) : swap C < n := by unfold swap; split <;> omega

/-- A row turned by its position: each column times the cosine, and its partner times the signed sine. -/
def turned {n : ℕ} (hn : n % 128 = 0) (f : Fin n → EReal) (c s : Fin 128 → EReal) (C : Fin n) : EReal :=
  f C * c ⟨C.val % 128, by omega⟩ + f ⟨swap C.val, swap_lt hn C.isLt⟩ * s ⟨C.val % 128, by omega⟩

/-- A slab of 128 columns turned. -/
def turnv (T c s : FVec Ideal S512x128 .f32) : FVec Ideal S512x128 .f32 :=
  addf (mulf T c) (mulf (select mask (dynamicRotate 1 112#32 none T rotates_S512x128_d1) (dynamicRotate 1 16#32 none T rotates_S512x128_d1)) s)

/-- The lanes brought together by the two rotations. -/
theorem partner (T : FVec Ideal S512x128 .f32) (r : Fin 512) (l : Fin 128) :
    select mask (dynamicRotate 1 112#32 none T rotates_S512x128_d1) (dynamicRotate 1 16#32 none T rotates_S512x128_d1) (ix2 r l)
      = T (ix2 r ⟨swap l.val, swap_lt (by decide) l.isLt⟩) := by
  show Scalar.select (mask (ix2 r l)) _ _ = _
  rw [mask_apply]
  by_cases b : l.val % 32 < 16
  · rw [if_pos b]
    have e : swap l.val = l.val + 16 := if_pos b
    refine Eq.trans (show _ = dynamicRotate 1 112#32 none T rotates_S512x128_d1 (ix2 r l) from rfl) ?_
    refine dynamicRotate_apply _ _ _ _ _ _ fun a => ?_
    fin_cases a
    · rfl
    · show swap l.val = (l.val + 128 - 112) % 128
      omega
  · rw [if_neg b]
    have e : swap l.val = l.val - 16 := if_neg b
    refine Eq.trans (show _ = dynamicRotate 1 16#32 none T rotates_S512x128_d1 (ix2 r l) from rfl) ?_
    refine dynamicRotate_apply _ _ _ _ _ _ fun a => ?_
    fin_cases a
    · rfl
    · show swap l.val = (l.val + 128 - 16) % 128
      omega

/-- A slab turned, where the slab is a piece of a longer row. -/
theorem turnv_apply {n : ℕ} (hn : n % 128 = 0) (f : Fin n → EReal) (T c s : FVec Ideal S512x128 .f32) (r : Fin 512) (a : ℕ) (ha : 128 * a + 128 ≤ n)
    (hT : ∀ j : Fin 128, T (ix2 r j) = f ⟨128 * a + j.val, by omega⟩) (l : Fin 128) :
    turnv T c s (ix2 r l) = turned hn f (fun j => c (ix2 r j)) (fun j => s (ix2 r j)) ⟨128 * a + l.val, by omega⟩ := by
  refine Eq.trans (show _ = T (ix2 r l) * c (ix2 r l)
    + select mask (dynamicRotate 1 112#32 none T rotates_S512x128_d1) (dynamicRotate 1 16#32 none T rotates_S512x128_d1) (ix2 r l) * s (ix2 r l) from rfl) ?_
  rw [partner, hT, hT]
  unfold turned
  have e1 : (128 * a + l.val) % 128 = l.val := by omega
  have e2 : 128 * a + swap l.val = swap (128 * a + l.val) := by
    unfold swap
    by_cases b : l.val % 32 < 16
    · rw [if_pos b, if_pos (by omega)]; omega
    · rw [if_neg b, if_neg (by omega)]; omega
  simp only [e1, e2]

/-- The queries of a row of the projection before they are turned: the first four slabs with their heads normalized. -/
def qnorm (y : Fin 1536 → EReal) (g : Fin 128 → EReal) (C : Fin 1024) : EReal :=
  if C.val < 512 then rms2 (fun j => y ⟨128 * (C.val / 128) + j.val, by omega⟩) g ⟨C.val % 128, by omega⟩ else y ⟨C.val, by omega⟩

/-- The turned and scaled queries of a row of the projection. -/
def qturn (y : Fin 1536 → EReal) (g c s : Fin 128 → EReal) (C : Fin 1024) : EReal :=
  turned (by decide) (qnorm y g) c s C * Ideal.ofBits .f32 0x3E000000#32

/-- The turned keys of a row of the projection. -/
def kturn (y : Fin 1536 → EReal) (g c s : Fin 128 → EReal) (C : Fin 256) : EReal := turned (by decide) (krow y g) c s C

section eqs
variable (Y : FVec Ideal S512x1536 .f32) (c s : FVec Ideal S512x128 .f32) (g : FVec Ideal S1x128 .f32)

/-- A slab of the queries as it is stored, and one of the keys. -/
def qout (T c s : FVec Ideal S512x128 .f32) : FVec Ideal S512x128 .bf16 :=
  truncf .bf16 (mulf (turnv T c s) (broadcast S512x128 (Scalar.ofBits .f32 0x3E000000#32))) bitsLt_bf16_f32
def kout (T c s : FVec Ideal S512x128 .f32) : FVec Ideal S512x128 .bf16 := truncf .bf16 (turnv T c s) bitsLt_bf16_f32

theorem q0_eq : k0_pay10 (F := Ideal) Y heads c s (Scalar.select (Scalar.cmpi .eq 32#32 0#32) 1#32 32#32) k0_pay6 k0_pay7 k0_pay8 g
    = qout (rmsv (extractStridedSlice S512x128 ![0, 0] Y slices_S512x1536_o0_0_S512x128) heads g) c s := rfl
theorem q1_eq : k0_pay15 (F := Ideal) heads c s mask (k0_pay11 Y) g (k0_pay13 Y) (k0_pay14 Y)
    = qout (rmsv (extractStridedSlice S512x128 ![0, 128] Y slices_S512x1536_o0_128_S512x128) heads g) c s := rfl
theorem q2_eq : k0_pay19 (F := Ideal) c s mask (k0_pay16 Y heads g) (k0_pay17 Y heads g) (k0_pay18 Y heads g)
    = qout (rmsv (extractStridedSlice S512x128 ![0, 256] Y slices_S512x1536_o0_256_S512x128) heads g) c s := rfl
theorem q3_eq : k0_pay20 (F := Ideal) Y heads c s mask g
    = qout (rmsv (extractStridedSlice S512x128 ![0, 384] Y slices_S512x1536_o0_384_S512x128) heads g) c s := rfl
theorem q4_eq : k0_pay24 (F := Ideal) (k0_pay22 Y c) (k0_pay23 Y s mask)
    = qout (extractStridedSlice S512x128 ![0, 512] Y slices_S512x1536_o0_512_S512x128) c s := rfl
theorem q5_eq : k0_pay25 (F := Ideal) Y c s mask = qout (extractStridedSlice S512x128 ![0, 640] Y slices_S512x1536_o0_640_S512x128) c s := rfl
theorem q6_eq : k0_pay26 (F := Ideal) Y c s mask = qout (extractStridedSlice S512x128 ![0, 768] Y slices_S512x1536_o0_768_S512x128) c s := rfl
theorem q7_eq : k0_pay27 (F := Ideal) Y c s mask = qout (extractStridedSlice S512x128 ![0, 896] Y slices_S512x1536_o0_896_S512x128) c s := rfl
theorem k0_eq : k0_pay28 (F := Ideal) Y heads c s mask g
    = kout (rmsv (extractStridedSlice S512x128 ![0, 1024] Y slices_S512x1536_o0_1024_S512x128) heads g) c s := rfl
theorem k1_eq : k0_pay29 (F := Ideal) Y c s mask = kout (extractStridedSlice S512x128 ![0, 1152] Y slices_S512x1536_o0_1152_S512x128) c s := rfl

end eqs

variable (Y : FVec Ideal S512x1536 .f32) (c s : FVec Ideal S512x128 .f32) (g : FVec Ideal S1x128 .f32) (hY : ∀ r C, IsNum (Y (ix2 r C)))

/-- A plain slab of the queries. -/
theorem q_plain (o : ℕ) (b : S512x1536.Slices ![0, o] S512x128) (a : ℕ) (ho : o = 128 * a) (ha : 4 ≤ a) (ha' : a < 8) (r : Fin 512) (l : Fin 128) :
    qout (extractStridedSlice S512x128 ![0, o] Y b) c s (ix2 r l)
      = qturn (fun C => Y (ix2 r C)) (fun j => g (ix2 0 j)) (fun j => c (ix2 r j)) (fun j => s (ix2 r j)) ⟨128 * a + l.val, by omega⟩ := by
  subst ho
  refine congrArg (fun z : EReal => z * Ideal.ofBits .f32 0x3E000000#32)
    (turnv_apply (n := 1024) (by decide) (qnorm (fun C => Y (ix2 r C)) (fun j => g (ix2 0 j))) _ c s r a (by omega) (fun j => ?_) l)
  unfold qnorm
  rw [if_neg (by show ¬ 128 * a + j.val < 512; omega)]
  exact extractStridedSlice_apply _ _ _ _ _ (by intro a; fin_cases a <;> simp)

include hY

/-- A normalized slab of the queries. -/
theorem q_slab (o : ℕ) (b : S512x1536.Slices ![0, o] S512x128) (a : ℕ) (ho : o = 128 * a) (ha : a < 4) (r : Fin 512) (l : Fin 128) :
    qout (rmsv (extractStridedSlice S512x128 ![0, o] Y b) heads g) c s (ix2 r l)
      = qturn (fun C => Y (ix2 r C)) (fun j => g (ix2 0 j)) (fun j => c (ix2 r j)) (fun j => s (ix2 r j)) ⟨128 * a + l.val, by omega⟩ := by
  subst ho
  have e : ∀ j : Fin 128, extractStridedSlice S512x128 ![0, 128 * a] Y b (ix2 r j) = Y (ix2 r ⟨128 * a + j.val, by omega⟩) := fun j =>
    extractStridedSlice_apply _ _ _ _ _ (by intro a; fin_cases a <;> simp)
  refine congrArg (fun z : EReal => z * Ideal.ofBits .f32 0x3E000000#32)
    (turnv_apply (n := 1024) (by decide) (qnorm (fun C => Y (ix2 r C)) (fun j => g (ix2 0 j))) _ c s r a (by omega) (fun j => ?_) l)
  have e2 := rmsv_apply (extractStridedSlice S512x128 ![0, 128 * a] Y b) g r j (fun j => by rw [e]; exact hY _ _)
  simp only [e] at e2
  unfold qnorm
  rw [if_pos (by show 128 * a + j.val < 512; omega)]
  refine e2.trans ?_
  have e3 : (128 * a + j.val) / 128 = a := by omega
  have e4 : (128 * a + j.val) % 128 = j.val := by omega
  simp only [e3, e4]

/-- The normalized slab of the keys. -/
theorem k_norm (b : S512x1536.Slices ![0, 1024] S512x128) (r : Fin 512) (l : Fin 128) :
    kout (rmsv (extractStridedSlice S512x128 ![0, 1024] Y b) heads g) c s (ix2 r l)
      = kturn (fun C => Y (ix2 r C)) (fun j => g (ix2 0 j)) (fun j => c (ix2 r j)) (fun j => s (ix2 r j)) ⟨128 * 0 + l.val, by omega⟩ :=
  turnv_apply (n := 256) (by decide) (krow (fun C => Y (ix2 r C)) (fun j => g (ix2 0 j))) _ c s r 0 (by omega)
    (fun j => (k_slab Y g hY b r j).trans (congrArg _ (Fin.ext (by show j.val = 128 * 0 + j.val; omega)))) l

omit hY in
/-- The plain slab of the keys. -/
theorem k_rest (b : S512x1536.Slices ![0, 1152] S512x128) (r : Fin 512) (l : Fin 128) :
    kout (extractStridedSlice S512x128 ![0, 1152] Y b) c s (ix2 r l)
      = kturn (fun C => Y (ix2 r C)) (fun j => g (ix2 0 j)) (fun j => c (ix2 r j)) (fun j => s (ix2 r j)) ⟨128 * 1 + l.val, by omega⟩ :=
  turnv_apply (n := 256) (by decide) (krow (fun C => Y (ix2 r C)) (fun j => g (ix2 0 j))) _ c s r 1 (by omega)
    (fun j => (k_plain Y g b r j).trans (congrArg _ (Fin.ext (by show 128 + j.val = 128 * 1 + j.val; omega)))) l

end Cert.Proj.EvenSample

end
-- ==== Proof.EvenSampleRef.lean ====
/- The reference's input projection of an even layer on the sample tokens: its entries in closed form. -/
module

public import proofs.«01_k».proof.Proof.Gen.EvenSampleReferenceIdeal.Read
public import proofs.«01_k».proof.Proof.EvenSamplePay

@[expose] public section

set_option maxRecDepth 16384

noncomputable section

namespace Cert.Proj.EvenSample

open Idealize.ShloMosaic Idealize.ShloMosaic.TcCoe Idealize.SL.Sem
open Cert.Proj Cert.EvenSampleReferenceIdeal Cert.EvenSampleReferenceIdeal.Read
open Cert.Proj.Even (krow)

variable (x0 : FVec Ideal S8192x1024 .f32) (x1 : FVec Ideal S6x8x1x1024 .f32) (x2 : FVec Ideal S1024x1536 .bf16)
  (x3 x4 : FVec Ideal S1x128 .f32) (x5 x6 : FVec Ideal S4096x128 .f32)

/-- The sample a token belongs to, as a row of the modulation: row 0 is the prompt's. -/
def sam (R : Fin 8192) : Fin 8 := ⟨1 + R.val / 4096, by omega⟩

/-- The position of a token in its sample. -/
def pos (R : Fin 8192) : Fin 4096 := ⟨R.val % 4096, by omega⟩

/-- The reference's projection at an index. -/
theorem ref_v13 (R : Fin 8192) (C : Fin 1536) :
    val_main_v13 (F := Ideal) x0 x1 x2 (ix2 R C)
      = proj (fun d => x0 (ix2 R d)) (fun d => x1 (ix4 1 (sam R) 0 d)) (fun d => x1 (ix4 0 (sam R) 0 d)) (fun d => x2 (ix2 d C)) := by
  unfold proj sam
  pointwise [val_main_v13, val_main_v12, val_main_v11, val_main_v10, val_main_v9, val_main_v8, val_main_v7, val_main_v6, val_main_v5,
    val_main_v4, val_main_v3, val_main_v2, val_main_v1, val_main_v0, val_main_cst]

theorem ref_v33 (R : Fin 8192) (C : Fin 512) :
    val_main_v33 (F := Ideal) x0 x1 x2 x3 (ix2 R C)
      = rms2 (fun j => val_main_v13 (F := Ideal) x0 x1 x2 (ix2 R ⟨128 * (C.val / 128) + j.val, by omega⟩)) (fun j => x3 (ix2 0 j)) ⟨C.val % 128, by omega⟩ := by
  unfold rms2
  rw [← div_64]
  pointwise [val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v14,
    val_main_cst_0, val_main_cst_1, val_main_cst_2]
  have h1 : ∀ x : ℕ, C.val / 128 * 128 + C.val / 64 % 2 * 64 + x = 128 * (C.val / 128) + (64 * (C.val % 128 / 64) + x) := by omega
  have h2 : 128 * (C.val / 128) + C.val % 128 = C.val := by omega
  have h3 : C.val / 64 % 2 * 64 + C.val % 64 = C.val % 128 := by omega
  simp only [h1, h2, h3]

theorem ref_v50 (R : Fin 8192) (C : Fin 128) :
    val_main_v50 (F := Ideal) x0 x1 x2 x4 (ix2 R C)
      = rms2 (fun j => val_main_v13 (F := Ideal) x0 x1 x2 (ix2 R ⟨1024 + j.val, by omega⟩)) (fun j => x4 (ix2 0 j)) ⟨C.val % 128, by omega⟩ := by
  unfold rms2
  rw [← div_64]
  pointwise [val_main_v50, val_main_v49, val_main_v48, val_main_v47, val_main_v46, val_main_v45, val_main_v44, val_main_v43, val_main_v42,
    val_main_v41, val_main_v40, val_main_v39, val_main_v38, val_main_v37, val_main_v36, val_main_v35, val_main_v34, val_main_v15,
    val_main_cst_3, val_main_cst_4, val_main_cst_5]
  have h1 : ∀ x : ℕ, C.val / 64 * 64 + x = 64 * (C.val % 128 / 64) + x := by omega
  have h2 : C.val % 128 = C.val := by omega
  simp only [h1, h2]

/-- The queries before they are turned. -/
theorem ref_v52 (R : Fin 8192) (C : Fin 1024) :
    val_main_v52 (F := Ideal) x0 x1 x2 x3 (ix2 R C)
      = qnorm (fun C => val_main_v13 (F := Ideal) x0 x1 x2 (ix2 R C)) (fun j => x3 (ix2 0 j)) C := by
  unfold qnorm
  by_cases b : C.val < 512
  · rw [if_pos b]
    refine Eq.trans ?_ (ref_v33 x0 x1 x2 x3 R ⟨C.val, b⟩)
    unfold val_main_v52
    exact concatenate_pair_apply_left (s₁ := S8192x512) (s₂ := S8192x512) 1 _ _ _ (ix2 R C) rfl (ix2 R ⟨C.val, b⟩) (by intro a; fin_cases a <;> rfl)
  · rw [if_neg b]
    have e2 : val_main_v51 (F := Ideal) x0 x1 x2 (ix2 R ⟨C.val - 512, by omega⟩) = val_main_v13 (F := Ideal) x0 x1 x2 (ix2 R ⟨C.val, by omega⟩) := by
      pointwise [val_main_v51, val_main_v14]
      have h : 512 + (C.val - 512) = C.val := by omega
      simp only [h]
    refine Eq.trans ?_ e2
    unfold val_main_v52
    exact concatenate_pair_apply_right (s₁ := S8192x512) (s₂ := S8192x512) 1 _ _ _ (ix2 R C) rfl rfl (ix2 R ⟨C.val - 512, by omega⟩)
      (by intro a; fin_cases a <;> first | (intro _; rfl) | (intro h; exact absurd rfl h)) (by show C.val - 512 + 512 = C.val; omega)

/-- The keys before they are turned. -/
theorem ref_v55 (R : Fin 8192) (C : Fin 256) :
    val_main_v55 (F := Ideal) x0 x1 x2 x4 (ix2 R C)
      = krow (fun C => val_main_v13 (F := Ideal) x0 x1 x2 (ix2 R C)) (fun j => x4 (ix2 0 j)) C := by
  unfold krow
  by_cases b : C.val < 128
  · rw [if_pos b]
    refine Eq.trans ?_ (ref_v50 x0 x1 x2 x4 R ⟨C.val, b⟩)
    unfold val_main_v55
    exact concatenate_pair_apply_left (s₁ := S8192x128) (s₂ := S8192x128) 1 _ _ _ (ix2 R C) rfl (ix2 R ⟨C.val, b⟩) (by intro a; fin_cases a <;> rfl)
  · rw [if_neg b]
    have e2 : val_main_v54 (F := Ideal) x0 x1 x2 (ix2 R ⟨C.val - 128, by omega⟩) = val_main_v13 (F := Ideal) x0 x1 x2 (ix2 R ⟨1024 + C.val, by omega⟩) := by
      pointwise [val_main_v54, val_main_v15]
      have h : 1024 + (128 + (C.val - 128)) = 1024 + C.val := by omega
      simp only [h]
    refine Eq.trans ?_ e2
    unfold val_main_v55
    exact concatenate_pair_apply_right (s₁ := S8192x128) (s₂ := S8192x128) 1 _ _ _ (ix2 R C) rfl rfl (ix2 R ⟨C.val - 128, by omega⟩)
      (by intro a; fin_cases a <;> first | (intro _; rfl) | (intro h; exact absurd rfl h)) (by show C.val - 128 + 128 = C.val; omega)

/-- The partner of a column, from its place in its half head. -/
theorem swap_place (C : ℕ) : C / 128 * 128 + C / 64 % 2 * 64 + swap (C % 64) = swap C := by
  unfold swap
  by_cases h : C % 32 < 16
  · rw [if_pos h, if_pos (by omega)]; omega
  · rw [if_neg h, if_neg (by omega)]; omega

/-- The queries with the quarters of each half swapped in pairs. -/
theorem ref_v67 (R : Fin 8192) (h : Fin 8) (b : Fin 2) (d : Fin 64) :
    val_main_v67 (F := Ideal) x0 x1 x2 x3 (ix4 R h b d)
      = val_main_v52 (F := Ideal) x0 x1 x2 x3 (ix2 R ⟨h.val * 128 + b.val * 64 + swap d.val, by unfold swap; split <;> omega⟩) := by
  unfold swap
  pointwise [val_main_v67, val_main_v64, val_main_v63, val_main_v62, val_main_v61, val_main_v53]
  split <;> [skip; split <;> [skip; split]] <;>
    (refine congrArg _ (congrArg (ix2 R) (Fin.ext ?_)); dsimp only; split <;> omega)

/-- The keys with the quarters of each half swapped in pairs. -/
theorem ref_v80 (R : Fin 8192) (h : Fin 2) (b : Fin 2) (d : Fin 64) :
    val_main_v80 (F := Ideal) x0 x1 x2 x4 (ix4 R h b d)
      = val_main_v55 (F := Ideal) x0 x1 x2 x4 (ix2 R ⟨h.val * 128 + b.val * 64 + swap d.val, by unfold swap; split <;> omega⟩) := by
  unfold swap
  pointwise [val_main_v80, val_main_v77, val_main_v76, val_main_v75, val_main_v74, val_main_v56]
  split <;> [skip; split <;> [skip; split]] <;>
    (refine congrArg _ (congrArg (ix2 R) (Fin.ext ?_)); dsimp only; split <;> omega)

/-- The reference's queries at an index. -/
theorem ref_q (R : Fin 8192) (C : Fin 1024) :
    val_main_v85 (F := Ideal) x0 x1 x2 x3 x5 x6 (ix2 R C)
      = qturn (fun C => val_main_v13 (F := Ideal) x0 x1 x2 (ix2 R C)) (fun j => x3 (ix2 0 j)) (fun j => x5 (ix2 (pos R) j)) (fun j => x6 (ix2 (pos R) j)) C := by
  have h : C.val / 64 % 2 * 64 + C.val % 64 = C.val % 128 := by omega
  have e : val_main_v85 (F := Ideal) x0 x1 x2 x3 x5 x6 (ix2 R C)
      = (val_main_v52 (F := Ideal) x0 x1 x2 x3 (ix2 R C) * x5 (ix2 (pos R) ⟨C.val % 128, by omega⟩)
        + val_main_v67 (F := Ideal) x0 x1 x2 x3 (ix4 R ⟨C.val / 128, by omega⟩ ⟨C.val / 64 % 2, by omega⟩ ⟨C.val % 64, by omega⟩)
          * x6 (ix2 (pos R) ⟨C.val % 128, by omega⟩)) * Ideal.ofBits .f32 0x3E000000#32 := by
    unfold pos
    pointwise [val_main_v85, val_main_v73, val_main_v72, val_main_v71, val_main_v70, val_main_v69, val_main_v68, val_main_v66, val_main_v65,
      val_main_v60, val_main_v59, val_main_v58, val_main_v57, val_main_v53, val_main_cst_6]
    simp only [h]
  have e2 : val_main_v67 (F := Ideal) x0 x1 x2 x3 (ix4 R ⟨C.val / 128, by omega⟩ ⟨C.val / 64 % 2, by omega⟩ ⟨C.val % 64, by omega⟩)
      = val_main_v52 (F := Ideal) x0 x1 x2 x3 (ix2 R ⟨swap C.val, swap_lt (by decide) C.isLt⟩) := by
    rw [ref_v67]
    exact congrArg _ (congrArg (ix2 R) (Fin.ext (swap_place C.val)))
  rw [e, e2, ref_v52, ref_v52]
  rfl

/-- The reference's keys at an index. -/
theorem ref_k (R : Fin 8192) (C : Fin 256) :
    val_main_v86 (F := Ideal) x0 x1 x2 x4 x5 x6 (ix2 R C)
      = kturn (fun C => val_main_v13 (F := Ideal) x0 x1 x2 (ix2 R C)) (fun j => x4 (ix2 0 j)) (fun j => x5 (ix2 (pos R) j)) (fun j => x6 (ix2 (pos R) j)) C := by
  have h : C.val / 64 % 2 * 64 + C.val % 64 = C.val % 128 := by omega
  have e : val_main_v86 (F := Ideal) x0 x1 x2 x4 x5 x6 (ix2 R C)
      = val_main_v55 (F := Ideal) x0 x1 x2 x4 (ix2 R C) * x5 (ix2 (pos R) ⟨C.val % 128, by omega⟩)
        + val_main_v80 (F := Ideal) x0 x1 x2 x4 (ix4 R ⟨C.val / 128, by omega⟩ ⟨C.val / 64 % 2, by omega⟩ ⟨C.val % 64, by omega⟩)
          * x6 (ix2 (pos R) ⟨C.val % 128, by omega⟩) := by
    unfold pos
    pointwise [val_main_v86, val_main_v84, val_main_v83, val_main_v82, val_main_v81, val_main_v79, val_main_v78, val_main_v60, val_main_v59,
      val_main_v58, val_main_v57, val_main_v56]
    simp only [h]
  have e2 : val_main_v80 (F := Ideal) x0 x1 x2 x4 (ix4 R ⟨C.val / 128, by omega⟩ ⟨C.val / 64 % 2, by omega⟩ ⟨C.val % 64, by omega⟩)
      = val_main_v55 (F := Ideal) x0 x1 x2 x4 (ix2 R ⟨swap C.val, swap_lt (by decide) C.isLt⟩) := by
    rw [ref_v80]
    exact congrArg _ (congrArg (ix2 R) (Fin.ext (swap_place C.val)))
  rw [e, e2, ref_v55, ref_v55]
  rfl

/-- The reference's values at an index. -/
theorem ref_v (R : Fin 8192) (C : Fin 256) :
    val_main_v87 (F := Ideal) x0 x1 x2 (ix2 R C) = val_main_v13 (F := Ideal) x0 x1 x2 (ix2 R ⟨1280 + C.val, by omega⟩) := by
  pointwise [val_main_v87, val_main_v16]

end Cert.Proj.EvenSample

end
-- ==== Proof.EvenSampleTie.lean ====
/- The input projection of an even layer on the sample tokens and its reference have one value. -/
module

public import proofs.«01_k».proof.Proof.EvenSampleRef
public import proofs.«01_k».proof.Pre_sample_tokens_finite

@[expose] public section

set_option maxRecDepth 16384

noncomputable section

namespace Cert.Proj.EvenSample

open Idealize.ShloMosaic Idealize.ShloMosaic.TcCoe Idealize.SL.Sem
open Cert.Proj Cert.EvenSampleIdeal Cert.EvenSampleIdeal.Gen Cert.EvenSampleIdeal.Value Cert.EvenSampleReferenceIdeal.Read

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 1 + t.val / 8, 0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val % 8, 0] := by decide +kernel
theorem idx6 : ∀ t : Fin grid0.N, win0_6.index t = ![t.val % 8, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel

theorem pt_lt (t : Fin cfg0.N) : t.val < 16 := t.isLt

/-- The arguments the call reads, as arrays. -/
abbrev a0 (c : Dev nD) : FVec Ideal S8192x1024 .f32 := m ((c : Thread nD τ).loc main_arg0)
abbrev a1 (c : Dev nD) : FVec Ideal S6x8x1x1024 .f32 := m ((c : Thread nD τ).loc main_arg1)
abbrev a2 (c : Dev nD) : FVec Ideal S1024x1536 .bf16 := m ((c : Thread nD τ).loc main_arg2)
abbrev a3 (c : Dev nD) : FVec Ideal S1x128 .f32 := m ((c : Thread nD τ).loc main_arg3)
abbrev a4 (c : Dev nD) : FVec Ideal S1x128 .f32 := m ((c : Thread nD τ).loc main_arg4)
abbrev a5 (c : Dev nD) : FVec Ideal S4096x128 .f32 := m ((c : Thread nD τ).loc main_arg5)
abbrev a6 (c : Dev nD) : FVec Ideal S4096x128 .f32 := m ((c : Thread nD τ).loc main_arg6)

/-- The token a row of a point's block is. -/
def tok (t : Fin cfg0.N) (r : Fin 512) : Fin 8192 := ⟨512 * t.val + r.val, by have := pt_lt t; omega⟩

theorem sam_tok (t : Fin cfg0.N) (r : Fin 512) : sam (tok t r) = ⟨1 + t.val / 8, by have := pt_lt t; omega⟩ := by
  have := pt_lt t
  exact Fin.ext (by show 1 + (512 * t.val + r.val) / 4096 = 1 + t.val / 8; omega)

theorem pos_tok (t : Fin cfg0.N) (r : Fin 512) : pos (tok t r) = ⟨512 * (t.val % 8) + r.val, by omega⟩ :=
  Fin.ext (by show (512 * t.val + r.val) % 4096 = 512 * (t.val % 8) + r.val; omega)

/-- One entry of the projection of a token of the samples. -/
def row (c : Dev nD) (R : Fin 8192) (C : Fin 1536) : EReal :=
  proj (fun d => a0 m c (ix2 R d)) (fun d => a1 m c (ix4 1 (sam R) 0 d)) (fun d => a1 m c (ix4 0 (sam R) 0 d)) (fun d => a2 m c (ix2 d C))

theorem ld0 (c : Dev nD) (t : Fin cfg0.N) (r : Fin 512) (d : Fin 1024) :
    (View.ld (Val := Elt Ideal) (S := S512x1024) (e' := .f32) (iblk m c 0 t) r0_0 : FVec Ideal S512x1024 .f32) (ix2 r d) = a0 m c (ix2 (tok t r) d) :=
  (View.ld_unit_apply_of (iblk m c 0 t) ![0, 0] S512x1024.size inb_S512x1024_S512x1024_0_0 (ix2 r d) (ix2 r d)
    (by intro a; fin_cases a <;> simp)).trans (by unfold tok; blk_ext [iblk, V, idx0 t])
theorem ld1 (c : Dev nD) (t : Fin cfg0.N) (d : Fin 1024) :
    (View.ld (Val := Elt Ideal) (S := S6x1x1x1024) (e' := .f32) (iblk m c 1 t) r0_1 : FVec Ideal S1x1x1x1024 .f32) (ix4 0 0 0 d)
      = a1 m c (ix4 1 ⟨1 + t.val / 8, by have := pt_lt t; omega⟩ 0 d) :=
  (View.ld_unit_apply_of (iblk m c 1 t) ![1, 0, 0, 0] S1x1x1x1024.size inb_S6x1x1x1024_S1x1x1x1024_1_0_0_0 (ix4 0 0 0 d) (ix4 1 0 0 d)
    (by intro a; fin_cases a <;> simp <;> rfl)).trans (by blk_ext [iblk, V, idx1 t])
theorem ld2 (c : Dev nD) (t : Fin cfg0.N) (d : Fin 1024) :
    (View.ld (Val := Elt Ideal) (S := S6x1x1x1024) (e' := .f32) (iblk m c 1 t) r0_2 : FVec Ideal S1x1x1x1024 .f32) (ix4 0 0 0 d)
      = a1 m c (ix4 0 ⟨1 + t.val / 8, by have := pt_lt t; omega⟩ 0 d) :=
  (View.ld_unit_apply_of (iblk m c 1 t) ![0, 0, 0, 0] S1x1x1x1024.size inb_S6x1x1x1024_S1x1x1x1024_0_0_0_0 (ix4 0 0 0 d) (ix4 0 0 0 d)
    (by intro a; fin_cases a <;> simp <;> rfl)).trans (by blk_ext [iblk, V, idx1 t])
theorem ld3 (c : Dev nD) (t : Fin cfg0.N) (d : Fin 1024) (C : Fin 1536) :
    (View.ld (Val := Elt Ideal) (S := S1024x1536) (e' := .bf16) (iblk m c 2 t) r0_3 : FVec Ideal S1024x1536 .bf16) (ix2 d C) = a2 m c (ix2 d C) :=
  (View.ld_unit_apply_of (iblk m c 2 t) ![0, 0] S1024x1536.size inb_S1024x1536_S1024x1536_0_0 (ix2 d C) (ix2 d C)
    (by intro a; fin_cases a <;> simp)).trans (by blk_ext [iblk, V, idx2 t])
theorem ldq (c : Dev nD) (t : Fin cfg0.N) (j : Fin 128) :
    (View.ld (Val := Elt Ideal) (S := S1x128) (e' := .f32) (iblk m c 3 t) r0_5 : FVec Ideal S1x128 .f32) (ix2 0 j) = a3 m c (ix2 0 j) :=
  (View.ld_unit_apply_of (iblk m c 3 t) ![0, 0] S1x128.size inb_S1x128_S1x128_0_0 (ix2 0 j) (ix2 0 j)
    (by intro a; fin_cases a <;> simp)).trans (by blk_ext [iblk, V, idx3 t])
theorem ldk (c : Dev nD) (t : Fin cfg0.N) (j : Fin 128) :
    (View.ld (Val := Elt Ideal) (S := S1x128) (e' := .f32) (iblk m c 4 t) r0_5 : FVec Ideal S1x128 .f32) (ix2 0 j) = a4 m c (ix2 0 j) :=
  (View.ld_unit_apply_of (iblk m c 4 t) ![0, 0] S1x128.size inb_S1x128_S1x128_0_0 (ix2 0 j) (ix2 0 j)
    (by intro a; fin_cases a <;> simp)).trans (by blk_ext [iblk, V, idx4 t])

theorem ldc (c : Dev nD) (t : Fin cfg0.N) (r : Fin 512) (j : Fin 128) :
    (View.ld (Val := Elt Ideal) (S := S512x128) (e' := .f32) (iblk m c 5 t) r0_4 : FVec Ideal S512x128 .f32) (ix2 r j) = a5 m c (ix2 (pos (tok t r)) j) :=
  (View.ld_unit_apply_of (iblk m c 5 t) ![0, 0] S512x128.size inb_S512x128_S512x128_0_0 (ix2 r j) (ix2 r j)
    (by intro a; fin_cases a <;> simp)).trans (by rw [pos_tok]; blk_ext [iblk, V, idx5 t])
theorem lds (c : Dev nD) (t : Fin cfg0.N) (r : Fin 512) (j : Fin 128) :
    (View.ld (Val := Elt Ideal) (S := S512x128) (e' := .f32) (iblk m c 6 t) r0_4 : FVec Ideal S512x128 .f32) (ix2 r j) = a6 m c (ix2 (pos (tok t r)) j) :=
  (View.ld_unit_apply_of (iblk m c 6 t) ![0, 0] S512x128.size inb_S512x128_S512x128_0_0 (ix2 r j) (ix2 r j)
    (by intro a; fin_cases a <;> simp)).trans (by rw [pos_tok]; blk_ext [iblk, V, idx6 t])

/-- The block of the projection a point computes. -/
def blk (c : Dev nD) (t : Fin cfg0.N) : FVec Ideal S512x1536 .f32 :=
  k0_pay1 (F := Ideal) (View.ld (iblk m c 0 t) r0_0) (View.ld (iblk m c 1 t) r0_1) (View.ld (iblk m c 1 t) r0_2) (View.ld (iblk m c 2 t) r0_3)

theorem point (c : Dev nD) (t : Fin cfg0.N) (r : Fin 512) (C : Fin 1536) : blk m c t (ix2 r C) = row m c (tok t r) C := by
  unfold blk
  rw [pay1_apply]
  unfold row
  simp only [ld0, ld1, ld2, ld3, sam_tok]

/-- The gains as a point reads them. -/
abbrev gq (c : Dev nD) (t : Fin cfg0.N) : FVec Ideal S1x128 .f32 := View.ld (Val := Elt Ideal) (S := S1x128) (e' := .f32) (iblk m c 3 t) r0_5
abbrev gk (c : Dev nD) (t : Fin cfg0.N) : FVec Ideal S1x128 .f32 := View.ld (Val := Elt Ideal) (S := S1x128) (e' := .f32) (iblk m c 4 t) r0_5

/-- The cosines and the signed sines of a point's positions. -/
abbrev gc (c : Dev nD) (t : Fin cfg0.N) : FVec Ideal S512x128 .f32 := View.ld (Val := Elt Ideal) (S := S512x128) (e' := .f32) (iblk m c 5 t) r0_4
abbrev gs (c : Dev nD) (t : Fin cfg0.N) : FVec Ideal S512x128 .f32 := View.ld (Val := Elt Ideal) (S := S512x128) (e' := .f32) (iblk m c 6 t) r0_4

/-- What a point's block of queries holds, and its block of keys. -/
def Gq (c : Dev nD) (t : Fin cfg0.N) : FVec Ideal S512x1024 .bf16 := fun y =>
  qturn (row m c (tok t (y 0))) (fun j => a3 m c (ix2 0 j)) (fun j => a5 m c (ix2 (pos (tok t (y 0))) j)) (fun j => a6 m c (ix2 (pos (tok t (y 0))) j)) (y 1)
def Gk (c : Dev nD) (t : Fin cfg0.N) : FVec Ideal S512x256 .bf16 := fun y =>
  kturn (row m c (tok t (y 0))) (fun j => a4 m c (ix2 0 j)) (fun j => a5 m c (ix2 (pos (tok t (y 0))) j)) (fun j => a6 m c (ix2 (pos (tok t (y 0))) j)) (y 1)

theorem Gq_of (c : Dev nD) (t : Fin cfg0.N) (r : Fin 512) (C : Fin 1024) (z : S512x1024.Idx) (h0 : (z 0).val = r.val) (h1 : (z 1).val = C.val) :
    qturn (fun C => blk m c t (ix2 r C)) (fun j => gq m c t (ix2 0 j)) (fun j => gc m c t (ix2 r j)) (fun j => gs m c t (ix2 r j)) C = Gq m c t z := by
  have e0 : (z 0 : Fin 512) = r := Fin.ext h0
  have e1 : (z 1 : Fin 1024) = C := Fin.ext h1
  unfold Gq
  simp only [point, ldq, ldc, lds]
  rw [← e0, ← e1]
theorem Gk_of (c : Dev nD) (t : Fin cfg0.N) (r : Fin 512) (C : Fin 256) (z : S512x256.Idx) (h0 : (z 0).val = r.val) (h1 : (z 1).val = C.val) :
    kturn (fun C => blk m c t (ix2 r C)) (fun j => gk m c t (ix2 0 j)) (fun j => gc m c t (ix2 r j)) (fun j => gs m c t (ix2 r j)) C = Gk m c t z := by
  have e0 : (z 0 : Fin 512) = r := Fin.ext h0
  have e1 : (z 1 : Fin 256) = C := Fin.ext h1
  unfold Gk
  simp only [point, ldk, ldc, lds]
  rw [← e0, ← e1]

theorem idx_pair (x : S512x128.Idx) : ∃ (r : Fin 512) (l : Fin 128), x = ix2 r l := ⟨x 0, x 1, by funext a; fin_cases a <;> rfl⟩

/-- A point's block of queries. -/
theorem out_q (c : Dev nD) (hY : ∀ R C, IsNum (row m c R C)) (t : Fin cfg0.N) (y : S512x1024.Idx) :
    out0_7 (F := Ideal) (iblk m c 0 t) (iblk m c 1 t) (iblk m c 2 t) (iblk m c 3 t) (iblk m c 4 t) (iblk m c 5 t) (iblk m c 6 t) y = Gq m c t y := by
  have hB : ∀ r C, IsNum (blk m c t (ix2 r C)) := fun r C => by rw [point]; exact hY _ _
  unfold out0_7
  refine View.canon_apply_of_pieces (Val := Elt Ideal) (Gq m c t) _ ?_ y (cover0_7 _ _ _ _ _ _ _ _ y)
  intro pc hpc
  rcases List.mem_cons.mp hpc with rfl | hpc
  · intro x
    obtain ⟨r, l, rfl⟩ := idx_pair x
    exact (congrFun (q7_eq (blk m c t) (gc m c t) (gs m c t)) _).trans ((q_plain (blk m c t) (gc m c t) (gs m c t) (gq m c t) 896 slices_S512x1536_o0_896_S512x128 7 rfl (by omega) (by omega) r l).trans
      (Gq_of m c t r _ _ (by show 0 + 1 * r.val = _; omega) (by show 896 + 1 * l.val = 128 * 7 + l.val; omega)))
  rcases List.mem_cons.mp hpc with rfl | hpc
  · intro x
    obtain ⟨r, l, rfl⟩ := idx_pair x
    exact (congrFun (q6_eq (blk m c t) (gc m c t) (gs m c t)) _).trans ((q_plain (blk m c t) (gc m c t) (gs m c t) (gq m c t) 768 slices_S512x1536_o0_768_S512x128 6 rfl (by omega) (by omega) r l).trans
      (Gq_of m c t r _ _ (by show 0 + 1 * r.val = _; omega) (by show 768 + 1 * l.val = 128 * 6 + l.val; omega)))
  rcases List.mem_cons.mp hpc with rfl | hpc
  · intro x
    obtain ⟨r, l, rfl⟩ := idx_pair x
    exact (congrFun (q5_eq (blk m c t) (gc m c t) (gs m c t)) _).trans ((q_plain (blk m c t) (gc m c t) (gs m c t) (gq m c t) 640 slices_S512x1536_o0_640_S512x128 5 rfl (by omega) (by omega) r l).trans
      (Gq_of m c t r _ _ (by show 0 + 1 * r.val = _; omega) (by show 640 + 1 * l.val = 128 * 5 + l.val; omega)))
  rcases List.mem_cons.mp hpc with rfl | hpc
  · intro x
    obtain ⟨r, l, rfl⟩ := idx_pair x
    exact (congrFun (q4_eq (blk m c t) (gc m c t) (gs m c t)) _).trans ((q_plain (blk m c t) (gc m c t) (gs m c t) (gq m c t) 512 slices_S512x1536_o0_512_S512x128 4 rfl (by omega) (by omega) r l).trans
      (Gq_of m c t r _ _ (by show 0 + 1 * r.val = _; omega) (by show 512 + 1 * l.val = 128 * 4 + l.val; omega)))
  rcases List.mem_cons.mp hpc with rfl | hpc
  · intro x
    obtain ⟨r, l, rfl⟩ := idx_pair x
    exact (congrFun (q3_eq (blk m c t) (gc m c t) (gs m c t) (gq m c t)) _).trans ((q_slab (blk m c t) (gc m c t) (gs m c t) (gq m c t) hB 384 slices_S512x1536_o0_384_S512x128 3 rfl (by omega) r l).trans
      (Gq_of m c t r _ _ (by show 0 + 1 * r.val = _; omega) (by show 384 + 1 * l.val = 128 * 3 + l.val; omega)))
  rcases List.mem_cons.mp hpc with rfl | hpc
  · intro x
    obtain ⟨r, l, rfl⟩ := idx_pair x
    exact (congrFun (q2_eq (blk m c t) (gc m c t) (gs m c t) (gq m c t)) _).trans ((q_slab (blk m c t) (gc m c t) (gs m c t) (gq m c t) hB 256 slices_S512x1536_o0_256_S512x128 2 rfl (by omega) r l).trans
      (Gq_of m c t r _ _ (by show 0 + 1 * r.val = _; omega) (by show 256 + 1 * l.val = 128 * 2 + l.val; omega)))
  rcases List.mem_cons.mp hpc with rfl | hpc
  · intro x
    obtain ⟨r, l, rfl⟩ := idx_pair x
    exact (congrFun (q1_eq (blk m c t) (gc m c t) (gs m c t) (gq m c t)) _).trans ((q_slab (blk m c t) (gc m c t) (gs m c t) (gq m c t) hB 128 slices_S512x1536_o0_128_S512x128 1 rfl (by omega) r l).trans
      (Gq_of m c t r _ _ (by show 0 + 1 * r.val = _; omega) (by show 128 + 1 * l.val = 128 * 1 + l.val; omega)))
  rcases List.mem_cons.mp hpc with rfl | hpc
  · intro x
    obtain ⟨r, l, rfl⟩ := idx_pair x
    exact (congrFun (q0_eq (blk m c t) (gc m c t) (gs m c t) (gq m c t)) _).trans ((q_slab (blk m c t) (gc m c t) (gs m c t) (gq m c t) hB 0 slices_S512x1536_o0_0_S512x128 0 rfl (by omega) r l).trans
      (Gq_of m c t r _ _ (by show 0 + 1 * r.val = _; omega) (by show 0 + 1 * l.val = 128 * 0 + l.val; omega)))
  nomatch hpc

/-- A point's block of keys. -/
theorem out_k (c : Dev nD) (hY : ∀ R C, IsNum (row m c R C)) (t : Fin cfg0.N) (y : S512x256.Idx) :
    out0_8 (F := Ideal) (iblk m c 0 t) (iblk m c 1 t) (iblk m c 2 t) (iblk m c 3 t) (iblk m c 4 t) (iblk m c 5 t) (iblk m c 6 t) y = Gk m c t y := by
  have hB : ∀ r C, IsNum (blk m c t (ix2 r C)) := fun r C => by rw [point]; exact hY _ _
  unfold out0_8
  refine View.canon_apply_of_pieces (Val := Elt Ideal) (Gk m c t) _ ?_ y (cover0_8 _ _ y)
  intro pc hpc
  rcases List.mem_cons.mp hpc with rfl | hpc
  · intro x
    obtain ⟨r, l, rfl⟩ := idx_pair x
    exact (congrFun (k1_eq (blk m c t) (gc m c t) (gs m c t)) _).trans ((k_rest (blk m c t) (gc m c t) (gs m c t) (gk m c t) slices_S512x1536_o0_1152_S512x128 r l).trans
      (Gk_of m c t r _ _ (by show 0 + 1 * r.val = _; omega) (by show 128 + 1 * l.val = 128 * 1 + l.val; omega)))
  rcases List.mem_cons.mp hpc with rfl | hpc
  · intro x
    obtain ⟨r, l, rfl⟩ := idx_pair x
    exact (congrFun (k0_eq (blk m c t) (gc m c t) (gs m c t) (gk m c t)) _).trans ((k_norm (blk m c t) (gc m c t) (gs m c t) (gk m c t) hB slices_S512x1536_o0_1024_S512x128 r l).trans
      (Gk_of m c t r _ _ (by show 0 + 1 * r.val = _; omega) (by show 0 + 1 * l.val = 128 * 0 + l.val; omega)))
  nomatch hpc

/-- A point's block of values. -/
theorem out_v (c : Dev nD) (t : Fin cfg0.N) (r : Fin 512) (C : Fin 256) :
    out0_9 (F := Ideal) (iblk m c 0 t) (iblk m c 1 t) (iblk m c 2 t) (iblk m c 3 t) (iblk m c 4 t) (iblk m c 5 t) (iblk m c 6 t) (ix2 r C)
      = row m c (tok t r) ⟨1280 + C.val, by omega⟩ := by
  rw [← point]
  unfold_out out0_9
  rw [canon9_eq]
  have e : ix9_0 (ix2 r C) = ix2 r (⟨1280 + C.val, by omega⟩ : Fin 1536) := by
    funext a; fin_cases a <;> first | rfl | exact Fin.ext (Nat.add_comm _ _)
  unfold E9
  rw [e]
  rfl

theorem cov7 : (cfg0.win 7).Covers := by decide +kernel
theorem emb7 (t : Fin cfg0.N) (r : Fin 512) (C : Fin 1024) : ((cfg0.win 7).blk t).view.emb (ix2 r C) = ix2 (tok t r) C := by
  unfold tok; blk_ext [idx7 t]
theorem cov8 : (cfg0.win 8).Covers := by decide +kernel
theorem emb8 (t : Fin cfg0.N) (r : Fin 512) (C : Fin 256) : ((cfg0.win 8).blk t).view.emb (ix2 r C) = ix2 (tok t r) C := by
  unfold tok; blk_ext [idx8 t]
theorem cov9 : (cfg0.win 9).Covers := by decide +kernel
theorem emb9 (t : Fin cfg0.N) (r : Fin 512) (C : Fin 256) : ((cfg0.win 9).blk t).view.emb (ix2 r C) = ix2 (tok t r) C := by
  unfold tok; blk_ext [idx9 t]

/-- What the call leaves for the queries. -/
theorem q_eq (c : Dev nD) (hY : ∀ R C, IsNum (row m c R C)) :
    (dats m 0 c).arrAt 7 cfg0.N = val_main_v85 (F := Ideal) (a0 m c) (a1 m c) (a2 m c) (a3 m c) (a5 m c) (a6 m c) := by
  refine (dats m 0 c).arrAt_eq_of_covers 7 _ cov7 fun t hf y => ?_
  obtain ⟨r, C, rfl⟩ : ∃ (r : Fin 512) (C : Fin 1024), y = ix2 r C := ⟨y 0, y 1, by funext a; fin_cases a <;> rfl⟩
  rw [emb7, ref_q]
  simp only [ref_v13]
  rw [after0_7]
  refine Eq.trans (cast_eq _ _) ?_
  refine Eq.trans ?_ (out_q m c hY t (ix2 r C))
  exact congrArg _ (by funext a; fin_cases a <;> rfl)

/-- What the call leaves for the keys. -/
theorem k_eq (c : Dev nD) (hY : ∀ R C, IsNum (row m c R C)) :
    (dats m 0 c).arrAt 8 cfg0.N = val_main_v86 (F := Ideal) (a0 m c) (a1 m c) (a2 m c) (a4 m c) (a5 m c) (a6 m c) := by
  refine (dats m 0 c).arrAt_eq_of_covers 8 _ cov8 fun t hf y => ?_
  obtain ⟨r, C, rfl⟩ : ∃ (r : Fin 512) (C : Fin 256), y = ix2 r C := ⟨y 0, y 1, by funext a; fin_cases a <;> rfl⟩
  rw [emb8, ref_k]
  simp only [ref_v13]
  rw [after0_8]
  refine Eq.trans (cast_eq _ _) ?_
  refine Eq.trans ?_ (out_k m c hY t (ix2 r C))
  exact congrArg _ (by funext a; fin_cases a <;> rfl)

/-- What the call leaves for the values. -/
theorem v_eq (c : Dev nD) : (dats m 0 c).arrAt 9 cfg0.N = val_main_v87 (F := Ideal) (a0 m c) (a1 m c) (a2 m c) := by
  refine (dats m 0 c).arrAt_eq_of_covers 9 _ cov9 fun t hf y => ?_
  obtain ⟨r, C, rfl⟩ : ∃ (r : Fin 512) (C : Fin 256), y = ix2 r C := ⟨y 0, y 1, by funext a; fin_cases a <;> rfl⟩
  rw [emb9, ref_v, ref_v13, after0_9]
  refine Eq.trans (cast_eq _ _) ?_
  refine Eq.trans ?_ (out_v m c t r C)
  exact congrArg _ (by funext a; fin_cases a <;> rfl)

/-- On finite tokens, modulation and weights every entry of the projection is a number. -/
theorem row_num [Cert.Pre_sample_tokens_finite.Facts] (c : Dev nD)
    (h : (Cert.Pre_sample_tokens_finite.fn (F := Ideal) (a0 m c) (a1 m c) (a2 m c) (a3 m c) (a4 m c) (a5 m c) (a6 m c)).1 = (fun _ => 1#1)
      ∧ (Cert.Pre_sample_tokens_finite.fn (F := Ideal) (a0 m c) (a1 m c) (a2 m c) (a3 m c) (a4 m c) (a5 m c) (a6 m c)).2.1 = (fun _ => 1#1)
      ∧ (Cert.Pre_sample_tokens_finite.fn (F := Ideal) (a0 m c) (a1 m c) (a2 m c) (a3 m c) (a4 m c) (a5 m c) (a6 m c)).2.2 = (fun _ => 1#1))
    (R : Fin 8192) (C : Fin 1536) : IsNum (row m c R C) := by
  refine proj_num (fun d => num_of_cmp ?_) (fun d => num_of_cmp ?_) (fun d => num_of_cmp ?_) (fun d => num_of_cmp ?_)
  · exact congrFun h.1 (ix2 R d)
  · exact congrFun h.2.1 (ix4 1 (sam R) 0 d)
  · exact congrFun h.2.1 (ix4 0 (sam R) 0 d)
  · exact congrFun h.2.2 (ix2 d C)

end Cert.Proj.EvenSample

end
-- ==== Proof.Post.lean ====
/- What the output projections compute, on rows of extended reals. -/
module

public import proofs.«01_k».proof.Proof.MoePay

@[expose] public section

noncomputable section

namespace Cert.Post

open Idealize.ShloMosaic Cert.Moe

/-- The residual stream's row after the mixer: the scaled row and the gated output of the mixer, normalized. -/
def stream (y md mix g b : Fin 1024 → EReal) (C : Fin 1024) : EReal :=
  lnorm (fun K => Ideal.ofBits .f32 0x3FB504F3#32 * y K + md K * mix K) g b C

/-- A scaled and shifted entry. -/
def shifted (v s h : EReal) : EReal := v * (Ideal.ofBits .f32 0x3F800000#32 + s) + h

/-- A product over the joined halves of a row is the sum of the products over each half. -/
theorem sum_halves (f : Fin 1024 → EReal) :
    ∑ d : Fin 1024, f d = (∑ d : Fin 512, f ⟨d.val, by omega⟩) + ∑ d : Fin 512, f ⟨512 + d.val, by omega⟩ :=
  Fin.sum_univ_add (a := 512) (b := 512) f

/-- The token a row of a block of 512 is, of 16 blocks. -/
def tok (t : ℕ) (h : t < 16) (r : Fin 512) : Fin 8192 := ⟨512 * t + r.val, by omega⟩

/-- The sample a token belongs to, as a row of the modulation: row 0 is the prompt's. -/
def sam (R : Fin 8192) : Fin 8 := ⟨1 + R.val / 4096, by omega⟩

theorem sam_tok (t : ℕ) (h : t < 16) (r : Fin 512) : sam (tok t h r) = ⟨1 + t / 8, by omega⟩ :=
  Fin.ext (by show 1 + (512 * t + r.val) / 4096 = 1 + t / 8; omega)

end Cert.Post

end
-- ==== Proof.PostOddTie.lean ====
/- The output projection of an odd layer on the sample tokens and its reference have one value. -/
module

public import proofs.«01_k».proof.Proof.Gen.PostOddIdeal.Frame
public import proofs.«01_k».proof.Proof.Gen.PostOddReferenceIdeal.Read
public import proofs.«01_k».proof.Proof.Post
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Post.Odd

open Idealize.ShloMosaic Idealize.ShloMosaic.TcCoe Idealize.SL.Sem
open Cert.Moe Cert.Post Cert.PostOddIdeal Cert.PostOddIdeal.Gen Cert.PostOddReferenceIdeal.Read

variable (m : (ℓ : Loc nD τ sig) → Buf (Elt Ideal) ℓ) (ρ : Dev nD → PrngReg)

/-- The run, its first two result arrays and its arguments named. -/
theorem run_named : θ_run defs (onTc (τ := τ) (main (F := Ideal))) ⟨m, fun _ => 0, ρ⟩ fun r => ∀ c : Dev nD,
      r.2.mem ((c : Thread nD τ).loc main_v0_0) = (dats m 0 c).arrAt 9 cfg0.N
      ∧ r.2.mem ((c : Thread nD τ).loc main_v0_1) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 1 + t.val / 8, 0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx9 : ∀ t : Fin grid0.N, win0_9.index t = ![t.val, 0] := by decide +kernel
theorem idx10 : ∀ t : Fin grid0.N, win0_10.index t = ![t.val, 0] := by decide +kernel

theorem pt_lt (t : Fin cfg0.N) : t.val < 16 := t.isLt

/-- The arguments the call reads, as arrays. -/
abbrev a0 (c : Dev nD) : FVec Ideal S8192x1024 .bf16 := m ((c : Thread nD τ).loc main_arg0)
abbrev a1 (c : Dev nD) : FVec Ideal S8192x1024 .f32 := m ((c : Thread nD τ).loc main_arg1)
abbrev a2 (c : Dev nD) : FVec Ideal S6x8x1x1024 .f32 := m ((c : Thread nD τ).loc main_arg2)
abbrev a3 (c : Dev nD) : FVec Ideal S1024x1024 .bf16 := m ((c : Thread nD τ).loc main_arg3)
abbrev a4 (c : Dev nD) : FVec Ideal S1x1024 .f32 := m ((c : Thread nD τ).loc main_arg4)
abbrev a5 (c : Dev nD) : FVec Ideal S1x1024 .f32 := m ((c : Thread nD τ).loc main_arg5)

theorem pay2_apply (P0 : FVec Ideal S512x1024 .bf16) (P1 : FVec Ideal S1024x1024 .bf16) (P2 : FVec Ideal S512x1024 .f32)
    (P3 : FVec Ideal S1x1x1x1024 .f32) (P4 P5 : FVec Ideal S1x1024 .f32) (r : Fin 512) (C : Fin 1024) :
    k0_pay2 (F := Ideal) P0 P1 P2 P3 P4 P5 (ix2 r C)
      = stream (fun K => P2 (ix2 r K)) (fun K => P3 (ix4 0 0 0 K)) (fun K => ∑ d : Fin 1024, P0 (ix2 r d) * P1 (ix2 d K))
          (fun K => P4 (ix2 0 K)) (fun K => P5 (ix2 0 K)) C := by
  unfold stream lnorm
  pointwise [k0_pay2]

theorem pay4_apply (v : FVec Ideal S512x1024 .f32) (s h : FVec Ideal S1x1x1x1024 .f32) (r : Fin 512) (C : Fin 1024) :
    k0_pay4 (F := Ideal) v s h (ix2 r C) = shifted (v (ix2 r C)) (s (ix4 0 0 0 C)) (h (ix4 0 0 0 C)) := by
  unfold shifted
  pointwise [k0_pay4, k0_pay3]

/-- The residual stream's entry and the modulated token's, of a token of the samples. -/
def row (c : Dev nD) (R : Fin 8192) (C : Fin 1024) : EReal :=
  stream (fun K => a1 m c (ix2 R K)) (fun K => a2 m c (ix4 2 (sam R) 0 K)) (fun K => ∑ d : Fin 1024, a0 m c (ix2 R d) * a3 m c (ix2 d K))
    (fun K => a4 m c (ix2 0 K)) (fun K => a5 m c (ix2 0 K)) C
def hrow (c : Dev nD) (R : Fin 8192) (C : Fin 1024) : EReal :=
  shifted (row m c R C) (a2 m c (ix4 4 (sam R) 0 C)) (a2 m c (ix4 3 (sam R) 0 C))

theorem ld0 (c : Dev nD) (t : Fin cfg0.N) (r : Fin 512) (d : Fin 1024) :
    (View.ld (Val := Elt Ideal) (S := S512x1024) (e' := .bf16) (iblk m c 0 t) r0_0 : FVec Ideal S512x1024 .bf16) (ix2 r d)
      = a0 m c (ix2 (tok t.val (pt_lt t) r) d) :=
  (View.ld_unit_apply_of (iblk m c 0 t) ![0, 0] S512x1024.size inb_S512x1024_S512x1024_0_0 (ix2 r d) (ix2 r d)
    (by intro a; fin_cases a <;> simp)).trans (by unfold tok; blk_ext [iblk, V, idx0 t])
theorem ld1 (c : Dev nD) (t : Fin cfg0.N) (r : Fin 512) (d : Fin 1024) :
    (View.ld (Val := Elt Ideal) (S := S512x1024) (e' := .f32) (iblk m c 1 t) r0_0 : FVec Ideal S512x1024 .f32) (ix2 r d)
      = a1 m c (ix2 (tok t.val (pt_lt t) r) d) :=
  (View.ld_unit_apply_of (iblk m c 1 t) ![0, 0] S512x1024.size inb_S512x1024_S512x1024_0_0 (ix2 r d) (ix2 r d)
    (by intro a; fin_cases a <;> simp)).trans (by unfold tok; blk_ext [iblk, V, idx1 t])
theorem ld2 (c : Dev nD) (t : Fin cfg0.N) (k : Fin 6) (h) (d : Fin 1024) :
    (View.ld (Val := Elt Ideal) (S := S6x1x1x1024) (e' := .f32) (iblk m c 2 t) (Rect.unit (s := S6x1x1x1024) ![k.val, 0, 0, 0] S1x1x1x1024.size h)
        : FVec Ideal S1x1x1x1024 .f32) (ix4 0 0 0 d)
      = a2 m c (ix4 k ⟨1 + t.val / 8, by have := pt_lt t; omega⟩ 0 d) :=
  (View.ld_unit_apply_of (iblk m c 2 t) ![k.val, 0, 0, 0] S1x1x1x1024.size h (ix4 0 0 0 d) (ix4 k 0 0 d)
    (by intro a; fin_cases a <;> simp)).trans (by blk_ext [iblk, V, idx2 t])
theorem ld3 (c : Dev nD) (t : Fin cfg0.N) (d K : Fin 1024) :
    (View.ld (Val := Elt Ideal) (S := S1024x1024) (e' := .bf16) (iblk m c 3 t) r0_1 : FVec Ideal S1024x1024 .bf16) (ix2 d K) = a3 m c (ix2 d K) :=
  (View.ld_unit_apply_of (iblk m c 3 t) ![0, 0] S1024x1024.size inb_S1024x1024_S1024x1024_0_0 (ix2 d K) (ix2 d K)
    (by intro a; fin_cases a <;> simp)).trans (by blk_ext [iblk, V, idx3 t])
theorem ld4 (c : Dev nD) (t : Fin cfg0.N) (K : Fin 1024) :
    (View.ld (Val := Elt Ideal) (S := S1x1024) (e' := .f32) (iblk m c 4 t) r0_3 : FVec Ideal S1x1024 .f32) (ix2 0 K) = a4 m c (ix2 0 K) :=
  (View.ld_unit_apply_of (iblk m c 4 t) ![0, 0] S1x1024.size inb_S1x1024_S1x1024_0_0 (ix2 0 K) (ix2 0 K)
    (by intro a; fin_cases a <;> simp)).trans (by blk_ext [iblk, V, idx4 t])
theorem ld5 (c : Dev nD) (t : Fin cfg0.N) (K : Fin 1024) :
    (View.ld (Val := Elt Ideal) (S := S1x1024) (e' := .f32) (iblk m c 5 t) r0_3 : FVec Ideal S1x1024 .f32) (ix2 0 K) = a5 m c (ix2 0 K) :=
  (View.ld_unit_apply_of (iblk m c 5 t) ![0, 0] S1x1024.size inb_S1x1024_S1x1024_0_0 (ix2 0 K) (ix2 0 K)
    (by intro a; fin_cases a <;> simp)).trans (by blk_ext [iblk, V, idx5 t])

/-- The entry of the residual stream a point computes. -/
theorem point (c : Dev nD) (t : Fin cfg0.N) (r : Fin 512) (C : Fin 1024) :
    k0_pay2 (F := Ideal) (View.ld (iblk m c 0 t) r0_0) (View.ld (iblk m c 3 t) r0_1) (View.ld (iblk m c 1 t) r0_0) (View.ld (iblk m c 2 t) r0_2)
      (View.ld (iblk m c 4 t) r0_3) (View.ld (iblk m c 5 t) r0_3) (ix2 r C) = row m c (tok t.val (pt_lt t) r) C := by
  rw [pay2_apply]
  unfold row
  rw [sam_tok]
  have h2 : ∀ K : Fin 1024, (View.ld (Val := Elt Ideal) (S := S6x1x1x1024) (e' := .f32) (iblk m c 2 t) r0_2 : FVec Ideal S1x1x1x1024 .f32) (ix4 0 0 0 K)
      = a2 m c (ix4 2 ⟨1 + t.val / 8, by have := pt_lt t; omega⟩ 0 K) := fun K => ld2 m c t 2 inb_S6x1x1x1024_S1x1x1x1024_2_0_0_0 K
  simp only [ld0, ld1, ld3, ld4, ld5, h2]

/-- A point's block of the residual stream. -/
theorem out_y (c : Dev nD) (t : Fin cfg0.N) (r : Fin 512) (C : Fin 1024) :
    out0_9 (F := Ideal) (iblk m c 0 t) (iblk m c 1 t) (iblk m c 2 t) (iblk m c 3 t) (iblk m c 4 t) (iblk m c 5 t) (iblk m c 6 t) (iblk m c 7 t)
      (iblk m c 8 t) (ix2 r C) = row m c (tok t.val (pt_lt t) r) C := by
  rw [← point]
  unfold out0_9
  exact congrFun (View.canon_unit_zero (Val := Elt Ideal) (by funext a; fin_cases a <;> rfl) _ _) _

/-- A point's block of modulated tokens. -/
theorem out_h (c : Dev nD) (t : Fin cfg0.N) (r : Fin 512) (C : Fin 1024) :
    out0_10 (F := Ideal) (iblk m c 0 t) (iblk m c 1 t) (iblk m c 2 t) (iblk m c 3 t) (iblk m c 4 t) (iblk m c 5 t) (iblk m c 6 t) (iblk m c 7 t)
      (iblk m c 8 t) (ix2 r C) = hrow m c (tok t.val (pt_lt t) r) C := by
  unfold hrow
  rw [← point, sam_tok, ← ld2 m c t 4 inb_S6x1x1x1024_S1x1x1x1024_4_0_0_0 C, ← ld2 m c t 3 inb_S6x1x1x1024_S1x1x1x1024_3_0_0_0 C, ← pay4_apply]
  frame_out
  rfl

variable (x0 : FVec Ideal S8192x1024 .bf16) (x1 : FVec Ideal S8192x1024 .f32) (x2 : FVec Ideal S6x8x1x1024 .f32)
  (x3 : FVec Ideal S1024x1024 .bf16) (x4 x5 : FVec Ideal S1x1024 .f32)

/-- The reference before its layer norm. -/
theorem ref_v11 (b : Fin 2) (s : Fin 4096) (K : Fin 1024) :
    val_main_v11 (F := Ideal) x0 x1 x2 x3 (ix3 b s K)
      = Ideal.ofBits .f32 0x3FB504F3#32 * x1 (ix2 ⟨b.val * 4096 + s.val, by omega⟩ K)
        + x2 (ix4 2 ⟨1 + b.val, by omega⟩ 0 K) * ∑ d : Fin 1024, x0 (ix2 ⟨b.val * 4096 + s.val, by omega⟩ d) * x3 (ix2 d K) := by
  pointwise [val_main_v11, val_main_v10, val_main_v9, val_main_v8, val_main_v7, val_main_v6, val_main_v5, val_main_v4, val_main_v3,
    val_main_v2, val_main_v1, val_main_v0, val_main_cst]

/-- The reference's residual stream in terms of its row before the layer norm. -/
theorem ref_v37 (b : Fin 2) (s : Fin 4096) (C : Fin 1024) :
    val_main_v37 (F := Ideal) x0 x1 x2 x3 x4 x5 (ix3 b s C)
      = lnorm (fun K => val_main_v11 (F := Ideal) x0 x1 x2 x3 (ix3 b s K)) (fun K => x4 (ix2 0 K)) (fun K => x5 (ix2 0 K)) C := by
  unfold lnorm
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_cst_0, val_main_cst_1,
    val_main_cst_2, val_main_cst_3, val_main_cst_4]

theorem ref_y (R : Fin 8192) (C : Fin 1024) :
    val_main_v48 (F := Ideal) x0 x1 x2 x3 x4 x5 (ix2 R C)
      = val_main_v37 (F := Ideal) x0 x1 x2 x3 x4 x5 (ix3 ⟨R.val / 4096, by omega⟩ ⟨R.val % 4096, by omega⟩ C) := by
  pointwise [val_main_v48]

theorem ref_h (R : Fin 8192) (C : Fin 1024) :
    val_main_v50 (F := Ideal) x0 x1 x2 x3 x4 x5 (ix2 R C)
      = shifted (val_main_v37 (F := Ideal) x0 x1 x2 x3 x4 x5 (ix3 ⟨R.val / 4096, by omega⟩ ⟨R.val % 4096, by omega⟩ C))
          (x2 (ix4 4 ⟨1 + R.val / 4096, by omega⟩ 0 C)) (x2 (ix4 3 ⟨1 + R.val / 4096, by omega⟩ 0 C)) := by
  unfold shifted
  pointwise [val_main_v50, val_main_v49, val_main_v47, val_main_v46, val_main_v45, val_main_v44, val_main_v43, val_main_v42, val_main_v41,
    val_main_v40, val_main_v39, val_main_v38, val_main_cst_5]

/-- The reference's residual stream on the call's arguments. -/
theorem ref_row (c : Dev nD) (R : Fin 8192) (C : Fin 1024) :
    val_main_v37 (F := Ideal) (a0 m c) (a1 m c) (a2 m c) (a3 m c) (a4 m c) (a5 m c) (ix3 ⟨R.val / 4096, by omega⟩ ⟨R.val % 4096, by omega⟩ C)
      = row m c R C := by
  have hR : (⟨R.val / 4096 * 4096 + R.val % 4096, by omega⟩ : Fin 8192) = R := Fin.ext (by show R.val / 4096 * 4096 + R.val % 4096 = R.val; omega)
  rw [ref_v37]
  unfold row stream sam
  simp only [ref_v11, hR]

theorem cov9 : (cfg0.win 9).Covers := by decide +kernel
theorem emb9 (t : Fin cfg0.N) (r : Fin 512) (C : Fin 1024) : ((cfg0.win 9).blk t).view.emb (ix2 r C) = ix2 (tok t.val (pt_lt t) r) C := by
  unfold tok; blk_ext [idx9 t]
theorem cov10 : (cfg0.win 10).Covers := by decide +kernel
theorem emb10 (t : Fin cfg0.N) (r : Fin 512) (C : Fin 1024) : ((cfg0.win 10).blk t).view.emb (ix2 r C) = ix2 (tok t.val (pt_lt t) r) C := by
  unfold tok; blk_ext [idx10 t]

/-- What the call leaves for the residual stream. -/
theorem y_eq (c : Dev nD) : (dats m 0 c).arrAt 9 cfg0.N = val_main_v48 (F := Ideal) (a0 m c) (a1 m c) (a2 m c) (a3 m c) (a4 m c) (a5 m c) := by
  refine (dats m 0 c).arrAt_eq_of_covers 9 _ cov9 fun t hf y => ?_
  obtain ⟨r, C, rfl⟩ : ∃ (r : Fin 512) (C : Fin 1024), y = ix2 r C := ⟨y 0, y 1, by funext a; fin_cases a <;> rfl⟩
  rw [emb9, ref_y, ref_row, after0_9]
  refine Eq.trans (cast_eq _ _) ?_
  refine Eq.trans ?_ (out_y m c t r C)
  exact congrArg _ (by funext a; fin_cases a <;> rfl)

/-- What the call leaves for the modulated tokens. -/
theorem h_eq (c : Dev nD) : (dats m 0 c).arrAt 10 cfg0.N = val_main_v50 (F := Ideal) (a0 m c) (a1 m c) (a2 m c) (a3 m c) (a4 m c) (a5 m c) := by
  refine (dats m 0 c).arrAt_eq_of_covers 10 _ cov10 fun t hf y => ?_
  obtain ⟨r, C, rfl⟩ : ∃ (r : Fin 512) (C : Fin 1024), y = ix2 r C := ⟨y 0, y 1, by funext a; fin_cases a <;> rfl⟩
  rw [emb10, ref_h, ref_row, after0_10]
  refine Eq.trans (cast_eq _ _) ?_
  refine Eq.trans ?_ (out_h m c t r C)
  exact congrArg _ (by funext a; fin_cases a <;> rfl)

end Cert.Post.Odd

end
-- ==== Proof.PostEvenTie.lean ====
/- The output projection of an even layer on the sample tokens and its reference have one value. -/
module

public import proofs.«01_k».proof.Proof.Gen.PostEvenIdeal.Frame
public import proofs.«01_k».proof.Proof.Gen.PostEvenReferenceIdeal.Read
public import proofs.«01_k».proof.Proof.Post
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Post.Even

open Idealize.ShloMosaic Idealize.ShloMosaic.TcCoe Idealize.SL.Sem
open Cert.Moe Cert.Post Cert.PostEvenIdeal Cert.PostEvenIdeal.Gen Cert.PostEvenReferenceIdeal.Read

variable (m : (ℓ : Loc nD τ sig) → Buf (Elt Ideal) ℓ) (ρ : Dev nD → PrngReg)

/-- The run, its first two result arrays and its arguments named. -/
theorem run_named : θ_run defs (onTc (τ := τ) (main (F := Ideal))) ⟨m, fun _ => 0, ρ⟩ fun r => ∀ c : Dev nD,
      r.2.mem ((c : Thread nD τ).loc main_v0_0) = (dats m 0 c).arrAt 10 cfg0.N
      ∧ r.2.mem ((c : Thread nD τ).loc main_v0_1) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 10, (h c).1 11,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 1 + t.val / 8, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx10 : ∀ t : Fin grid0.N, win0_10.index t = ![t.val, 0] := by decide +kernel
theorem idx11 : ∀ t : Fin grid0.N, win0_11.index t = ![t.val, 0] := by decide +kernel

theorem pt_lt (t : Fin cfg0.N) : t.val < 16 := t.isLt

/-- The arguments the call reads, as arrays. -/
abbrev a0 (c : Dev nD) : FVec Ideal S8192x512 .bf16 := m ((c : Thread nD τ).loc main_arg0)
abbrev a1 (c : Dev nD) : FVec Ideal S8192x512 .bf16 := m ((c : Thread nD τ).loc main_arg1)
abbrev a2 (c : Dev nD) : FVec Ideal S8192x1024 .f32 := m ((c : Thread nD τ).loc main_arg2)
abbrev a3 (c : Dev nD) : FVec Ideal S6x8x1x1024 .f32 := m ((c : Thread nD τ).loc main_arg3)
abbrev a4 (c : Dev nD) : FVec Ideal S1024x1024 .bf16 := m ((c : Thread nD τ).loc main_arg4)
abbrev a5 (c : Dev nD) : FVec Ideal S1x1024 .f32 := m ((c : Thread nD τ).loc main_arg5)
abbrev a6 (c : Dev nD) : FVec Ideal S1x1024 .f32 := m ((c : Thread nD τ).loc main_arg6)

theorem pay2_apply (P0 : FVec Ideal S512x512 .bf16) (P1 : FVec Ideal S512x1024 .bf16) (P2 : FVec Ideal S512x512 .bf16)
    (P3 : FVec Ideal S512x1024 .bf16) (P4 : FVec Ideal S512x1024 .f32)
    (P5 : FVec Ideal S1x1x1x1024 .f32) (P6 P7 : FVec Ideal S1x1024 .f32) (r : Fin 512) (C : Fin 1024) :
    k0_pay3 (F := Ideal) P6 P7 (k0_pay2 (F := Ideal) P0 P1 P2 P3 P4 P5) (ix2 r C)
      = stream (fun K => P4 (ix2 r K)) (fun K => P5 (ix4 0 0 0 K))
          (fun K => (∑ d : Fin 512, P0 (ix2 r d) * P1 (ix2 d K)) + ∑ d : Fin 512, P2 (ix2 r d) * P3 (ix2 d K))
          (fun K => P6 (ix2 0 K)) (fun K => P7 (ix2 0 K)) C := by
  unfold stream lnorm
  pointwise [k0_pay2, k0_pay3]

theorem pay5_apply (g b : FVec Ideal S1x1024 .f32) (v : FVec Ideal S512x1024 .f32) (s h : FVec Ideal S1x1x1x1024 .f32) (r : Fin 512) (C : Fin 1024) :
    k0_pay5 (F := Ideal) g b v s h (ix2 r C) = shifted (k0_pay3 (F := Ideal) g b v (ix2 r C)) (s (ix4 0 0 0 C)) (h (ix4 0 0 0 C)) := by
  unfold shifted
  pointwise [k0_pay5, k0_pay4]

/-- The residual stream's entry and the modulated token's, of a token of the samples. -/
def row (c : Dev nD) (R : Fin 8192) (C : Fin 1024) : EReal :=
  stream (fun K => a2 m c (ix2 R K)) (fun K => a3 m c (ix4 2 (sam R) 0 K))
    (fun K => (∑ d : Fin 512, a0 m c (ix2 R d) * a4 m c (ix2 ⟨d.val, by omega⟩ K)) + ∑ d : Fin 512, a1 m c (ix2 R d) * a4 m c (ix2 ⟨512 + d.val, by omega⟩ K))
    (fun K => a5 m c (ix2 0 K)) (fun K => a6 m c (ix2 0 K)) C
def hrow (c : Dev nD) (R : Fin 8192) (C : Fin 1024) : EReal :=
  shifted (row m c R C) (a3 m c (ix4 4 (sam R) 0 C)) (a3 m c (ix4 3 (sam R) 0 C))

theorem ld0 (c : Dev nD) (t : Fin cfg0.N) (r d : Fin 512) :
    (View.ld (Val := Elt Ideal) (S := S512x512) (e' := .bf16) (iblk m c 0 t) r0_0 : FVec Ideal S512x512 .bf16) (ix2 r d)
      = a0 m c (ix2 (tok t.val (pt_lt t) r) d) :=
  (View.ld_unit_apply_of (iblk m c 0 t) ![0, 0] S512x512.size inb_S512x512_S512x512_0_0 (ix2 r d) (ix2 r d)
    (by intro a; fin_cases a <;> simp)).trans (by unfold tok; blk_ext [iblk, V, idx0 t])
theorem ld1 (c : Dev nD) (t : Fin cfg0.N) (r d : Fin 512) :
    (View.ld (Val := Elt Ideal) (S := S512x512) (e' := .bf16) (iblk m c 1 t) r0_0 : FVec Ideal S512x512 .bf16) (ix2 r d)
      = a1 m c (ix2 (tok t.val (pt_lt t) r) d) :=
  (View.ld_unit_apply_of (iblk m c 1 t) ![0, 0] S512x512.size inb_S512x512_S512x512_0_0 (ix2 r d) (ix2 r d)
    (by intro a; fin_cases a <;> simp)).trans (by unfold tok; blk_ext [iblk, V, idx1 t])
theorem ld2 (c : Dev nD) (t : Fin cfg0.N) (r : Fin 512) (d : Fin 1024) :
    (View.ld (Val := Elt Ideal) (S := S512x1024) (e' := .f32) (iblk m c 2 t) r0_3 : FVec Ideal S512x1024 .f32) (ix2 r d)
      = a2 m c (ix2 (tok t.val (pt_lt t) r) d) :=
  (View.ld_unit_apply_of (iblk m c 2 t) ![0, 0] S512x1024.size inb_S512x1024_S512x1024_0_0 (ix2 r d) (ix2 r d)
    (by intro a; fin_cases a <;> simp)).trans (by unfold tok; blk_ext [iblk, V, idx2 t])
theorem ld3 (c : Dev nD) (t : Fin cfg0.N) (k : Fin 6) (h) (d : Fin 1024) :
    (View.ld (Val := Elt Ideal) (S := S6x1x1x1024) (e' := .f32) (iblk m c 3 t) (Rect.unit (s := S6x1x1x1024) ![k.val, 0, 0, 0] S1x1x1x1024.size h)
        : FVec Ideal S1x1x1x1024 .f32) (ix4 0 0 0 d)
      = a3 m c (ix4 k ⟨1 + t.val / 8, by have := pt_lt t; omega⟩ 0 d) :=
  (View.ld_unit_apply_of (iblk m c 3 t) ![k.val, 0, 0, 0] S1x1x1x1024.size h (ix4 0 0 0 d) (ix4 k 0 0 d)
    (by intro a; fin_cases a <;> simp)).trans (by blk_ext [iblk, V, idx3 t])
theorem ld4 (c : Dev nD) (t : Fin cfg0.N) (d : Fin 512) (K : Fin 1024) :
    (View.ld (Val := Elt Ideal) (S := S1024x1024) (e' := .bf16) (iblk m c 4 t) r0_1 : FVec Ideal S512x1024 .bf16) (ix2 d K)
      = a4 m c (ix2 ⟨d.val, by omega⟩ K) :=
  (View.ld_unit_apply_of (iblk m c 4 t) ![0, 0] S512x1024.size inb_S1024x1024_S512x1024_0_0 (ix2 d K) (ix2 ⟨d.val, by omega⟩ K)
    (by intro a; fin_cases a <;> simp)).trans (by blk_ext [iblk, V, idx4 t])
theorem ld4' (c : Dev nD) (t : Fin cfg0.N) (d : Fin 512) (K : Fin 1024) :
    (View.ld (Val := Elt Ideal) (S := S1024x1024) (e' := .bf16) (iblk m c 4 t) r0_2 : FVec Ideal S512x1024 .bf16) (ix2 d K)
      = a4 m c (ix2 ⟨512 + d.val, by omega⟩ K) :=
  (View.ld_unit_apply_of (iblk m c 4 t) ![512, 0] S512x1024.size inb_S1024x1024_S512x1024_512_0 (ix2 d K) (ix2 ⟨512 + d.val, by omega⟩ K)
    (by intro a; fin_cases a <;> simp)).trans (by blk_ext [iblk, V, idx4 t])
theorem ld5 (c : Dev nD) (t : Fin cfg0.N) (K : Fin 1024) :
    (View.ld (Val := Elt Ideal) (S := S1x1024) (e' := .f32) (iblk m c 5 t) r0_5 : FVec Ideal S1x1024 .f32) (ix2 0 K) = a5 m c (ix2 0 K) :=
  (View.ld_unit_apply_of (iblk m c 5 t) ![0, 0] S1x1024.size inb_S1x1024_S1x1024_0_0 (ix2 0 K) (ix2 0 K)
    (by intro a; fin_cases a <;> simp)).trans (by blk_ext [iblk, V, idx5 t])
theorem ld6 (c : Dev nD) (t : Fin cfg0.N) (K : Fin 1024) :
    (View.ld (Val := Elt Ideal) (S := S1x1024) (e' := .f32) (iblk m c 6 t) r0_5 : FVec Ideal S1x1024 .f32) (ix2 0 K) = a6 m c (ix2 0 K) :=
  (View.ld_unit_apply_of (iblk m c 6 t) ![0, 0] S1x1024.size inb_S1x1024_S1x1024_0_0 (ix2 0 K) (ix2 0 K)
    (by intro a; fin_cases a <;> simp)).trans (by blk_ext [iblk, V, idx6 t])

/-- The entry of the residual stream a point computes. -/
theorem point (c : Dev nD) (t : Fin cfg0.N) (r : Fin 512) (C : Fin 1024) :
    k0_pay3 (F := Ideal) (View.ld (iblk m c 5 t) r0_5) (View.ld (iblk m c 6 t) r0_5)
      (k0_pay2 (F := Ideal) (View.ld (iblk m c 0 t) r0_0) (View.ld (iblk m c 4 t) r0_1) (View.ld (iblk m c 1 t) r0_0) (View.ld (iblk m c 4 t) r0_2)
        (View.ld (iblk m c 2 t) r0_3) (View.ld (iblk m c 3 t) r0_4)) (ix2 r C) = row m c (tok t.val (pt_lt t) r) C := by
  rw [pay2_apply]
  unfold row
  rw [sam_tok]
  have h3 : ∀ K : Fin 1024, (View.ld (Val := Elt Ideal) (S := S6x1x1x1024) (e' := .f32) (iblk m c 3 t) r0_4 : FVec Ideal S1x1x1x1024 .f32) (ix4 0 0 0 K)
      = a3 m c (ix4 2 ⟨1 + t.val / 8, by have := pt_lt t; omega⟩ 0 K) := fun K => ld3 m c t 2 inb_S6x1x1x1024_S1x1x1x1024_2_0_0_0 K
  simp only [ld0, ld1, ld2, ld4, ld4', ld5, ld6, h3]

/-- A point's block of the residual stream. -/
theorem out_y (c : Dev nD) (t : Fin cfg0.N) (r : Fin 512) (C : Fin 1024) :
    out0_10 (F := Ideal) (iblk m c 0 t) (iblk m c 1 t) (iblk m c 2 t) (iblk m c 3 t) (iblk m c 4 t) (iblk m c 5 t) (iblk m c 6 t) (iblk m c 7 t)
      (iblk m c 8 t) (iblk m c 9 t) (ix2 r C) = row m c (tok t.val (pt_lt t) r) C := by
  rw [← point]
  unfold out0_10 k0_pay26
  exact congrFun (View.canon_unit_zero (Val := Elt Ideal) (by funext a; fin_cases a <;> rfl) _ _) _

/-- A point's block of modulated tokens. -/
theorem out_h (c : Dev nD) (t : Fin cfg0.N) (r : Fin 512) (C : Fin 1024) :
    out0_11 (F := Ideal) (iblk m c 0 t) (iblk m c 1 t) (iblk m c 2 t) (iblk m c 3 t) (iblk m c 4 t) (iblk m c 5 t) (iblk m c 6 t) (iblk m c 7 t)
      (iblk m c 8 t) (iblk m c 9 t) (ix2 r C) = hrow m c (tok t.val (pt_lt t) r) C := by
  unfold hrow
  rw [← point, sam_tok, ← ld3 m c t 4 inb_S6x1x1x1024_S1x1x1x1024_4_0_0_0 C, ← ld3 m c t 3 inb_S6x1x1x1024_S1x1x1x1024_3_0_0_0 C, ← pay5_apply]
  unfold out0_11 k0_pay26
  exact congrFun (View.canon_unit_zero (Val := Elt Ideal) (by funext a; fin_cases a <;> rfl) _ _) _

variable (x0 x1 : FVec Ideal S8192x512 .bf16) (x2 : FVec Ideal S8192x1024 .f32) (x3 : FVec Ideal S6x8x1x1024 .f32)
  (x4 : FVec Ideal S1024x1024 .bf16) (x5 x6 : FVec Ideal S1x1024 .f32)

/-- The joined mixer outputs, half by half. -/
theorem ref_lo (R : Fin 8192) (d : Fin 512) : val_main_v0 (F := Ideal) x0 x1 (ix2 R (⟨d.val, by omega⟩ : Fin 1024)) = x0 (ix2 R d) :=
  concatenate_pair_apply_left (t := S8192x1024) 1 x0 x1 _ _ rfl (ix2 R d) (by intro a; fin_cases a <;> rfl)
theorem ref_hi (R : Fin 8192) (d : Fin 512) : val_main_v0 (F := Ideal) x0 x1 (ix2 R (⟨512 + d.val, by omega⟩ : Fin 1024)) = x1 (ix2 R d) :=
  concatenate_pair_apply_right (t := S8192x1024) 1 x0 x1 _ _ rfl rfl (ix2 R d)
    (by intro a ha; fin_cases a; · rfl
        · exact absurd rfl ha) (Nat.add_comm d.val 512)

/-- The reference before its layer norm. -/
theorem ref_v12 (b : Fin 2) (s : Fin 4096) (K : Fin 1024) :
    val_main_v12 (F := Ideal) x0 x1 x2 x3 x4 (ix3 b s K)
      = Ideal.ofBits .f32 0x3FB504F3#32 * x2 (ix2 ⟨b.val * 4096 + s.val, by omega⟩ K)
        + x3 (ix4 2 ⟨1 + b.val, by omega⟩ 0 K)
          * ∑ d : Fin 1024, val_main_v0 (F := Ideal) x0 x1 (ix2 ⟨b.val * 4096 + s.val, by omega⟩ d) * x4 (ix2 d K) := by
  pointwise [val_main_v12, val_main_v11, val_main_v10, val_main_v9, val_main_v8, val_main_v7, val_main_v6, val_main_v5, val_main_v4, val_main_v3,
    val_main_v2, val_main_v1, val_main_cst]

/-- The reference's residual stream in terms of its row before the layer norm. -/
theorem ref_v38 (b : Fin 2) (s : Fin 4096) (C : Fin 1024) :
    val_main_v38 (F := Ideal) x0 x1 x2 x3 x4 x5 x6 (ix3 b s C)
      = lnorm (fun K => val_main_v12 (F := Ideal) x0 x1 x2 x3 x4 (ix3 b s K)) (fun K => x5 (ix2 0 K)) (fun K => x6 (ix2 0 K)) C := by
  unfold lnorm
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_cst_0, val_main_cst_1,
    val_main_cst_2, val_main_cst_3, val_main_cst_4]

theorem ref_y (R : Fin 8192) (C : Fin 1024) :
    val_main_v49 (F := Ideal) x0 x1 x2 x3 x4 x5 x6 (ix2 R C)
      = val_main_v38 (F := Ideal) x0 x1 x2 x3 x4 x5 x6 (ix3 ⟨R.val / 4096, by omega⟩ ⟨R.val % 4096, by omega⟩ C) := by
  pointwise [val_main_v49]

theorem ref_h (R : Fin 8192) (C : Fin 1024) :
    val_main_v51 (F := Ideal) x0 x1 x2 x3 x4 x5 x6 (ix2 R C)
      = shifted (val_main_v38 (F := Ideal) x0 x1 x2 x3 x4 x5 x6 (ix3 ⟨R.val / 4096, by omega⟩ ⟨R.val % 4096, by omega⟩ C))
          (x3 (ix4 4 ⟨1 + R.val / 4096, by omega⟩ 0 C)) (x3 (ix4 3 ⟨1 + R.val / 4096, by omega⟩ 0 C)) := by
  unfold shifted
  pointwise [val_main_v51, val_main_v50, val_main_v48, val_main_v47, val_main_v46, val_main_v45, val_main_v44, val_main_v43, val_main_v42,
    val_main_v41, val_main_v40, val_main_v39, val_main_cst_5]

/-- The reference's residual stream on the call's arguments. -/
theorem ref_row (c : Dev nD) (R : Fin 8192) (C : Fin 1024) :
    val_main_v38 (F := Ideal) (a0 m c) (a1 m c) (a2 m c) (a3 m c) (a4 m c) (a5 m c) (a6 m c) (ix3 ⟨R.val / 4096, by omega⟩ ⟨R.val % 4096, by omega⟩ C)
      = row m c R C := by
  have hR : (⟨R.val / 4096 * 4096 + R.val % 4096, by omega⟩ : Fin 8192) = R := Fin.ext (by show R.val / 4096 * 4096 + R.val % 4096 = R.val; omega)
  rw [ref_v38]
  unfold row stream sam
  simp only [ref_v12, hR, sum_halves, ref_lo, ref_hi]

theorem cov10 : (cfg0.win 10).Covers := by decide +kernel
theorem emb10 (t : Fin cfg0.N) (r : Fin 512) (C : Fin 1024) : ((cfg0.win 10).blk t).view.emb (ix2 r C) = ix2 (tok t.val (pt_lt t) r) C := by
  unfold tok; blk_ext [idx10 t]
theorem cov11 : (cfg0.win 11).Covers := by decide +kernel
theorem emb11 (t : Fin cfg0.N) (r : Fin 512) (C : Fin 1024) : ((cfg0.win 11).blk t).view.emb (ix2 r C) = ix2 (tok t.val (pt_lt t) r) C := by
  unfold tok; blk_ext [idx11 t]

/-- What the call leaves for the residual stream. -/
theorem y_eq (c : Dev nD) : (dats m 0 c).arrAt 10 cfg0.N = val_main_v49 (F := Ideal) (a0 m c) (a1 m c) (a2 m c) (a3 m c) (a4 m c) (a5 m c) (a6 m c) := by
  refine (dats m 0 c).arrAt_eq_of_covers 10 _ cov10 fun t hf y => ?_
  obtain ⟨r, C, rfl⟩ : ∃ (r : Fin 512) (C : Fin 1024), y = ix2 r C := ⟨y 0, y 1, by funext a; fin_cases a <;> rfl⟩
  rw [emb10, ref_y, ref_row, after0_10]
  refine Eq.trans (cast_eq _ _) ?_
  refine Eq.trans ?_ (out_y m c t r C)
  exact congrArg _ (by funext a; fin_cases a <;> rfl)

/-- What the call leaves for the modulated tokens. -/
theorem h_eq (c : Dev nD) : (dats m 0 c).arrAt 11 cfg0.N = val_main_v51 (F := Ideal) (a0 m c) (a1 m c) (a2 m c) (a3 m c) (a4 m c) (a5 m c) (a6 m c) := by
  refine (dats m 0 c).arrAt_eq_of_covers 11 _ cov11 fun t hf y => ?_
  obtain ⟨r, C, rfl⟩ : ∃ (r : Fin 512) (C : Fin 1024), y = ix2 r C := ⟨y 0, y 1, by funext a; fin_cases a <;> rfl⟩
  rw [emb11, ref_h, ref_row, after0_11]
  refine Eq.trans (cast_eq _ _) ?_
  refine Eq.trans ?_ (out_h m c t r C)
  exact congrArg _ (by funext a; fin_cases a <;> rfl)

end Cert.Post.Even

end
-- ==== Proof.Softmax.lean ====
/- The softmax of a row of real scores, taken in pieces with a running shift, and taken at once. -/
module

public import proofs.«01_k».proof.Proof.Numbers
public import proofs.«01_k».proof.Proof.Proj

@[expose] public section

noncomputable section

namespace Cert.Attn

open Idealize.ShloMosaic Cert.Proj Cert.Moe

/-- A sum over a row, every term weighted by the exponential of its score less a shift: the first `n` terms. -/
def wsum (s w : ℕ → ℝ) (μ : ℝ) (n : ℕ) : ℝ := ∑ t ∈ Finset.range n, Real.exp (s t - μ) * w t

/-- The maximum of a number and of finitely many numbers is a number. -/
theorem max_fold_num {ι : Type} (u : Finset ι) (f : ι → EReal) (h : ∀ i, IsNum (f i)) :
    ∀ x : EReal, IsNum x → IsNum (max x (u.fold max ⊥ f)) := by
  classical
  induction u using Finset.induction_on with
  | empty => intro x hx; simpa using hx
  | insert a u ha ih =>
    intro x hx
    rw [Finset.fold_insert ha, ← max_assoc]
    refine ih _ ?_
    rcases max_choice x (f a) with e | e <;> rw [e]
    exacts [hx, h a]

theorem bot_bits : Ideal.ofBits .f32 0xFF800000#32 = ⊥ := by
  simp [Ideal.ofBits, Ideal.ieee]

/-- A sum of numbers is the number their sum is. -/
theorem coe_sum {ι : Type} (u : Finset ι) (f : ι → ℝ) : ∑ i ∈ u, (f i : EReal) = ((∑ i ∈ u, f i : ℝ) : EReal) := by
  classical
  induction u using Finset.induction_on with
  | empty => simp
  | insert a u ha ih => rw [Finset.sum_insert ha, Finset.sum_insert ha, ih, EReal.coe_add]

/-- The weighted sum with another shift, and a further piece of the row put to it. -/
theorem wsum_step (s w : ℕ → ℝ) (μ ν : ℝ) (n k : ℕ) :
    Real.exp (μ - ν) * wsum s w μ n + ∑ j : Fin k, Real.exp (s (n + j.val) - ν) * w (n + j.val) = wsum s w ν (n + k) := by
  unfold wsum
  rw [Finset.sum_range_add, Finset.mul_sum, ← Finset.sum_range (fun j => Real.exp (s (n + j) - ν) * w (n + j))]
  congr 1
  refine Finset.sum_congr rfl fun t _ => ?_
  rw [← mul_assoc, ← Real.exp_add]
  congr 2
  ring

/-- The same over the extended reals, the terms as a kernel computes them. -/
theorem wsum_step_coe (s w : ℕ → ℝ) (μ ν : ℝ) (n k : ℕ) :
    Ideal.exp ((μ : EReal) - (ν : EReal)) * (wsum s w μ n : EReal)
        + ∑ j : Fin k, Ideal.exp ((s (n + j.val) : EReal) - (ν : EReal)) * (w (n + j.val) : EReal)
      = (wsum s w ν (n + k) : EReal) := by
  rw [← wsum_step s w μ ν n k, EReal.coe_add, ← coe_sum]
  simp only [← EReal.coe_sub, Ideal.exp_coe, ← EReal.coe_mul]

theorem wsum_pos (s : ℕ → ℝ) (μ : ℝ) {n : ℕ} (hn : 0 < n) : 0 < wsum s (fun _ => 1) μ n := by
  unfold wsum
  refine Finset.sum_pos (fun t _ => by rw [mul_one]; exact Real.exp_pos _) ⟨0, Finset.mem_range.2 hn⟩

theorem wsum_shift (s w : ℕ → ℝ) (μ ν : ℝ) (n : ℕ) : wsum s w μ n = Real.exp (ν - μ) * wsum s w ν n := by
  have := wsum_step s w ν μ n 0
  simpa using this.symm

/-- The weighted sum of values that may be infinite. -/
def esum (s : ℕ → ℝ) (w : ℕ → EReal) (μ : ℝ) (n : ℕ) : EReal := ∑ t ∈ Finset.range n, (Real.exp (s t - μ) : EReal) * w t

/-- It with another shift, and a further piece of the row put to it. -/
theorem esum_step (s : ℕ → ℝ) (w : ℕ → EReal) (μ ν : ℝ) (n k : ℕ) :
    Ideal.exp ((μ : EReal) - (ν : EReal)) * esum s w μ n
        + ∑ j : Fin k, Ideal.exp ((s (n + j.val) : EReal) - (ν : EReal)) * w (n + j.val)
      = esum s w ν (n + k) := by
  simp only [← EReal.coe_sub, Ideal.exp_coe]
  unfold esum
  rw [Finset.sum_range_add, mul_sum_of_nonneg (EReal.coe_nonneg.2 (Real.exp_pos _).le) (EReal.coe_ne_top _),
    ← Finset.sum_range (fun j => (Real.exp (s (n + j) - ν) : EReal) * w (n + j))]
  congr 1
  refine Finset.sum_congr rfl fun t _ => ?_
  rw [← mul_assoc, ← EReal.coe_mul, ← Real.exp_add, show μ - ν + (s t - μ) = s t - ν by ring]

/-- The quotient of two weighted sums does not depend on the shift, and the division may be made term by term. -/
theorem equot_eq (s : ℕ → ℝ) (w : ℕ → EReal) (μ ν : ℝ) {n : ℕ} (hn : 0 < n) :
    Ideal.div (esum s w μ n) (wsum s (fun _ => 1) μ n : EReal)
      = ∑ t : Fin n, w t.val * Ideal.div (Ideal.exp ((s t.val : EReal) - (ν : EReal))) (wsum s (fun _ => 1) ν n : EReal) := by
  have p1 := (wsum_pos s μ hn).ne'
  have p2 := (wsum_pos s ν hn).ne'
  simp only [← EReal.coe_sub, Ideal.exp_coe, Ideal.div_coe p1, Ideal.div_coe p2, ← EReal.coe_mul]
  unfold esum
  rw [mul_comm, mul_sum_of_nonneg (EReal.coe_nonneg.2 (one_div_pos.2 (wsum_pos s μ hn)).le) (EReal.coe_ne_top _), Finset.sum_range]
  refine Finset.sum_congr rfl fun t _ => ?_
  rw [← mul_assoc, ← EReal.coe_mul, mul_comm (w t.val)]
  congr 2
  rw [wsum_shift s (fun _ => 1) μ ν n, show s t.val - μ = (ν - μ) + (s t.val - ν) by ring, Real.exp_add]
  have e := (Real.exp_pos (ν - μ)).ne'
  field_simp

end Cert.Attn

end
-- ==== Proof.GlobalTrip.lean ====
/- The four loops of the global attention's body run one recursion, each on its own slab of 128 lanes. -/
module

public import proofs.«01_k».proof.Proof.Gen.GlobalIdeal.Frame
public import proofs.«01_k».proof.Proof.Softmax
public import Idealize.ShloMosaic.Lib.Pipeline.ValueKit
public import Idealize.ShloMosaic.Lib.Pipeline.ReadBack
public import Idealize.ShloMosaic.Lib.VecWindow
public import Idealize.ShloMosaic.Lib.WritesUnit

@[expose] public section

set_option maxRecDepth 16384

noncomputable section

namespace Cert.Attn.Global

open Idealize.ShloMosaic Idealize.ShloMosaic.TcCoe Idealize.SL.Sem
open Cert.GlobalIdeal Cert.GlobalIdeal.Gen

/-- What a loop carries: shift, sum and weighted sum, of the lower heads' queries and of the upper's. -/
abbrev St : Type :=
  FVec Ideal S256x1 .f32 × FVec Ideal S256x1 .f32 × FVec Ideal S256x128 .f32
    × FVec Ideal S256x1 .f32 × FVec Ideal S256x1 .f32 × FVec Ideal S256x128 .f32

/-- The queries of a slab with the upper half of the lanes put to zero, and with the lower half. -/
abbrev qlo (v : Vec Ideal S256x128 .bf16) : FVec Ideal S256x128 .bf16 := k0_pay40 v
abbrev qhi (v : Vec Ideal S256x128 .bf16) : FVec Ideal S256x128 .bf16 := mulf v k0_pay41

/-- One trip: the shift, the sum and the weighted sum of each half, with 512 further keys and values. -/
def trip (v : Vec Ideal S256x128 .bf16) (kk vv : Vec Ideal S1x512x128 .bf16) (a : St) : St :=
  (k0_pay7 (qlo v) a.1 kk, k0_pay10 (qlo v) a.1 a.2.1 kk, k0_pay11 (qlo v) a.1 a.2.2.1 kk vv,
    k0_pay7 (qhi v) a.2.2.2.1 kk, k0_pay10 (qhi v) a.2.2.2.1 a.2.2.2.2.1 kk, k0_pay11 (qhi v) a.2.2.2.1 a.2.2.2.2.2 kk vv)

/-- 512 rows of the keys or values. -/
def rows (x : Vec Ideal S1x4608x128 .bf16) (k : ℕ) : Vec Ideal S1x512x128 .bf16 :=
  fun i => x (ix3 0 ⟨(512 * k + (i 1).val) % 4608, Nat.mod_lt _ (by decide)⟩ (i 2))

/-- Where a loop starts. -/
def init : St := (k0_pay22, k0_pay23, k0_pay24, k0_pay22, k0_pay23, k0_pay24)

/-- What a loop carries after some trips. -/
def loop (v : Vec Ideal S256x128 .bf16) (x y : Vec Ideal S1x4608x128 .bf16) : ℕ → St
  | 0 => init
  | k + 1 => trip v (rows x k) (rows y k) (loop v x y k)

variable (𝒱 : Variants) (c : Dev nD) (bd : Option 𝒱.V) (i : grid0.Coords)
  (arg2 : Memref sig .tc .vmem S256x512 .bf16) (harg2 : arg2.IsWhole)
  (arg3 : Memref sig .tc .vmem S1x4608x128 .bf16) (harg3 : arg3.IsWhole)
  (arg4 : Memref sig .tc .vmem S1x4608x128 .bf16) (harg4 : arg4.IsWhole)
  (arg5 : Memref sig .tc .vmem S256x512 .bf16) (harg5 : arg5.IsWhole)
  (v : Vec Ideal S256x128 .bf16) (x y : Vec Ideal S1x4608x128 .bf16)

/-- The rows a trip reads are those rows. -/
theorem read_rows (arg : Memref sig .tc .vmem S1x4608x128 .bf16) (harg : arg.IsWhole) (k : ℕ) (hk : k < 9) (off : Fin 3 → ℕ)
    (hoff : off = ![0, 512 * k, 0]) (inb : ∀ a, off a + S1x512x128.size a ≤ S1x4608x128.size a) :
    (View.readAt (Elt Ideal) arg.view (Rect.unit (s := S1x4608x128) off S1x512x128.size inb).toLoadRect (harg.unread x) : Vec Ideal S1x512x128 .bf16)
      = rows x k := by
  subst hoff
  funext j
  rw [View.readAt_apply, harg.read_unread]
  unfold rows
  refine congrArg x (funext fun a => Fin.ext ?_)
  have h1 : (j 1).val < 512 := (j 1).isLt
  have h0 : (j 0).val < 1 := (j 0).isLt
  fin_cases a
  · show 0 + 1 * (j 0).val = 0; omega
  · show 512 * k + 1 * (j 1).val = (512 * k + (j 1).val) % 4608; omega
  · show 0 + 1 * (j 2).val = (j 2).val; omega

theorem step1 (k : Fin k0_t1_loop.trips) (hk : k.val < 9) (a : St) :
    tripR_k0_t1 (F := Ideal) 𝒱 c bd i arg2 harg2 arg3 harg3 arg4 harg4 arg5 harg5 v (harg3.unread x) (harg4.unread y) k a
      = trip v (rows x k.val) (rows y k.val) a := by
  rw [← read_rows x arg3 harg3 k.val hk _ (k0_off1_eq k) (k0_off1_inb k), ← read_rows y arg4 harg4 k.val hk _ (k0_off1_eq k) (k0_off1_inb k)]
  unfold tripR_k0_t1 trip_k0_t1 trip
  rfl

/-- The first slab's loop. -/
theorem loop1 : ∀ n, n ≤ 9 →
    st_k0_t1 (F := Ideal) 𝒱 c bd i arg2 harg2 arg3 harg3 arg4 harg4 arg5 harg5 v (harg3.unread x) (harg4.unread y)
      (k0_pay22, k0_pay23, k0_pay24, k0_pay22, k0_pay23, k0_pay24) n = loop v x y n
  | 0, _ => rfl
  | n + 1, h => by
    have hk : n < k0_t1_loop.trips := Nat.lt_of_lt_of_le h (by decide)
    rw [st_k0_t1_succ (k := ⟨n, hk⟩), step1 (v := v) (x := x) (y := y) (k := ⟨n, hk⟩) (hk := h), loop1 n (by omega)]
    rfl

theorem step2 (k : Fin k0_t2_loop.trips) (hk : k.val < 9) (a : St) :
    tripR_k0_t2 (F := Ideal) 𝒱 c bd i arg2 harg2 arg3 harg3 arg4 harg4 arg5 harg5 k0_pay19 k0_pay20 k0_pay21 v (k0_pay40 v) k0_pay41 (harg3.unread x) (harg4.unread y) k a
      = trip v (rows x k.val) (rows y k.val) a := by
  rw [← read_rows x arg3 harg3 k.val hk _ (k0_off2_eq k) (k0_off2_inb k), ← read_rows y arg4 harg4 k.val hk _ (k0_off2_eq k) (k0_off2_inb k)]
  unfold tripR_k0_t2 trip_k0_t2 trip
  rfl

/-- The second slab's loop. -/
theorem loop2 : ∀ n, n ≤ 9 →
    st_k0_t2 (F := Ideal) 𝒱 c bd i arg2 harg2 arg3 harg3 arg4 harg4 arg5 harg5 k0_pay19 k0_pay20 k0_pay21 v (k0_pay40 v) k0_pay41 (harg3.unread x) (harg4.unread y)
      (k0_pay42, k0_pay43, k0_pay44, k0_pay42, k0_pay43, k0_pay44) n = loop v x y n
  | 0, _ => rfl
  | n + 1, h => by
    have hk : n < k0_t2_loop.trips := Nat.lt_of_lt_of_le h (by decide)
    rw [st_k0_t2_succ (k := ⟨n, hk⟩), step2 (v := v) (x := x) (y := y) (k := ⟨n, hk⟩) (hk := h), loop2 n (by omega)]
    rfl

theorem step3 (w : Vec Ideal S256x128 .bf16) (w' w'' : FVec Ideal S256x128 .bf16) (k : Fin k0_t3_loop.trips) (hk : k.val < 9) (a : St) :
    tripR_k0_t3 (F := Ideal) 𝒱 c bd i arg2 harg2 arg3 harg3 arg4 harg4 arg5 harg5 k0_pay19 k0_pay20 k0_pay21 w w' w'' v (harg3.unread x) (harg4.unread y) k a
      = trip v (rows x k.val) (rows y k.val) a := by
  rw [← read_rows x arg3 harg3 k.val hk _ (k0_off3_eq k) (k0_off3_inb k), ← read_rows y arg4 harg4 k.val hk _ (k0_off3_eq k) (k0_off3_inb k)]
  unfold tripR_k0_t3 trip_k0_t3 trip
  rfl

/-- The third slab's loop. -/
theorem loop3 (w : Vec Ideal S256x128 .bf16) (w' w'' : FVec Ideal S256x128 .bf16) : ∀ n, n ≤ 9 →
    st_k0_t3 (F := Ideal) 𝒱 c bd i arg2 harg2 arg3 harg3 arg4 harg4 arg5 harg5 k0_pay19 k0_pay20 k0_pay21 w w' w'' v (harg3.unread x) (harg4.unread y)
      (k0_pay60, k0_pay61, k0_pay62, k0_pay60, k0_pay61, k0_pay62) n = loop v x y n
  | 0, _ => rfl
  | n + 1, h => by
    have hk : n < k0_t3_loop.trips := Nat.lt_of_lt_of_le h (by decide)
    rw [st_k0_t3_succ (k := ⟨n, hk⟩), step3 (v := v) (x := x) (y := y) (k := ⟨n, hk⟩) (hk := h), loop3 w w' w'' n (by omega)]
    rfl

theorem step4 (k : Fin k0_t4_loop.trips) (hk : k.val < 9) (a : St) :
    tripR_k0_t4 (F := Ideal) 𝒱 c bd i arg2 harg2 arg3 harg3 arg4 harg4 arg5 harg5 (qlo v) (qhi v) (harg3.unread x) (harg4.unread y) k a
      = trip v (rows x k.val) (rows y k.val) a := by
  rw [← read_rows x arg3 harg3 k.val hk _ (k0_off4_eq k) (k0_off4_inb k), ← read_rows y arg4 harg4 k.val hk _ (k0_off4_eq k) (k0_off4_inb k)]
  unfold tripR_k0_t4 trip_k0_t4 trip
  rfl

/-- The fourth slab's loop. -/
theorem loop4 : ∀ n, n ≤ 9 →
    st_k0_t4 (F := Ideal) 𝒱 c bd i arg2 harg2 arg3 harg3 arg4 harg4 arg5 harg5 (qlo v) (qhi v) (harg3.unread x) (harg4.unread y)
      (k0_pay1 kernelRun0_A.sl.cst_33, k0_pay2, k0_pay3, k0_pay1 kernelRun0_A.sl.cst_33, k0_pay2, k0_pay3) n = loop v x y n
  | 0, _ => rfl
  | n + 1, h => by
    have hk : n < k0_t4_loop.trips := Nat.lt_of_lt_of_le h (by decide)
    rw [st_k0_t4_succ (k := ⟨n, hk⟩), step4 (v := v) (x := x) (y := y) (k := ⟨n, hk⟩) (hk := h), loop4 n (by omega)]
    rfl

/-- 128 lanes of a block of queries. -/
def slab (q : Vec Ideal S256x512 .bf16) (j : Fin 4) : Vec Ideal S256x128 .bf16 :=
  fun i => q (ix2 (i 0) ⟨128 * j.val + (i 1).val, by have : (i 1).val < 128 := (i 1).isLt; omega⟩)

/-- What a slab's loop leaves: the quotient of each half, the halves side by side. -/
def fin (a : St) : FVec Ideal S256x128 .bf16 := k0_pay39 a.2.1 a.2.2.1 a.2.2.2.2.1 a.2.2.2.2.2

theorem read_slab (q : Vec Ideal S256x512 .bf16) (j : Fin 4) (off : Fin 2 → ℕ) (hoff : off = ![0, 128 * j.val])
    (inb : ∀ a, off a + S256x128.size a ≤ S256x512.size a) :
    (View.readAt (Elt Ideal) arg2.view (Rect.unit (s := S256x512) off S256x128.size inb).toLoadRect (harg2.unread q) : Vec Ideal S256x128 .bf16)
      = slab q j := by
  subst hoff
  funext i
  rw [View.readAt_apply, harg2.read_unread]
  unfold slab
  refine congrArg q (funext fun a => Fin.ext ?_)
  fin_cases a
  · show 0 + 1 * (i 0).val = (i 0).val; omega
  · show 128 * j.val + 1 * (i 1).val = 128 * j.val + (i 1).val; omega

/-- The four slabs a point leaves, the last first. -/
theorem pieces (q : Vec Ideal S256x512 .bf16) :
    (kernelRun0_A (F := Ideal) c i arg2 harg2 arg3 harg3 arg4 harg4 arg5 harg5 q x y).1
      = [⟨Rect.unit ![0, 384] ![256, 128] inb_S256x512_S256x128_0_384, fin (loop (slab q 3) x y 9)⟩,
         ⟨Rect.unit ![0, 256] ![256, 128] inb_S256x512_S256x128_0_256, fin (loop (slab q 2) x y 9)⟩,
         ⟨Rect.unit ![0, 128] ![256, 128] inb_S256x512_S256x128_0_128, fin (loop (slab q 1) x y 9)⟩,
         ⟨Rect.unit ![0, 0] ![256, 128] inb_S256x512_S256x128_0_0, fin (loop (slab q 0) x y 9)⟩] := by
  have e9 : Scf.trips (0#32) (Scalar.addi 0#32 9#32) 1#32 = 9 := by decide
  rw [← loop1 Variants.none c none i arg2 harg2 arg3 harg3 arg4 harg4 arg5 harg5 (slab q 0) x y 9 (le_refl 9),
    ← loop2 Variants.none c none i arg2 harg2 arg3 harg3 arg4 harg4 arg5 harg5 (slab q 1) x y 9 (le_refl 9),
    ← loop3 Variants.none c none i arg2 harg2 arg3 harg3 arg4 harg4 arg5 harg5 (slab q 2) x y (slab q 1) (k0_pay40 (slab q 1)) k0_pay41 9 (le_refl 9),
    ← loop4 Variants.none c none i arg2 harg2 arg3 harg3 arg4 harg4 arg5 harg5 (slab q 3) x y 9 (le_refl 9),
    ← read_slab arg2 harg2 q 0 ![0, 0] rfl inb_S256x512_S256x128_0_0,
    ← read_slab arg2 harg2 q 1 ![0, 128] rfl inb_S256x512_S256x128_0_128,
    ← read_slab arg2 harg2 q 2 ![0, 256] rfl inb_S256x512_S256x128_0_256,
    ← read_slab arg2 harg2 q 3 ![0, 384] rfl inb_S256x512_S256x128_0_384, ← e9]
  unfold kernelRun0_A
  rfl

/-- Four slabs written side by side, read back. -/
theorem read_four (f : VO0_3.ty.Contents (Elt Ideal)) (w : Fin 4 → FVec Ideal S256x128 .bf16) (r : Fin 256) (j : Fin 4) (l : Fin 128) :
    VO0_3.read (Elt Ideal) (VO0_3.writes (Elt Ideal) f
      [⟨Rect.unit ![0, 384] ![256, 128] inb_S256x512_S256x128_0_384, w 3⟩,
       ⟨Rect.unit ![0, 256] ![256, 128] inb_S256x512_S256x128_0_256, w 2⟩,
       ⟨Rect.unit ![0, 128] ![256, 128] inb_S256x512_S256x128_0_128, w 1⟩,
       ⟨Rect.unit ![0, 0] ![256, 128] inb_S256x512_S256x128_0_0, w 0⟩]) (ix2 r ⟨128 * j.val + l.val, by omega⟩) = w j (ix2 r l) := by
  have hl := l.isLt
  have mem : ∀ (o : ℕ) (k : Fin 4), o = 128 * k.val → ∀ a : Fin 2,
      ((ix2 r (⟨128 * k.val + l.val, by omega⟩ : Fin 512) : S256x512.Idx) a).val = (![0, o] : Fin 2 → ℕ) a + ((ix2 r l : S256x128.Idx) a).val := by
    intro o k ho a
    subst ho
    fin_cases a
    · exact (Nat.zero_add _).symm
    · rfl
  have out : ∀ (o : ℕ) (k : Fin 4), 128 * k.val + 128 ≤ o →
      ((ix2 r (⟨128 * k.val + l.val, by omega⟩ : Fin 512) : S256x512.Idx) 1).val < (![0, o] : Fin 2 → ℕ) 1 := by
    intro o k ho
    show 128 * k.val + l.val < o
    omega
  by_cases h3 : j = 3
  · subst h3
    exact View.read_writes_cons_unit_of_mem (s := S256x512) (off := ![0, 384]) (off' := ![0, 384]) (size := ![256, 128]) VO0_3 f inb_S256x512_S256x128_0_384 (w 3) _ _ (ix2 r l) rfl (mem 384 3 rfl)
  have b3 : 128 * j.val + 128 ≤ 384 := by omega
  rw [View.read_writes_cons_unit_of_not_mem (heq := rfl) (a := 1) (ha := Or.inl (out 384 j b3))]
  by_cases h2 : j = 2
  · subst h2
    exact View.read_writes_cons_unit_of_mem (s := S256x512) (off := ![0, 256]) (off' := ![0, 256]) (size := ![256, 128]) VO0_3 f inb_S256x512_S256x128_0_256 (w 2) _ _ (ix2 r l) rfl (mem 256 2 rfl)
  have b2 : 128 * j.val + 128 ≤ 256 := by omega
  rw [View.read_writes_cons_unit_of_not_mem (heq := rfl) (a := 1) (ha := Or.inl (out 256 j b2))]
  by_cases h1 : j = 1
  · subst h1
    exact View.read_writes_cons_unit_of_mem (s := S256x512) (off := ![0, 128]) (off' := ![0, 128]) (size := ![256, 128]) VO0_3 f inb_S256x512_S256x128_0_128 (w 1) _ _ (ix2 r l) rfl (mem 128 1 rfl)
  have b1 : 128 * j.val + 128 ≤ 128 := by omega
  rw [View.read_writes_cons_unit_of_not_mem (heq := rfl) (a := 1) (ha := Or.inl (out 128 j b1))]
  have h0 : j = 0 := by omega
  subst h0
  exact View.read_writes_cons_unit_of_mem (s := S256x512) (off := ![0, 0]) (off' := ![0, 0]) (size := ![256, 128]) VO0_3 f inb_S256x512_S256x128_0_0 (w 0) _ _ (ix2 r l) rfl (mem 0 0 rfl)

/-- A point's block of the result, slab by slab. -/
theorem out_slab (q : Vec Ideal S256x512 .bf16) (r : Fin 256) (j : Fin 4) (l : Fin 128) :
    out0_A_3 (F := Ideal) c i arg2 harg2 arg3 harg3 arg4 harg4 arg5 harg5 q x y (ix2 r ⟨128 * j.val + l.val, by omega⟩)
      = fin (loop (slab q j) x y 9) (ix2 r l) := by
  unfold out0_A_3
  rw [pieces]
  exact read_four _ (fun j => fin (loop (slab q j) x y 9)) r j l

end Cert.Attn.Global

end
-- ==== Proof.GlobalPay.lean ====
/- What one trip of the global attention computes, entry by entry, and what the nine leave on numbers. -/
module

public import proofs.«01_k».proof.Proof.GlobalTrip
public import Idealize.ShloMosaic.Lib.Pointwise

@[expose] public section

set_option maxRecDepth 16384

noncomputable section

namespace Cert.Attn.Global

open Idealize.ShloMosaic Idealize.ShloMosaic.TcCoe Idealize.SL.Sem
open Cert.Proj Cert.Attn Cert.GlobalIdeal Cert.GlobalIdeal.Gen

variable (q : FVec Ideal S256x128 .bf16) (kk vv : Vec Ideal S1x512x128 .bf16)
  (m l : FVec Ideal S256x1 .f32) (a : FVec Ideal S256x128 .f32) (r : Fin 256) (d : Fin 128) (j : Fin 512)

theorem pay6_apply : k0_pay6 (F := Ideal) q kk (ix2 r j) = ∑ e : Fin 128, q (ix2 r e) * kk (ix3 0 j e) := by
  pointwise [k0_pay6, k0_pay4]

theorem pay7_apply : k0_pay7 (F := Ideal) q m kk (ix2 r 0)
    = max (m (ix2 r 0)) (Finset.univ.fold max ⊥ fun j : Fin 512 => k0_pay6 (F := Ideal) q kk (ix2 r j)) := by
  pointwise [k0_pay7]
  rw [bot_bits]

theorem pay8_apply : k0_pay8 (F := Ideal) q m kk (ix2 r 0) = Ideal.exp (m (ix2 r 0) - k0_pay7 (F := Ideal) q m kk (ix2 r 0)) := by
  pointwise [k0_pay8]

theorem pay9_apply : k0_pay9 (F := Ideal) q m kk (ix2 r j)
    = Ideal.exp (k0_pay6 (F := Ideal) q kk (ix2 r j) - k0_pay7 (F := Ideal) q m kk (ix2 r 0)) := by
  pointwise [k0_pay9]

theorem pay10_apply : k0_pay10 (F := Ideal) q m l kk (ix2 r 0)
    = k0_pay8 (F := Ideal) q m kk (ix2 r 0) * l (ix2 r 0) + ∑ j : Fin 512, k0_pay9 (F := Ideal) q m kk (ix2 r j) := by
  pointwise [k0_pay10]

theorem pay11_apply : k0_pay11 (F := Ideal) q m a kk vv (ix2 r d)
    = k0_pay8 (F := Ideal) q m kk (ix2 r 0) * a (ix2 r d) + ∑ j : Fin 512, k0_pay9 (F := Ideal) q m kk (ix2 r j) * vv (ix3 0 j d) := by
  pointwise [k0_pay11, k0_pay5]

/-- The lane mask: whether a lane is of the lower half. -/
theorem lane : ∀ d : Fin 128, IntOp.cmpi CmpIPredicate.slt (BitVec.ofNat 32 d.val) 64#32 = if d.val < 64 then 1#1 else 0#1 := by decide

theorem fin_apply (t : St) : fin t (ix2 r d)
    = if d.val < 64 then Ideal.div (t.2.2.1 (ix2 r d)) (t.2.1 (ix2 r 0)) else Ideal.div (t.2.2.2.2.2 (ix2 r d)) (t.2.2.2.2.1 (ix2 r 0)) := by
  unfold fin
  pointwise [k0_pay39, k0_pay21]
  rw [lane]
  split_ifs <;> simp [Scalar.select]

theorem qlo_apply : qlo q (ix2 r d) = q (ix2 r d) * (if d.val < 64 then 1 else 0) := by
  unfold qlo
  pointwise [k0_pay40, k0_pay19]
  rw [lane]
  split_ifs <;> simp [Scalar.select]

theorem qhi_apply : qhi q (ix2 r d) = q (ix2 r d) * (if d.val < 64 then 0 else 1) := by
  unfold qhi
  pointwise [k0_pay41, k0_pay20]
  rw [lane]
  split_ifs <;> simp [Scalar.select]

theorem init_num : IsNum (k0_pay22 (F := Ideal) (ix2 r 0)) := by
  pointwise [k0_pay22]
  simp [Ideal.ofBits, Ideal.ieee]
  exact ⟨-(13234890 * 2 ^ 76), by norm_cast⟩

theorem pay23_apply : k0_pay23 (F := Ideal) (ix2 r 0) = 0 := by
  pointwise [k0_pay23]

theorem pay24_apply : k0_pay24 (F := Ideal) (ix2 r d) = 0 := by
  pointwise [k0_pay24]

/-- What one half of a loop carries for a row: a number as the shift, and the sums of the terms so far with that shift. -/
def Inv (s : ℕ → ℝ) (w : Fin 128 → ℕ → EReal) (r : Fin 256) (n : ℕ) (m l : FVec Ideal S256x1 .f32) (a : FVec Ideal S256x128 .f32) : Prop :=
  ∃ μ : ℝ, m (ix2 r 0) = (μ : EReal) ∧ l (ix2 r 0) = (wsum s (fun _ => 1) μ n : EReal) ∧ ∀ d, a (ix2 r d) = esum s (w d) μ n

theorem inv_init (s : ℕ → ℝ) (w : Fin 128 → ℕ → EReal) : Inv s w r 0 (k0_pay22 (F := Ideal)) (k0_pay23 (F := Ideal)) (k0_pay24 (F := Ideal)) := by
  obtain ⟨μ, hμ⟩ := init_num r
  refine ⟨μ, hμ, ?_, fun d => ?_⟩
  · rw [pay23_apply]; simp [wsum]
  · rw [pay24_apply]; simp [esum]

/-- One trip keeps it. -/
theorem inv_step (s : ℕ → ℝ) (w : Fin 128 → ℕ → EReal) (n : ℕ)
    (hs : ∀ j : Fin 512, k0_pay6 (F := Ideal) q kk (ix2 r j) = (s (n + j.val) : EReal))
    (hw : ∀ (j : Fin 512) (d : Fin 128), vv (ix3 0 j d) = w d (n + j.val)) (h : Inv s w r n m l a) :
    Inv s w r (n + 512) (k0_pay7 (F := Ideal) q m kk) (k0_pay10 (F := Ideal) q m l kk) (k0_pay11 (F := Ideal) q m a kk vv) := by
  obtain ⟨μ, hm, hl, ha⟩ := h
  obtain ⟨ν, hν⟩ : IsNum (k0_pay7 (F := Ideal) q m kk (ix2 r 0)) := by
    rw [pay7_apply]
    exact max_fold_num _ _ (fun j => ⟨_, hs j⟩) _ ⟨μ, hm⟩
  refine ⟨ν, hν, ?_, fun d => ?_⟩
  · rw [pay10_apply, pay8_apply, hν, hm, hl, ← wsum_step_coe s (fun _ => 1) μ ν n 512]
    congr 1
    refine Finset.sum_congr rfl fun j _ => ?_
    rw [pay9_apply, hs, hν, EReal.coe_one, mul_one]
  · rw [pay11_apply, pay8_apply, hν, hm, ha, ← esum_step s (w d) μ ν n 512]
    congr 1
    refine Finset.sum_congr rfl fun j _ => ?_
    rw [pay9_apply, hs, hν, hw]

/-- The scores of a row of queries with the keys. -/
def score (q : FVec Ideal S256x128 .bf16) (x : Vec Ideal S1x4608x128 .bf16) (r : Fin 256) (t : ℕ) : EReal :=
  ∑ e : Fin 128, q (ix2 r e) * x (ix3 0 ⟨t % 4608, Nat.mod_lt _ (by decide)⟩ e)

theorem score_rows (x : Vec Ideal S1x4608x128 .bf16) (n : ℕ) : k0_pay6 (F := Ideal) q (rows x n) (ix2 r j) = score q x r (512 * n + j.val) := by
  rw [pay6_apply]; rfl

/-- What the loop of a slab leaves in each half. -/
theorem inv_loop (v : Vec Ideal S256x128 .bf16) (x y : Vec Ideal S1x4608x128 .bf16) (s1 s2 : ℕ → ℝ) (w : Fin 128 → ℕ → EReal)
    (h1 : ∀ t, score (qlo v) x r t = (s1 t : EReal)) (h2 : ∀ t, score (qhi v) x r t = (s2 t : EReal))
    (hw : ∀ (d : Fin 128) (t : ℕ), y (ix3 0 ⟨t % 4608, Nat.mod_lt _ (by decide)⟩ d) = w d t) (n : ℕ) :
    Inv s1 w r (512 * n) (loop v x y n).1 (loop v x y n).2.1 (loop v x y n).2.2.1
      ∧ Inv s2 w r (512 * n) (loop v x y n).2.2.2.1 (loop v x y n).2.2.2.2.1 (loop v x y n).2.2.2.2.2 := by
  induction n with
  | zero => exact ⟨inv_init r s1 w, inv_init r s2 w⟩
  | succ n ih =>
    exact ⟨inv_step (qlo v) (rows x n) (rows y n) _ _ _ r s1 w (512 * n) (fun j => (score_rows _ r j x n).trans (h1 _)) (fun j d => hw d _) ih.1,
      inv_step (qhi v) (rows x n) (rows y n) _ _ _ r s2 w (512 * n) (fun j => (score_rows _ r j x n).trans (h2 _)) (fun j d => hw d _) ih.2⟩

/-- An entry of a slab's result, with any shift: the softmax of its own half's scores, weighting the values. -/
theorem fin_loop (v : Vec Ideal S256x128 .bf16) (x y : Vec Ideal S1x4608x128 .bf16) (s1 s2 : ℕ → ℝ) (w : Fin 128 → ℕ → EReal)
    (h1 : ∀ t, score (qlo v) x r t = (s1 t : EReal)) (h2 : ∀ t, score (qhi v) x r t = (s2 t : EReal))
    (hw : ∀ (d : Fin 128) (t : ℕ), y (ix3 0 ⟨t % 4608, Nat.mod_lt _ (by decide)⟩ d) = w d t) (ν : ℝ) :
    fin (loop v x y 9) (ix2 r d)
      = ∑ t : Fin 4608, w d t.val * Ideal.div (Ideal.exp (((if d.val < 64 then s1 else s2) t.val : EReal) - (ν : EReal)))
          (wsum (if d.val < 64 then s1 else s2) (fun _ => 1) ν 4608 : EReal) := by
  obtain ⟨⟨μ1, -, l1, a1⟩, ⟨μ2, -, l2, a2⟩⟩ := inv_loop r v x y s1 s2 w h1 h2 hw 9
  rw [fin_apply, l1, a1, l2, a2]
  split_ifs
  · exact equot_eq s1 (w d) μ1 ν (by decide)
  · exact equot_eq s2 (w d) μ2 ν (by decide)

end Cert.Attn.Global

end
-- ==== Proof.GlobalRef.lean ====
/- The global attention's reference, entry by entry: the scores of a head, their softmax, the weighted values. -/
module

public import proofs.«01_k».proof.Proof.Gen.GlobalReferenceIdeal.Read
public import proofs.«01_k».proof.Proof.Softmax
public import Idealize.ShloMosaic.Lib.Pointwise
public import Idealize.ShloMosaic.Lib.KernelVsHost

@[expose] public section

set_option maxRecDepth 16384

noncomputable section

namespace Cert.Attn.Global

open Idealize.ShloMosaic Idealize.ShloMosaic.TcCoe Idealize.SL.Sem
open Cert.Proj Cert.Attn Cert.GlobalReferenceIdeal Cert.GlobalReferenceIdeal.Read

variable (x0 : FVec Ideal S8192x1024 .bf16) (x1 x2 : FVec Ideal S2x4608x128 .bf16)

/-- A query's score against a key, over one head of 64. -/
theorem ref_score (b : Fin 2) (g : Fin 2) (n : Fin 4) (r : Fin 4096) (t : Fin 4608) :
    val_main_v8 (F := Ideal) x0 x1 (ix5 b g n r t)
      = ∑ d : Fin 64, x0 (ix2 ⟨4096 * b.val + r.val, by omega⟩ ⟨128 * n.val + 64 * g.val + d.val, by omega⟩)
          * x1 (ix3 b t ⟨64 * g.val + d.val, by omega⟩) := by
  pointwise [val_main_v8, val_main_v7, val_main_v4, val_main_v3, val_main_v2, val_main_v1, val_main_v0]
  refine Finset.sum_congr rfl fun d _ => ?_
  rw [mul_comm]
  congr 2
  · congr 1 <;> exact Fin.ext (by simp only []; omega)
  · congr 1; exact Fin.ext (by simp only []; omega)

/-- A maximum over the keys, from minus infinity. -/
theorem host_max (x : FVec Ideal S2x2x4x4096x4608 .f32) (b : Fin 2) (g : Fin 2) (n : Fin 4) (r : Fin 4096) (h : S2x2x4x4096x4608.ReducesTo [4] S2x2x4x4096)
    (h' : S2x2x4x4096x4608.Reduces [4] S2x2x4x4096) (hu : 0 < S_.numel) :
    (Host.reduce FloatOps.maximumf x (constant (F := Ideal) S_ .f32 0xFF800000#32) h hu : FVec Ideal S2x2x4x4096 .f32) (ix4 b g n r)
      = Finset.univ.fold max ⊥ fun t : Fin 4608 => x (ix5 b g n r t) := by
  have hφ : FKind.Formats FTy.f32 := by decide
  have hacc : (0xFF800000#32 : BitVec (FTy.bits .f32)) = FKind.maximumf.neutral .f32 hφ := rfl
  refine (congrFun (hostReduce_maximumf_eq_multiReduction x (0xFF800000#32 : BitVec (FTy.bits .f32)) h hu h' hφ hacc) (ix4 b g n r)).trans ?_
  refine (Ideal.multiReduction_maximumf_single x (0xFF800000#32 : BitVec (FTy.bits .f32)) h' hφ hacc (ix4 b g n r)).trans ?_
  have hb : (FloatOps.ofBits .f32 (0xFF800000#32 : BitVec (FTy.bits .f32)) : Ideal .f32) = (⊥ : EReal) := bot_bits
  rw [hb]
  refine congrArg (fun f => Finset.fold max (⊥ : EReal) f Finset.univ) (funext fun t => congrArg x ?_)
  funext a
  fin_cases a <;> rfl

theorem ref_max (b : Fin 2) (g : Fin 2) (n : Fin 4) (r : Fin 4096) :
    val_main_v11 (F := Ideal) x0 x1 (ix4 b g n r)
      = max ⊥ (Finset.univ.fold max ⊥ fun t : Fin 4608 => val_main_v8 (F := Ideal) x0 x1 (ix5 b g n r t)) := by
  have hb : (FloatOps.ofBits .f32 (0xFF800000#32 : BitVec (FTy.bits .f32)) : Ideal .f32) = (⊥ : EReal) := bot_bits
  rw [val_main_v11_apply, val_main_v10_apply, val_main_cst_0_apply, hb]
  unfold val_main_v9 val_main_cst
  generalize val_main_v8 (F := Ideal) x0 x1 = x
  exact congrArg (fun z => max (⊥ : EReal) z) (host_max x b g n r _ (by decide) _)

theorem ref_exp (b : Fin 2) (g : Fin 2) (n : Fin 4) (r : Fin 4096) (t : Fin 4608) :
    val_main_v15 (F := Ideal) x0 x1 (ix5 b g n r t)
      = Ideal.exp (val_main_v8 (F := Ideal) x0 x1 (ix5 b g n r t) - val_main_v11 (F := Ideal) x0 x1 (ix4 b g n r)) := by
  pointwise [val_main_v15, val_main_v14, val_main_v13, val_main_v12]

theorem ref_sum (b : Fin 2) (g : Fin 2) (n : Fin 4) (r : Fin 4096) :
    val_main_v16 (F := Ideal) x0 x1 (ix4 b g n r)
      = ∑ t : Fin 4608, val_main_v15 (F := Ideal) x0 x1 (ix5 b g n r t) := by
  pointwise [val_main_v16, val_main_cst_1]

theorem ref_out' (R : Fin 8192) (C : Fin 512) :
    val_main_v23 (F := Ideal) x0 x1 x2 (ix2 R C)
      = ∑ t : Fin 4608, x2 (ix3 ⟨R.val / 4096, by omega⟩ t ⟨C.val / 64 % 2 * 64 + C.val % 64, by omega⟩)
          * Ideal.div (val_main_v15 (F := Ideal) x0 x1 (ix5 ⟨R.val / 4096, by omega⟩ ⟨C.val / 64 % 2, by omega⟩ ⟨C.val / 128, by omega⟩ ⟨R.val % 4096, by omega⟩ t))
              (val_main_v16 (F := Ideal) x0 x1 (ix4 ⟨R.val / 4096, by omega⟩ ⟨C.val / 64 % 2, by omega⟩ ⟨C.val / 128, by omega⟩ ⟨R.val % 4096, by omega⟩)) := by
  pointwise [val_main_v23, val_main_v22, val_main_v21, val_main_v20, val_main_v19, val_main_v18, val_main_v17, val_main_v6, val_main_v5]

/-- An entry of the result: the values weighted by the softmax of the scores, the entry's place named by sample, head, slab, token and lane. -/
theorem ref_out (R : Fin 8192) (C : Fin 512) (b : Fin 2) (g : Fin 2) (n : Fin 4) (r : Fin 4096) (l : Fin 128) (hb : R.val / 4096 = b.val)
    (hg : C.val / 64 % 2 = g.val) (hn : C.val / 128 = n.val) (hr : R.val % 4096 = r.val) (hl : C.val / 64 % 2 * 64 + C.val % 64 = l.val) :
    val_main_v23 (F := Ideal) x0 x1 x2 (ix2 R C)
      = ∑ t : Fin 4608, x2 (ix3 b t l)
          * Ideal.div (val_main_v15 (F := Ideal) x0 x1 (ix5 b g n r t)) (val_main_v16 (F := Ideal) x0 x1 (ix4 b g n r)) := by
  have eb : (⟨R.val / 4096, by omega⟩ : Fin 2) = b := Fin.ext hb
  have eg : (⟨C.val / 64 % 2, by omega⟩ : Fin 2) = g := Fin.ext hg
  have en : (⟨C.val / 128, by omega⟩ : Fin 4) = n := Fin.ext hn
  have er : (⟨R.val % 4096, by omega⟩ : Fin 4096) = r := Fin.ext hr
  have el : (⟨C.val / 64 % 2 * 64 + C.val % 64, by omega⟩ : Fin 128) = l := Fin.ext hl
  rw [ref_out', eb, eg, en, er, el]

end Cert.Attn.Global

end
-- ==== Proof.GlobalTie.lean ====
/- The global attention and its reference have one value on finite queries and keys. -/
module

public import proofs.«01_k».proof.Proof.GlobalPay
public import proofs.«01_k».proof.Proof.GlobalRef
public import proofs.«01_k».proof.Pre_attention_finite
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Attn.Global

open Idealize.ShloMosaic Idealize.ShloMosaic.TcCoe Idealize.SL.Sem
open Cert.Proj Cert.Attn Cert.GlobalIdeal Cert.GlobalIdeal.Gen Cert.GlobalReferenceIdeal.Read

variable (m : (ℓ : Loc nD τ sig) → Buf (Elt Ideal) ℓ) (ρ : Dev nD → PrngReg)

/-- The run, its result array and its arguments named. -/
theorem run_named : θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

theorem idx0 : ∀ t : Fin grid0.N, win0_0.index t = ![t.val, 0] := by decide +kernel
theorem idx1 : ∀ t : Fin grid0.N, win0_1.index t = ![t.val / 16, 0, 0] := by decide +kernel
theorem idx2 : ∀ t : Fin grid0.N, win0_2.index t = ![t.val / 16, 0, 0] := by decide +kernel
theorem idx3 : ∀ t : Fin grid0.N, win0_3.index t = ![t.val, 0] := by decide +kernel

theorem pt_lt (t : Fin cfg0.N) : t.val < 32 := t.isLt

/-- The arguments the call reads, as arrays. -/
abbrev a0 (c : Dev nD) : FVec Ideal S8192x1024 .bf16 := m ((c : Thread nD τ).loc main_arg0)
abbrev a1 (c : Dev nD) : FVec Ideal S2x4608x128 .bf16 := m ((c : Thread nD τ).loc main_arg1)
abbrev a2 (c : Dev nD) : FVec Ideal S2x4608x128 .bf16 := m ((c : Thread nD τ).loc main_arg2)

/-- The token a row of a point's block is, and the sample the point works on. -/
def tok (t : Fin cfg0.N) (r : Fin 256) : Fin 8192 := ⟨256 * t.val + r.val, by have := pt_lt t; omega⟩
def smp (t : Fin cfg0.N) : Fin 2 := ⟨t.val / 16, by have := pt_lt t; omega⟩

theorem blk0 (c : Dev nD) (t : Fin cfg0.N) (r : Fin 256) (C : Fin 512) :
    (iblk m c 0 t : Vec Ideal S256x512 .bf16) (ix2 r C) = a0 m c (ix2 (tok t r) ⟨C.val, by omega⟩) := by unfold tok; blk_ext [iblk, V, idx0 t]
theorem blk1 (c : Dev nD) (t : Fin cfg0.N) (k : Fin 4608) (d : Fin 128) :
    (iblk m c 1 t : Vec Ideal S1x4608x128 .bf16) (ix3 0 k d) = a1 m c (ix3 (smp t) k d) := by unfold smp; blk_ext [iblk, V, idx1 t]
theorem blk2 (c : Dev nD) (t : Fin cfg0.N) (k : Fin 4608) (d : Fin 128) :
    (iblk m c 2 t : Vec Ideal S1x4608x128 .bf16) (ix3 0 k d) = a2 m c (ix3 (smp t) k d) := by unfold smp; blk_ext [iblk, V, idx2 t]

theorem cov3 : (cfg0.win 3).Covers := by decide +kernel
theorem emb3 (t : Fin cfg0.N) (r : Fin 256) (C : Fin 512) : ((cfg0.win 3).blk t).view.emb (ix2 r C) = ix2 (tok t r) C := by
  unfold tok; blk_ext [idx3 t]

/-- A sum over 128 lanes of which one half is put to zero is the sum over the other half. -/
theorem sum_half (f g : Fin 128 → EReal) (h : Fin 2) (mask : Fin 128 → EReal) (hm : ∀ e, mask e = if e.val / 64 = h.val then 1 else 0) :
    (∑ e : Fin 128, f e * mask e * g e) = ∑ d : Fin 64, f ⟨64 * h.val + d.val, by omega⟩ * g ⟨64 * h.val + d.val, by omega⟩ := by
  have e := sum_head (fun e => f e * g e) ⟨64 * h.val, by omega⟩
  have hv : 64 * h.val / 64 = h.val := by omega
  simp only [hv] at e
  rw [← e]
  refine Finset.sum_congr rfl fun e _ => ?_
  rw [hm, mul_assoc, mul_comm (ite _ _ _), ← mul_assoc]

/-- A head's scores, from the arrays. -/
def hsc (c : Dev nD) (t : Fin cfg0.N) (r : Fin 256) (j : Fin 4) (h : Fin 2) (k : ℕ) : EReal :=
  ∑ d : Fin 64, a0 m c (ix2 (tok t r) ⟨128 * j.val + (64 * h.val + d.val), by omega⟩)
    * a1 m c (ix3 (smp t) ⟨k % 4608, Nat.mod_lt _ (by decide)⟩ ⟨64 * h.val + d.val, by omega⟩)

theorem score_lo (c : Dev nD) (t : Fin cfg0.N) (r : Fin 256) (j : Fin 4) (k : ℕ) :
    score (qlo (slab (iblk m c 0 t) j)) (iblk m c 1 t) r k = hsc m c t r j 0 k := by
  unfold score
  simp only [qlo_apply, blk1]
  refine (sum_half _ _ 0 _ fun e => ?_).trans ?_
  · have := e.isLt
    exact if_congr (by show e.val < 64 ↔ e.val / 64 = 0; omega) rfl rfl
  · exact Finset.sum_congr rfl fun d _ => congrArg (· * _) (blk0 m c t r _)

theorem score_hi (c : Dev nD) (t : Fin cfg0.N) (r : Fin 256) (j : Fin 4) (k : ℕ) :
    score (qhi (slab (iblk m c 0 t) j)) (iblk m c 1 t) r k = hsc m c t r j 1 k := by
  unfold score
  simp only [qhi_apply, blk1]
  refine (sum_half _ _ 1 _ fun e => ?_).trans ?_
  · have := e.isLt
    rw [← ite_not]
    exact if_congr (by show ¬ e.val < 64 ↔ e.val / 64 = 1; omega) rfl rfl
  · exact Finset.sum_congr rfl fun d _ => congrArg (· * _) (blk0 m c t r _)

/-- The queries the call reads and the keys are numbers. -/
structure Nums (c : Dev nD) : Prop where
  q : ∀ (R : Fin 8192) (C : Fin 512), IsNum (a0 m c (ix2 R ⟨C.val, by omega⟩))
  k : ∀ b t d, IsNum (a1 m c (ix3 b t d))

theorem first_half (x : FVec Ideal S8192x1024 .bf16) (h : S8192x1024.Slices ![0, 0] S8192x512) (R : Fin 8192) (C : Fin 512) :
    (extractStridedSlice S8192x512 ![0, 0] x h : FVec Ideal S8192x512 .bf16) (ix2 R C) = x (ix2 R ⟨C.val, by omega⟩) := by
  pointwise []

theorem nums [i : Cert.Pre_attention_finite.Facts] (c : Dev nD)
    (h : (Cert.Pre_attention_finite.fn (F := Ideal) (a0 m c) (a1 m c) (a2 m c)).1 = (fun _ => 1#1)
      ∧ (Cert.Pre_attention_finite.fn (F := Ideal) (a0 m c) (a1 m c) (a2 m c)).2 = (fun _ => 1#1)) : Nums m c :=
  ⟨fun R C => (first_half (a0 m c) i.slices_S8192x1024_S8192x512_0_0 R C) ▸ num_of_cmp (congrFun h.1 (ix2 R C)),
    fun b t d => num_of_cmp (congrFun h.2 (ix3 b t d))⟩

theorem coe_toReal {x : EReal} (h : IsNum x) : x = (x.toReal : EReal) := by
  obtain ⟨r, rfl⟩ := h
  rw [EReal.toReal_coe]

variable {m} in
theorem hsc_num {c : Dev nD} (h : Nums m c) (t : Fin cfg0.N) (r : Fin 256) (j : Fin 4) (g : Fin 2) (k : ℕ) : IsNum (hsc m c t r j g k) :=
  IsNum.sum _ _ fun d => (h.q (tok t r) ⟨128 * j.val + (64 * g.val + d.val), by omega⟩).mul (h.k _ _ _)

/-- A score of the reference. -/
theorem ref_hsc (c : Dev nD) (t : Fin cfg0.N) (r : Fin 256) (j : Fin 4) (g : Fin 2) (k : Fin 4608) :
    val_main_v8 (F := Ideal) (a0 m c) (a1 m c) (ix5 (smp t) g j ⟨256 * (t.val % 16) + r.val, by omega⟩ k) = hsc m c t r j g k.val := by
  rw [ref_score]
  unfold hsc
  refine Finset.sum_congr rfl fun d _ => ?_
  have e1 : (⟨4096 * (smp t).val + (256 * (t.val % 16) + r.val), by have := (smp t).isLt; omega⟩ : Fin 8192) = tok t r :=
    Fin.ext (by show 4096 * (t.val / 16) + (256 * (t.val % 16) + r.val) = 256 * t.val + r.val; omega)
  have e2 : (⟨128 * j.val + 64 * g.val + d.val, by omega⟩ : Fin 1024) = ⟨128 * j.val + (64 * g.val + d.val), by omega⟩ :=
    Fin.ext (Nat.add_assoc _ _ _)
  have e3 : (⟨k.val % 4608, Nat.mod_lt _ (by decide)⟩ : Fin 4608) = k := Fin.ext (Nat.mod_eq_of_lt k.isLt)
  rw [e3, ← e2, ← e1]

/-- What a point computes at an entry is the reference's entry. -/
theorem point (c : Dev nD) (h : Nums m c) (t : Fin cfg0.N) (r : Fin 256) (j : Fin 4) (l : Fin 128) :
    fin (loop (slab (iblk m c 0 t) j) (iblk m c 1 t) (iblk m c 2 t) 9) (ix2 r l)
      = val_main_v23 (F := Ideal) (a0 m c) (a1 m c) (a2 m c) (ix2 (tok t r) ⟨128 * j.val + l.val, by omega⟩) := by
  have hl := l.isLt
  have hj := j.isLt
  have ht := pt_lt t
  have hr := r.isLt
  have hs : ∀ (g : Fin 2) (k : ℕ), hsc m c t r j g k = ((hsc m c t r j g k).toReal : EReal) := fun g k => coe_toReal (hsc_num h t r j g k)
  -- the reference's shift is a number
  obtain ⟨ν, hν⟩ : IsNum (val_main_v11 (F := Ideal) (a0 m c) (a1 m c)
      (ix4 (smp t) ⟨l.val / 64, by omega⟩ j ⟨256 * (t.val % 16) + r.val, by omega⟩)) := by
    rw [ref_max]
    simp only [ref_hsc]
    rw [← Finset.insert_eq_of_mem (Finset.mem_univ (0 : Fin 4608)), Finset.fold_insert_idem, ← max_assoc, max_eq_right bot_le]
    exact max_fold_num _ _ (fun k => hsc_num h t r j _ _) _ (hsc_num h t r j _ _)
  rw [ref_out _ _ _ (tok t r) ⟨128 * j.val + l.val, by omega⟩ (smp t) ⟨l.val / 64, by omega⟩ j ⟨256 * (t.val % 16) + r.val, by omega⟩ l
    (by show (256 * t.val + r.val) / 4096 = t.val / 16; omega) (by show (128 * j.val + l.val) / 64 % 2 = l.val / 64; omega)
    (by show (128 * j.val + l.val) / 128 = j.val; omega) (by show (256 * t.val + r.val) % 4096 = 256 * (t.val % 16) + r.val; omega)
    (by show (128 * j.val + l.val) / 64 % 2 * 64 + (128 * j.val + l.val) % 64 = l.val; omega)]
  rw [ref_sum]
  simp only [ref_exp, ref_hsc, hν]
  rw [fin_loop r l (slab (iblk m c 0 t) j) (iblk m c 1 t) (iblk m c 2 t) (fun k => (hsc m c t r j 0 k).toReal) (fun k => (hsc m c t r j 1 k).toReal)
    (fun d k => a2 m c (ix3 (smp t) ⟨k % 4608, Nat.mod_lt _ (by decide)⟩ d))
    (fun k => (score_lo m c t r j k).trans (hs 0 k)) (fun k => (score_hi m c t r j k).trans (hs 1 k)) (fun d k => blk2 m c t _ d) ν]
  have es : (if l.val < 64 then (fun k => (hsc m c t r j 0 k).toReal) else fun k => (hsc m c t r j 1 k).toReal)
      = fun k => (hsc m c t r j ⟨l.val / 64, by omega⟩ k).toReal := by
    split_ifs with hc
    · have : (⟨l.val / 64, by omega⟩ : Fin 2) = 0 := Fin.ext (by show l.val / 64 = 0; omega)
      rw [this]
    · have : (⟨l.val / 64, by omega⟩ : Fin 2) = 1 := Fin.ext (by show l.val / 64 = 1; omega)
      rw [this]
  rw [es]
  have hsum : (∑ k : Fin 4608, Ideal.exp (hsc m c t r j ⟨l.val / 64, by omega⟩ k.val - (ν : EReal)))
      = (wsum (fun k => (hsc m c t r j ⟨l.val / 64, by omega⟩ k).toReal) (fun _ => 1) ν 4608 : EReal) := by
    unfold wsum
    rw [Finset.sum_range, ← coe_sum]
    refine Finset.sum_congr rfl fun k _ => ?_
    rw [mul_one, ← Ideal.exp_coe, EReal.coe_sub, ← hs]
  rw [hsum]
  refine Finset.sum_congr rfl fun k _ => ?_
  have e3 : (⟨k.val % 4608, Nat.mod_lt _ (by decide)⟩ : Fin 4608) = k := Fin.ext (Nat.mod_eq_of_lt k.isLt)
  simp only [← hs, e3]

/-- What the call leaves. -/
theorem o_eq (c : Dev nD) (h : Nums m c) : (dats m 0 c).arrAt 3 cfg0.N = val_main_v23 (F := Ideal) (a0 m c) (a1 m c) (a2 m c) := by
  refine (dats m 0 c).arrAt_eq_of_covers 3 _ cov3 fun t hf y => ?_
  obtain ⟨r, C, rfl⟩ : ∃ (r : Fin 256) (C : Fin 512), y = ix2 r C := ⟨y 0, y 1, by funext a; fin_cases a <;> rfl⟩
  obtain ⟨j, l, rfl⟩ : ∃ (j : Fin 4) (l : Fin 128), C = ⟨128 * j.val + l.val, by omega⟩ :=
    ⟨⟨C.val / 128, by omega⟩, ⟨C.val % 128, by omega⟩, Fin.ext (by show C.val = 128 * (C.val / 128) + C.val % 128; omega)⟩
  rw [emb3, after0_3]
  refine Eq.trans ?_ (point m c h t r j l)
  refine Eq.trans (cast_eq _ _) ?_
  refine Eq.trans ?_ (out_slab c (grid0.coords t) (ms0_0 t) (hs0_0 t) (ms0_1 t) (hs0_1 t) (ms0_2 t) (hs0_2 t) (ms0_3 t) (hs0_3 t)
    (iblk m c 1 t) (iblk m c 2 t) (iblk m c 0 t) r j l)
  unfold outsAt0
  exact congrArg _ (by funext a; fin_cases a <;> rfl)

end Cert.Attn.Global

end
-- ==== Proof.lean ====
/- The proof of the certificate's claim: the mixture-of-experts calls, the input projections, the output projections and the global attention against their mathematics. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Prompt.Frame
public import proofs.«01_k».proof.Proof.Gen.PromptIdeal.Value
public import proofs.«01_k».proof.Proof.Gen.PromptReferenceIdeal.Run
public import proofs.«01_k».proof.Proof.Gen.PromptReferenceIdeal.Read
public import proofs.«01_k».proof.Proof.Gen.Even.Frame
public import proofs.«01_k».proof.Proof.Gen.EvenIdeal.Value
public import proofs.«01_k».proof.Proof.Gen.EvenReferenceIdeal.Run
public import proofs.«01_k».proof.Proof.Gen.EvenReferenceIdeal.Read
public import proofs.«01_k».proof.Proof.Gen.Odd.Frame
public import proofs.«01_k».proof.Proof.Gen.OddIdeal.Value
public import proofs.«01_k».proof.Proof.Gen.OddReferenceIdeal.Run
public import proofs.«01_k».proof.Proof.Gen.OddReferenceIdeal.Read
public import proofs.«01_k».proof.Proof.Gen.OddSample.Frame
public import proofs.«01_k».proof.Proof.Gen.OddSampleIdeal.Value
public import proofs.«01_k».proof.Proof.Gen.OddSampleReferenceIdeal.Run
public import proofs.«01_k».proof.Proof.Gen.OddSampleReferenceIdeal.Read
public import proofs.«01_k».proof.Proof.Gen.EvenSample.Frame
public import proofs.«01_k».proof.Proof.Gen.EvenSampleIdeal.Value
public import proofs.«01_k».proof.Proof.Gen.EvenSampleReferenceIdeal.Run
public import proofs.«01_k».proof.Proof.Gen.EvenSampleReferenceIdeal.Read
public import proofs.«01_k».proof.Proof.Gen.PostOdd.Frame
public import proofs.«01_k».proof.Proof.Gen.PostOddIdeal.Frame
public import proofs.«01_k».proof.Proof.Gen.PostOddReferenceIdeal.Run
public import proofs.«01_k».proof.Proof.Gen.PostOddReferenceIdeal.Read
public import proofs.«01_k».proof.Proof.Gen.PostEven.Frame
public import proofs.«01_k».proof.Proof.Gen.PostEvenIdeal.Frame
public import proofs.«01_k».proof.Proof.Gen.PostEvenReferenceIdeal.Run
public import proofs.«01_k».proof.Proof.Gen.PostEvenReferenceIdeal.Read
public import proofs.«01_k».proof.Proof.Gen.Global.Frame
public import proofs.«01_k».proof.Proof.Gen.GlobalIdeal.Frame
public import proofs.«01_k».proof.Proof.Gen.GlobalReferenceIdeal.Run
public import proofs.«01_k».proof.Proof.Gen.GlobalReferenceIdeal.Read
public import proofs.«01_k».proof.Proof.MoeTie
public import proofs.«01_k».proof.Proof.PromptTie
public import proofs.«01_k».proof.Proof.EvenTie
public import proofs.«01_k».proof.Proof.OddTie
public import proofs.«01_k».proof.Proof.OddSampleTie
public import proofs.«01_k».proof.Proof.EvenSampleTie
public import proofs.«01_k».proof.Proof.PostOddTie
public import proofs.«01_k».proof.Proof.PostEvenTie
public import proofs.«01_k».proof.Proof.GlobalTie
public import Idealize.ShloMosaic.Adequacy
public import Idealize.ShloMosaic.Init
public import Idealize.ShloMosaic.Lib.Quiescent

@[expose] public section

noncomputable section

namespace Cert.Proof

open Idealize.ShloMosaic Idealize.SL.Sem

/-- The side conditions of the preconditions' functions. -/
theorem facts_gates_ok : Cert.Pre_gates_ok.Facts := ⟨by decide⟩
theorem facts_prompt_gates_ok : Cert.Pre_prompt_gates_ok.Facts := ⟨by decide⟩
theorem facts_tokens_finite : Cert.Pre_tokens_finite.Facts := ⟨by decide, by decide, by decide, by decide⟩
theorem facts_sample_tokens_finite : Cert.Pre_sample_tokens_finite.Facts := ⟨by decide, by decide, by decide, by decide⟩
theorem facts_attention_finite : Cert.Pre_attention_finite.Facts := ⟨by decide, by decide, by decide, by decide⟩

/-- A reference runs, keeps its arguments and leaves every counter zero: the sample tokens' experts. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the prompt tokens' experts. -/
theorem quiescent_PromptReferenceIdeal : quiescent_PromptReferenceIdeal := fun m ρ _ =>
  (θ_run Cert.PromptReferenceIdeal.defs _ _).mono (fun r h => ⟨fun c => (h c).2, sem_eq_zero_of_no_sems (by decide) r.2⟩)
    (Cert.PromptReferenceIdeal.Value.run (F := Ideal) m ρ)

/-- The same of the even layer's input projection. -/
theorem quiescent_EvenReferenceIdeal : quiescent_EvenReferenceIdeal := fun m ρ _ =>
  (θ_run Cert.EvenReferenceIdeal.defs _ _).mono (fun r h => ⟨fun c => (h c).2.2.2, sem_eq_zero_of_no_sems (by decide) r.2⟩)
    (Cert.EvenReferenceIdeal.Value.run (F := Ideal) m ρ)

/-- The same of the odd layer's input projection. -/
theorem quiescent_OddReferenceIdeal : quiescent_OddReferenceIdeal := fun m ρ _ =>
  (θ_run Cert.OddReferenceIdeal.defs _ _).mono (fun r h => ⟨fun c => (h c).2.2.2, sem_eq_zero_of_no_sems (by decide) r.2⟩)
    (Cert.OddReferenceIdeal.Value.run (F := Ideal) m ρ)

/-- The same of the even layer's input projection of the sample tokens. -/
theorem quiescent_EvenSampleReferenceIdeal : quiescent_EvenSampleReferenceIdeal := fun m ρ _ =>
  (θ_run Cert.EvenSampleReferenceIdeal.defs _ _).mono (fun r h => ⟨fun c => (h c).2.2.2, sem_eq_zero_of_no_sems (by decide) r.2⟩)
    (Cert.EvenSampleReferenceIdeal.Value.run (F := Ideal) m ρ)

/-- The same of the odd layer's input projection of the sample tokens. -/
theorem quiescent_OddSampleReferenceIdeal : quiescent_OddSampleReferenceIdeal := fun m ρ _ =>
  (θ_run Cert.OddSampleReferenceIdeal.defs _ _).mono (fun r h => ⟨fun c => (h c).2.2.2, sem_eq_zero_of_no_sems (by decide) r.2⟩)
    (Cert.OddSampleReferenceIdeal.Value.run (F := Ideal) m ρ)

/-- The same of the odd layer's output projection of the sample tokens. -/
theorem quiescent_PostOddReferenceIdeal : quiescent_PostOddReferenceIdeal := fun m ρ _ =>
  (θ_run Cert.PostOddReferenceIdeal.defs _ _).mono (fun r h => ⟨fun c => (h c).2.2, sem_eq_zero_of_no_sems (by decide) r.2⟩)
    (Cert.PostOddReferenceIdeal.Value.run (F := Ideal) m ρ)

/-- The same of the even layer's output projection of the sample tokens. -/
theorem quiescent_PostEvenReferenceIdeal : quiescent_PostEvenReferenceIdeal := fun m ρ _ =>
  (θ_run Cert.PostEvenReferenceIdeal.defs _ _).mono (fun r h => ⟨fun c => (h c).2.2, sem_eq_zero_of_no_sems (by decide) r.2⟩)
    (Cert.PostEvenReferenceIdeal.Value.run (F := Ideal) m ρ)

/-- The same of the global attention. -/
theorem quiescent_GlobalReferenceIdeal : quiescent_GlobalReferenceIdeal := fun m ρ _ =>
  (θ_run Cert.GlobalReferenceIdeal.defs _ _).mono (fun r h => ⟨fun c => (h c).2, sem_eq_zero_of_no_sems (by decide) r.2⟩)
    (Cert.GlobalReferenceIdeal.Value.run (F := Ideal) m ρ)

/-- On gates that are nonnegative numbers the kernel and the reference end with one result. -/
theorem algebraic_moe [Cert.Pre_gates_ok.Facts] : algebraic_KernelIdeal_ReferenceIdeal_pre_gates_ok := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine Eq.trans (Cert.ReferenceIdeal.Read.val_main_v54_eq m' c) ?_
  simp only [hagree c]
  exact Cert.Moe.Large.value_eq m c (hpre c)

/-- The same of the prompt tokens. -/
theorem algebraic_prompt [Cert.Pre_prompt_gates_ok.Facts] : algebraic_PromptIdeal_PromptReferenceIdeal_pre_prompt_gates_ok := by
  intro m ρ m' ρ' hpre hagree
  refine ⟨_, Cert.PromptIdeal.Value.run (F := Ideal) m ρ, ?_⟩
  refine (θ_run Cert.PromptReferenceIdeal.defs _ _).mono (fun _ h c => ⟨?_, (h c).2⟩) (Cert.PromptReferenceIdeal.Value.run (F := Ideal) m' ρ')
  rw [(h c).1]
  refine Eq.trans (Cert.PromptReferenceIdeal.Read.val_main_v51_eq m' c) ?_
  simp only [hagree c]
  exact Cert.Moe.Prompt.value_eq m c (hpre c)

/-- On finite tokens, modulation and weights the even layer's projection and its reference end with one result each for
    the queries, the keys and the values. -/
theorem algebraic_even [Cert.Pre_tokens_finite.Facts] : algebraic_EvenIdeal_EvenReferenceIdeal_pre_tokens_finite := by
  intro m ρ m' ρ' hpre hagree
  refine ⟨_, _, _, Cert.EvenIdeal.Value.run_blocks (F := Ideal) m ρ, ?_⟩
  refine (θ_run Cert.EvenReferenceIdeal.defs _ _).mono (fun _ h c => ⟨?_, ?_, ?_, (h c).2.2.2⟩) (Cert.EvenReferenceIdeal.Value.run (F := Ideal) m' ρ')
  · rw [(h c).1]
    refine Eq.trans (Cert.EvenReferenceIdeal.Read.val_main_v53_eq m' c) ?_
    simp only [hagree c]
    exact (Cert.Proj.Even.q_eq m c (Cert.Proj.Even.row_num m c (hpre c))).symm
  · rw [(h c).2.1]
    refine Eq.trans (Cert.EvenReferenceIdeal.Read.val_main_v55_eq m' c) ?_
    simp only [hagree c]
    exact (Cert.Proj.Even.k_eq m c (Cert.Proj.Even.row_num m c (hpre c))).symm
  · rw [(h c).2.2.1]
    refine Eq.trans (Cert.EvenReferenceIdeal.Read.val_main_v14_eq _ _ _) ?_
    simp only [hagree c]
    exact (Cert.Proj.Even.v_eq m c).symm

/-- The odd layer's projection and its reference end with one result each for the queries, the keys and the values. -/
theorem algebraic_odd : algebraic_OddIdeal_OddReferenceIdeal := by
  intro m ρ m' ρ' hpre hagree
  refine ⟨_, _, _, Cert.OddIdeal.Value.run_blocks (F := Ideal) m ρ, ?_⟩
  refine (θ_run Cert.OddReferenceIdeal.defs _ _).mono (fun _ h c => ⟨?_, ?_, ?_, (h c).2.2.2⟩) (Cert.OddReferenceIdeal.Value.run (F := Ideal) m' ρ')
  · rw [(h c).1]
    refine Eq.trans (Cert.OddReferenceIdeal.Read.val_main_v17_eq _ _ _) ?_
    simp only [hagree c]
    exact (Cert.Proj.Odd.q_eq m c).symm
  · rw [(h c).2.1]
    refine Eq.trans (Cert.OddReferenceIdeal.Read.val_main_v13_eq _ _ _) ?_
    simp only [hagree c]
    exact (Cert.Proj.Odd.k_eq m c).symm
  · rw [(h c).2.2.1]
    refine Eq.trans (Cert.OddReferenceIdeal.Read.val_main_v14_eq _ _ _) ?_
    simp only [hagree c]
    exact (Cert.Proj.Odd.v_eq m c).symm

/-- The odd layer's projection of the sample tokens and its reference end with one result each for the queries, the keys and the values. -/
theorem algebraic_odd_sample : algebraic_OddSampleIdeal_OddSampleReferenceIdeal := by
  intro m ρ m' ρ' hpre hagree
  refine ⟨_, _, _, Cert.OddSampleIdeal.Value.run_blocks (F := Ideal) m ρ, ?_⟩
  refine (θ_run Cert.OddSampleReferenceIdeal.defs _ _).mono (fun _ h c => ⟨?_, ?_, ?_, (h c).2.2.2⟩) (Cert.OddSampleReferenceIdeal.Value.run (F := Ideal) m' ρ')
  · rw [(h c).1]
    refine Eq.trans (Cert.OddSampleReferenceIdeal.Read.val_main_v19_eq _ _ _) ?_
    simp only [hagree c]
    exact (Cert.Proj.OddSample.q_eq m c).symm
  · rw [(h c).2.1]
    refine Eq.trans (Cert.OddSampleReferenceIdeal.Read.val_main_v20_eq _ _ _) ?_
    simp only [hagree c]
    exact (Cert.Proj.OddSample.k_eq m c).symm
  · rw [(h c).2.2.1]
    refine Eq.trans (Cert.OddSampleReferenceIdeal.Read.val_main_v21_eq _ _ _) ?_
    simp only [hagree c]
    exact (Cert.Proj.OddSample.v_eq m c).symm

/-- On finite sample tokens, modulation and weights the even layer's projection and its reference end with one result each for
    the queries, the keys and the values. -/
theorem algebraic_even_sample [Cert.Pre_sample_tokens_finite.Facts] : algebraic_EvenSampleIdeal_EvenSampleReferenceIdeal_pre_sample_tokens_finite := by
  intro m ρ m' ρ' hpre hagree
  refine ⟨_, _, _, Cert.EvenSampleIdeal.Value.run_blocks (F := Ideal) m ρ, ?_⟩
  refine (θ_run Cert.EvenSampleReferenceIdeal.defs _ _).mono (fun _ h c => ⟨?_, ?_, ?_, (h c).2.2.2⟩) (Cert.EvenSampleReferenceIdeal.Value.run (F := Ideal) m' ρ')
  · rw [(h c).1]
    refine Eq.trans (Cert.EvenSampleReferenceIdeal.Read.val_main_v85_eq m' c) ?_
    simp only [hagree c]
    exact (Cert.Proj.EvenSample.q_eq m c (Cert.Proj.EvenSample.row_num m c (hpre c))).symm
  · rw [(h c).2.1]
    refine Eq.trans (Cert.EvenSampleReferenceIdeal.Read.val_main_v86_eq m' c) ?_
    simp only [hagree c]
    exact (Cert.Proj.EvenSample.k_eq m c (Cert.Proj.EvenSample.row_num m c (hpre c))).symm
  · rw [(h c).2.2.1]
    refine Eq.trans (Cert.EvenSampleReferenceIdeal.Read.val_main_v87_eq _ _ _) ?_
    simp only [hagree c]
    exact (Cert.Proj.EvenSample.v_eq m c).symm

/-- The odd layer's output projection of the sample tokens and its reference end with one result each for the residual
    stream and the modulated tokens. -/
theorem algebraic_post_odd : algebraic_PostOddIdeal_PostOddReferenceIdeal := by
  intro m ρ m' ρ' hpre hagree
  refine ⟨_, _, Cert.Post.Odd.run_named m ρ, ?_⟩
  refine (θ_run Cert.PostOddReferenceIdeal.defs _ _).mono (fun _ h c => ⟨?_, ?_, (h c).2.2⟩) (Cert.PostOddReferenceIdeal.Value.run (F := Ideal) m' ρ')
  · rw [(h c).1]
    refine Eq.trans (Cert.PostOddReferenceIdeal.Read.val_main_v48_eq m' c) ?_
    simp only [hagree c]
    exact (Cert.Post.Odd.y_eq m c).symm
  · rw [(h c).2.1]
    refine Eq.trans (Cert.PostOddReferenceIdeal.Read.val_main_v50_eq m' c) ?_
    simp only [hagree c]
    exact (Cert.Post.Odd.h_eq m c).symm

/-- The even layer's output projection of the sample tokens and its reference end with one result each for the residual
    stream and the modulated tokens. -/
theorem algebraic_post_even : algebraic_PostEvenIdeal_PostEvenReferenceIdeal := by
  intro m ρ m' ρ' hpre hagree
  refine ⟨_, _, Cert.Post.Even.run_named m ρ, ?_⟩
  refine (θ_run Cert.PostEvenReferenceIdeal.defs _ _).mono (fun _ h c => ⟨?_, ?_, (h c).2.2⟩) (Cert.PostEvenReferenceIdeal.Value.run (F := Ideal) m' ρ')
  · rw [(h c).1]
    refine Eq.trans (Cert.PostEvenReferenceIdeal.Read.val_main_v49_eq m' c) ?_
    simp only [hagree c]
    exact (Cert.Post.Even.y_eq m c).symm
  · rw [(h c).2.1]
    refine Eq.trans (Cert.PostEvenReferenceIdeal.Read.val_main_v51_eq m' c) ?_
    simp only [hagree c]
    exact (Cert.Post.Even.h_eq m c).symm

/-- On finite queries and keys the global attention and its reference end with one result. -/
theorem algebraic_global [Cert.Pre_attention_finite.Facts] : algebraic_GlobalIdeal_GlobalReferenceIdeal_pre_attention_finite := by
  intro m ρ m' ρ' hpre hagree
  refine ⟨_, Cert.Attn.Global.run_named m ρ, ?_⟩
  refine (θ_run Cert.GlobalReferenceIdeal.defs _ _).mono (fun _ h c => ⟨?_, (h c).2⟩) (Cert.GlobalReferenceIdeal.Value.run (F := Ideal) m' ρ')
  rw [(h c).1]
  refine Eq.trans (Cert.GlobalReferenceIdeal.Read.val_main_v23_eq _ _ _) ?_
  simp only [hagree c]
  exact (Cert.Attn.Global.o_eq m c (Cert.Attn.Global.nums m c (hpre c))).symm

theorem claim : Cert.Claim :=
  have := facts_gates_ok
  have := facts_prompt_gates_ok
  have := facts_tokens_finite
  have := facts_sample_tokens_finite
  have := facts_attention_finite
  ⟨Cert.Kernel.Gen.facts, Cert.KernelIdeal.Gen.facts, Cert.ReferenceIdeal.Gen.facts,
  Cert.Prompt.Gen.facts, Cert.PromptIdeal.Gen.facts, Cert.PromptReferenceIdeal.Gen.facts,
  Cert.Even.Gen.facts, Cert.EvenIdeal.Gen.facts, Cert.EvenReferenceIdeal.Gen.facts,
  Cert.Odd.Gen.facts, Cert.OddIdeal.Gen.facts, Cert.OddReferenceIdeal.Gen.facts,
  Cert.OddSample.Gen.facts, Cert.OddSampleIdeal.Gen.facts, Cert.OddSampleReferenceIdeal.Gen.facts,
  Cert.EvenSample.Gen.facts, Cert.EvenSampleIdeal.Gen.facts, Cert.EvenSampleReferenceIdeal.Gen.facts,
  Cert.PostOdd.Gen.facts, Cert.PostOddIdeal.Gen.facts, Cert.PostOddReferenceIdeal.Gen.facts,
  Cert.PostEven.Gen.facts, Cert.PostEvenIdeal.Gen.facts, Cert.PostEvenReferenceIdeal.Gen.facts,
  Cert.Global.Gen.facts, Cert.GlobalIdeal.Gen.facts, Cert.GlobalReferenceIdeal.Gen.facts,
  facts_gates_ok, facts_prompt_gates_ok, facts_tokens_finite, facts_sample_tokens_finite, facts_attention_finite,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Prompt.Gen.frame m ρ, fun m ρ _ => Cert.PromptIdeal.Gen.frame m ρ, fun m ρ _ => Cert.PromptIdeal.Gen.frame m ρ,
  quiescent_PromptReferenceIdeal, fun m ρ _ => quiescent_PromptReferenceIdeal m ρ trivial,
  fun m ρ _ => Cert.Even.Gen.frame m ρ, fun m ρ _ => Cert.EvenIdeal.Gen.frame m ρ, fun m ρ _ => Cert.EvenIdeal.Gen.frame m ρ,
  quiescent_EvenReferenceIdeal, fun m ρ _ => quiescent_EvenReferenceIdeal m ρ trivial,
  fun m ρ _ => Cert.Odd.Gen.frame m ρ, fun m ρ _ => Cert.OddIdeal.Gen.frame m ρ, quiescent_OddReferenceIdeal,
  fun m ρ _ => Cert.OddSample.Gen.frame m ρ, fun m ρ _ => Cert.OddSampleIdeal.Gen.frame m ρ, quiescent_OddSampleReferenceIdeal,
  fun m ρ _ => Cert.EvenSample.Gen.frame m ρ, fun m ρ _ => Cert.EvenSampleIdeal.Gen.frame m ρ, fun m ρ _ => Cert.EvenSampleIdeal.Gen.frame m ρ,
  quiescent_EvenSampleReferenceIdeal, fun m ρ _ => quiescent_EvenSampleReferenceIdeal m ρ trivial,
  fun m ρ _ => Cert.PostOdd.Gen.frame m ρ, fun m ρ _ => Cert.PostOddIdeal.Gen.frame m ρ, quiescent_PostOddReferenceIdeal,
  fun m ρ _ => Cert.PostEven.Gen.frame m ρ, fun m ρ _ => Cert.PostEvenIdeal.Gen.frame m ρ, quiescent_PostEvenReferenceIdeal,
  fun m ρ _ => Cert.Global.Gen.frame m ρ, fun m ρ _ => Cert.GlobalIdeal.Gen.frame m ρ, fun m ρ _ => Cert.GlobalIdeal.Gen.frame m ρ,
  quiescent_GlobalReferenceIdeal, fun m ρ _ => quiescent_GlobalReferenceIdeal m ρ trivial,
  (trivial : preserves_Kernel_KernelIdeal), algebraic_moe, (trivial : preserves_Prompt_PromptIdeal), algebraic_prompt,
  (trivial : preserves_Even_EvenIdeal), algebraic_even, (trivial : preserves_Odd_OddIdeal), algebraic_odd,
  (trivial : preserves_OddSample_OddSampleIdeal), algebraic_odd_sample, (trivial : preserves_EvenSample_EvenSampleIdeal), algebraic_even_sample,
  (trivial : preserves_PostOdd_PostOddIdeal), algebraic_post_odd, (trivial : preserves_PostEven_PostEvenIdeal), algebraic_post_even,
  (trivial : preserves_Global_GlobalIdeal), algebraic_global⟩

end Cert.Proof

end
